-- ==== Defs.lean ====
def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_finite [hPre_finite : Cert.Pre_finite.Facts] (m : (ℓ : Loc Cert.DhIdeal.nD Cert.DhIdeal.τ Cert.DhIdeal.sig) → Buf (Elt Ideal) ℓ) : Prop :=
  ∀ c : Dev Cert.DhIdeal.nD,
    (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.2.2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.2.2.2.2.2.1 = (fun _ => 1#1)
    ∧ (Cert.Pre_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8)) (m ((c.tc : Thread Cert.DhIdeal.nD Cert.DhIdeal.τ).loc Cert.DhIdeal.main_arg9)) (m ((c.tc : Thread Cert.DhIdeal.nD Cert.DhIdeal.τ).loc Cert.DhIdeal.main_arg10))).2.2.2.2.2.2.2.2.2.2 = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_finite [hPre_finite : Cert.Pre_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.2.2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.2.2.2.2.2.1 = (fun _ => 1#1)
    ∧ (Cert.Pre_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8)) (m ((c.tc : Thread Cert.DhRefIdeal.nD Cert.DhRefIdeal.τ).loc Cert.DhRefIdeal.main_arg9)) (m ((c.tc : Thread Cert.DhRefIdeal.nD Cert.DhRefIdeal.τ).loc Cert.DhRefIdeal.main_arg10))).2.2.2.2.2.2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Gw32 (m : (ℓ : Loc Cert.Gw32.nD Cert.Gw32.τ Cert.Gw32.sig) → Buf (Elt Bits) ℓ) : Prop :=
  True

def Pre_Gw32Ideal (m : (ℓ : Loc Cert.Gw32Ideal.nD Cert.Gw32Ideal.τ Cert.Gw32Ideal.sig) → Buf (Elt Ideal) ℓ) : Prop :=
  True

def Pre_Gw32RefIdeal (m : (ℓ : Loc Cert.Gw32RefIdeal.nD Cert.Gw32RefIdeal.τ Cert.Gw32RefIdeal.sig) → Buf (Elt Ideal) ℓ) : Prop :=
  True

def Pre_Gw512 (m : (ℓ : Loc Cert.Gw512.nD Cert.Gw512.τ Cert.Gw512.sig) → Buf (Elt Bits) ℓ) : Prop :=
  True

def Pre_Gw512Ideal (m : (ℓ : Loc Cert.Gw512Ideal.nD Cert.Gw512Ideal.τ Cert.Gw512Ideal.sig) → Buf (Elt Ideal) ℓ) : Prop :=
  True

def Pre_Gw512RefIdeal (m : (ℓ : Loc Cert.Gw512RefIdeal.nD Cert.Gw512RefIdeal.τ Cert.Gw512RefIdeal.sig) → Buf (Elt Ideal) ℓ) : Prop :=
  True

def Pre_Gw1024 (m : (ℓ : Loc Cert.Gw1024.nD Cert.Gw1024.τ Cert.Gw1024.sig) → Buf (Elt Bits) ℓ) : Prop :=
  True

def Pre_Gw1024Ideal (m : (ℓ : Loc Cert.Gw1024Ideal.nD Cert.Gw1024Ideal.τ Cert.Gw1024Ideal.sig) → Buf (Elt Ideal) ℓ) : Prop :=
  True

def Pre_Gw1024RefIdeal (m : (ℓ : Loc Cert.Gw1024RefIdeal.nD Cert.Gw1024RefIdeal.τ Cert.Gw1024RefIdeal.sig) → Buf (Elt Ideal) ℓ) : Prop :=
  True

def Pre_Gw2048 (m : (ℓ : Loc Cert.Gw2048.nD Cert.Gw2048.τ Cert.Gw2048.sig) → Buf (Elt Bits) ℓ) : Prop :=
  True

def Pre_Gw2048Ideal (m : (ℓ : Loc Cert.Gw2048Ideal.nD Cert.Gw2048Ideal.τ Cert.Gw2048Ideal.sig) → Buf (Elt Ideal) ℓ) : Prop :=
  True

def Pre_Gw2048RefIdeal (m : (ℓ : Loc Cert.Gw2048RefIdeal.nD Cert.Gw2048RefIdeal.τ Cert.Gw2048RefIdeal.sig) → Buf (Elt Ideal) ℓ) : Prop :=
  True

def Pre_Gw3072 (m : (ℓ : Loc Cert.Gw3072.nD Cert.Gw3072.τ Cert.Gw3072.sig) → Buf (Elt Bits) ℓ) : Prop :=
  True

def Pre_Gw3072Ideal (m : (ℓ : Loc Cert.Gw3072Ideal.nD Cert.Gw3072Ideal.τ Cert.Gw3072Ideal.sig) → Buf (Elt Ideal) ℓ) : Prop :=
  True

def Pre_Gw3072RefIdeal (m : (ℓ : Loc Cert.Gw3072RefIdeal.nD Cert.Gw3072RefIdeal.τ Cert.Gw3072RefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_GwAda (m : (ℓ : Loc Cert.GwAda.nD Cert.GwAda.τ Cert.GwAda.sig) → Buf (Elt Bits) ℓ) : Prop :=
  True

def Pre_GwAdaIdeal (m : (ℓ : Loc Cert.GwAdaIdeal.nD Cert.GwAdaIdeal.τ Cert.GwAdaIdeal.sig) → Buf (Elt Ideal) ℓ) : Prop :=
  True

def Pre_GwAdaRefIdeal (m : (ℓ : Loc Cert.GwAdaRefIdeal.nD Cert.GwAdaRefIdeal.τ Cert.GwAdaRefIdeal.sig) → Buf (Elt Ideal) ℓ) : Prop :=
  True

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8)
      ∧ r.2.mem ((c.tc : Thread Cert.Dh.nD Cert.Dh.τ).loc Cert.Dh.main_arg9) = m ((c.tc : Thread Cert.Dh.nD Cert.Dh.τ).loc Cert.Dh.main_arg9)
      ∧ r.2.mem ((c.tc : Thread Cert.Dh.nD Cert.Dh.τ).loc Cert.Dh.main_arg10) = m ((c.tc : Thread Cert.Dh.nD Cert.Dh.τ).loc Cert.Dh.main_arg10))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
      ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
      ∧ r.2.mem ((c.tc : Thread Cert.DhIdeal.nD Cert.DhIdeal.τ).loc Cert.DhIdeal.main_arg10) = m ((c.tc : Thread Cert.DhIdeal.nD Cert.DhIdeal.τ).loc Cert.DhIdeal.main_arg10))
      ∧ r.2.sem = fun _ => 0)

def quiescent_DhIdeal_pre_finite [hDhIdeal : Cert.DhIdeal.Facts] [hPre_finite : Cert.Pre_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
      ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
      ∧ r.2.mem ((c.tc : Thread Cert.DhIdeal.nD Cert.DhIdeal.τ).loc Cert.DhIdeal.main_arg10) = m ((c.tc : Thread Cert.DhIdeal.nD Cert.DhIdeal.τ).loc Cert.DhIdeal.main_arg10))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8)
      ∧ r.2.mem ((c.tc : Thread Cert.DhRefIdeal.nD Cert.DhRefIdeal.τ).loc Cert.DhRefIdeal.main_arg9) = m ((c.tc : Thread Cert.DhRefIdeal.nD Cert.DhRefIdeal.τ).loc Cert.DhRefIdeal.main_arg9)
      ∧ r.2.mem ((c.tc : Thread Cert.DhRefIdeal.nD Cert.DhRefIdeal.τ).loc Cert.DhRefIdeal.main_arg10) = m ((c.tc : Thread Cert.DhRefIdeal.nD Cert.DhRefIdeal.τ).loc Cert.DhRefIdeal.main_arg10))
      ∧ r.2.sem = fun _ => 0)

def quiescent_DhRefIdeal_pre_finite [hDhRefIdeal : Cert.DhRefIdeal.Facts] [hPre_finite : Cert.Pre_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8)
      ∧ r.2.mem ((c.tc : Thread Cert.DhRefIdeal.nD Cert.DhRefIdeal.τ).loc Cert.DhRefIdeal.main_arg9) = m ((c.tc : Thread Cert.DhRefIdeal.nD Cert.DhRefIdeal.τ).loc Cert.DhRefIdeal.main_arg9)
      ∧ r.2.mem ((c.tc : Thread Cert.DhRefIdeal.nD Cert.DhRefIdeal.τ).loc Cert.DhRefIdeal.main_arg10) = m ((c.tc : Thread Cert.DhRefIdeal.nD Cert.DhRefIdeal.τ).loc Cert.DhRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Gw32 [hGw32 : Cert.Gw32.Facts] : Prop :=
  ∀ (m : (ℓ : Loc Cert.Gw32.nD Cert.Gw32.τ Cert.Gw32.sig) → Buf (Elt Bits) ℓ) (g : Dev Cert.Gw32.nD → PrngReg), Pre_Gw32 m →
    θ_run (Cert.Gw32.defs (F := Bits)) (onTc (τ := Cert.Gw32.τ) (Cert.Gw32.main (F := Bits))) ⟨m, fun _ => 0, g⟩ (fun r => (∀ c : Dev Cert.Gw32.nD,
      r.2.mem ((c.tc : Thread Cert.Gw32.nD Cert.Gw32.τ).loc Cert.Gw32.main_arg0) = m ((c.tc : Thread Cert.Gw32.nD Cert.Gw32.τ).loc Cert.Gw32.main_arg0)
      ∧ r.2.mem ((c.tc : Thread Cert.Gw32.nD Cert.Gw32.τ).loc Cert.Gw32.main_arg1) = m ((c.tc : Thread Cert.Gw32.nD Cert.Gw32.τ).loc Cert.Gw32.main_arg1))
      ∧ r.2.sem = fun _ => 0)

def quiescent_Gw32Ideal [hGw32Ideal : Cert.Gw32Ideal.Facts] : Prop :=
  ∀ (m : (ℓ : Loc Cert.Gw32Ideal.nD Cert.Gw32Ideal.τ Cert.Gw32Ideal.sig) → Buf (Elt Ideal) ℓ) (g : Dev Cert.Gw32Ideal.nD → PrngReg), Pre_Gw32Ideal m →
    θ_run (Cert.Gw32Ideal.defs (F := Ideal)) (onTc (τ := Cert.Gw32Ideal.τ) (Cert.Gw32Ideal.main (F := Ideal))) ⟨m, fun _ => 0, g⟩ (fun r => (∀ c : Dev Cert.Gw32Ideal.nD,
      r.2.mem ((c.tc : Thread Cert.Gw32Ideal.nD Cert.Gw32Ideal.τ).loc Cert.Gw32Ideal.main_arg0) = m ((c.tc : Thread Cert.Gw32Ideal.nD Cert.Gw32Ideal.τ).loc Cert.Gw32Ideal.main_arg0)
      ∧ r.2.mem ((c.tc : Thread Cert.Gw32Ideal.nD Cert.Gw32Ideal.τ).loc Cert.Gw32Ideal.main_arg1) = m ((c.tc : Thread Cert.Gw32Ideal.nD Cert.Gw32Ideal.τ).loc Cert.Gw32Ideal.main_arg1))
      ∧ r.2.sem = fun _ => 0)

def quiescent_Gw32RefIdeal [hGw32RefIdeal : Cert.Gw32RefIdeal.Facts] : Prop :=
  ∀ (m : (ℓ : Loc Cert.Gw32RefIdeal.nD Cert.Gw32RefIdeal.τ Cert.Gw32RefIdeal.sig) → Buf (Elt Ideal) ℓ) (g : Dev Cert.Gw32RefIdeal.nD → PrngReg), Pre_Gw32RefIdeal m →
    θ_run (Cert.Gw32RefIdeal.defs (F := Ideal)) (onTc (τ := Cert.Gw32RefIdeal.τ) (Cert.Gw32RefIdeal.main (F := Ideal))) ⟨m, fun _ => 0, g⟩ (fun r => (∀ c : Dev Cert.Gw32RefIdeal.nD,
      r.2.mem ((c.tc : Thread Cert.Gw32RefIdeal.nD Cert.Gw32RefIdeal.τ).loc Cert.Gw32RefIdeal.main_arg0) = m ((c.tc : Thread Cert.Gw32RefIdeal.nD Cert.Gw32RefIdeal.τ).loc Cert.Gw32RefIdeal.main_arg0)
      ∧ r.2.mem ((c.tc : Thread Cert.Gw32RefIdeal.nD Cert.Gw32RefIdeal.τ).loc Cert.Gw32RefIdeal.main_arg1) = m ((c.tc : Thread Cert.Gw32RefIdeal.nD Cert.Gw32RefIdeal.τ).loc Cert.Gw32RefIdeal.main_arg1))
      ∧ r.2.sem = fun _ => 0)

def quiescent_Gw512 [hGw512 : Cert.Gw512.Facts] : Prop :=
  ∀ (m : (ℓ : Loc Cert.Gw512.nD Cert.Gw512.τ Cert.Gw512.sig) → Buf (Elt Bits) ℓ) (g : Dev Cert.Gw512.nD → PrngReg), Pre_Gw512 m →
    θ_run (Cert.Gw512.defs (F := Bits)) (onTc (τ := Cert.Gw512.τ) (Cert.Gw512.main (F := Bits))) ⟨m, fun _ => 0, g⟩ (fun r => (∀ c : Dev Cert.Gw512.nD,
      r.2.mem ((c.tc : Thread Cert.Gw512.nD Cert.Gw512.τ).loc Cert.Gw512.main_arg0) = m ((c.tc : Thread Cert.Gw512.nD Cert.Gw512.τ).loc Cert.Gw512.main_arg0)
      ∧ r.2.mem ((c.tc : Thread Cert.Gw512.nD Cert.Gw512.τ).loc Cert.Gw512.main_arg1) = m ((c.tc : Thread Cert.Gw512.nD Cert.Gw512.τ).loc Cert.Gw512.main_arg1))
      ∧ r.2.sem = fun _ => 0)

def quiescent_Gw512Ideal [hGw512Ideal : Cert.Gw512Ideal.Facts] : Prop :=
  ∀ (m : (ℓ : Loc Cert.Gw512Ideal.nD Cert.Gw512Ideal.τ Cert.Gw512Ideal.sig) → Buf (Elt Ideal) ℓ) (g : Dev Cert.Gw512Ideal.nD → PrngReg), Pre_Gw512Ideal m →
    θ_run (Cert.Gw512Ideal.defs (F := Ideal)) (onTc (τ := Cert.Gw512Ideal.τ) (Cert.Gw512Ideal.main (F := Ideal))) ⟨m, fun _ => 0, g⟩ (fun r => (∀ c : Dev Cert.Gw512Ideal.nD,
      r.2.mem ((c.tc : Thread Cert.Gw512Ideal.nD Cert.Gw512Ideal.τ).loc Cert.Gw512Ideal.main_arg0) = m ((c.tc : Thread Cert.Gw512Ideal.nD Cert.Gw512Ideal.τ).loc Cert.Gw512Ideal.main_arg0)
      ∧ r.2.mem ((c.tc : Thread Cert.Gw512Ideal.nD Cert.Gw512Ideal.τ).loc Cert.Gw512Ideal.main_arg1) = m ((c.tc : Thread Cert.Gw512Ideal.nD Cert.Gw512Ideal.τ).loc Cert.Gw512Ideal.main_arg1))
      ∧ r.2.sem = fun _ => 0)

def quiescent_Gw512RefIdeal [hGw512RefIdeal : Cert.Gw512RefIdeal.Facts] : Prop :=
  ∀ (m : (ℓ : Loc Cert.Gw512RefIdeal.nD Cert.Gw512RefIdeal.τ Cert.Gw512RefIdeal.sig) → Buf (Elt Ideal) ℓ) (g : Dev Cert.Gw512RefIdeal.nD → PrngReg), Pre_Gw512RefIdeal m →
    θ_run (Cert.Gw512RefIdeal.defs (F := Ideal)) (onTc (τ := Cert.Gw512RefIdeal.τ) (Cert.Gw512RefIdeal.main (F := Ideal))) ⟨m, fun _ => 0, g⟩ (fun r => (∀ c : Dev Cert.Gw512RefIdeal.nD,
      r.2.mem ((c.tc : Thread Cert.Gw512RefIdeal.nD Cert.Gw512RefIdeal.τ).loc Cert.Gw512RefIdeal.main_arg0) = m ((c.tc : Thread Cert.Gw512RefIdeal.nD Cert.Gw512RefIdeal.τ).loc Cert.Gw512RefIdeal.main_arg0)
      ∧ r.2.mem ((c.tc : Thread Cert.Gw512RefIdeal.nD Cert.Gw512RefIdeal.τ).loc Cert.Gw512RefIdeal.main_arg1) = m ((c.tc : Thread Cert.Gw512RefIdeal.nD Cert.Gw512RefIdeal.τ).loc Cert.Gw512RefIdeal.main_arg1))
      ∧ r.2.sem = fun _ => 0)

def quiescent_Gw1024 [hGw1024 : Cert.Gw1024.Facts] : Prop :=
  ∀ (m : (ℓ : Loc Cert.Gw1024.nD Cert.Gw1024.τ Cert.Gw1024.sig) → Buf (Elt Bits) ℓ) (g : Dev Cert.Gw1024.nD → PrngReg), Pre_Gw1024 m →
    θ_run (Cert.Gw1024.defs (F := Bits)) (onTc (τ := Cert.Gw1024.τ) (Cert.Gw1024.main (F := Bits))) ⟨m, fun _ => 0, g⟩ (fun r => (∀ c : Dev Cert.Gw1024.nD,
      r.2.mem ((c.tc : Thread Cert.Gw1024.nD Cert.Gw1024.τ).loc Cert.Gw1024.main_arg0) = m ((c.tc : Thread Cert.Gw1024.nD Cert.Gw1024.τ).loc Cert.Gw1024.main_arg0)
      ∧ r.2.mem ((c.tc : Thread Cert.Gw1024.nD Cert.Gw1024.τ).loc Cert.Gw1024.main_arg1) = m ((c.tc : Thread Cert.Gw1024.nD Cert.Gw1024.τ).loc Cert.Gw1024.main_arg1))
      ∧ r.2.sem = fun _ => 0)

def quiescent_Gw1024Ideal [hGw1024Ideal : Cert.Gw1024Ideal.Facts] : Prop :=
  ∀ (m : (ℓ : Loc Cert.Gw1024Ideal.nD Cert.Gw1024Ideal.τ Cert.Gw1024Ideal.sig) → Buf (Elt Ideal) ℓ) (g : Dev Cert.Gw1024Ideal.nD → PrngReg), Pre_Gw1024Ideal m →
    θ_run (Cert.Gw1024Ideal.defs (F := Ideal)) (onTc (τ := Cert.Gw1024Ideal.τ) (Cert.Gw1024Ideal.main (F := Ideal))) ⟨m, fun _ => 0, g⟩ (fun r => (∀ c : Dev Cert.Gw1024Ideal.nD,
      r.2.mem ((c.tc : Thread Cert.Gw1024Ideal.nD Cert.Gw1024Ideal.τ).loc Cert.Gw1024Ideal.main_arg0) = m ((c.tc : Thread Cert.Gw1024Ideal.nD Cert.Gw1024Ideal.τ).loc Cert.Gw1024Ideal.main_arg0)
      ∧ r.2.mem ((c.tc : Thread Cert.Gw1024Ideal.nD Cert.Gw1024Ideal.τ).loc Cert.Gw1024Ideal.main_arg1) = m ((c.tc : Thread Cert.Gw1024Ideal.nD Cert.Gw1024Ideal.τ).loc Cert.Gw1024Ideal.main_arg1))
      ∧ r.2.sem = fun _ => 0)

def quiescent_Gw1024RefIdeal [hGw1024RefIdeal : Cert.Gw1024RefIdeal.Facts] : Prop :=
  ∀ (m : (ℓ : Loc Cert.Gw1024RefIdeal.nD Cert.Gw1024RefIdeal.τ Cert.Gw1024RefIdeal.sig) → Buf (Elt Ideal) ℓ) (g : Dev Cert.Gw1024RefIdeal.nD → PrngReg), Pre_Gw1024RefIdeal m →
    θ_run (Cert.Gw1024RefIdeal.defs (F := Ideal)) (onTc (τ := Cert.Gw1024RefIdeal.τ) (Cert.Gw1024RefIdeal.main (F := Ideal))) ⟨m, fun _ => 0, g⟩ (fun r => (∀ c : Dev Cert.Gw1024RefIdeal.nD,
      r.2.mem ((c.tc : Thread Cert.Gw1024RefIdeal.nD Cert.Gw1024RefIdeal.τ).loc Cert.Gw1024RefIdeal.main_arg0) = m ((c.tc : Thread Cert.Gw1024RefIdeal.nD Cert.Gw1024RefIdeal.τ).loc Cert.Gw1024RefIdeal.main_arg0)
      ∧ r.2.mem ((c.tc : Thread Cert.Gw1024RefIdeal.nD Cert.Gw1024RefIdeal.τ).loc Cert.Gw1024RefIdeal.main_arg1) = m ((c.tc : Thread Cert.Gw1024RefIdeal.nD Cert.Gw1024RefIdeal.τ).loc Cert.Gw1024RefIdeal.main_arg1))
      ∧ r.2.sem = fun _ => 0)

def quiescent_Gw2048 [hGw2048 : Cert.Gw2048.Facts] : Prop :=
  ∀ (m : (ℓ : Loc Cert.Gw2048.nD Cert.Gw2048.τ Cert.Gw2048.sig) → Buf (Elt Bits) ℓ) (g : Dev Cert.Gw2048.nD → PrngReg), Pre_Gw2048 m →
    θ_run (Cert.Gw2048.defs (F := Bits)) (onTc (τ := Cert.Gw2048.τ) (Cert.Gw2048.main (F := Bits))) ⟨m, fun _ => 0, g⟩ (fun r => (∀ c : Dev Cert.Gw2048.nD,
      r.2.mem ((c.tc : Thread Cert.Gw2048.nD Cert.Gw2048.τ).loc Cert.Gw2048.main_arg0) = m ((c.tc : Thread Cert.Gw2048.nD Cert.Gw2048.τ).loc Cert.Gw2048.main_arg0)
      ∧ r.2.mem ((c.tc : Thread Cert.Gw2048.nD Cert.Gw2048.τ).loc Cert.Gw2048.main_arg1) = m ((c.tc : Thread Cert.Gw2048.nD Cert.Gw2048.τ).loc Cert.Gw2048.main_arg1))
      ∧ r.2.sem = fun _ => 0)

def quiescent_Gw2048Ideal [hGw2048Ideal : Cert.Gw2048Ideal.Facts] : Prop :=
  ∀ (m : (ℓ : Loc Cert.Gw2048Ideal.nD Cert.Gw2048Ideal.τ Cert.Gw2048Ideal.sig) → Buf (Elt Ideal) ℓ) (g : Dev Cert.Gw2048Ideal.nD → PrngReg), Pre_Gw2048Ideal m →
    θ_run (Cert.Gw2048Ideal.defs (F := Ideal)) (onTc (τ := Cert.Gw2048Ideal.τ) (Cert.Gw2048Ideal.main (F := Ideal))) ⟨m, fun _ => 0, g⟩ (fun r => (∀ c : Dev Cert.Gw2048Ideal.nD,
      r.2.mem ((c.tc : Thread Cert.Gw2048Ideal.nD Cert.Gw2048Ideal.τ).loc Cert.Gw2048Ideal.main_arg0) = m ((c.tc : Thread Cert.Gw2048Ideal.nD Cert.Gw2048Ideal.τ).loc Cert.Gw2048Ideal.main_arg0)
      ∧ r.2.mem ((c.tc : Thread Cert.Gw2048Ideal.nD Cert.Gw2048Ideal.τ).loc Cert.Gw2048Ideal.main_arg1) = m ((c.tc : Thread Cert.Gw2048Ideal.nD Cert.Gw2048Ideal.τ).loc Cert.Gw2048Ideal.main_arg1))
      ∧ r.2.sem = fun _ => 0)

def quiescent_Gw2048RefIdeal [hGw2048RefIdeal : Cert.Gw2048RefIdeal.Facts] : Prop :=
  ∀ (m : (ℓ : Loc Cert.Gw2048RefIdeal.nD Cert.Gw2048RefIdeal.τ Cert.Gw2048RefIdeal.sig) → Buf (Elt Ideal) ℓ) (g : Dev Cert.Gw2048RefIdeal.nD → PrngReg), Pre_Gw2048RefIdeal m →
    θ_run (Cert.Gw2048RefIdeal.defs (F := Ideal)) (onTc (τ := Cert.Gw2048RefIdeal.τ) (Cert.Gw2048RefIdeal.main (F := Ideal))) ⟨m, fun _ => 0, g⟩ (fun r => (∀ c : Dev Cert.Gw2048RefIdeal.nD,
      r.2.mem ((c.tc : Thread Cert.Gw2048RefIdeal.nD Cert.Gw2048RefIdeal.τ).loc Cert.Gw2048RefIdeal.main_arg0) = m ((c.tc : Thread Cert.Gw2048RefIdeal.nD Cert.Gw2048RefIdeal.τ).loc Cert.Gw2048RefIdeal.main_arg0)
      ∧ r.2.mem ((c.tc : Thread Cert.Gw2048RefIdeal.nD Cert.Gw2048RefIdeal.τ).loc Cert.Gw2048RefIdeal.main_arg1) = m ((c.tc : Thread Cert.Gw2048RefIdeal.nD Cert.Gw2048RefIdeal.τ).loc Cert.Gw2048RefIdeal.main_arg1))
      ∧ r.2.sem = fun _ => 0)

def quiescent_Gw3072 [hGw3072 : Cert.Gw3072.Facts] : Prop :=
  ∀ (m : (ℓ : Loc Cert.Gw3072.nD Cert.Gw3072.τ Cert.Gw3072.sig) → Buf (Elt Bits) ℓ) (g : Dev Cert.Gw3072.nD → PrngReg), Pre_Gw3072 m →
    θ_run (Cert.Gw3072.defs (F := Bits)) (onTc (τ := Cert.Gw3072.τ) (Cert.Gw3072.main (F := Bits))) ⟨m, fun _ => 0, g⟩ (fun r => (∀ c : Dev Cert.Gw3072.nD,
      r.2.mem ((c.tc : Thread Cert.Gw3072.nD Cert.Gw3072.τ).loc Cert.Gw3072.main_arg0) = m ((c.tc : Thread Cert.Gw3072.nD Cert.Gw3072.τ).loc Cert.Gw3072.main_arg0)
      ∧ r.2.mem ((c.tc : Thread Cert.Gw3072.nD Cert.Gw3072.τ).loc Cert.Gw3072.main_arg1) = m ((c.tc : Thread Cert.Gw3072.nD Cert.Gw3072.τ).loc Cert.Gw3072.main_arg1))
      ∧ r.2.sem = fun _ => 0)

def quiescent_Gw3072Ideal [hGw3072Ideal : Cert.Gw3072Ideal.Facts] : Prop :=
  ∀ (m : (ℓ : Loc Cert.Gw3072Ideal.nD Cert.Gw3072Ideal.τ Cert.Gw3072Ideal.sig) → Buf (Elt Ideal) ℓ) (g : Dev Cert.Gw3072Ideal.nD → PrngReg), Pre_Gw3072Ideal m →
    θ_run (Cert.Gw3072Ideal.defs (F := Ideal)) (onTc (τ := Cert.Gw3072Ideal.τ) (Cert.Gw3072Ideal.main (F := Ideal))) ⟨m, fun _ => 0, g⟩ (fun r => (∀ c : Dev Cert.Gw3072Ideal.nD,
      r.2.mem ((c.tc : Thread Cert.Gw3072Ideal.nD Cert.Gw3072Ideal.τ).loc Cert.Gw3072Ideal.main_arg0) = m ((c.tc : Thread Cert.Gw3072Ideal.nD Cert.Gw3072Ideal.τ).loc Cert.Gw3072Ideal.main_arg0)
      ∧ r.2.mem ((c.tc : Thread Cert.Gw3072Ideal.nD Cert.Gw3072Ideal.τ).loc Cert.Gw3072Ideal.main_arg1) = m ((c.tc : Thread Cert.Gw3072Ideal.nD Cert.Gw3072Ideal.τ).loc Cert.Gw3072Ideal.main_arg1))
      ∧ r.2.sem = fun _ => 0)

def quiescent_Gw3072RefIdeal [hGw3072RefIdeal : Cert.Gw3072RefIdeal.Facts] : Prop :=
  ∀ (m : (ℓ : Loc Cert.Gw3072RefIdeal.nD Cert.Gw3072RefIdeal.τ Cert.Gw3072RefIdeal.sig) → Buf (Elt Ideal) ℓ) (g : Dev Cert.Gw3072RefIdeal.nD → PrngReg), Pre_Gw3072RefIdeal m →
    θ_run (Cert.Gw3072RefIdeal.defs (F := Ideal)) (onTc (τ := Cert.Gw3072RefIdeal.τ) (Cert.Gw3072RefIdeal.main (F := Ideal))) ⟨m, fun _ => 0, g⟩ (fun r => (∀ c : Dev Cert.Gw3072RefIdeal.nD,
      r.2.mem ((c.tc : Thread Cert.Gw3072RefIdeal.nD Cert.Gw3072RefIdeal.τ).loc Cert.Gw3072RefIdeal.main_arg0) = m ((c.tc : Thread Cert.Gw3072RefIdeal.nD Cert.Gw3072RefIdeal.τ).loc Cert.Gw3072RefIdeal.main_arg0)
      ∧ r.2.mem ((c.tc : Thread Cert.Gw3072RefIdeal.nD Cert.Gw3072RefIdeal.τ).loc Cert.Gw3072RefIdeal.main_arg1) = m ((c.tc : Thread Cert.Gw3072RefIdeal.nD Cert.Gw3072RefIdeal.τ).loc Cert.Gw3072RefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_GwAda [hGwAda : Cert.GwAda.Facts] : Prop :=
  ∀ (m : (ℓ : Loc Cert.GwAda.nD Cert.GwAda.τ Cert.GwAda.sig) → Buf (Elt Bits) ℓ) (g : Dev Cert.GwAda.nD → PrngReg), Pre_GwAda m →
    θ_run (Cert.GwAda.defs (F := Bits)) (onTc (τ := Cert.GwAda.τ) (Cert.GwAda.main (F := Bits))) ⟨m, fun _ => 0, g⟩ (fun r => (∀ c : Dev Cert.GwAda.nD,
      r.2.mem ((c.tc : Thread Cert.GwAda.nD Cert.GwAda.τ).loc Cert.GwAda.main_arg0) = m ((c.tc : Thread Cert.GwAda.nD Cert.GwAda.τ).loc Cert.GwAda.main_arg0)
      ∧ r.2.mem ((c.tc : Thread Cert.GwAda.nD Cert.GwAda.τ).loc Cert.GwAda.main_arg1) = m ((c.tc : Thread Cert.GwAda.nD Cert.GwAda.τ).loc Cert.GwAda.main_arg1))
      ∧ r.2.sem = fun _ => 0)

def quiescent_GwAdaIdeal [hGwAdaIdeal : Cert.GwAdaIdeal.Facts] : Prop :=
  ∀ (m : (ℓ : Loc Cert.GwAdaIdeal.nD Cert.GwAdaIdeal.τ Cert.GwAdaIdeal.sig) → Buf (Elt Ideal) ℓ) (g : Dev Cert.GwAdaIdeal.nD → PrngReg), Pre_GwAdaIdeal m →
    θ_run (Cert.GwAdaIdeal.defs (F := Ideal)) (onTc (τ := Cert.GwAdaIdeal.τ) (Cert.GwAdaIdeal.main (F := Ideal))) ⟨m, fun _ => 0, g⟩ (fun r => (∀ c : Dev Cert.GwAdaIdeal.nD,
      r.2.mem ((c.tc : Thread Cert.GwAdaIdeal.nD Cert.GwAdaIdeal.τ).loc Cert.GwAdaIdeal.main_arg0) = m ((c.tc : Thread Cert.GwAdaIdeal.nD Cert.GwAdaIdeal.τ).loc Cert.GwAdaIdeal.main_arg0)
      ∧ r.2.mem ((c.tc : Thread Cert.GwAdaIdeal.nD Cert.GwAdaIdeal.τ).loc Cert.GwAdaIdeal.main_arg1) = m ((c.tc : Thread Cert.GwAdaIdeal.nD Cert.GwAdaIdeal.τ).loc Cert.GwAdaIdeal.main_arg1))
      ∧ r.2.sem = fun _ => 0)

def quiescent_GwAdaRefIdeal [hGwAdaRefIdeal : Cert.GwAdaRefIdeal.Facts] : Prop :=
  ∀ (m : (ℓ : Loc Cert.GwAdaRefIdeal.nD Cert.GwAdaRefIdeal.τ Cert.GwAdaRefIdeal.sig) → Buf (Elt Ideal) ℓ) (g : Dev Cert.GwAdaRefIdeal.nD → PrngReg), Pre_GwAdaRefIdeal m →
    θ_run (Cert.GwAdaRefIdeal.defs (F := Ideal)) (onTc (τ := Cert.GwAdaRefIdeal.τ) (Cert.GwAdaRefIdeal.main (F := Ideal))) ⟨m, fun _ => 0, g⟩ (fun r => (∀ c : Dev Cert.GwAdaRefIdeal.nD,
      r.2.mem ((c.tc : Thread Cert.GwAdaRefIdeal.nD Cert.GwAdaRefIdeal.τ).loc Cert.GwAdaRefIdeal.main_arg0) = m ((c.tc : Thread Cert.GwAdaRefIdeal.nD Cert.GwAdaRefIdeal.τ).loc Cert.GwAdaRefIdeal.main_arg0)
      ∧ r.2.mem ((c.tc : Thread Cert.GwAdaRefIdeal.nD Cert.GwAdaRefIdeal.τ).loc Cert.GwAdaRefIdeal.main_arg1) = m ((c.tc : Thread Cert.GwAdaRefIdeal.nD Cert.GwAdaRefIdeal.τ).loc Cert.GwAdaRefIdeal.main_arg1))
      ∧ r.2.sem = fun _ => 0)

def preserves_Dh_DhIdeal : Prop :=
  True

def algebraic_DhIdeal_DhRefIdeal_pre_finite [hDhIdeal : Cert.DhIdeal.Facts] [hDhRefIdeal : Cert.DhRefIdeal.Facts] [hPre_finite : Cert.Pre_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)
      ∧ m' ((c.tc : Thread Cert.DhRefIdeal.nD Cert.DhRefIdeal.τ).loc Cert.DhRefIdeal.main_arg8) = m ((c.tc : Thread Cert.DhIdeal.nD Cert.DhIdeal.τ).loc Cert.DhIdeal.main_arg8)
      ∧ m' ((c.tc : Thread Cert.DhRefIdeal.nD Cert.DhRefIdeal.τ).loc Cert.DhRefIdeal.main_arg9) = m ((c.tc : Thread Cert.DhIdeal.nD Cert.DhIdeal.τ).loc Cert.DhIdeal.main_arg9)
      ∧ m' ((c.tc : Thread Cert.DhRefIdeal.nD Cert.DhRefIdeal.τ).loc Cert.DhRefIdeal.main_arg10) = m ((c.tc : Thread Cert.DhIdeal.nD Cert.DhIdeal.τ).loc Cert.DhIdeal.main_arg10)) →
    ∃ (v0 : (c : Dev Cert.DhIdeal.nD) → Buf (Elt Ideal) ((c.tc : Thread Cert.DhIdeal.nD Cert.DhIdeal.τ).loc Cert.DhIdeal.main_v2_0)) (v1 : (c : Dev Cert.DhIdeal.nD) → Buf (Elt Ideal) ((c.tc : Thread Cert.DhIdeal.nD Cert.DhIdeal.τ).loc Cert.DhIdeal.main_v2_1)) (v2 : (c : Dev Cert.DhIdeal.nD) → Buf (Elt Ideal) ((c.tc : Thread Cert.DhIdeal.nD Cert.DhIdeal.τ).loc Cert.DhIdeal.main_v2_2)) (v3 : (c : Dev Cert.DhIdeal.nD) → Buf (Elt Ideal) ((c.tc : Thread Cert.DhIdeal.nD Cert.DhIdeal.τ).loc Cert.DhIdeal.main_v2_3)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2_0) = v0 c
          ∧ r.2.mem ((c.tc : Thread Cert.DhIdeal.nD Cert.DhIdeal.τ).loc Cert.DhIdeal.main_v2_1) = v1 c
          ∧ r.2.mem ((c.tc : Thread Cert.DhIdeal.nD Cert.DhIdeal.τ).loc Cert.DhIdeal.main_v2_2) = v2 c
          ∧ r.2.mem ((c.tc : Thread Cert.DhIdeal.nD Cert.DhIdeal.τ).loc Cert.DhIdeal.main_v2_3) = v3 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
          ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
          ∧ r.2.mem ((c.tc : Thread Cert.DhIdeal.nD Cert.DhIdeal.τ).loc Cert.DhIdeal.main_arg10) = m ((c.tc : Thread Cert.DhIdeal.nD Cert.DhIdeal.τ).loc Cert.DhIdeal.main_arg10))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v57) = v0 c
          ∧ r.2.mem ((c.tc : Thread Cert.DhRefIdeal.nD Cert.DhRefIdeal.τ).loc Cert.DhRefIdeal.main_v32) = v1 c
          ∧ r.2.mem ((c.tc : Thread Cert.DhRefIdeal.nD Cert.DhRefIdeal.τ).loc Cert.DhRefIdeal.main_v35) = v2 c
          ∧ r.2.mem ((c.tc : Thread Cert.DhRefIdeal.nD Cert.DhRefIdeal.τ).loc Cert.DhRefIdeal.main_v40) = v3 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8)
          ∧ r.2.mem ((c.tc : Thread Cert.DhRefIdeal.nD Cert.DhRefIdeal.τ).loc Cert.DhRefIdeal.main_arg9) = m' ((c.tc : Thread Cert.DhRefIdeal.nD Cert.DhRefIdeal.τ).loc Cert.DhRefIdeal.main_arg9)
          ∧ r.2.mem ((c.tc : Thread Cert.DhRefIdeal.nD Cert.DhRefIdeal.τ).loc Cert.DhRefIdeal.main_arg10) = m' ((c.tc : Thread Cert.DhRefIdeal.nD Cert.DhRefIdeal.τ).loc Cert.DhRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)) (v5 : (c : Dev Cert.InprojIdeal.nD) → Buf (Elt Ideal) ((c.tc : Thread Cert.InprojIdeal.nD Cert.InprojIdeal.τ).loc Cert.InprojIdeal.main_v2_5)) (v6 : (c : Dev Cert.InprojIdeal.nD) → Buf (Elt Ideal) ((c.tc : Thread Cert.InprojIdeal.nD Cert.InprojIdeal.τ).loc Cert.InprojIdeal.main_v2_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_v2_5) = v5 c
          ∧ r.2.mem ((c.tc : Thread Cert.InprojIdeal.nD Cert.InprojIdeal.τ).loc Cert.InprojIdeal.main_v2_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v20) = v1 c
          ∧ r.2.mem ((c.tc : Thread Cert.InprojRefIdeal.nD Cert.InprojRefIdeal.τ).loc Cert.InprojRefIdeal.main_v25) = v2 c
          ∧ r.2.mem ((c.tc : Thread Cert.InprojRefIdeal.nD Cert.InprojRefIdeal.τ).loc Cert.InprojRefIdeal.main_v22) = v3 c
          ∧ r.2.mem ((c.tc : Thread Cert.InprojRefIdeal.nD Cert.InprojRefIdeal.τ).loc Cert.InprojRefIdeal.main_v23) = v4 c
          ∧ r.2.mem ((c.tc : Thread Cert.InprojRefIdeal.nD Cert.InprojRefIdeal.τ).loc Cert.InprojRefIdeal.main_v26) = v5 c
          ∧ r.2.mem ((c.tc : Thread Cert.InprojRefIdeal.nD Cert.InprojRefIdeal.τ).loc Cert.InprojRefIdeal.main_v27) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Gw32_Gw32Ideal : Prop :=
  True

def algebraic_Gw32Ideal_Gw32RefIdeal [hGw32Ideal : Cert.Gw32Ideal.Facts] [hGw32RefIdeal : Cert.Gw32RefIdeal.Facts] : Prop :=
  ∀ (m : (ℓ : Loc Cert.Gw32Ideal.nD Cert.Gw32Ideal.τ Cert.Gw32Ideal.sig) → Buf (Elt Ideal) ℓ) (g : Dev Cert.Gw32Ideal.nD → PrngReg)
    (m' : (ℓ : Loc Cert.Gw32RefIdeal.nD Cert.Gw32RefIdeal.τ Cert.Gw32RefIdeal.sig) → Buf (Elt Ideal) ℓ) (g' : Dev Cert.Gw32RefIdeal.nD → PrngReg), Pre_Gw32Ideal m →
    (∀ c : Dev Cert.Gw32Ideal.nD,
      m' ((c.tc : Thread Cert.Gw32RefIdeal.nD Cert.Gw32RefIdeal.τ).loc Cert.Gw32RefIdeal.main_arg0) = m ((c.tc : Thread Cert.Gw32Ideal.nD Cert.Gw32Ideal.τ).loc Cert.Gw32Ideal.main_arg0)
      ∧ m' ((c.tc : Thread Cert.Gw32RefIdeal.nD Cert.Gw32RefIdeal.τ).loc Cert.Gw32RefIdeal.main_arg1) = m ((c.tc : Thread Cert.Gw32Ideal.nD Cert.Gw32Ideal.τ).loc Cert.Gw32Ideal.main_arg1)) →
    ∃ (v0 : (c : Dev Cert.Gw32Ideal.nD) → Buf (Elt Ideal) ((c.tc : Thread Cert.Gw32Ideal.nD Cert.Gw32Ideal.τ).loc Cert.Gw32Ideal.main_v0)),
      θ_run (Cert.Gw32Ideal.defs (F := Ideal)) (onTc (τ := Cert.Gw32Ideal.τ) (Cert.Gw32Ideal.main (F := Ideal))) ⟨m, fun _ => 0, g⟩ (fun r => ∀ c : Dev Cert.Gw32Ideal.nD,
          r.2.mem ((c.tc : Thread Cert.Gw32Ideal.nD Cert.Gw32Ideal.τ).loc Cert.Gw32Ideal.main_v0) = v0 c
          ∧ r.2.mem ((c.tc : Thread Cert.Gw32Ideal.nD Cert.Gw32Ideal.τ).loc Cert.Gw32Ideal.main_arg0) = m ((c.tc : Thread Cert.Gw32Ideal.nD Cert.Gw32Ideal.τ).loc Cert.Gw32Ideal.main_arg0)
          ∧ r.2.mem ((c.tc : Thread Cert.Gw32Ideal.nD Cert.Gw32Ideal.τ).loc Cert.Gw32Ideal.main_arg1) = m ((c.tc : Thread Cert.Gw32Ideal.nD Cert.Gw32Ideal.τ).loc Cert.Gw32Ideal.main_arg1))
      ∧ θ_run (Cert.Gw32RefIdeal.defs (F := Ideal)) (onTc (τ := Cert.Gw32RefIdeal.τ) (Cert.Gw32RefIdeal.main (F := Ideal))) ⟨m', fun _ => 0, g'⟩ (fun r => ∀ c : Dev Cert.Gw32RefIdeal.nD,
          r.2.mem ((c.tc : Thread Cert.Gw32RefIdeal.nD Cert.Gw32RefIdeal.τ).loc Cert.Gw32RefIdeal.main_v7) = v0 c
          ∧ r.2.mem ((c.tc : Thread Cert.Gw32RefIdeal.nD Cert.Gw32RefIdeal.τ).loc Cert.Gw32RefIdeal.main_arg0) = m' ((c.tc : Thread Cert.Gw32RefIdeal.nD Cert.Gw32RefIdeal.τ).loc Cert.Gw32RefIdeal.main_arg0)
          ∧ r.2.mem ((c.tc : Thread Cert.Gw32RefIdeal.nD Cert.Gw32RefIdeal.τ).loc Cert.Gw32RefIdeal.main_arg1) = m' ((c.tc : Thread Cert.Gw32RefIdeal.nD Cert.Gw32RefIdeal.τ).loc Cert.Gw32RefIdeal.main_arg1))

def preserves_Gw512_Gw512Ideal : Prop :=
  True

def algebraic_Gw512Ideal_Gw512RefIdeal [hGw512Ideal : Cert.Gw512Ideal.Facts] [hGw512RefIdeal : Cert.Gw512RefIdeal.Facts] : Prop :=
  ∀ (m : (ℓ : Loc Cert.Gw512Ideal.nD Cert.Gw512Ideal.τ Cert.Gw512Ideal.sig) → Buf (Elt Ideal) ℓ) (g : Dev Cert.Gw512Ideal.nD → PrngReg)
    (m' : (ℓ : Loc Cert.Gw512RefIdeal.nD Cert.Gw512RefIdeal.τ Cert.Gw512RefIdeal.sig) → Buf (Elt Ideal) ℓ) (g' : Dev Cert.Gw512RefIdeal.nD → PrngReg), Pre_Gw512Ideal m →
    (∀ c : Dev Cert.Gw512Ideal.nD,
      m' ((c.tc : Thread Cert.Gw512RefIdeal.nD Cert.Gw512RefIdeal.τ).loc Cert.Gw512RefIdeal.main_arg0) = m ((c.tc : Thread Cert.Gw512Ideal.nD Cert.Gw512Ideal.τ).loc Cert.Gw512Ideal.main_arg0)
      ∧ m' ((c.tc : Thread Cert.Gw512RefIdeal.nD Cert.Gw512RefIdeal.τ).loc Cert.Gw512RefIdeal.main_arg1) = m ((c.tc : Thread Cert.Gw512Ideal.nD Cert.Gw512Ideal.τ).loc Cert.Gw512Ideal.main_arg1)) →
    ∃ (v0 : (c : Dev Cert.Gw512Ideal.nD) → Buf (Elt Ideal) ((c.tc : Thread Cert.Gw512Ideal.nD Cert.Gw512Ideal.τ).loc Cert.Gw512Ideal.main_v0)),
      θ_run (Cert.Gw512Ideal.defs (F := Ideal)) (onTc (τ := Cert.Gw512Ideal.τ) (Cert.Gw512Ideal.main (F := Ideal))) ⟨m, fun _ => 0, g⟩ (fun r => ∀ c : Dev Cert.Gw512Ideal.nD,
          r.2.mem ((c.tc : Thread Cert.Gw512Ideal.nD Cert.Gw512Ideal.τ).loc Cert.Gw512Ideal.main_v0) = v0 c
          ∧ r.2.mem ((c.tc : Thread Cert.Gw512Ideal.nD Cert.Gw512Ideal.τ).loc Cert.Gw512Ideal.main_arg0) = m ((c.tc : Thread Cert.Gw512Ideal.nD Cert.Gw512Ideal.τ).loc Cert.Gw512Ideal.main_arg0)
          ∧ r.2.mem ((c.tc : Thread Cert.Gw512Ideal.nD Cert.Gw512Ideal.τ).loc Cert.Gw512Ideal.main_arg1) = m ((c.tc : Thread Cert.Gw512Ideal.nD Cert.Gw512Ideal.τ).loc Cert.Gw512Ideal.main_arg1))
      ∧ θ_run (Cert.Gw512RefIdeal.defs (F := Ideal)) (onTc (τ := Cert.Gw512RefIdeal.τ) (Cert.Gw512RefIdeal.main (F := Ideal))) ⟨m', fun _ => 0, g'⟩ (fun r => ∀ c : Dev Cert.Gw512RefIdeal.nD,
          r.2.mem ((c.tc : Thread Cert.Gw512RefIdeal.nD Cert.Gw512RefIdeal.τ).loc Cert.Gw512RefIdeal.main_v7) = v0 c
          ∧ r.2.mem ((c.tc : Thread Cert.Gw512RefIdeal.nD Cert.Gw512RefIdeal.τ).loc Cert.Gw512RefIdeal.main_arg0) = m' ((c.tc : Thread Cert.Gw512RefIdeal.nD Cert.Gw512RefIdeal.τ).loc Cert.Gw512RefIdeal.main_arg0)
          ∧ r.2.mem ((c.tc : Thread Cert.Gw512RefIdeal.nD Cert.Gw512RefIdeal.τ).loc Cert.Gw512RefIdeal.main_arg1) = m' ((c.tc : Thread Cert.Gw512RefIdeal.nD Cert.Gw512RefIdeal.τ).loc Cert.Gw512RefIdeal.main_arg1))

def preserves_Gw1024_Gw1024Ideal : Prop :=
  True

def algebraic_Gw1024Ideal_Gw1024RefIdeal [hGw1024Ideal : Cert.Gw1024Ideal.Facts] [hGw1024RefIdeal : Cert.Gw1024RefIdeal.Facts] : Prop :=
  ∀ (m : (ℓ : Loc Cert.Gw1024Ideal.nD Cert.Gw1024Ideal.τ Cert.Gw1024Ideal.sig) → Buf (Elt Ideal) ℓ) (g : Dev Cert.Gw1024Ideal.nD → PrngReg)
    (m' : (ℓ : Loc Cert.Gw1024RefIdeal.nD Cert.Gw1024RefIdeal.τ Cert.Gw1024RefIdeal.sig) → Buf (Elt Ideal) ℓ) (g' : Dev Cert.Gw1024RefIdeal.nD → PrngReg), Pre_Gw1024Ideal m →
    (∀ c : Dev Cert.Gw1024Ideal.nD,
      m' ((c.tc : Thread Cert.Gw1024RefIdeal.nD Cert.Gw1024RefIdeal.τ).loc Cert.Gw1024RefIdeal.main_arg0) = m ((c.tc : Thread Cert.Gw1024Ideal.nD Cert.Gw1024Ideal.τ).loc Cert.Gw1024Ideal.main_arg0)
      ∧ m' ((c.tc : Thread Cert.Gw1024RefIdeal.nD Cert.Gw1024RefIdeal.τ).loc Cert.Gw1024RefIdeal.main_arg1) = m ((c.tc : Thread Cert.Gw1024Ideal.nD Cert.Gw1024Ideal.τ).loc Cert.Gw1024Ideal.main_arg1)) →
    ∃ (v0 : (c : Dev Cert.Gw1024Ideal.nD) → Buf (Elt Ideal) ((c.tc : Thread Cert.Gw1024Ideal.nD Cert.Gw1024Ideal.τ).loc Cert.Gw1024Ideal.main_v0)),
      θ_run (Cert.Gw1024Ideal.defs (F := Ideal)) (onTc (τ := Cert.Gw1024Ideal.τ) (Cert.Gw1024Ideal.main (F := Ideal))) ⟨m, fun _ => 0, g⟩ (fun r => ∀ c : Dev Cert.Gw1024Ideal.nD,
          r.2.mem ((c.tc : Thread Cert.Gw1024Ideal.nD Cert.Gw1024Ideal.τ).loc Cert.Gw1024Ideal.main_v0) = v0 c
          ∧ r.2.mem ((c.tc : Thread Cert.Gw1024Ideal.nD Cert.Gw1024Ideal.τ).loc Cert.Gw1024Ideal.main_arg0) = m ((c.tc : Thread Cert.Gw1024Ideal.nD Cert.Gw1024Ideal.τ).loc Cert.Gw1024Ideal.main_arg0)
          ∧ r.2.mem ((c.tc : Thread Cert.Gw1024Ideal.nD Cert.Gw1024Ideal.τ).loc Cert.Gw1024Ideal.main_arg1) = m ((c.tc : Thread Cert.Gw1024Ideal.nD Cert.Gw1024Ideal.τ).loc Cert.Gw1024Ideal.main_arg1))
      ∧ θ_run (Cert.Gw1024RefIdeal.defs (F := Ideal)) (onTc (τ := Cert.Gw1024RefIdeal.τ) (Cert.Gw1024RefIdeal.main (F := Ideal))) ⟨m', fun _ => 0, g'⟩ (fun r => ∀ c : Dev Cert.Gw1024RefIdeal.nD,
          r.2.mem ((c.tc : Thread Cert.Gw1024RefIdeal.nD Cert.Gw1024RefIdeal.τ).loc Cert.Gw1024RefIdeal.main_v7) = v0 c
          ∧ r.2.mem ((c.tc : Thread Cert.Gw1024RefIdeal.nD Cert.Gw1024RefIdeal.τ).loc Cert.Gw1024RefIdeal.main_arg0) = m' ((c.tc : Thread Cert.Gw1024RefIdeal.nD Cert.Gw1024RefIdeal.τ).loc Cert.Gw1024RefIdeal.main_arg0)
          ∧ r.2.mem ((c.tc : Thread Cert.Gw1024RefIdeal.nD Cert.Gw1024RefIdeal.τ).loc Cert.Gw1024RefIdeal.main_arg1) = m' ((c.tc : Thread Cert.Gw1024RefIdeal.nD Cert.Gw1024RefIdeal.τ).loc Cert.Gw1024RefIdeal.main_arg1))

def preserves_Gw2048_Gw2048Ideal : Prop :=
  True

def algebraic_Gw2048Ideal_Gw2048RefIdeal [hGw2048Ideal : Cert.Gw2048Ideal.Facts] [hGw2048RefIdeal : Cert.Gw2048RefIdeal.Facts] : Prop :=
  ∀ (m : (ℓ : Loc Cert.Gw2048Ideal.nD Cert.Gw2048Ideal.τ Cert.Gw2048Ideal.sig) → Buf (Elt Ideal) ℓ) (g : Dev Cert.Gw2048Ideal.nD → PrngReg)
    (m' : (ℓ : Loc Cert.Gw2048RefIdeal.nD Cert.Gw2048RefIdeal.τ Cert.Gw2048RefIdeal.sig) → Buf (Elt Ideal) ℓ) (g' : Dev Cert.Gw2048RefIdeal.nD → PrngReg), Pre_Gw2048Ideal m →
    (∀ c : Dev Cert.Gw2048Ideal.nD,
      m' ((c.tc : Thread Cert.Gw2048RefIdeal.nD Cert.Gw2048RefIdeal.τ).loc Cert.Gw2048RefIdeal.main_arg0) = m ((c.tc : Thread Cert.Gw2048Ideal.nD Cert.Gw2048Ideal.τ).loc Cert.Gw2048Ideal.main_arg0)
      ∧ m' ((c.tc : Thread Cert.Gw2048RefIdeal.nD Cert.Gw2048RefIdeal.τ).loc Cert.Gw2048RefIdeal.main_arg1) = m ((c.tc : Thread Cert.Gw2048Ideal.nD Cert.Gw2048Ideal.τ).loc Cert.Gw2048Ideal.main_arg1)) →
    ∃ (v0 : (c : Dev Cert.Gw2048Ideal.nD) → Buf (Elt Ideal) ((c.tc : Thread Cert.Gw2048Ideal.nD Cert.Gw2048Ideal.τ).loc Cert.Gw2048Ideal.main_v0)),
      θ_run (Cert.Gw2048Ideal.defs (F := Ideal)) (onTc (τ := Cert.Gw2048Ideal.τ) (Cert.Gw2048Ideal.main (F := Ideal))) ⟨m, fun _ => 0, g⟩ (fun r => ∀ c : Dev Cert.Gw2048Ideal.nD,
          r.2.mem ((c.tc : Thread Cert.Gw2048Ideal.nD Cert.Gw2048Ideal.τ).loc Cert.Gw2048Ideal.main_v0) = v0 c
          ∧ r.2.mem ((c.tc : Thread Cert.Gw2048Ideal.nD Cert.Gw2048Ideal.τ).loc Cert.Gw2048Ideal.main_arg0) = m ((c.tc : Thread Cert.Gw2048Ideal.nD Cert.Gw2048Ideal.τ).loc Cert.Gw2048Ideal.main_arg0)
          ∧ r.2.mem ((c.tc : Thread Cert.Gw2048Ideal.nD Cert.Gw2048Ideal.τ).loc Cert.Gw2048Ideal.main_arg1) = m ((c.tc : Thread Cert.Gw2048Ideal.nD Cert.Gw2048Ideal.τ).loc Cert.Gw2048Ideal.main_arg1))
      ∧ θ_run (Cert.Gw2048RefIdeal.defs (F := Ideal)) (onTc (τ := Cert.Gw2048RefIdeal.τ) (Cert.Gw2048RefIdeal.main (F := Ideal))) ⟨m', fun _ => 0, g'⟩ (fun r => ∀ c : Dev Cert.Gw2048RefIdeal.nD,
          r.2.mem ((c.tc : Thread Cert.Gw2048RefIdeal.nD Cert.Gw2048RefIdeal.τ).loc Cert.Gw2048RefIdeal.main_v7) = v0 c
          ∧ r.2.mem ((c.tc : Thread Cert.Gw2048RefIdeal.nD Cert.Gw2048RefIdeal.τ).loc Cert.Gw2048RefIdeal.main_arg0) = m' ((c.tc : Thread Cert.Gw2048RefIdeal.nD Cert.Gw2048RefIdeal.τ).loc Cert.Gw2048RefIdeal.main_arg0)
          ∧ r.2.mem ((c.tc : Thread Cert.Gw2048RefIdeal.nD Cert.Gw2048RefIdeal.τ).loc Cert.Gw2048RefIdeal.main_arg1) = m' ((c.tc : Thread Cert.Gw2048RefIdeal.nD Cert.Gw2048RefIdeal.τ).loc Cert.Gw2048RefIdeal.main_arg1))

def preserves_Gw3072_Gw3072Ideal : Prop :=
  True

def algebraic_Gw3072Ideal_Gw3072RefIdeal [hGw3072Ideal : Cert.Gw3072Ideal.Facts] [hGw3072RefIdeal : Cert.Gw3072RefIdeal.Facts] : Prop :=
  ∀ (m : (ℓ : Loc Cert.Gw3072Ideal.nD Cert.Gw3072Ideal.τ Cert.Gw3072Ideal.sig) → Buf (Elt Ideal) ℓ) (g : Dev Cert.Gw3072Ideal.nD → PrngReg)
    (m' : (ℓ : Loc Cert.Gw3072RefIdeal.nD Cert.Gw3072RefIdeal.τ Cert.Gw3072RefIdeal.sig) → Buf (Elt Ideal) ℓ) (g' : Dev Cert.Gw3072RefIdeal.nD → PrngReg), Pre_Gw3072Ideal m →
    (∀ c : Dev Cert.Gw3072Ideal.nD,
      m' ((c.tc : Thread Cert.Gw3072RefIdeal.nD Cert.Gw3072RefIdeal.τ).loc Cert.Gw3072RefIdeal.main_arg0) = m ((c.tc : Thread Cert.Gw3072Ideal.nD Cert.Gw3072Ideal.τ).loc Cert.Gw3072Ideal.main_arg0)
      ∧ m' ((c.tc : Thread Cert.Gw3072RefIdeal.nD Cert.Gw3072RefIdeal.τ).loc Cert.Gw3072RefIdeal.main_arg1) = m ((c.tc : Thread Cert.Gw3072Ideal.nD Cert.Gw3072Ideal.τ).loc Cert.Gw3072Ideal.main_arg1)) →
    ∃ (v0 : (c : Dev Cert.Gw3072Ideal.nD) → Buf (Elt Ideal) ((c.tc : Thread Cert.Gw3072Ideal.nD Cert.Gw3072Ideal.τ).loc Cert.Gw3072Ideal.main_v0)),
      θ_run (Cert.Gw3072Ideal.defs (F := Ideal)) (onTc (τ := Cert.Gw3072Ideal.τ) (Cert.Gw3072Ideal.main (F := Ideal))) ⟨m, fun _ => 0, g⟩ (fun r => ∀ c : Dev Cert.Gw3072Ideal.nD,
          r.2.mem ((c.tc : Thread Cert.Gw3072Ideal.nD Cert.Gw3072Ideal.τ).loc Cert.Gw3072Ideal.main_v0) = v0 c
          ∧ r.2.mem ((c.tc : Thread Cert.Gw3072Ideal.nD Cert.Gw3072Ideal.τ).loc Cert.Gw3072Ideal.main_arg0) = m ((c.tc : Thread Cert.Gw3072Ideal.nD Cert.Gw3072Ideal.τ).loc Cert.Gw3072Ideal.main_arg0)
          ∧ r.2.mem ((c.tc : Thread Cert.Gw3072Ideal.nD Cert.Gw3072Ideal.τ).loc Cert.Gw3072Ideal.main_arg1) = m ((c.tc : Thread Cert.Gw3072Ideal.nD Cert.Gw3072Ideal.τ).loc Cert.Gw3072Ideal.main_arg1))
      ∧ θ_run (Cert.Gw3072RefIdeal.defs (F := Ideal)) (onTc (τ := Cert.Gw3072RefIdeal.τ) (Cert.Gw3072RefIdeal.main (F := Ideal))) ⟨m', fun _ => 0, g'⟩ (fun r => ∀ c : Dev Cert.Gw3072RefIdeal.nD,
          r.2.mem ((c.tc : Thread Cert.Gw3072RefIdeal.nD Cert.Gw3072RefIdeal.τ).loc Cert.Gw3072RefIdeal.main_v7) = v0 c
          ∧ r.2.mem ((c.tc : Thread Cert.Gw3072RefIdeal.nD Cert.Gw3072RefIdeal.τ).loc Cert.Gw3072RefIdeal.main_arg0) = m' ((c.tc : Thread Cert.Gw3072RefIdeal.nD Cert.Gw3072RefIdeal.τ).loc Cert.Gw3072RefIdeal.main_arg0)
          ∧ r.2.mem ((c.tc : Thread Cert.Gw3072RefIdeal.nD Cert.Gw3072RefIdeal.τ).loc Cert.Gw3072RefIdeal.main_arg1) = m' ((c.tc : Thread Cert.Gw3072RefIdeal.nD Cert.Gw3072RefIdeal.τ).loc Cert.Gw3072RefIdeal.main_arg1))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)) (v4 : (c : Dev Cert.MidIdeal.nD) → Buf (Elt Ideal) ((c.tc : Thread Cert.MidIdeal.nD Cert.MidIdeal.τ).loc Cert.MidIdeal.main_v0_4)) (v5 : (c : Dev Cert.MidIdeal.nD) → Buf (Elt Ideal) ((c.tc : Thread Cert.MidIdeal.nD Cert.MidIdeal.τ).loc Cert.MidIdeal.main_v0_5)) (v6 : (c : Dev Cert.MidIdeal.nD) → Buf (Elt Ideal) ((c.tc : Thread Cert.MidIdeal.nD Cert.MidIdeal.τ).loc Cert.MidIdeal.main_v0_6)) (v7 : (c : Dev Cert.MidIdeal.nD) → Buf (Elt Ideal) ((c.tc : Thread Cert.MidIdeal.nD Cert.MidIdeal.τ).loc Cert.MidIdeal.main_v0_7)) (v8 : (c : Dev Cert.MidIdeal.nD) → Buf (Elt Ideal) ((c.tc : Thread Cert.MidIdeal.nD Cert.MidIdeal.τ).loc Cert.MidIdeal.main_v0_8)) (v9 : (c : Dev Cert.MidIdeal.nD) → Buf (Elt Ideal) ((c.tc : Thread Cert.MidIdeal.nD Cert.MidIdeal.τ).loc Cert.MidIdeal.main_v0_9)) (v10 : (c : Dev Cert.MidIdeal.nD) → Buf (Elt Ideal) ((c.tc : Thread Cert.MidIdeal.nD Cert.MidIdeal.τ).loc Cert.MidIdeal.main_v0_10)) (v11 : (c : Dev Cert.MidIdeal.nD) → Buf (Elt Ideal) ((c.tc : Thread Cert.MidIdeal.nD Cert.MidIdeal.τ).loc Cert.MidIdeal.main_v0_11)) (v12 : (c : Dev Cert.MidIdeal.nD) → Buf (Elt Ideal) ((c.tc : Thread Cert.MidIdeal.nD Cert.MidIdeal.τ).loc Cert.MidIdeal.main_v0_12)) (v13 : (c : Dev Cert.MidIdeal.nD) → Buf (Elt Ideal) ((c.tc : Thread Cert.MidIdeal.nD Cert.MidIdeal.τ).loc Cert.MidIdeal.main_v0_13)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_v0_4) = v4 c
          ∧ r.2.mem ((c.tc : Thread Cert.MidIdeal.nD Cert.MidIdeal.τ).loc Cert.MidIdeal.main_v0_5) = v5 c
          ∧ r.2.mem ((c.tc : Thread Cert.MidIdeal.nD Cert.MidIdeal.τ).loc Cert.MidIdeal.main_v0_6) = v6 c
          ∧ r.2.mem ((c.tc : Thread Cert.MidIdeal.nD Cert.MidIdeal.τ).loc Cert.MidIdeal.main_v0_7) = v7 c
          ∧ r.2.mem ((c.tc : Thread Cert.MidIdeal.nD Cert.MidIdeal.τ).loc Cert.MidIdeal.main_v0_8) = v8 c
          ∧ r.2.mem ((c.tc : Thread Cert.MidIdeal.nD Cert.MidIdeal.τ).loc Cert.MidIdeal.main_v0_9) = v9 c
          ∧ r.2.mem ((c.tc : Thread Cert.MidIdeal.nD Cert.MidIdeal.τ).loc Cert.MidIdeal.main_v0_10) = v10 c
          ∧ r.2.mem ((c.tc : Thread Cert.MidIdeal.nD Cert.MidIdeal.τ).loc Cert.MidIdeal.main_v0_11) = v11 c
          ∧ r.2.mem ((c.tc : Thread Cert.MidIdeal.nD Cert.MidIdeal.τ).loc Cert.MidIdeal.main_v0_12) = v12 c
          ∧ r.2.mem ((c.tc : Thread Cert.MidIdeal.nD Cert.MidIdeal.τ).loc Cert.MidIdeal.main_v0_13) = v13 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v77) = v0 c
          ∧ r.2.mem ((c.tc : Thread Cert.MidRefIdeal.nD Cert.MidRefIdeal.τ).loc Cert.MidRefIdeal.main_v92) = v1 c
          ∧ r.2.mem ((c.tc : Thread Cert.MidRefIdeal.nD Cert.MidRefIdeal.τ).loc Cert.MidRefIdeal.main_v122) = v2 c
          ∧ r.2.mem ((c.tc : Thread Cert.MidRefIdeal.nD Cert.MidRefIdeal.τ).loc Cert.MidRefIdeal.main_v119) = v3 c
          ∧ r.2.mem ((c.tc : Thread Cert.MidRefIdeal.nD Cert.MidRefIdeal.τ).loc Cert.MidRefIdeal.main_v124) = v4 c
          ∧ r.2.mem ((c.tc : Thread Cert.MidRefIdeal.nD Cert.MidRefIdeal.τ).loc Cert.MidRefIdeal.main_v125) = v5 c
          ∧ r.2.mem ((c.tc : Thread Cert.MidRefIdeal.nD Cert.MidRefIdeal.τ).loc Cert.MidRefIdeal.main_v126) = v6 c
          ∧ r.2.mem ((c.tc : Thread Cert.MidRefIdeal.nD Cert.MidRefIdeal.τ).loc Cert.MidRefIdeal.main_v127) = v7 c
          ∧ r.2.mem ((c.tc : Thread Cert.MidRefIdeal.nD Cert.MidRefIdeal.τ).loc Cert.MidRefIdeal.main_v128) = v8 c
          ∧ r.2.mem ((c.tc : Thread Cert.MidRefIdeal.nD Cert.MidRefIdeal.τ).loc Cert.MidRefIdeal.main_v129) = v9 c
          ∧ r.2.mem ((c.tc : Thread Cert.MidRefIdeal.nD Cert.MidRefIdeal.τ).loc Cert.MidRefIdeal.main_v130) = v10 c
          ∧ r.2.mem ((c.tc : Thread Cert.MidRefIdeal.nD Cert.MidRefIdeal.τ).loc Cert.MidRefIdeal.main_v116) = v11 c
          ∧ r.2.mem ((c.tc : Thread Cert.MidRefIdeal.nD Cert.MidRefIdeal.τ).loc Cert.MidRefIdeal.main_v82) = v12 c
          ∧ r.2.mem ((c.tc : Thread Cert.MidRefIdeal.nD Cert.MidRefIdeal.τ).loc Cert.MidRefIdeal.main_v131) = v13 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v0_0)) (v1 : (c : Dev Cert.AdamRowsIdeal.nD) → Buf (Elt Ideal) ((c.tc : Thread Cert.AdamRowsIdeal.nD Cert.AdamRowsIdeal.τ).loc Cert.AdamRowsIdeal.main_v0_1)) (v2 : (c : Dev Cert.AdamRowsIdeal.nD) → Buf (Elt Ideal) ((c.tc : Thread Cert.AdamRowsIdeal.nD Cert.AdamRowsIdeal.τ).loc Cert.AdamRowsIdeal.main_v0_2)) (v3 : (c : Dev Cert.AdamRowsIdeal.nD) → Buf (Elt Ideal) ((c.tc : Thread Cert.AdamRowsIdeal.nD Cert.AdamRowsIdeal.τ).loc Cert.AdamRowsIdeal.main_v0_3)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v0_0) = v0 c
          ∧ r.2.mem ((c.tc : Thread Cert.AdamRowsIdeal.nD Cert.AdamRowsIdeal.τ).loc Cert.AdamRowsIdeal.main_v0_1) = v1 c
          ∧ r.2.mem ((c.tc : Thread Cert.AdamRowsIdeal.nD Cert.AdamRowsIdeal.τ).loc Cert.AdamRowsIdeal.main_v0_2) = v2 c
          ∧ r.2.mem ((c.tc : Thread Cert.AdamRowsIdeal.nD Cert.AdamRowsIdeal.τ).loc Cert.AdamRowsIdeal.main_v0_3) = v3 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v1) = v0 c
          ∧ r.2.mem ((c.tc : Thread Cert.AdamRowsRefIdeal.nD Cert.AdamRowsRefIdeal.τ).loc Cert.AdamRowsRefIdeal.main_v25) = v1 c
          ∧ r.2.mem ((c.tc : Thread Cert.AdamRowsRefIdeal.nD Cert.AdamRowsRefIdeal.τ).loc Cert.AdamRowsRefIdeal.main_v6) = v2 c
          ∧ r.2.mem ((c.tc : Thread Cert.AdamRowsRefIdeal.nD Cert.AdamRowsRefIdeal.τ).loc Cert.AdamRowsRefIdeal.main_v12) = v3 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_GwAda_GwAdaIdeal : Prop :=
  True

def algebraic_GwAdaIdeal_GwAdaRefIdeal [hGwAdaIdeal : Cert.GwAdaIdeal.Facts] [hGwAdaRefIdeal : Cert.GwAdaRefIdeal.Facts] : Prop :=
  ∀ (m : (ℓ : Loc Cert.GwAdaIdeal.nD Cert.GwAdaIdeal.τ Cert.GwAdaIdeal.sig) → Buf (Elt Ideal) ℓ) (g : Dev Cert.GwAdaIdeal.nD → PrngReg)
    (m' : (ℓ : Loc Cert.GwAdaRefIdeal.nD Cert.GwAdaRefIdeal.τ Cert.GwAdaRefIdeal.sig) → Buf (Elt Ideal) ℓ) (g' : Dev Cert.GwAdaRefIdeal.nD → PrngReg), Pre_GwAdaIdeal m →
    (∀ c : Dev Cert.GwAdaIdeal.nD,
      m' ((c.tc : Thread Cert.GwAdaRefIdeal.nD Cert.GwAdaRefIdeal.τ).loc Cert.GwAdaRefIdeal.main_arg0) = m ((c.tc : Thread Cert.GwAdaIdeal.nD Cert.GwAdaIdeal.τ).loc Cert.GwAdaIdeal.main_arg0)
      ∧ m' ((c.tc : Thread Cert.GwAdaRefIdeal.nD Cert.GwAdaRefIdeal.τ).loc Cert.GwAdaRefIdeal.main_arg1) = m ((c.tc : Thread Cert.GwAdaIdeal.nD Cert.GwAdaIdeal.τ).loc Cert.GwAdaIdeal.main_arg1)) →
    ∃ (v0 : (c : Dev Cert.GwAdaIdeal.nD) → Buf (Elt Ideal) ((c.tc : Thread Cert.GwAdaIdeal.nD Cert.GwAdaIdeal.τ).loc Cert.GwAdaIdeal.main_v0)),
      θ_run (Cert.GwAdaIdeal.defs (F := Ideal)) (onTc (τ := Cert.GwAdaIdeal.τ) (Cert.GwAdaIdeal.main (F := Ideal))) ⟨m, fun _ => 0, g⟩ (fun r => ∀ c : Dev Cert.GwAdaIdeal.nD,
          r.2.mem ((c.tc : Thread Cert.GwAdaIdeal.nD Cert.GwAdaIdeal.τ).loc Cert.GwAdaIdeal.main_v0) = v0 c
          ∧ r.2.mem ((c.tc : Thread Cert.GwAdaIdeal.nD Cert.GwAdaIdeal.τ).loc Cert.GwAdaIdeal.main_arg0) = m ((c.tc : Thread Cert.GwAdaIdeal.nD Cert.GwAdaIdeal.τ).loc Cert.GwAdaIdeal.main_arg0)
          ∧ r.2.mem ((c.tc : Thread Cert.GwAdaIdeal.nD Cert.GwAdaIdeal.τ).loc Cert.GwAdaIdeal.main_arg1) = m ((c.tc : Thread Cert.GwAdaIdeal.nD Cert.GwAdaIdeal.τ).loc Cert.GwAdaIdeal.main_arg1))
      ∧ θ_run (Cert.GwAdaRefIdeal.defs (F := Ideal)) (onTc (τ := Cert.GwAdaRefIdeal.τ) (Cert.GwAdaRefIdeal.main (F := Ideal))) ⟨m', fun _ => 0, g'⟩ (fun r => ∀ c : Dev Cert.GwAdaRefIdeal.nD,
          r.2.mem ((c.tc : Thread Cert.GwAdaRefIdeal.nD Cert.GwAdaRefIdeal.τ).loc Cert.GwAdaRefIdeal.main_v4) = v0 c
          ∧ r.2.mem ((c.tc : Thread Cert.GwAdaRefIdeal.nD Cert.GwAdaRefIdeal.τ).loc Cert.GwAdaRefIdeal.main_arg0) = m' ((c.tc : Thread Cert.GwAdaRefIdeal.nD Cert.GwAdaRefIdeal.τ).loc Cert.GwAdaRefIdeal.main_arg0)
          ∧ r.2.mem ((c.tc : Thread Cert.GwAdaRefIdeal.nD Cert.GwAdaRefIdeal.τ).loc Cert.GwAdaRefIdeal.main_arg1) = m' ((c.tc : Thread Cert.GwAdaRefIdeal.nD Cert.GwAdaRefIdeal.τ).loc Cert.GwAdaRefIdeal.main_arg1))

def Claim : Prop :=
  ∃ (hDh : Cert.Dh.Facts) (hDhIdeal : Cert.DhIdeal.Facts) (hDhRefIdeal : Cert.DhRefIdeal.Facts) (hInproj : Cert.Inproj.Facts) (hInprojIdeal : Cert.InprojIdeal.Facts) (hInprojRefIdeal : Cert.InprojRefIdeal.Facts) (hGw32 : Cert.Gw32.Facts) (hGw32Ideal : Cert.Gw32Ideal.Facts) (hGw32RefIdeal : Cert.Gw32RefIdeal.Facts) (hGw512 : Cert.Gw512.Facts) (hGw512Ideal : Cert.Gw512Ideal.Facts) (hGw512RefIdeal : Cert.Gw512RefIdeal.Facts) (hGw1024 : Cert.Gw1024.Facts) (hGw1024Ideal : Cert.Gw1024Ideal.Facts) (hGw1024RefIdeal : Cert.Gw1024RefIdeal.Facts) (hGw2048 : Cert.Gw2048.Facts) (hGw2048Ideal : Cert.Gw2048Ideal.Facts) (hGw2048RefIdeal : Cert.Gw2048RefIdeal.Facts) (hGw3072 : Cert.Gw3072.Facts) (hGw3072Ideal : Cert.Gw3072Ideal.Facts) (hGw3072RefIdeal : Cert.Gw3072RefIdeal.Facts) (hMid : Cert.Mid.Facts) (hMidIdeal : Cert.MidIdeal.Facts) (hMidRefIdeal : Cert.MidRefIdeal.Facts) (hAdamIn : Cert.AdamIn.Facts) (hAdamInIdeal : Cert.AdamInIdeal.Facts) (hAdamInRefIdeal : Cert.AdamInRefIdeal.Facts) (hAdamRows : Cert.AdamRows.Facts) (hAdamRowsIdeal : Cert.AdamRowsIdeal.Facts) (hAdamRowsRefIdeal : Cert.AdamRowsRefIdeal.Facts) (hAdamAda : Cert.AdamAda.Facts) (hAdamAdaIdeal : Cert.AdamAdaIdeal.Facts) (hAdamAdaRefIdeal : Cert.AdamAdaRefIdeal.Facts) (hAdamConv : Cert.AdamConv.Facts) (hAdamConvIdeal : Cert.AdamConvIdeal.Facts) (hAdamConvRefIdeal : Cert.AdamConvRefIdeal.Facts) (hGwAda : Cert.GwAda.Facts) (hGwAdaIdeal : Cert.GwAdaIdeal.Facts) (hGwAdaRefIdeal : Cert.GwAdaRefIdeal.Facts) (hPre_finite : Cert.Pre_finite.Facts) (hPre_finite_mid : Cert.Pre_finite_mid.Facts),
    quiescent_Dh (hDh := hDh)
    ∧ quiescent_DhIdeal (hDhIdeal := hDhIdeal)
    ∧ quiescent_DhIdeal_pre_finite (hDhIdeal := hDhIdeal) (hPre_finite := hPre_finite)
    ∧ quiescent_DhRefIdeal (hDhRefIdeal := hDhRefIdeal)
    ∧ quiescent_DhRefIdeal_pre_finite (hDhRefIdeal := hDhRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Gw32 (hGw32 := hGw32)
    ∧ quiescent_Gw32Ideal (hGw32Ideal := hGw32Ideal)
    ∧ quiescent_Gw32RefIdeal (hGw32RefIdeal := hGw32RefIdeal)
    ∧ quiescent_Gw512 (hGw512 := hGw512)
    ∧ quiescent_Gw512Ideal (hGw512Ideal := hGw512Ideal)
    ∧ quiescent_Gw512RefIdeal (hGw512RefIdeal := hGw512RefIdeal)
    ∧ quiescent_Gw1024 (hGw1024 := hGw1024)
    ∧ quiescent_Gw1024Ideal (hGw1024Ideal := hGw1024Ideal)
    ∧ quiescent_Gw1024RefIdeal (hGw1024RefIdeal := hGw1024RefIdeal)
    ∧ quiescent_Gw2048 (hGw2048 := hGw2048)
    ∧ quiescent_Gw2048Ideal (hGw2048Ideal := hGw2048Ideal)
    ∧ quiescent_Gw2048RefIdeal (hGw2048RefIdeal := hGw2048RefIdeal)
    ∧ quiescent_Gw3072 (hGw3072 := hGw3072)
    ∧ quiescent_Gw3072Ideal (hGw3072Ideal := hGw3072Ideal)
    ∧ quiescent_Gw3072RefIdeal (hGw3072RefIdeal := hGw3072RefIdeal)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_GwAda (hGwAda := hGwAda)
    ∧ quiescent_GwAdaIdeal (hGwAdaIdeal := hGwAdaIdeal)
    ∧ quiescent_GwAdaRefIdeal (hGwAdaRefIdeal := hGwAdaRefIdeal)
    ∧ preserves_Dh_DhIdeal
    ∧ algebraic_DhIdeal_DhRefIdeal_pre_finite (hDhIdeal := hDhIdeal) (hDhRefIdeal := hDhRefIdeal) (hPre_finite := hPre_finite)
    ∧ preserves_Inproj_InprojIdeal
    ∧ algebraic_InprojIdeal_InprojRefIdeal (hInprojIdeal := hInprojIdeal) (hInprojRefIdeal := hInprojRefIdeal)
    ∧ preserves_Gw32_Gw32Ideal
    ∧ algebraic_Gw32Ideal_Gw32RefIdeal (hGw32Ideal := hGw32Ideal) (hGw32RefIdeal := hGw32RefIdeal)
    ∧ preserves_Gw512_Gw512Ideal
    ∧ algebraic_Gw512Ideal_Gw512RefIdeal (hGw512Ideal := hGw512Ideal) (hGw512RefIdeal := hGw512RefIdeal)
    ∧ preserves_Gw1024_Gw1024Ideal
    ∧ algebraic_Gw1024Ideal_Gw1024RefIdeal (hGw1024Ideal := hGw1024Ideal) (hGw1024RefIdeal := hGw1024RefIdeal)
    ∧ preserves_Gw2048_Gw2048Ideal
    ∧ algebraic_Gw2048Ideal_Gw2048RefIdeal (hGw2048Ideal := hGw2048Ideal) (hGw2048RefIdeal := hGw2048RefIdeal)
    ∧ preserves_Gw3072_Gw3072Ideal
    ∧ algebraic_Gw3072Ideal_Gw3072RefIdeal (hGw3072Ideal := hGw3072Ideal) (hGw3072RefIdeal := hGw3072RefIdeal)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_AdamIn_AdamInIdeal
    ∧ algebraic_AdamInIdeal_AdamInRefIdeal (hAdamInIdeal := hAdamInIdeal) (hAdamInRefIdeal := hAdamInRefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamConv_AdamConvIdeal
    ∧ algebraic_AdamConvIdeal_AdamConvRefIdeal (hAdamConvIdeal := hAdamConvIdeal) (hAdamConvRefIdeal := hAdamConvRefIdeal)
    ∧ preserves_GwAda_GwAdaIdeal
    ∧ algebraic_GwAdaIdeal_GwAdaRefIdeal (hGwAdaIdeal := hGwAdaIdeal) (hGwAdaRefIdeal := hGwAdaRefIdeal)
-- ==== Pre_finite.lean ====
abbrev S8192x1024 : Shape := ⟨2, ![8192, 1024]⟩
abbrev S1x1024 : Shape := ⟨2, ![1, 1024]⟩
abbrev S8192x512 : Shape := ⟨2, ![8192, 512]⟩
abbrev S8192x3072 : Shape := ⟨2, ![8192, 3072]⟩
abbrev S8192x32 : Shape := ⟨2, ![8192, 32]⟩
abbrev S8192x2048 : Shape := ⟨2, ![8192, 2048]⟩
abbrev S1024x9760 : Shape := ⟨2, ![1024, 9760]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S8192x512 : S_.BroadcastsInDim S8192x512 (![] : Fin 0 → Fin S8192x512.rank)
  bcast_S_S8192x3072 : S_.BroadcastsInDim S8192x3072 (![] : Fin 0 → Fin S8192x3072.rank)
  bcast_S_S8192x32 : S_.BroadcastsInDim S8192x32 (![] : Fin 0 → Fin S8192x32.rank)
  bcast_S_S8192x2048 : S_.BroadcastsInDim S8192x2048 (![] : Fin 0 → Fin S8192x2048.rank)
  bcast_S_S1024x9760 : S_.BroadcastsInDim S1024x9760 (![] : Fin 0 → Fin S1024x9760.rank)

variable [Facts]

def fn_part2 {F : FTy → Type} [FloatOps F] (main_v2 : IVec S8192x1024 1) (main_v5 : IVec S8192x1024 1) (main_v8 : IVec S1x1024 1) (main_v11 : IVec S1x1024 1) (main_v15 : IVec S8192x1024 1) (main_v19 : IVec S8192x512 1) (main_v23 : IVec S8192x3072 1) (main_v27 : IVec S8192x3072 1) (main_v31 : IVec S8192x32 1) (main_v35 : IVec S8192x2048 1) (main_v36 : FVec F S1024x9760 .f32) (main_cst_9 : FVec F S_ .f32) : IVec S8192x1024 1 × IVec S8192x1024 1 × IVec S1x1024 1 × IVec S1x1024 1 × IVec S8192x1024 1 × IVec S8192x512 1 × IVec S8192x3072 1 × IVec S8192x3072 1 × IVec S8192x32 1 × IVec S8192x2048 1 × IVec S1024x9760 1 :=
  let main_v37 : FVec F S1024x9760 .f32 := broadcastInDim S1024x9760 ![] bcast_S_S1024x9760 main_cst_9
  let main_v38 : IVec S1024x9760 1 := cmpf .olt main_v36 main_v37
  (main_v2, main_v5, main_v8, main_v11, main_v15, main_v19, main_v23, main_v27, main_v31, main_v35, main_v38)

def fn_part1 {F : FTy → Type} [FloatOps F] (main_arg6 : FVec F S8192x3072 .bf16) (main_arg7 : FVec F S8192x3072 .bf16) (main_arg8 : FVec F S8192x32 .bf16) (main_arg9 : FVec F S8192x2048 .bf16) (main_arg10 : FVec F S1024x9760 .f32) (main_v2 : IVec S8192x1024 1) (main_v5 : IVec S8192x1024 1) (main_v8 : IVec S1x1024 1) (main_v11 : IVec S1x1024 1) (main_v15 : IVec S8192x1024 1) (main_v17 : FVec F S8192x512 .f32) (main_cst_4 : FVec F S_ .f32) : IVec S8192x1024 1 × IVec S8192x1024 1 × IVec S1x1024 1 × IVec S1x1024 1 × IVec S8192x1024 1 × IVec S8192x512 1 × IVec S8192x3072 1 × IVec S8192x3072 1 × IVec S8192x32 1 × IVec S8192x2048 1 × IVec S1024x9760 1 :=
  let main_v18 : FVec F S8192x512 .f32 := broadcastInDim S8192x512 ![] bcast_S_S8192x512 main_cst_4
  let main_v19 : IVec S8192x512 1 := cmpf .olt main_v17 main_v18
  let main_v20 : FVec F S8192x3072 .f32 := (extf .f32 · bitsLt_bf16_f32) main_arg6
  let main_v21 : FVec F S8192x3072 .f32 := Host.absf main_v20
  let main_cst_5 : FVec F S_ .f32 := constant S_ .f32 0x7F800000#32
  let main_v22 : FVec F S8192x3072 .f32 := broadcastInDim S8192x3072 ![] bcast_S_S8192x3072 main_cst_5
  let main_v23 : IVec S8192x3072 1 := cmpf .olt main_v21 main_v22
  let main_v24 : FVec F S8192x3072 .f32 := (extf .f32 · bitsLt_bf16_f32) main_arg7
  let main_v25 : FVec F S8192x3072 .f32 := Host.absf main_v24
  let main_cst_6 : FVec F S_ .f32 := constant S_ .f32 0x7F800000#32
  let main_v26 : FVec F S8192x3072 .f32 := broadcastInDim S8192x3072 ![] bcast_S_S8192x3072 main_cst_6
  let main_v27 : IVec S8192x3072 1 := cmpf .olt main_v25 main_v26
  let main_v28 : FVec F S8192x32 .f32 := (extf .f32 · bitsLt_bf16_f32) main_arg8
  let main_v29 : FVec F S8192x32 .f32 := Host.absf main_v28
  let main_cst_7 : FVec F S_ .f32 := constant S_ .f32 0x7F800000#32
  let main_v30 : FVec F S8192x32 .f32 := broadcastInDim S8192x32 ![] bcast_S_S8192x32 main_cst_7
  let main_v31 : IVec S8192x32 1 := cmpf .olt main_v29 main_v30
  let main_v32 : FVec F S8192x2048 .f32 := (extf .f32 · bitsLt_bf16_f32) main_arg9
  let main_v33 : FVec F S8192x2048 .f32 := Host.absf main_v32
  let main_cst_8 : FVec F S_ .f32 := constant S_ .f32 0x7F800000#32
  let main_v34 : FVec F S8192x2048 .f32 := broadcastInDim S8192x2048 ![] bcast_S_S8192x2048 main_cst_8
  let main_v35 : IVec S8192x2048 1 := cmpf .olt main_v33 main_v34
  let main_v36 : FVec F S1024x9760 .f32 := Host.absf main_arg10
  let main_cst_9 : FVec F S_ .f32 := constant S_ .f32 0x7F800000#32
  fn_part2 (F := F) main_v2 main_v5 main_v8 main_v11 main_v15 main_v19 main_v23 main_v27 main_v31 main_v35 main_v36 main_cst_9

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .bf16) (main_arg5 : FVec F S8192x512 .bf16) (main_arg6 : FVec F S8192x3072 .bf16) (main_arg7 : FVec F S8192x3072 .bf16) (main_arg8 : FVec F S8192x32 .bf16) (main_arg9 : FVec F S8192x2048 .bf16) (main_arg10 : FVec F S1024x9760 .f32) : IVec S8192x1024 1 × IVec S8192x1024 1 × IVec S1x1024 1 × IVec S1x1024 1 × IVec S8192x1024 1 × IVec S8192x512 1 × IVec S8192x3072 1 × IVec S8192x3072 1 × IVec S8192x32 1 × IVec S8192x2048 1 × IVec S1024x9760 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8192x1024 .f32 := (extf .f32 · bitsLt_bf16_f32) main_arg4
  let main_v13 : FVec F S8192x1024 .f32 := Host.absf main_v12
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  let main_v16 : FVec F S8192x512 .f32 := (extf .f32 · bitsLt_bf16_f32) main_arg5
  let main_v17 : FVec F S8192x512 .f32 := Host.absf main_v16
  let main_cst_4 : FVec F S_ .f32 := constant S_ .f32 0x7F800000#32
  fn_part1 (F := F) main_arg6 main_arg7 main_arg8 main_arg9 main_arg10 main_v2 main_v5 main_v8 main_v11 main_v15 main_v17 main_cst_4
-- ==== Pre_finite_mid.lean ====
abbrev S8192x1024 : Shape := ⟨2, ![8192, 1024]⟩
abbrev S8192x3072 : Shape := ⟨2, ![8192, 3072]⟩
abbrev S8192x2048 : Shape := ⟨2, ![8192, 2048]⟩
abbrev S1x1024 : Shape := ⟨2, ![1, 1024]⟩
abbrev S1x2048 : Shape := ⟨2, ![1, 2048]⟩
abbrev S8x512x1024 : Shape := ⟨3, ![8, 512, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x3072 : S_.BroadcastsInDim S8192x3072 (![] : Fin 0 → Fin S8192x3072.rank)
  bcast_S_S8192x2048 : S_.BroadcastsInDim S8192x2048 (![] : Fin 0 → Fin S8192x2048.rank)
  bcast_S_S1x1024 : S_.BroadcastsInDim S1x1024 (![] : Fin 0 → Fin S1x1024.rank)
  bcast_S_S1x2048 : S_.BroadcastsInDim S1x2048 (![] : Fin 0 → Fin S1x2048.rank)
  bcast_S_S8x512x1024 : S_.BroadcastsInDim S8x512x1024 (![] : Fin 0 → Fin S8x512x1024.rank)

variable [Facts]

def fn_part1 {F : FTy → Type} [FloatOps F] (main_arg6 : FVec F S1x1024 .f32) (main_arg7 : FVec F S1x2048 .f32) (main_arg8 : FVec F S8x512x1024 .bf16) (main_v2 : IVec S8192x1024 1) (main_v5 : IVec S8192x1024 1) (main_v8 : IVec S8192x1024 1) (main_v12 : IVec S8192x3072 1) (main_v15 : IVec S8192x2048 1) (main_v17 : FVec F S8192x2048 .f32) (main_cst_4 : FVec F S_ .f32) : IVec S8192x1024 1 × IVec S8192x1024 1 × IVec S8192x1024 1 × IVec S8192x3072 1 × IVec S8192x2048 1 × IVec S8192x2048 1 × IVec S1x1024 1 × IVec S1x2048 1 × IVec S8x512x1024 1 :=
  let main_v18 : FVec F S8192x2048 .f32 := broadcastInDim S8192x2048 ![] bcast_S_S8192x2048 main_cst_4
  let main_v19 : IVec S8192x2048 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x2048 .f32 := Host.absf main_arg7
  let main_cst_6 : FVec F S_ .f32 := constant S_ .f32 0x7F800000#32
  let main_v24 : FVec F S1x2048 .f32 := broadcastInDim S1x2048 ![] bcast_S_S1x2048 main_cst_6
  let main_v25 : IVec S1x2048 1 := cmpf .olt main_v23 main_v24
  let main_v26 : FVec F S8x512x1024 .f32 := (extf .f32 · bitsLt_bf16_f32) main_arg8
  let main_v27 : FVec F S8x512x1024 .f32 := Host.absf main_v26
  let main_cst_7 : FVec F S_ .f32 := constant S_ .f32 0x7F800000#32
  let main_v28 : FVec F S8x512x1024 .f32 := broadcastInDim S8x512x1024 ![] bcast_S_S8x512x1024 main_cst_7
  let main_v29 : IVec S8x512x1024 1 := cmpf .olt main_v27 main_v28
  (main_v2, main_v5, main_v8, main_v12, main_v15, main_v19, main_v22, main_v25, main_v29)

def fn {F : FTy → Type} [FloatOps F] (main_arg0 : FVec F S8192x1024 .f32) (main_arg1 : FVec F S8192x1024 .f32) (main_arg2 : FVec F S8192x1024 .f32) (main_arg3 : FVec F S8192x3072 .bf16) (main_arg4 : FVec F S8192x2048 .f32) (main_arg5 : FVec F S8192x2048 .bf16) (main_arg6 : FVec F S1x1024 .f32) (main_arg7 : FVec F S1x2048 .f32) (main_arg8 : FVec F S8x512x1024 .bf16) : IVec S8192x1024 1 × IVec S8192x1024 1 × IVec S8192x1024 1 × IVec S8192x3072 1 × IVec S8192x2048 1 × IVec S8192x2048 1 × IVec S1x1024 1 × IVec S1x2048 1 × IVec S8x512x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x3072 .f32 := (extf .f32 · bitsLt_bf16_f32) main_arg3
  let main_v10 : FVec F S8192x3072 .f32 := Host.absf main_v9
  let main_cst_2 : FVec F S_ .f32 := constant S_ .f32 0x7F800000#32
  let main_v11 : FVec F S8192x3072 .f32 := broadcastInDim S8192x3072 ![] bcast_S_S8192x3072 main_cst_2
  let main_v12 : IVec S8192x3072 1 := cmpf .olt main_v10 main_v11
  let main_v13 : FVec F S8192x2048 .f32 := Host.absf main_arg4
  let main_cst_3 : FVec F S_ .f32 := constant S_ .f32 0x7F800000#32
  let main_v14 : FVec F S8192x2048 .f32 := broadcastInDim S8192x2048 ![] bcast_S_S8192x2048 main_cst_3
  let main_v15 : IVec S8192x2048 1 := cmpf .olt main_v13 main_v14
  let main_v16 : FVec F S8192x2048 .f32 := (extf .f32 · bitsLt_bf16_f32) main_arg5
  let main_v17 : FVec F S8192x2048 .f32 := Host.absf main_v16
  let main_cst_4 : FVec F S_ .f32 := constant S_ .f32 0x7F800000#32
  fn_part1 (F := F) main_arg6 main_arg7 main_arg8 main_v2 main_v5 main_v8 main_v12 main_v15 main_v17 main_cst_4
-- ==== Dh.lean ====
abbrev S8192x1024 : Shape := ⟨2, ![8192, 1024]⟩
abbrev S1x1024 : Shape := ⟨2, ![1, 1024]⟩
abbrev S8192x512 : Shape := ⟨2, ![8192, 512]⟩
abbrev S8192x3072 : Shape := ⟨2, ![8192, 3072]⟩
abbrev S8192x32 : Shape := ⟨2, ![8192, 32]⟩
abbrev S8192x2048 : Shape := ⟨2, ![8192, 2048]⟩
abbrev S1024x9760 : Shape := ⟨2, ![1024, 9760]⟩
abbrev S9760x1024 : Shape := ⟨2, ![9760, 1024]⟩
abbrev S256x1024 : Shape := ⟨2, ![256, 1024]⟩
abbrev S256x512 : Shape := ⟨2, ![256, 512]⟩
abbrev S256x3072 : Shape := ⟨2, ![256, 3072]⟩
abbrev S256x32 : Shape := ⟨2, ![256, 32]⟩
abbrev S256x2048 : Shape := ⟨2, ![256, 2048]⟩
abbrev S6 : Shape := ⟨1, ![6]⟩
abbrev S1 : Shape := ⟨1, ![1]⟩
abbrev S_ : Shape := ⟨0, ![]⟩
abbrev S1024x1024 : Shape := ⟨2, ![1024, 1024]⟩
abbrev S512x1024 : Shape := ⟨2, ![512, 1024]⟩
abbrev S3072x1024 : Shape := ⟨2, ![3072, 1024]⟩
abbrev S32x1024 : Shape := ⟨2, ![32, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S8192x512, .bf16⟩
  | .hbm, ⟨6, _⟩ => ⟨S8192x3072, .bf16⟩
  | .hbm, ⟨7, _⟩ => ⟨S8192x3072, .bf16⟩
  | .hbm, ⟨8, _⟩ => ⟨S8192x32, .bf16⟩
  | .hbm, ⟨9, _⟩ => ⟨S8192x2048, .bf16⟩
  | .hbm, ⟨10, _⟩ => ⟨S1024x9760, .f32⟩
  | .hbm, ⟨11, _⟩ => ⟨S9760x1024, .f32⟩
  | .hbm, ⟨12, _⟩ => ⟨S9760x1024, .bf16⟩
  | .hbm, ⟨13, _⟩ => ⟨S8192x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x3072, .bf16⟩
  | .local _ .vmem, ⟨11, _⟩ => ⟨S256x3072, .bf16⟩
  | .local _ .vmem, ⟨12, _⟩ => ⟨S256x3072, .bf16⟩
  | .local _ .vmem, ⟨13, _⟩ => ⟨S256x3072, .bf16⟩
  | .local _ .vmem, ⟨14, _⟩ => ⟨S256x32, .bf16⟩
  | .local _ .vmem, ⟨15, _⟩ => ⟨S256x32, .bf16⟩
  | .local _ .vmem, ⟨16, _⟩ => ⟨S256x2048, .bf16⟩
  | .local _ .vmem, ⟨17, _⟩ => ⟨S256x2048, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S9760x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DhRefIdeal.lean ====
abbrev S8192x1024 : Shape := ⟨2, ![8192, 1024]⟩
abbrev S1x1024 : Shape := ⟨2, ![1, 1024]⟩
abbrev S8192x512 : Shape := ⟨2, ![8192, 512]⟩
abbrev S8192x3072 : Shape := ⟨2, ![8192, 3072]⟩
abbrev S8192x32 : Shape := ⟨2, ![8192, 32]⟩
abbrev S8192x2048 : Shape := ⟨2, ![8192, 2048]⟩
abbrev S1024x9760 : Shape := ⟨2, ![1024, 9760]⟩
abbrev S8192x9760 : Shape := ⟨2, ![8192, 9760]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S8192x512, .bf16⟩
  | .hbm, ⟨6, _⟩ => ⟨S8192x3072, .bf16⟩
  | .hbm, ⟨7, _⟩ => ⟨S8192x3072, .bf16⟩
  | .hbm, ⟨8, _⟩ => ⟨S8192x32, .bf16⟩
  | .hbm, ⟨9, _⟩ => ⟨S8192x2048, .bf16⟩
  | .hbm, ⟨10, _⟩ => ⟨S1024x9760, .f32⟩
  | .hbm, ⟨11, _⟩ => ⟨S8192x1024, .f32⟩
  | .hbm, ⟨12, _⟩ => ⟨S8192x512, .f32⟩
  | .hbm, ⟨13, _⟩ => ⟨S8192x3072, .f32⟩
  | .hbm, ⟨14, _⟩ => ⟨S8192x3072, .f32⟩
  | .hbm, ⟨15, _⟩ => ⟨S8192x32, .f32⟩
  | .hbm, ⟨16, _⟩ => ⟨S8192x2048, .f32⟩
  | .hbm, ⟨17, _⟩ => ⟨S8192x9760, .f32⟩
  | .hbm, ⟨18, _⟩ => ⟨S_, .f32⟩
  | .hbm, ⟨19, _⟩ => ⟨S1x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x9760, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Inproj.lean ====
abbrev S8192x1024 : Shape := ⟨2, ![8192, 1024]⟩
abbrev S1x1024 : Shape := ⟨2, ![1, 1024]⟩
abbrev S1024x9760 : Shape := ⟨2, ![1024, 9760]⟩
abbrev S9760x1024 : Shape := ⟨2, ![9760, 1024]⟩
abbrev S8192x512 : Shape := ⟨2, ![8192, 512]⟩
abbrev S8192x3072 : Shape := ⟨2, ![8192, 3072]⟩
abbrev S8192x32 : Shape := ⟨2, ![8192, 32]⟩
abbrev S8192x2048 : Shape := ⟨2, ![8192, 2048]⟩
abbrev S256x1024 : Shape := ⟨2, ![256, 1024]⟩
abbrev S256x512 : Shape := ⟨2, ![256, 512]⟩
abbrev S256x3072 : Shape := ⟨2, ![256, 3072]⟩
abbrev S256x32 : Shape := ⟨2, ![256, 32]⟩
abbrev S256x2048 : Shape := ⟨2, ![256, 2048]⟩
abbrev S6 : Shape := ⟨1, ![6]⟩
abbrev S1 : Shape := ⟨1, ![1]⟩
abbrev S_ : Shape := ⟨0, ![]⟩
abbrev S1024x1024 : Shape := ⟨2, ![1024, 1024]⟩
abbrev S512x1024 : Shape := ⟨2, ![512, 1024]⟩
abbrev S3072x1024 : Shape := ⟨2, ![3072, 1024]⟩
abbrev S32x1024 : Shape := ⟨2, ![32, 1024]⟩
abbrev S2048x1024 : Shape := ⟨2, ![2048, 1024]⟩
abbrev S256 : Shape := ⟨1, ![256]⟩
abbrev S256x1 : Shape := ⟨2, ![256, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9760, .f32⟩
  | .hbm, ⟨5, _⟩ => ⟨S9760x1024, .f32⟩
  | .hbm, ⟨6, _⟩ => ⟨S9760x1024, .bf16⟩
  | .hbm, ⟨7, _⟩ => ⟨S8192x1024, .f32⟩
  | .hbm, ⟨8, _⟩ => ⟨S8192x512, .f32⟩
  | .hbm, ⟨9, _⟩ => ⟨S8192x3072, .bf16⟩
  | .hbm, ⟨10, _⟩ => ⟨S8192x3072, .f32⟩
  | .hbm, ⟨11, _⟩ => ⟨S8192x32, .f32⟩
  | .hbm, ⟨12, _⟩ => ⟨S8192x2048, .bf16⟩
  | .hbm, ⟨13, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x512, .f32⟩
  | .local _ .vmem, ⟨8, _⟩ => ⟨S256x512, .f32⟩
  | .local _ .vmem, ⟨9, _⟩ => ⟨S256x3072, .bf16⟩
  | .local _ .vmem, ⟨10, _⟩ => ⟨S256x3072, .bf16⟩
  | .local _ .vmem, ⟨11, _⟩ => ⟨S256x3072, .f32⟩
  | .local _ .vmem, ⟨12, _⟩ => ⟨S256x3072, .f32⟩
  | .local _ .vmem, ⟨13, _⟩ => ⟨S256x32, .f32⟩
  | .local _ .vmem, ⟨14, _⟩ => ⟨S256x32, .f32⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S9760x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S8192x1024 : Shape := ⟨2, ![8192, 1024]⟩
abbrev S1x1024 : Shape := ⟨2, ![1, 1024]⟩
abbrev S1024x9760 : Shape := ⟨2, ![1024, 9760]⟩
abbrev S_ : Shape := ⟨0, ![]⟩
abbrev S8192 : Shape := ⟨1, ![8192]⟩
abbrev S8192x1 : Shape := ⟨2, ![8192, 1]⟩
abbrev S8192x9760 : Shape := ⟨2, ![8192, 9760]⟩
abbrev S8192x512 : Shape := ⟨2, ![8192, 512]⟩
abbrev S8192x3072 : Shape := ⟨2, ![8192, 3072]⟩
abbrev S8192x32 : Shape := ⟨2, ![8192, 32]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x9760, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x9760, .f32⟩
  | .hbm, ⟨28, _⟩ => ⟨S8192x1024, .f32⟩
  | .hbm, ⟨29, _⟩ => ⟨S8192x512, .f32⟩
  | .hbm, ⟨30, _⟩ => ⟨S8192x3072, .f32⟩
  | .hbm, ⟨31, _⟩ => ⟨S8192x3072, .f32⟩
  | .hbm, ⟨32, _⟩ => ⟨S8192x32, .f32⟩
  | .hbm, ⟨33, _⟩ => ⟨S8192x2048, .f32⟩
  | .hbm, ⟨34, _⟩ => ⟨S8192x3072, .bf16⟩
  | .hbm, ⟨35, _⟩ => ⟨S8192x2048, .bf16⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Gw32.lean ====
abbrev S8192x1024 : Shape := ⟨2, ![8192, 1024]⟩
abbrev S8192x32 : Shape := ⟨2, ![8192, 32]⟩
abbrev S32x1024 : Shape := ⟨2, ![32, 1024]⟩
abbrev S2048x1024 : Shape := ⟨2, ![2048, 1024]⟩
abbrev S2048x32 : Shape := ⟨2, ![2048, 32]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x32, .bf16⟩
  | .hbm, ⟨2, _⟩ => ⟨S32x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x32, .bf16⟩
  | .local _ .vmem, ⟨3, _⟩ => ⟨S2048x32, .bf16⟩
  | .local _ .vmem, ⟨4, _⟩ => ⟨S32x1024, .bf16⟩
  | .local _ .vmem, ⟨5, _⟩ => ⟨S32x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw32Ideal.lean ====
abbrev S8192x1024 : Shape := ⟨2, ![8192, 1024]⟩
abbrev S8192x32 : Shape := ⟨2, ![8192, 32]⟩
abbrev S32x1024 : Shape := ⟨2, ![32, 1024]⟩
abbrev S2048x1024 : Shape := ⟨2, ![2048, 1024]⟩
abbrev S2048x32 : Shape := ⟨2, ![2048, 32]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x32, .bf16⟩
  | .hbm, ⟨2, _⟩ => ⟨S32x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x32, .bf16⟩
  | .local _ .vmem, ⟨3, _⟩ => ⟨S2048x32, .bf16⟩
  | .local _ .vmem, ⟨4, _⟩ => ⟨S32x1024, .bf16⟩
  | .local _ .vmem, ⟨5, _⟩ => ⟨S32x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw32RefIdeal.lean ====
abbrev S8192x1024 : Shape := ⟨2, ![8192, 1024]⟩
abbrev S8192x32 : Shape := ⟨2, ![8192, 32]⟩
abbrev S_ : Shape := ⟨0, ![]⟩
abbrev S1024x32 : Shape := ⟨2, ![1024, 32]⟩
abbrev S32x1024 : Shape := ⟨2, ![32, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x32, .bf16⟩
  | .hbm, ⟨2, _⟩ => ⟨S8192x1024, .f32⟩
  | .hbm, ⟨3, _⟩ => ⟨S8192x32, .f32⟩
  | .hbm, ⟨4, _⟩ => ⟨S_, .f32⟩
  | .hbm, ⟨5, _⟩ => ⟨S1024x32, .f32⟩
  | .hbm, ⟨6, _⟩ => ⟨S8192x32, .f32⟩
  | .hbm, ⟨7, _⟩ => ⟨S32x1024, .f32⟩
  | .hbm, ⟨8, _⟩ => ⟨S1024x32, .f32⟩
  | .hbm, ⟨9, _⟩ => ⟨S32x1024, .f32⟩
  | .hbm, ⟨10, _⟩ => ⟨S32x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gw512.lean ====
abbrev S8192x1024 : Shape := ⟨2, ![8192, 1024]⟩
abbrev S8192x512 : Shape := ⟨2, ![8192, 512]⟩
abbrev S512x1024 : Shape := ⟨2, ![512, 1024]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S512x1024, .bf16⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw512Ideal.lean ====
abbrev S8192x1024 : Shape := ⟨2, ![8192, 1024]⟩
abbrev S8192x512 : Shape := ⟨2, ![8192, 512]⟩
abbrev S512x1024 : Shape := ⟨2, ![512, 1024]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S512x1024, .bf16⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw512RefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S8192x512, .f32⟩
  | .hbm, ⟨4, _⟩ => ⟨S_, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gw1024.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw1024Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw1024RefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gw2048.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S2048x1024, .bf16⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw2048Ideal.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S2048x1024, .bf16⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Gw2048RefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gw3072.lean ====
abbrev S8192x1024 : Shape := ⟨2, ![8192, 1024]⟩
abbrev S8192x3072 : Shape := ⟨2, ![8192, 3072]⟩
abbrev S3072x1024 : Shape := ⟨2, ![3072, 1024]⟩
abbrev S2048x1024 : Shape := ⟨2, ![2048, 1024]⟩
abbrev S2048x1536 : Shape := ⟨2, ![2048, 1536]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Gw3072RefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mid.lean ====
abbrev S8192x1024 : Shape := ⟨2, ![8192, 1024]⟩
abbrev S8192x3072 : Shape := ⟨2, ![8192, 3072]⟩
abbrev S8192x2048 : Shape := ⟨2, ![8192, 2048]⟩
abbrev S1x1024 : Shape := ⟨2, ![1, 1024]⟩
abbrev S1x2048 : Shape := ⟨2, ![1, 2048]⟩
abbrev S8x512x1024 : Shape := ⟨3, ![8, 512, 1024]⟩
abbrev S1x1 : Shape := ⟨2, ![1, 1]⟩
abbrev S256x1024 : Shape := ⟨2, ![256, 1024]⟩
abbrev S256x3072 : Shape := ⟨2, ![256, 3072]⟩
abbrev S256x2048 : Shape := ⟨2, ![256, 2048]⟩
abbrev S1024x1024 : Shape := ⟨2, ![1024, 1024]⟩
abbrev S2048x1024 : Shape := ⟨2, ![2048, 1024]⟩
abbrev S3 : Shape := ⟨1, ![3]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩
abbrev S1x256x1024 : Shape := ⟨3, ![1, 256, 1024]⟩
abbrev S256x512 : Shape := ⟨2, ![256, 512]⟩
abbrev S256 : Shape := ⟨1, ![256]⟩
abbrev S256x1 : Shape := ⟨2, ![256, 1]⟩
abbrev S1x1x1 : Shape := ⟨3, ![1, 1, 1]⟩
abbrev S1024 : Shape := ⟨1, ![1024]⟩
abbrev S2048 : Shape := ⟨1, ![2048]⟩

abbrev nBuf : Space → Nat
  | .hbm => 23
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3072, .bf16⟩
  | .hbm, ⟨4, _⟩ => ⟨S8192x2048, .f32⟩
  | .hbm, ⟨5, _⟩ => ⟨S8192x2048, .bf16⟩
  | .hbm, ⟨6, _⟩ => ⟨S1x1024, .f32⟩
  | .hbm, ⟨7, _⟩ => ⟨S1x2048, .f32⟩
  | .hbm, ⟨8, _⟩ => ⟨S8x512x1024, .bf16⟩
  | .hbm, ⟨9, _⟩ => ⟨S8192x1024, .f32⟩
  | .hbm, ⟨10, _⟩ => ⟨S8192x1024, .f32⟩
  | .hbm, ⟨11, _⟩ => ⟨S8192x3072, .bf16⟩
  | .hbm, ⟨12, _⟩ => ⟨S8192x2048, .f32⟩
  | .hbm, ⟨13, _⟩ => ⟨S8192x2048, .bf16⟩
  | .hbm, ⟨14, _⟩ => ⟨S8192x1024, .bf16⟩
  | .hbm, ⟨15, _⟩ => ⟨S8192x1024, .bf16⟩
  | .hbm, ⟨16, _⟩ => ⟨S8192x2048, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S1x2048, .f32⟩
  | .hbm, ⟨21, _⟩ => ⟨S1x1024, .f32⟩
  | .hbm, ⟨22, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x3072, .bf16⟩
  | .local _ .vmem, ⟨7, _⟩ => ⟨S256x3072, .bf16⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x1024, .f32⟩
  | .local _ .vmem, ⟨13, _⟩ => ⟨S1x2048, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x3072, .bf16⟩
  | .local _ .vmem, ⟨19, _⟩ => ⟨S256x3072, .bf16⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1x2048, .f32⟩
  | .local _ .vmem, ⟨37, _⟩ => ⟨S1x1024, .f32⟩
  | .local _ .vmem, ⟨38, _⟩ => ⟨S1x1, .f32⟩
  | .local _ .vmem, ⟨39, _⟩ => ⟨S1024x1024, .bf16⟩
  | .local _ .vmem, ⟨40, _⟩ => ⟨S2048x1024, .bf16⟩
  | .local _ .vmem, ⟨41, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev main_v0_11 : Ref sig .tc := ⟨.hbm, 20, rfl⟩
abbrev main_v0_12 : Ref sig .tc := ⟨.hbm, 21, rfl⟩
abbrev main_v0_13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg21_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem20_0 : DmaSem sig := 37
abbrev cc0_sem21_0 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MidRefIdeal.lean ====
abbrev S8192x1024 : Shape := ⟨2, ![8192, 1024]⟩
abbrev S8192x3072 : Shape := ⟨2, ![8192, 3072]⟩
abbrev S8192x2048 : Shape := ⟨2, ![8192, 2048]⟩
abbrev S1x1024 : Shape := ⟨2, ![1, 1024]⟩
abbrev S1x2048 : Shape := ⟨2, ![1, 2048]⟩
abbrev S8x512x1024 : Shape := ⟨3, ![8, 512, 1024]⟩
abbrev S8x128x1024 : Shape := ⟨3, ![8, 128, 1024]⟩
abbrev S8x256x1024 : Shape := ⟨3, ![8, 256, 1024]⟩
abbrev S1024x1024 : Shape := ⟨2, ![1024, 1024]⟩
abbrev S2048x1024 : Shape := ⟨2, ![2048, 1024]⟩
abbrev S_ : Shape := ⟨0, ![]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩
abbrev S8192 : Shape := ⟨1, ![8192]⟩
abbrev S1024 : Shape := ⟨1, ![1024]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x3072, .bf16⟩
  | 4 => ⟨S8192x2048, .f32⟩
  | 5 => ⟨S8192x2048, .bf16⟩
  | 6 => ⟨S1x1024, .f32⟩
  | 7 => ⟨S1x2048, .f32⟩
  | 8 => ⟨S8x512x1024, .bf16⟩
  | 9 => ⟨S8x512x1024, .f32⟩
  | 10 => ⟨S8x128x1024, .f32⟩
  | 11 => ⟨S8x256x1024, .f32⟩
  | 12 => ⟨S8x128x1024, .f32⟩
  | 13 => ⟨S1024x1024, .f32⟩
  | 14 => ⟨S2048x1024, .f32⟩
  | 15 => ⟨S1024x1024, .f32⟩
  | 16 => ⟨S8192x3072, .f32⟩
  | 17 => ⟨S8192x1024, .f32⟩
  | 18 => ⟨S8192x2048, .f32⟩
  | 19 => ⟨S8192x2048, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S_, .f32⟩
  | 45 => ⟨S8192x2048, .f32⟩
  | 46 => ⟨S8192x2048, .f32⟩
  | 47 => ⟨S8192x2048, .f32⟩
  | 48 => ⟨S8192x2048, .f32⟩
  | 49 => ⟨S8192x2048, .f32⟩
  | 50 => ⟨S8192x4x512, .f32⟩
  | 51 => ⟨S4x512, .f32⟩
  | 52 => ⟨S8192x4x512, .f32⟩
  | 53 => ⟨S_, .f32⟩
  | 54 => ⟨S8192x4, .f32⟩
  | 55 => ⟨S8192x4x1, .f32⟩
  | 56 => ⟨S_, .f32⟩
  | 57 => ⟨S8192x4x1, .f32⟩
  | 58 => ⟨S8192x4x1, .f32⟩
  | 59 => ⟨S_, .f32⟩
  | 60 => ⟨S8192x4x1, .f32⟩
  | 61 => ⟨S8192x4x1, .f32⟩
  | 62 => ⟨S8192x4x1, .f32⟩
  | 63 => ⟨S8192x4x1, .f32⟩
  | 64 => ⟨S_, .f32⟩
  | 65 => ⟨S8192x4x1, .f32⟩
  | 66 => ⟨S8192x4x1, .f32⟩
  | 67 => ⟨S8192x4x512, .f32⟩
  | 68 => ⟨S8192x4x512, .f32⟩
  | 69 => ⟨S1x4x512, .f32⟩
  | 70 => ⟨S8192x4x512, .f32⟩
  | 71 => ⟨S8192x4x512, .f32⟩
  | 72 => ⟨S8192x2048, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S_, .f32⟩
  | 112 => ⟨S8192, .f32⟩
  | 113 => ⟨S_, .f32⟩
  | 114 => ⟨S8192, .f32⟩
  | 115 => ⟨S8192, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S8192, .f32⟩
  | 124 => ⟨S_, .f32⟩
  | 125 => ⟨S8192, .f32⟩
  | 126 => ⟨S8192, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x2048, .f32⟩
  | 22 => ⟨S8192x4x512, .f32⟩
  | 23 => ⟨S8192x4x512, .f32⟩
  | 24 => ⟨S_, .f32⟩
  | 25 => ⟨S4x512, .f32⟩
  | 26 => ⟨S1x4x512, .f32⟩
  | 27 => ⟨S8192x4x512, .f32⟩
  | 28 => ⟨S8192x4x512, .f32⟩
  | 29 => ⟨S_, .f32⟩
  | 30 => ⟨S4x512, .f32⟩
  | 31 => ⟨S8192x4x512, .f32⟩
  | 32 => ⟨S_, .f32⟩
  | 33 => ⟨S8192x4, .f32⟩
  | 34 => ⟨S8192x4x1, .f32⟩
  | 35 => ⟨S8192x4x512, .f32⟩
  | 36 => ⟨S8192x4x512, .f32⟩
  | 37 => ⟨S8192x4x1, .f32⟩
  | 38 => ⟨S_, .f32⟩
  | 39 => ⟨S8192x4x1, .f32⟩
  | 40 => ⟨S8192x4x1, .f32⟩
  | 41 => ⟨S_, .f32⟩
  | 42 => ⟨S8192x4, .f32⟩
  | 43 => ⟨S8192x4x512, .f32⟩
  | 44 => ⟨S8192x4x512, .f32⟩
  | 45 => ⟨S8192x4x512, .f32⟩
  | 46 => ⟨S8192x4x512, .f32⟩
  | 47 => ⟨S8192x4x512, .f32⟩
  | 48 => ⟨S1x2048, .f32⟩
  | 49 => ⟨S8192x2048, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S8192x3072, .f32⟩
  | 57 => ⟨S8192x3072, .bf16⟩
  | 58 => ⟨S8192x2048, .f32⟩
  | 59 => ⟨S8192x2048, .bf16⟩
  | 60 => ⟨S8192x1024, .bf16⟩
  | 61 => ⟨S8192x1024, .bf16⟩
  | 62 => ⟨S8192x2048, .bf16⟩
  | 63 => ⟨S8192x1024, .bf16⟩
  | 64 => ⟨S8192x1024, .bf16⟩
  | 65 => ⟨S8192x1024, .bf16⟩
  | 66 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v13_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v13_1 : Ref sig .tc := ⟨.hbm, 33, rfl⟩
abbrev main_v13_0 : Ref sig .tc := ⟨.hbm, 34, rfl⟩
abbrev main_v14 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_v15_2 : Ref sig .tc := ⟨.hbm, 43, rfl⟩
abbrev main_call1_cst_1 : Ref sig .tc := ⟨.hbm, 44, rfl⟩
abbrev main_call1_v6 : Ref sig .tc := ⟨.hbm, 45, rfl⟩
abbrev main_call1_v7 : Ref sig .tc := ⟨.hbm, 46, rfl⟩
abbrev main_v15_1 : Ref sig .tc := ⟨.hbm, 47, rfl⟩
abbrev main_v15_0 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst : Ref sig .tc := ⟨.hbm, 53, rfl⟩
abbrev main_v20 : Ref sig .tc := ⟨.hbm, 54, rfl⟩
abbrev main_v21 : Ref sig .tc := ⟨.hbm, 55, rfl⟩
abbrev main_cst_0 : Ref sig .tc := ⟨.hbm, 56, rfl⟩
abbrev main_v22 : Ref sig .tc := ⟨.hbm, 57, rfl⟩
abbrev main_v23 : Ref sig .tc := ⟨.hbm, 58, rfl⟩
abbrev main_cst_1 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_cst_7 : Ref sig .tc := ⟨.hbm, 93, rfl⟩
abbrev main_v52 : Ref sig .tc := ⟨.hbm, 94, rfl⟩
abbrev main_v53 : Ref sig .tc := ⟨.hbm, 95, rfl⟩
abbrev main_cst_8 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_9 : Ref sig .tc := ⟨.hbm, 108, rfl⟩
abbrev main_v65 : Ref sig .tc := ⟨.hbm, 109, rfl⟩
abbrev main_v66 : Ref sig .tc := ⟨.hbm, 110, rfl⟩
abbrev main_cst_10 : Ref sig .tc := ⟨.hbm, 111, rfl⟩
abbrev main_v67 : Ref sig .tc := ⟨.hbm, 112, rfl⟩
abbrev main_cst_11 : Ref sig .tc := ⟨.hbm, 113, rfl⟩
abbrev main_v68 : Ref sig .tc := ⟨.hbm, 114, rfl⟩
abbrev main_v69 : Ref sig .tc := ⟨.hbm, 115, rfl⟩
abbrev main_cst_12 : Ref sig .tc := ⟨.hbm, 116, rfl⟩
abbrev main_v70 : Ref sig .tc := ⟨.hbm, 117, rfl⟩
abbrev main_cst_13 : Ref sig .tc := ⟨.hbm, 118, rfl⟩
abbrev main_v71 : Ref sig .tc := ⟨.hbm, 119, rfl⟩
abbrev main_cst_14 : Ref sig .tc := ⟨.hbm, 120, rfl⟩
abbrev main_cst_15 : Ref sig .tc := ⟨.hbm, 121, rfl⟩
abbrev main_v72 : Ref sig .tc := ⟨.hbm, 122, rfl⟩
abbrev main_v73 : Ref sig .tc := ⟨.hbm, 123, rfl⟩
abbrev main_cst_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_17 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_18 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_19 : Ref sig .tc := ⟨.hbm, 157, rfl⟩
abbrev main_v101 : Ref sig .tc := ⟨.hbm, 158, rfl⟩
abbrev main_v102 : Ref sig .tc := ⟨.hbm, 159, rfl⟩
abbrev main_cst_20 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_21 : Ref sig .tc := ⟨.hbm, 166, rfl⟩
abbrev main_v108 : Ref sig .tc := ⟨.hbm, 167, rfl⟩
abbrev main_v109 : Ref sig .tc := ⟨.hbm, 168, rfl⟩
abbrev main_cst_22 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩

abbrev nD : Nat := 1
abbrev τ : Topo := Topo.v7x

variable {F : FTy → Type} [FloatOps F]
-- ==== AdamIn.lean ====
abbrev S8x1220x1024 : Shape := ⟨3, ![8, 1220, 1024]⟩
abbrev S1220x1024 : Shape := ⟨2, ![1220, 1024]⟩
abbrev S8x1220x256 : Shape := ⟨3, ![8, 1220, 256]⟩
abbrev S1220x256 : Shape := ⟨2, ![1220, 256]⟩
abbrev S1x1220x256 : Shape := ⟨3, ![1, 1220, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1220x1024, .bf16⟩
  | .hbm, ⟨1, _⟩ => ⟨S1220x1024, .f32⟩
  | .hbm, ⟨2, _⟩ => ⟨S1220x1024, .f32⟩
  | .hbm, ⟨3, _⟩ => ⟨S1220x1024, .f32⟩
  | .hbm, ⟨4, _⟩ => ⟨S1220x1024, .f32⟩
  | .hbm, ⟨5, _⟩ => ⟨S1220x1024, .f32⟩
  | .hbm, ⟨6, _⟩ => ⟨S1220x1024, .f32⟩
  | .hbm, ⟨7, _⟩ => ⟨S1220x1024, .f32⟩
  | .local _ .vmem, ⟨0, _⟩ => ⟨S8x1220x256, .bf16⟩
  | .local _ .vmem, ⟨1, _⟩ => ⟨S8x1220x256, .bf16⟩
  | .local _ .vmem, ⟨2, _⟩ => ⟨S1220x256, .f32⟩
  | .local _ .vmem, ⟨3, _⟩ => ⟨S1220x256, .f32⟩
  | .local _ .vmem, ⟨4, _⟩ => ⟨S1220x256, .f32⟩
  | .local _ .vmem, ⟨5, _⟩ => ⟨S1220x256, .f32⟩
  | .local _ .vmem, ⟨6, _⟩ => ⟨S1220x256, .f32⟩
  | .local _ .vmem, ⟨7, _⟩ => ⟨S1220x256, .f32⟩
  | .local _ .vmem, ⟨8, _⟩ => ⟨S1220x256, .f32⟩
  | .local _ .vmem, ⟨9, _⟩ => ⟨S1220x256, .f32⟩
  | .local _ .vmem, ⟨10, _⟩ => ⟨S1220x256, .f32⟩
  | .local _ .vmem, ⟨11, _⟩ => ⟨S1220x256, .f32⟩
  | .local _ .vmem, ⟨12, _⟩ => ⟨S1220x256, .f32⟩
  | .local _ .vmem, ⟨13, _⟩ => ⟨S1220x256, .f32⟩
  | .local _ .vmem, ⟨14, _⟩ => ⟨S1220x256, .f32⟩
  | .local _ .vmem, ⟨15, _⟩ => ⟨S1220x256, .f32⟩
  | _, _ => ⟨S8x1220x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1220x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1220x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1220x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1220x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1220x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1220x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1220x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1220x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S8x1220x1024 : Shape := ⟨3, ![8, 1220, 1024]⟩
abbrev S1220x1024 : Shape := ⟨2, ![1220, 1024]⟩
abbrev S8x1220x256 : Shape := ⟨3, ![8, 1220, 256]⟩
abbrev S1220x256 : Shape := ⟨2, ![1220, 256]⟩
abbrev S1x1220x256 : Shape := ⟨3, ![1, 1220, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1220x1024, .bf16⟩
  | .hbm, ⟨1, _⟩ => ⟨S1220x1024, .f32⟩
  | .hbm, ⟨2, _⟩ => ⟨S1220x1024, .f32⟩
  | .hbm, ⟨3, _⟩ => ⟨S1220x1024, .f32⟩
  | .hbm, ⟨4, _⟩ => ⟨S1220x1024, .f32⟩
  | .hbm, ⟨5, _⟩ => ⟨S1220x1024, .f32⟩
  | .hbm, ⟨6, _⟩ => ⟨S1220x1024, .f32⟩
  | .hbm, ⟨7, _⟩ => ⟨S1220x1024, .f32⟩
  | .local _ .vmem, ⟨0, _⟩ => ⟨S8x1220x256, .bf16⟩
  | .local _ .vmem, ⟨1, _⟩ => ⟨S8x1220x256, .bf16⟩
  | .local _ .vmem, ⟨2, _⟩ => ⟨S1220x256, .f32⟩
  | .local _ .vmem, ⟨3, _⟩ => ⟨S1220x256, .f32⟩
  | .local _ .vmem, ⟨4, _⟩ => ⟨S1220x256, .f32⟩
  | .local _ .vmem, ⟨5, _⟩ => ⟨S1220x256, .f32⟩
  | .local _ .vmem, ⟨6, _⟩ => ⟨S1220x256, .f32⟩
  | .local _ .vmem, ⟨7, _⟩ => ⟨S1220x256, .f32⟩
  | .local _ .vmem, ⟨8, _⟩ => ⟨S1220x256, .f32⟩
  | .local _ .vmem, ⟨9, _⟩ => ⟨S1220x256, .f32⟩
  | .local _ .vmem, ⟨10, _⟩ => ⟨S1220x256, .f32⟩
  | .local _ .vmem, ⟨11, _⟩ => ⟨S1220x256, .f32⟩
  | .local _ .vmem, ⟨12, _⟩ => ⟨S1220x256, .f32⟩
  | .local _ .vmem, ⟨13, _⟩ => ⟨S1220x256, .f32⟩
  | .local _ .vmem, ⟨14, _⟩ => ⟨S1220x256, .f32⟩
  | .local _ .vmem, ⟨15, _⟩ => ⟨S1220x256, .f32⟩
  | _, _ => ⟨S8x1220x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1220x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1220x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1220x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1220x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1220x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1220x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1220x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1220x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S8x1220x1024 : Shape := ⟨3, ![8, 1220, 1024]⟩
abbrev S1220x1024 : Shape := ⟨2, ![1220, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1220x1024, .bf16⟩
  | .hbm, ⟨1, _⟩ => ⟨S1220x1024, .f32⟩
  | .hbm, ⟨2, _⟩ => ⟨S1220x1024, .f32⟩
  | .hbm, ⟨3, _⟩ => ⟨S1220x1024, .f32⟩
  | .hbm, ⟨4, _⟩ => ⟨S8x1220x1024, .f32⟩
  | .hbm, ⟨5, _⟩ => ⟨S_, .f32⟩
  | .hbm, ⟨6, _⟩ => ⟨S1220x1024, .f32⟩
  | .hbm, ⟨7, _⟩ => ⟨S_, .f32⟩
  | .hbm, ⟨8, _⟩ => ⟨S1220x1024, .f32⟩
  | .hbm, ⟨9, _⟩ => ⟨S1220x1024, .f32⟩
  | .hbm, ⟨10, _⟩ => ⟨S_, .f32⟩
  | .hbm, ⟨11, _⟩ => ⟨S1220x1024, .f32⟩
  | .hbm, ⟨12, _⟩ => ⟨S1220x1024, .f32⟩
  | .hbm, ⟨13, _⟩ => ⟨S1220x1024, .f32⟩
  | .hbm, ⟨14, _⟩ => ⟨S_, .f32⟩
  | .hbm, ⟨15, _⟩ => ⟨S1220x1024, .f32⟩
  | .hbm, ⟨16, _⟩ => ⟨S1220x1024, .f32⟩
  | .hbm, ⟨17, _⟩ => ⟨S1220x1024, .f32⟩
  | .hbm, ⟨18, _⟩ => ⟨S_, .f32⟩
  | .hbm, ⟨19, _⟩ => ⟨S1220x1024, .f32⟩
  | .hbm, ⟨20, _⟩ => ⟨S1220x1024, .f32⟩
  | .hbm, ⟨21, _⟩ => ⟨S1220x1024, .f32⟩
  | .hbm, ⟨22, _⟩ => ⟨S_, .f32⟩
  | .hbm, ⟨23, _⟩ => ⟨S1220x1024, .f32⟩
  | .hbm, ⟨24, _⟩ => ⟨S1220x1024, .f32⟩
  | .hbm, ⟨25, _⟩ => ⟨S_, .f32⟩
  | .hbm, ⟨26, _⟩ => ⟨S1220x1024, .f32⟩
  | .hbm, ⟨27, _⟩ => ⟨S1220x1024, .f32⟩
  | .hbm, ⟨28, _⟩ => ⟨S1220x1024, .f32⟩
  | .hbm, ⟨29, _⟩ => ⟨S_, .f32⟩
  | .hbm, ⟨30, _⟩ => ⟨S1220x1024, .f32⟩
  | .hbm, ⟨31, _⟩ => ⟨S1220x1024, .f32⟩
  | .hbm, ⟨32, _⟩ => ⟨S1220x1024, .f32⟩
  | .hbm, ⟨33, _⟩ => ⟨S_, .f32⟩
  | .hbm, ⟨34, _⟩ => ⟨S1220x1024, .f32⟩
  | .hbm, ⟨35, _⟩ => ⟨S1220x1024, .f32⟩
  | .hbm, ⟨36, _⟩ => ⟨S1220x1024, .f32⟩
  | .hbm, ⟨37, _⟩ => ⟨S_, .f32⟩
  | .hbm, ⟨38, _⟩ => ⟨S1220x1024, .f32⟩
  | .hbm, ⟨39, _⟩ => ⟨S1220x1024, .f32⟩
  | _, _ => ⟨S8x1220x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRows.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRowsIdeal.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRowsRefIdeal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S1x1024x384 : Shape := ⟨3, ![1, 1024, 384]⟩
abbrev S1024x384 : Shape := ⟨2, ![1024, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaIdeal.lean ====
abbrev S1x1024x384 : Shape := ⟨3, ![1, 1024, 384]⟩
abbrev S1024x384 : Shape := ⟨2, ![1024, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaRefIdeal.lean ====
abbrev S1x1024x384 : Shape := ⟨3, ![1, 1024, 384]⟩
abbrev S1024x384 : Shape := ⟨2, ![1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S_, .f32⟩
  | .hbm, ⟨7, _⟩ => ⟨S1024x384, .f32⟩
  | .hbm, ⟨8, _⟩ => ⟨S1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvRefIdeal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== GwAda.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GwAdaRefIdeal.lean ====
abbrev S8x1024 : Shape := ⟨2, ![8, 1024]⟩
abbrev S8x384 : Shape := ⟨2, ![8, 384]⟩
abbrev S_ : Shape := ⟨0, ![]⟩
abbrev S1024x384 : Shape := ⟨2, ![1024, 384]⟩
abbrev S384x1024 : Shape := ⟨2, ![384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S_, .f32⟩
  | .hbm, ⟨3, _⟩ => ⟨S1024x384, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x384, .f32⟩
  | .hbm, ⟨14, _⟩ => ⟨S384x1024, .f32⟩
  | .hbm, ⟨15, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.MidIdealTile.lean ====
module

public import proofs.«01_k».proof.Proof.Gen.MidIdeal.Launch
public import proofs.«01_k».proof.Proof.Gen.MidIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.MidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What one grid point computes, as functions of the tile it loads -/

/-- `0.5 * tanh(0.5 * z) + 0.5`, the sigmoid the kernel computes. -/
def sigm {s : Shape} (z : FVec F s .f32) : FVec F s .f32 :=
  addf (mulf (broadcast s (Scalar.ofBits .f32 0x3F000000#32 : F .f32)) (tanh (mulf (broadcast s (Scalar.ofBits .f32 0x3F000000#32 : F .f32)) z)))
    (broadcast s (Scalar.ofBits .f32 0x3F000000#32 : F .f32))
/-- A bfloat16 vector widened. -/
def wide {s : Shape} (z : FVec F s .bf16) : FVec F s .f32 := extf .f32 z bitsLt_bf16_f32
/-- A float32 vector rounded. -/
def narrow {s : Shape} (z : FVec F s .f32) : FVec F s .bf16 := truncf .bf16 z bitsLt_bf16_f32
/-- `z * sigmoid(z)`. -/
def silu {s : Shape} (z : FVec F s .bf16) : FVec F s .f32 := mulf (wide z) (sigm (wide z))
/-- The derivative of `silu`, written `sigmoid(z) * (1 + (z - silu(z)))`. -/
def dsilu {s : Shape} (z : FVec F s .bf16) : FVec F s .f32 :=
  mulf (sigm (wide z)) (addf (broadcast s (Scalar.ofBits .f32 0x3F800000#32 : F .f32)) (subf (wide z) (silu z)))
/-- The mean over a group of 512 columns, one value per row. -/
def grpMean (v : FVec F S256x512 .f32) : FVec F S256x1 .f32 :=
  divf (shapeCast S256x1 (multiReduction .add [1] S256 v 0x00000000#32 reduces_S256x512_S256 (.inl rfl) rfl) shapeCasts_S256_S256x1)
    (broadcast S256x1 (Scalar.ofBits .f32 0x44000000#32 : F .f32))
/-- A value per row spread over a group. -/
def spread (v : FVec F S256x1 .f32) : FVec F S256x512 .f32 :=
  broadcastTo S256x512 (shapeCast S256x1 v shapeCasts_S256x1_S256x1) broadcasts_S256x1_S256x512
/-- The reciprocal root of the mean square of a group. -/
def grpInv (v : FVec F S256x512 .f32) : FVec F S256x512 .f32 :=
  spread (rsqrt (addf (grpMean (mulf v v)) (broadcast S256x1 (Scalar.ofBits .f32 0x358637BD#32 : F .f32))))
/-- The reciprocal roots of the four groups, side by side. -/
def inv4 (u : FVec F S256x2048 .f32) : FVec F S256x2048 .f32 :=
  concatenate S256x2048 1 [⟨S256x512, grpInv (extractStridedSlice S256x512 ![0, 0] u slices_S256x2048_o0_0_S256x512)⟩,
    ⟨S256x512, grpInv (extractStridedSlice S256x512 ![0, 512] u slices_S256x2048_o0_512_S256x512)⟩,
    ⟨S256x512, grpInv (extractStridedSlice S256x512 ![0, 1024] u slices_S256x2048_o0_1024_S256x512)⟩,
    ⟨S256x512, grpInv (extractStridedSlice S256x512 ![0, 1536] u slices_S256x2048_o0_1536_S256x512)⟩] concatenates_S256x512_S256x512_S256x512_S256x512_S256x2048_d1
/-- The means of the four groups, side by side. -/
def mean4 (u : FVec F S256x2048 .f32) : FVec F S256x2048 .f32 :=
  concatenate S256x2048 1 [⟨S256x512, spread (grpMean (extractStridedSlice S256x512 ![0, 0] u slices_S256x2048_o0_0_S256x512))⟩,
    ⟨S256x512, spread (grpMean (extractStridedSlice S256x512 ![0, 512] u slices_S256x2048_o0_512_S256x512))⟩,
    ⟨S256x512, spread (grpMean (extractStridedSlice S256x512 ![0, 1024] u slices_S256x2048_o0_1024_S256x512))⟩,
    ⟨S256x512, spread (grpMean (extractStridedSlice S256x512 ![0, 1536] u slices_S256x2048_o0_1536_S256x512))⟩] concatenates_S256x512_S256x512_S256x512_S256x512_S256x2048_d1
/-- A product with a square matrix, a product with a tall one, and the two transposed products. -/
def mmA (a : FVec F S256x1024 .bf16) (w : FVec F S1024x1024 .bf16) : FVec F S256x1024 .f32 :=
  matmul dot_S256x1024_S1024x1024_S256x1024_1_0_0_1_n_n none a w (constant S256x1024 .f32 0x00000000#32)
def mmB (a : FVec F S256x2048 .bf16) (w : FVec F S2048x1024 .bf16) : FVec F S256x1024 .f32 :=
  matmul dot_S256x2048_S2048x1024_S256x1024_1_0_0_1_n_n none a w (constant S256x1024 .f32 0x00000000#32)
def mmAt (a : FVec F S256x1024 .bf16) (w : FVec F S1024x1024 .bf16) : FVec F S256x1024 .f32 :=
  matmul dot_S256x1024_S1024x1024_S256x1024_1_1_0_0_n_n none a w (constant S256x1024 .f32 0x00000000#32)
def mmBt (a : FVec F S256x1024 .bf16) (w : FVec F S2048x1024 .bf16) : FVec F S256x2048 .f32 :=
  matmul dot_S256x1024_S2048x1024_S256x2048_1_1_0_0_n_n none a w (constant S256x2048 .f32 0x00000000#32)
/-- The first row of ones for the gate and for the norm. -/
def rowA (g : FVec F S1x1024 .f32) : FVec F S256x1024 .f32 := broadcastTo S256x1024 g broadcasts_S1x1024_S256x1024
def rowB (g : FVec F S1x2048 .f32) : FVec F S256x2048 .f32 := broadcastTo S256x2048 g broadcasts_S1x2048_S256x2048
/-- The column sums of a tile. -/
def colA (v : FVec F S256x1024 .f32) : FVec F S1x1024 .f32 :=
  shapeCast S1x1024 (multiReduction .add [0] S1024 v 0x00000000#32 reduces_S256x1024_S1024 (.inl rfl) rfl) shapeCasts_S1024_S1x1024
def colB (v : FVec F S256x2048 .f32) : FVec F S1x2048 .f32 :=
  shapeCast S1x2048 (multiReduction .add [0] S2048 v 0x00000000#32 reduces_S256x2048_S2048 (.inl rfl) rfl) shapeCasts_S2048_S1x2048
/-- `one - v`. -/
def oneSub (v : FVec F S256x1024 .f32) : FVec F S256x1024 .f32 := subf (broadcast S256x1024 (Scalar.ofBits .f32 0x3F800000#32 : F .f32)) v

/-- The gated attention output. -/
def fYag (o : FVec F S256x1024 .f32) (za : FVec F S256x1024 .bf16) : FVec F S256x1024 .bf16 := narrow (mulf o (silu za))
/-- The gated mixer output, before the norm. -/
def fU (y : FVec F S256x2048 .f32) (zm : FVec F S256x2048 .bf16) : FVec F S256x2048 .f32 := mulf y (silu zm)
/-- The gated mixer output normalised. -/
def fYn0 (y : FVec F S256x2048 .f32) (zm : FVec F S256x2048 .bf16) : FVec F S256x2048 .f32 := mulf (fU y zm) (inv4 (fU y zm))
def fYn (nw : FVec F S1x2048 .f32) (y : FVec F S256x2048 .f32) (zm : FVec F S256x2048 .bf16) : FVec F S256x2048 .bf16 :=
  narrow (mulf (fYn0 y zm) (rowB nw))
/-- The merged branches. -/
def fMer (yag : FVec F S256x1024 .bf16) (yn : FVec F S256x2048 .bf16) (wa : FVec F S1024x1024 .bf16) (ws : FVec F S2048x1024 .bf16)
    (ga gb : FVec F S256x1024 .bf16) : FVec F S256x1024 .bf16 :=
  narrow (addf (mulf (sigm (wide ga)) (mmA yag wa)) (mulf (sigm (wide gb)) (mmB yn ws)))

/-- The arrays one grid point loads. -/
structure Tile (F : FTy → Type) where
  x : FVec F S256x1024 .f32
  t : FVec F S256x1024 .f32
  o : FVec F S256x1024 .f32
  za : FVec F S256x1024 .bf16
  zm : FVec F S256x2048 .bf16
  y : FVec F S256x2048 .f32
  ga : FVec F S256x1024 .bf16
  gb : FVec F S256x1024 .bf16
  gate : FVec F S1x1024 .f32
  nw : FVec F S1x2048 .f32
  wa : FVec F S1024x1024 .bf16
  ws : FVec F S2048x1024 .bf16
  wo : FVec F S1024x1024 .bf16

namespace Tile
variable (T : Tile F)
def yag : FVec F S256x1024 .bf16 := fYag T.o T.za
def yn0 : FVec F S256x2048 .f32 := fYn0 T.y T.zm
def yn : FVec F S256x2048 .bf16 := fYn T.nw T.y T.zm
def mer : FVec F S256x1024 .bf16 := fMer T.yag T.yn T.wa T.ws T.ga T.gb
def out : FVec F S256x1024 .f32 := mmA T.mer T.wo
/-- The difference between the block's output and the target. -/
def diff : FVec F S256x1024 .f32 := subf (addf T.x (mulf (rowA T.gate) T.out)) T.t
/-- The loss so far and the tile's share of it. -/
def lossAcc (acc : FVec F S1x1 .f32) : FVec F S1x1 .f32 :=
  addf (shapeCast S1x1 acc shapeCasts_S1x1_S1x1) (mulf (broadcast S1x1 (Scalar.ofBits .f32 0x3A000000#32 : F .f32))
    (broadcast S1x1 (extractAt ![0, 0, 0] (shapeCast S1x1x1 (multiReduction .add [1, 2] S1
      (shapeCast S1x256x1024 (mulf T.diff T.diff) shapeCasts_S256x1024_S1x256x1024) 0x00000000#32 reduces_S1x256x1024_S1 (.inl rfl) rfl)
        shapeCasts_S1_S1x1x1) inpos_S1x1x1_p0_0_0)))
def dx : FVec F S256x1024 .f32 := mulf T.diff (broadcast S256x1024 (Scalar.ofBits .f32 0x3A800000#32 : F .f32))
def gateAcc (acc : FVec F S1x1024 .f32) : FVec F S1x1024 .f32 := addf (shapeCast S1x1024 acc shapeCasts_S1x1024_S1x1024) (colA (mulf T.dx T.out))
def do_ : FVec F S256x1024 .bf16 := narrow (mulf T.dx (rowA T.gate))
/-- The gradient of the merged branches, through the output matrix `wo`. -/
def dm (wo : FVec F S1024x1024 .bf16) : FVec F S256x1024 .f32 := mmAt T.do_ wo
def dya0 (wo : FVec F S1024x1024 .bf16) : FVec F S256x1024 .f32 := mulf (T.dm wo) (sigm (wide T.ga))
def dyb0 (wo : FVec F S1024x1024 .bf16) : FVec F S256x1024 .f32 := mulf (T.dm wo) (sigm (wide T.gb))
def dya (wo : FVec F S1024x1024 .bf16) : FVec F S256x1024 .bf16 := narrow (T.dya0 wo)
def dyb (wo : FVec F S1024x1024 .bf16) : FVec F S256x1024 .bf16 := narrow (T.dyb0 wo)
def dga (wo : FVec F S1024x1024 .bf16) : FVec F S256x1024 .bf16 := narrow (mulf (mulf (T.dya0 wo) (mmA T.yag T.wa)) (oneSub (sigm (wide T.ga))))
def dgb (wo : FVec F S1024x1024 .bf16) : FVec F S256x1024 .bf16 := narrow (mulf (mulf (T.dyb0 wo) (mmB T.yn T.ws)) (oneSub (sigm (wide T.gb))))
def dyag (wo wa : FVec F S1024x1024 .bf16) : FVec F S256x1024 .f32 := mmAt (T.dya wo) wa
def dAtt (wo wa : FVec F S1024x1024 .bf16) : FVec F S256x1024 .f32 := mulf (T.dyag wo wa) (silu T.za)
def dza (wo wa : FVec F S1024x1024 .bf16) : FVec F S256x1024 .bf16 := narrow (mulf (mulf (T.dyag wo wa) T.o) (dsilu T.za))
def dyn (wo : FVec F S1024x1024 .bf16) (ws : FVec F S2048x1024 .bf16) : FVec F S256x2048 .f32 := mmBt (T.dyb wo) ws
def nwAcc (wo : FVec F S1024x1024 .bf16) (ws : FVec F S2048x1024 .bf16) (acc : FVec F S1x2048 .f32) : FVec F S1x2048 .f32 :=
  addf (shapeCast S1x2048 acc shapeCasts_S1x2048_S1x2048) (colB (mulf (T.dyn wo ws) T.yn0))
def dhat (wo : FVec F S1024x1024 .bf16) (ws : FVec F S2048x1024 .bf16) : FVec F S256x2048 .f32 := mulf (T.dyn wo ws) (rowB T.nw)
/-- The gradient of the gated mixer output, through the norm. -/
def du (wo : FVec F S1024x1024 .bf16) (ws : FVec F S2048x1024 .bf16) : FVec F S256x2048 .f32 :=
  mulf (inv4 (fU T.y T.zm)) (subf (T.dhat wo ws) (mulf T.yn0 (mean4 (mulf (T.dhat wo ws) T.yn0))))
def dypre (wo : FVec F S1024x1024 .bf16) (ws : FVec F S2048x1024 .bf16) : FVec F S256x2048 .f32 := mulf (T.du wo ws) (silu T.zm)
def dzm (wo : FVec F S1024x1024 .bf16) (ws : FVec F S2048x1024 .bf16) : FVec F S256x2048 .bf16 := narrow (mulf (mulf (T.du wo ws) T.y) (dsilu T.zm))
end Tile

/-- The part of the kernel after the weights' fill, as a straight run of loads and stores: the loads of the tile, with the forward outputs stored; -/
def midHead (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1024 .f32) (harg7 : arg7.IsWhole) (arg8 : Memref sig .tc .vmem S1x2048 .f32) (harg8 : arg8.IsWhole) (arg15 : Memref sig .tc .vmem S256x1024 .bf16) (harg15 : arg15.IsWhole) (arg17 : Memref sig .tc .vmem S256x2048 .bf16) (harg17 : arg17.IsWhole) (arg19 : Memref sig .tc .vmem S256x1024 .bf16) (harg19 : arg19.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole) :
    Prog (TpuEff nD τ sig (Elt F) Λ₀ .tc) (Tile F) := do
  let v3 : Vec F S1x1024 .f32 ← Prog.lift (.load arg7 (Rect.unit (s := S1x1024) ![0, 0] S1x1024.size inb_S1x1024_S1x1024_0_0).toLoadRect (View.loadsAt_vmem h_S1x1024))
  let v4 : Vec F S1x2048 .f32 ← Prog.lift (.load arg8 (Rect.unit (s := S1x2048) ![0, 0] S1x2048.size inb_S1x2048_S1x2048_0_0).toLoadRect (View.loadsAt_vmem h_S1x2048))
  let v5 : Vec F S256x1024 .f32 ← Prog.lift (.load arg3 (Rect.unit (s := S256x1024) ![0, 0] S256x1024.size inb_S256x1024_S256x1024_0_0).toLoadRect (View.loadsAt_vmem h_S256x1024))
  let v6 : Vec F S256x1024 .bf16 ← Prog.lift (.load arg4 (Rect.unit (s := S256x3072) ![0, 0] S256x1024.size inb_S256x3072_S256x1024_0_0).toLoadRect (View.loadsAt_vmem h_S256x1024))
  let v18 : Vec F S256x1024 .bf16 ← Prog.lift (.load arg15 (Rect.unit (s := S256x1024) ![0, 0] S256x1024.size inb_S256x1024_S256x1024_0_0).toLoadRect (View.loadsAt_vmem h_S256x1024))
  Prog.lift (.store arg15 (Rect.unit (s := S256x1024) ![0, 0] S256x1024.size inb_S256x1024_S256x1024_0_0) (fYag v5 v6) Finset.univ (View.stores_vmem h_S256x1024 (harg15.storeExact_slice rfl _ packedbf16_S256x1024_S256x1024_0_0) (fun _ => rfl)) (.inl rfl))
  let v19 : Vec F S256x2048 .f32 ← Prog.lift (.load arg5 (Rect.unit (s := S256x2048) ![0, 0] S256x2048.size inb_S256x2048_S256x2048_0_0).toLoadRect (View.loadsAt_vmem h_S256x2048))
  let v20 : Vec F S256x2048 .bf16 ← Prog.lift (.load arg4 (Rect.unit (s := S256x3072) ![0, 1024] S256x2048.size inb_S256x3072_S256x2048_0_1024).toLoadRect (View.loadsAt_vmem h_S256x2048))
  let v80 : Vec F S256x2048 .bf16 ← Prog.lift (.load arg17 (Rect.unit (s := S256x2048) ![0, 0] S256x2048.size inb_S256x2048_S256x2048_0_0).toLoadRect (View.loadsAt_vmem h_S256x2048))
  Prog.lift (.store arg17 (Rect.unit (s := S256x2048) ![0, 0] S256x2048.size inb_S256x2048_S256x2048_0_0) (fYn v4 v19 v20) Finset.univ (View.stores_vmem h_S256x2048 (harg17.storeExact_slice rfl _ packedbf16_S256x2048_S256x2048_0_0) (fun _ => rfl)) (.inl rfl))
  let v81 : Vec F S1024x1024 .bf16 ← Prog.lift (.load arg24 (Rect.unit (s := S1024x1024) ![0, 0] S1024x1024.size inb_S1024x1024_S1024x1024_0_0).toLoadRect (View.loadsAt_vmem h_S1024x1024))
  let v83 : Vec F S2048x1024 .bf16 ← Prog.lift (.load arg25 (Rect.unit (s := S2048x1024) ![0, 0] S2048x1024.size inb_S2048x1024_S2048x1024_0_0).toLoadRect (View.loadsAt_vmem h_S2048x1024))
  let v85 : Vec F S256x1024 .bf16 ← Prog.lift (.load arg6 (Rect.unit (s := S256x2048) ![0, 0] S256x1024.size inb_S256x2048_S256x1024_0_0).toLoadRect (View.loadsAt_vmem h_S256x1024))
  let v94 : Vec F S256x1024 .bf16 ← Prog.lift (.load arg6 (Rect.unit (s := S256x2048) ![0, 1024] S256x1024.size inb_S256x2048_S256x1024_0_1024).toLoadRect (View.loadsAt_vmem h_S256x1024))
  let v107 : Vec F S256x1024 .bf16 ← Prog.lift (.load arg19 (Rect.unit (s := S256x1024) ![0, 0] S256x1024.size inb_S256x1024_S256x1024_0_0).toLoadRect (View.loadsAt_vmem h_S256x1024))
  Prog.lift (.store arg19 (Rect.unit (s := S256x1024) ![0, 0] S256x1024.size inb_S256x1024_S256x1024_0_0) (fMer (fYag v5 v6) (fYn v4 v19 v20) v81 v83 v85 v94) Finset.univ (View.stores_vmem h_S256x1024 (harg19.storeExact_slice rfl _ packedbf16_S256x1024_S256x1024_0_0) (fun _ => rfl)) (.inl rfl))
  let v108 : Vec F S1024x1024 .bf16 ← Prog.lift (.load arg26 (Rect.unit (s := S1024x1024) ![0, 0] S1024x1024.size inb_S1024x1024_S1024x1024_0_0).toLoadRect (View.loadsAt_vmem h_S1024x1024))
  let v110 : Vec F S256x1024 .f32 ← Prog.lift (.load arg1 (Rect.unit (s := S256x1024) ![0, 0] S256x1024.size inb_S256x1024_S256x1024_0_0).toLoadRect (View.loadsAt_vmem h_S256x1024))
  let v114 : Vec F S256x1024 .f32 ← Prog.lift (.load arg2 (Rect.unit (s := S256x1024) ![0, 0] S256x1024.size inb_S256x1024_S256x1024_0_0).toLoadRect (View.loadsAt_vmem h_S256x1024))
  pure (Tile.mk v110 v114 v5 v6 v20 v19 v85 v94 v3 v4 v81 v83 v108)

/-- the gradients of the tile. -/
def midRest (T : Tile F) (arg10 : Memref sig .tc .vmem S256x1024 .f32) (harg10 : arg10.IsWhole) (arg11 : Memref sig .tc .vmem S256x1024 .f32) (harg11 : arg11.IsWhole) (arg12 : Memref sig .tc .vmem S256x3072 .bf16) (harg12 : arg12.IsWhole) (arg13 : Memref sig .tc .vmem S256x2048 .f32) (harg13 : arg13.IsWhole) (arg14 : Memref sig .tc .vmem S256x2048 .bf16) (harg14 : arg14.IsWhole) (arg16 : Memref sig .tc .vmem S256x1024 .bf16) (harg16 : arg16.IsWhole) (arg18 : Memref sig .tc .vmem S256x1024 .bf16) (harg18 : arg18.IsWhole) (arg20 : Memref sig .tc .vmem S256x1024 .bf16) (harg20 : arg20.IsWhole) (arg21 : Memref sig .tc .vmem S1x2048 .f32) (harg21 : arg21.IsWhole) (arg22 : Memref sig .tc .vmem S1x1024 .f32) (harg22 : arg22.IsWhole) (arg23 : Memref sig .tc .vmem S1x1 .f32) (harg23 : arg23.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole) :
    Prog (TpuEff nD τ sig (Elt F) Λ₀ .tc) PUnit := do
  let v116 : Vec F S1x1 .f32 ← Prog.lift (.load arg23 (Rect.unit (s := S1x1) ![0, 0] S1x1.size inb_S1x1_S1x1_0_0).toLoadRect (View.loadsAt_vmem h_S1x1))
  let v127 : Vec F S1x1 .f32 ← Prog.lift (.load arg23 (Rect.unit (s := S1x1) ![0, 0] S1x1.size inb_S1x1_S1x1_0_0).toLoadRect (View.loadsAt_vmem h_S1x1))
  Prog.lift (.store arg23 (Rect.unit (s := S1x1) ![0, 0] S1x1.size inb_S1x1_S1x1_0_0) (Tile.lossAcc T v116) Finset.univ (View.stores_vmem_bits_univ h_S1x1 rfl) (.inl rfl))
  let v130 : Vec F S256x1024 .f32 ← Prog.lift (.load arg10 (Rect.unit (s := S256x1024) ![0, 0] S256x1024.size inb_S256x1024_S256x1024_0_0).toLoadRect (View.loadsAt_vmem h_S256x1024))
  Prog.lift (.store arg10 (Rect.unit (s := S256x1024) ![0, 0] S256x1024.size inb_S256x1024_S256x1024_0_0) (Tile.dx T) Finset.univ (View.stores_vmem_bits_univ h_S256x1024 rfl) (.inl rfl))
  let v131 : Vec F S1x1024 .f32 ← Prog.lift (.load arg22 (Rect.unit (s := S1x1024) ![0, 0] S1x1024.size inb_S1x1024_S1x1024_0_0).toLoadRect (View.loadsAt_vmem h_S1x1024))
  let v137 : Vec F S1x1024 .f32 ← Prog.lift (.load arg22 (Rect.unit (s := S1x1024) ![0, 0] S1x1024.size inb_S1x1024_S1x1024_0_0).toLoadRect (View.loadsAt_vmem h_S1x1024))
  Prog.lift (.store arg22 (Rect.unit (s := S1x1024) ![0, 0] S1x1024.size inb_S1x1024_S1x1024_0_0) (Tile.gateAcc T v131) Finset.univ (View.stores_vmem_bits_univ h_S1x1024 rfl) (.inl rfl))
  let v141 : Vec F S256x1024 .bf16 ← Prog.lift (.load arg20 (Rect.unit (s := S256x1024) ![0, 0] S256x1024.size inb_S256x1024_S256x1024_0_0).toLoadRect (View.loadsAt_vmem h_S256x1024))
  Prog.lift (.store arg20 (Rect.unit (s := S256x1024) ![0, 0] S256x1024.size inb_S256x1024_S256x1024_0_0) (Tile.do_ T) Finset.univ (View.stores_vmem h_S256x1024 (harg20.storeExact_slice rfl _ packedbf16_S256x1024_S256x1024_0_0) (fun _ => rfl)) (.inl rfl))
  let v142 : Vec F S1024x1024 .bf16 ← Prog.lift (.load arg26 (Rect.unit (s := S1024x1024) ![0, 0] S1024x1024.size inb_S1024x1024_S1024x1024_0_0).toLoadRect (View.loadsAt_vmem h_S1024x1024))
  let v148 : Vec F S256x1024 .bf16 ← Prog.lift (.load arg16 (Rect.unit (s := S256x1024) ![0, 0] S256x1024.size inb_S256x1024_S256x1024_0_0).toLoadRect (View.loadsAt_vmem h_S256x1024))
  Prog.lift (.store arg16 (Rect.unit (s := S256x1024) ![0, 0] S256x1024.size inb_S256x1024_S256x1024_0_0) (Tile.dya T v142) Finset.univ (View.stores_vmem h_S256x1024 (harg16.storeExact_slice rfl _ packedbf16_S256x1024_S256x1024_0_0) (fun _ => rfl)) (.inl rfl))
  let v149 : Vec F S256x1024 .bf16 ← Prog.lift (.load arg18 (Rect.unit (s := S256x1024) ![0, 0] S256x1024.size inb_S256x1024_S256x1024_0_0).toLoadRect (View.loadsAt_vmem h_S256x1024))
  Prog.lift (.store arg18 (Rect.unit (s := S256x1024) ![0, 0] S256x1024.size inb_S256x1024_S256x1024_0_0) (Tile.dyb T v142) Finset.univ (View.stores_vmem h_S256x1024 (harg18.storeExact_slice rfl _ packedbf16_S256x1024_S256x1024_0_0) (fun _ => rfl)) (.inl rfl))
  let v150 : Vec F S1024x1024 .bf16 ← Prog.lift (.load arg24 (Rect.unit (s := S1024x1024) ![0, 0] S1024x1024.size inb_S1024x1024_S1024x1024_0_0).toLoadRect (View.loadsAt_vmem h_S1024x1024))
  let v152 : Vec F S2048x1024 .bf16 ← Prog.lift (.load arg25 (Rect.unit (s := S2048x1024) ![0, 0] S2048x1024.size inb_S2048x1024_S2048x1024_0_0).toLoadRect (View.loadsAt_vmem h_S2048x1024))
  let v159 : Vec F S256x1024 .bf16 ← Prog.lift (.load arg14 (Rect.unit (s := S256x2048) ![0, 0] S256x1024.size inb_S256x2048_S256x1024_0_0).toLoadRect (View.loadsAt_vmem h_S256x1024))
  Prog.lift (.store arg14 (Rect.unit (s := S256x2048) ![0, 0] S256x1024.size inb_S256x2048_S256x1024_0_0) (Tile.dga T v142) Finset.univ (View.stores_vmem h_S256x1024 (harg14.storeExact_slice rfl _ packedbf16_S256x2048_S256x1024_0_0) (fun _ => rfl)) (.inl rfl))
  let v165 : Vec F S256x1024 .bf16 ← Prog.lift (.load arg14 (Rect.unit (s := S256x2048) ![0, 1024] S256x1024.size inb_S256x2048_S256x1024_0_1024).toLoadRect (View.loadsAt_vmem h_S256x1024))
  Prog.lift (.store arg14 (Rect.unit (s := S256x2048) ![0, 1024] S256x1024.size inb_S256x2048_S256x1024_0_1024) (Tile.dgb T v142) Finset.univ (View.stores_vmem h_S256x1024 (harg14.storeExact_slice rfl _ packedbf16_S256x2048_S256x1024_0_1024) (fun _ => rfl)) (.inl rfl))
  let v167 : Vec F S256x1024 .f32 ← Prog.lift (.load arg11 (Rect.unit (s := S256x1024) ![0, 0] S256x1024.size inb_S256x1024_S256x1024_0_0).toLoadRect (View.loadsAt_vmem h_S256x1024))
  Prog.lift (.store arg11 (Rect.unit (s := S256x1024) ![0, 0] S256x1024.size inb_S256x1024_S256x1024_0_0) (Tile.dAtt T v142 v150) Finset.univ (View.stores_vmem_bits_univ h_S256x1024 rfl) (.inl rfl))
  let v175 : Vec F S256x1024 .bf16 ← Prog.lift (.load arg12 (Rect.unit (s := S256x3072) ![0, 0] S256x1024.size inb_S256x3072_S256x1024_0_0).toLoadRect (View.loadsAt_vmem h_S256x1024))
  Prog.lift (.store arg12 (Rect.unit (s := S256x3072) ![0, 0] S256x1024.size inb_S256x3072_S256x1024_0_0) (Tile.dza T v142 v150) Finset.univ (View.stores_vmem h_S256x1024 (harg12.storeExact_slice rfl _ packedbf16_S256x3072_S256x1024_0_0) (fun _ => rfl)) (.inl rfl))
  let v176 : Vec F S1x2048 .f32 ← Prog.lift (.load arg21 (Rect.unit (s := S1x2048) ![0, 0] S1x2048.size inb_S1x2048_S1x2048_0_0).toLoadRect (View.loadsAt_vmem h_S1x2048))
  let v182 : Vec F S1x2048 .f32 ← Prog.lift (.load arg21 (Rect.unit (s := S1x2048) ![0, 0] S1x2048.size inb_S1x2048_S1x2048_0_0).toLoadRect (View.loadsAt_vmem h_S1x2048))
  Prog.lift (.store arg21 (Rect.unit (s := S1x2048) ![0, 0] S1x2048.size inb_S1x2048_S1x2048_0_0) (Tile.nwAcc T v142 v152 v176) Finset.univ (View.stores_vmem_bits_univ h_S1x2048 rfl) (.inl rfl))
  let v222 : Vec F S256x2048 .f32 ← Prog.lift (.load arg13 (Rect.unit (s := S256x2048) ![0, 0] S256x2048.size inb_S256x2048_S256x2048_0_0).toLoadRect (View.loadsAt_vmem h_S256x2048))
  Prog.lift (.store arg13 (Rect.unit (s := S256x2048) ![0, 0] S256x2048.size inb_S256x2048_S256x2048_0_0) (Tile.dypre T v142 v152) Finset.univ (View.stores_vmem_bits_univ h_S256x2048 rfl) (.inl rfl))
  let v230 : Vec F S256x2048 .bf16 ← Prog.lift (.load arg12 (Rect.unit (s := S256x3072) ![0, 1024] S256x2048.size inb_S256x3072_S256x2048_0_1024).toLoadRect (View.loadsAt_vmem h_S256x2048))
  Prog.lift (.store arg12 (Rect.unit (s := S256x3072) ![0, 1024] S256x2048.size inb_S256x3072_S256x2048_0_1024) (Tile.dzm T v142 v152) Finset.univ (View.stores_vmem h_S256x2048 (harg12.storeExact_slice rfl _ packedbf16_S256x3072_S256x2048_0_1024) (fun _ => rfl)) (.inl rfl))
  pure ⟨⟩

/-- The fill of the weights' scratch: the first grid point's transfers and the accumulators' zeros. -/
def midFill (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1024 .f32) (harg7 : arg7.IsWhole) (arg8 : Memref sig .tc .vmem S1x2048 .f32) (harg8 : arg8.IsWhole) (arg9 : Memref sig .tc .hbm S8x512x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x3072 .bf16) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x2048 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S1x2048 .f32) (harg21 : arg21.IsWhole) (arg22 : Memref sig .tc .vmem S1x1024 .f32) (harg22 : arg22.IsWhole) (arg23 : Memref sig .tc .vmem S1x1 .f32) (harg23 : arg23.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole) (arg27 : DmaSems sig S3) :
    Prog (TpuEff nD τ sig (Elt F) Λ₀ .tc) PUnit := do
  k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27
  let v475 : Memref sig .tc .hbm S1x128x1024 .bf16 := arg9.slice (Rect.unit (s := S8x512x1024) ![7, 384, 0] S1x128x1024.size inb_S8x512x1024_S1x128x1024_7_384_0) (fun _ => rfl)
  let v476 : Memref sig .tc .hbm S128x1024 .bf16 := v475.squeeze S128x1024 squeezes_S1x128x1024_S128x1024
  let v472 : DmaSems sig S1 := arg27.slice (Rect.unit (s := S3) ![2] S1.size inb_S3_S1_2)
  let v473 : DmaSems sig S_ := v472.squeeze S_ squeezes_S1_S_
  let v474 : Memref sig .tc .vmem S128x1024 .bf16 := arg26.slice (Rect.unit (s := S1024x1024) ![896, 0] S128x1024.size inb_S1024x1024_S128x1024_896_0) (fun _ => rfl)
  Prog.lift (.waitDma2 v473.sem v476 v474 ((harg9.wordExact_slice rfl _ wordsbf16_S8x512x1024_S1x128x1024_7_384_0).reshape _ _) (harg26.wordExact_slice rfl _ wordsbf16_S1024x1024_S128x1024_896_0))
  pure ⟨⟩

/-- The first grid point. -/
abbrev atFirst (i : grid0.Coords) : Prop := Scalar.cmpi .ne (Scalar.extui (Scalar.cmpi .eq (BitVec.ofNat 32 (i 0).val) 0#32) : BitVec 32) 0#32 = 1#1

set_option maxHeartbeats 4000000 in
/-- The kernel is the fill at the first grid point, then the tail. -/
theorem cc0_mid_flat (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1024 .f32) (harg7 : arg7.IsWhole) (arg8 : Memref sig .tc .vmem S1x2048 .f32) (harg8 : arg8.IsWhole) (arg9 : Memref sig .tc .hbm S8x512x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x3072 .bf16) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x2048 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S1x2048 .f32) (harg21 : arg21.IsWhole) (arg22 : Memref sig .tc .vmem S1x1024 .f32) (harg22 : arg22.IsWhole) (arg23 : Memref sig .tc .vmem S1x1 .f32) (harg23 : arg23.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole) (arg27 : DmaSems sig S3) :
    cc0_mid (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 =
      (if atFirst i then midFill i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 else pure ⟨⟩) >>= fun _ => (midHead arg1 harg1 arg2 harg2 arg3 harg3 arg4 harg4 arg5 harg5 arg6 harg6 arg7 harg7 arg8 harg8 arg15 harg15 arg17 harg17 arg19 harg19 arg24 harg24 arg25 harg25 arg26 harg26 >>= fun T => midRest T arg10 harg10 arg11 harg11 arg12 harg12 arg13 harg13 arg14 harg14 arg16 harg16 arg18 harg18 arg20 harg20 arg21 harg21 arg22 harg22 arg23 harg23 arg24 harg24 arg25 harg25 arg26 harg26) := by
  unfold cc0_mid k0_part11 midFill
  by_cases h : atFirst i
  · simp only [atFirst] at h
    simp only [dif_pos h, if_pos h]
    rfl
  · simp only [atFirst] at h
    simp only [dif_neg h, if_neg h]
    rfl

end Cert.MidIdeal.Gen

end
-- ==== Proof.MidIdealTail.lean ====
module

public import proofs.«01_k».proof.Proof.MidIdealTile

@[expose] public section

set_option maxRecDepth 16384

noncomputable section

namespace Cert.MidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tile a grid point loads, of its staged blocks and the three weights. -/
def tileOf (x1 : FVec F S256x1024 .f32) (x2 : FVec F S256x1024 .f32) (x3 : FVec F S256x1024 .f32) (x4 : FVec F S256x3072 .bf16) (x5 : FVec F S256x2048 .f32) (x6 : FVec F S256x2048 .bf16)
    (x7 : FVec F S1x1024 .f32) (x8 : FVec F S1x2048 .f32) (wa : FVec F S1024x1024 .bf16) (ws : FVec F S2048x1024 .bf16) (wo : FVec F S1024x1024 .bf16) : Tile F where
  x := x1
  t := x2
  o := x3
  za := View.ld (Val := Elt F) (e' := .bf16) x4 (Rect.unit (s := S256x3072) ![0, 0] S256x1024.size inb_S256x3072_S256x1024_0_0)
  zm := View.ld (Val := Elt F) (e' := .bf16) x4 (Rect.unit (s := S256x3072) ![0, 1024] S256x2048.size inb_S256x3072_S256x2048_0_1024)
  y := x5
  ga := View.ld (Val := Elt F) (e' := .bf16) x6 (Rect.unit (s := S256x2048) ![0, 0] S256x1024.size inb_S256x2048_S256x1024_0_0)
  gb := View.ld (Val := Elt F) (e' := .bf16) x6 (Rect.unit (s := S256x2048) ![0, 1024] S256x1024.size inb_S256x2048_S256x1024_0_1024)
  gate := x7
  nw := x8
  wa := wa
  ws := ws
  wo := wo

namespace Tile
variable (T : Tile F)
/-- The gates' gradients of the two gated paths, side by side. -/
def dzam (wo wa : FVec F S1024x1024 .bf16) (ws : FVec F S2048x1024 .bf16) : Vec F S256x3072 .bf16 :=
  View.canon (Val := Elt F) [⟨Rect.unit (s := S256x3072) ![0, 1024] S256x2048.size inb_S256x3072_S256x2048_0_1024, T.dzm wo ws⟩,
    ⟨Rect.unit (s := S256x3072) ![0, 0] S256x1024.size inb_S256x3072_S256x1024_0_0, T.dza wo wa⟩]
/-- The merge gates' gradients, side by side. -/
def dgab (wo : FVec F S1024x1024 .bf16) : Vec F S256x2048 .bf16 :=
  View.canon (Val := Elt F) [⟨Rect.unit (s := S256x2048) ![0, 1024] S256x1024.size inb_S256x2048_S256x1024_0_1024, T.dgb wo⟩,
    ⟨Rect.unit (s := S256x2048) ![0, 0] S256x1024.size inb_S256x2048_S256x1024_0_0, T.dga wo⟩]
end Tile

/-- One store over the whole of a buffer covers it. -/
theorem cover_whole {S : Shape} {e : EltTy} {off : Fin S.rank → Nat} (h : off = fun _ => 0) (inb : ∀ a, off a + S.size a ≤ S.size a) (w : S.Idx → Elt F e) :
    ∀ y : S.Idx, ∃ p ∈ [(⟨Rect.unit off S.size inb, w⟩ : View.Piece (Elt F) S e)], y ∈ p.1.set := by
  subst h
  exact fun y => ⟨_, List.mem_singleton_self _, by show y ∈ (Rect.whole S).set; rw [Rect.set_whole]; exact Finset.mem_univ y⟩
/-- A load of the whole of a buffer reads its contents. -/
theorem load_whole {S : Shape} {e : EltTy} {M : Memref sig .tc .vmem S e} {f : M.view.ty.Contents (Elt F)} {x : S.Idx → Elt F e} (hf : M.view.read (Elt F) f = x)
    {off : Fin S.rank → Nat} (h : off = fun _ => 0) (inb : ∀ a, off a + S.size a ≤ S.size a) :
    M.view.readAt (Elt F) (Rect.unit off S.size inb).toLoadRect f = x := by
  rw [View.readAt_eq_ld, hf]; exact View.ld_unit_zero h inb x
/-- A load of a part of a buffer reads its contents there. -/
theorem load_part {S : Shape} {e : EltTy} {M : Memref sig .tc .vmem S e} {f : M.view.ty.Contents (Elt F)} {x : S.Idx → Elt F e} (hf : M.view.read (Elt F) f = x) (r : Rect S) :
    M.view.readAt (Elt F) r.toLoadRect f = View.ld x r := by
  rw [View.readAt_eq_ld, hf]
theorem off2 : (![0, 0] : Fin 2 → ℕ) = fun _ => 0 := by decide
theorem cover_dzam (a : S256x2048.Idx → Elt F .bf16) (b : S256x1024.Idx → Elt F .bf16) :
    ∀ y : S256x3072.Idx, ∃ p ∈ ([⟨Rect.unit (s := S256x3072) ![0, 1024] S256x2048.size inb_S256x3072_S256x2048_0_1024, a⟩,
      ⟨Rect.unit (s := S256x3072) ![0, 0] S256x1024.size inb_S256x3072_S256x1024_0_0, b⟩] : List (View.Piece (Elt F) S256x3072 .bf16)), y ∈ p.1.set :=
  View.cover_of_tiledBy _ ![256, 1024] (by sl_kernel_rfl)
theorem cover_dgab (a : S256x1024.Idx → Elt F .bf16) (b : S256x1024.Idx → Elt F .bf16) :
    ∀ y : S256x2048.Idx, ∃ p ∈ ([⟨Rect.unit (s := S256x2048) ![0, 1024] S256x1024.size inb_S256x2048_S256x1024_0_1024, a⟩,
      ⟨Rect.unit (s := S256x2048) ![0, 0] S256x1024.size inb_S256x2048_S256x1024_0_0, b⟩] : List (View.Piece (Elt F) S256x2048 .bf16)), y ∈ p.1.set :=
  View.cover_of_tiledBy _ ![256, 1024] (by sl_kernel_rfl)

set_option maxHeartbeats 2000000 in
/-- The head's triple: the forward outputs at their functions of the tile, and the tile handed on. -/
theorem headRun (c : Dev nD) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1024 .f32) (harg7 : arg7.IsWhole) (arg8 : Memref sig .tc .vmem S1x2048 .f32) (harg8 : arg8.IsWhole) (arg15 : Memref sig .tc .vmem S256x1024 .bf16) (harg15 : arg15.IsWhole) (arg17 : Memref sig .tc .vmem S256x2048 .bf16) (harg17 : arg17.IsWhole) (arg19 : Memref sig .tc .vmem S256x1024 .bf16) (harg19 : arg19.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole)
    (x1 : Vec F S256x1024 .f32) (x2 : Vec F S256x1024 .f32) (x3 : Vec F S256x1024 .f32) (x4 : Vec F S256x3072 .bf16) (x5 : Vec F S256x2048 .f32) (x6 : Vec F S256x2048 .bf16) (x7 : Vec F S1x1024 .f32) (x8 : Vec F S1x2048 .f32) (wa : Vec F S1024x1024 .bf16) (ws : Vec F S2048x1024 .bf16) (wo : Vec F S1024x1024 .bf16) (K : Tile F → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg15 fullShare d) ∗ (∃ d, owns (c : Thread nD τ) arg17 fullShare d) ∗ (∃ d, owns (c : Thread nD τ) arg19 fullShare d) ∗ owns (c : Thread nD τ) arg24 fullShare wa ∗ owns (c : Thread nD τ) arg25 fullShare ws ∗ owns (c : Thread nD τ) arg26 fullShare wo ∗
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg15 fullShare (tileOf x1 x2 x3 x4 x5 x6 x7 x8 wa ws wo).yag ∗ owns (c : Thread nD τ) arg17 fullShare (tileOf x1 x2 x3 x4 x5 x6 x7 x8 wa ws wo).yn ∗ owns (c : Thread nD τ) arg19 fullShare (tileOf x1 x2 x3 x4 x5 x6 x7 x8 wa ws wo).mer ∗ owns (c : Thread nD τ) arg24 fullShare wa ∗ owns (c : Thread nD τ) arg25 fullShare ws ∗ owns (c : Thread nD τ) arg26 fullShare wo) -∗ K (tileOf x1 x2 x3 x4 x5 x6 x7 x8 wa ws wo)))
      ⊢ wp frame (wpE (defs₀ (F := F)) Variants.none c none) Set.univ (midHead (F := F) arg1 harg1 arg2 harg2 arg3 harg3 arg4 harg4 arg5 harg5 arg6 harg6 arg7 harg7 arg8 harg8 arg15 harg15 arg17 harg17 arg19 harg19 arg24 harg24 arg25 harg25 arg26 harg26) K := by
  unfold midHead owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d15, %f15, -, H15⟩, ⟨%d17, %f17, -, H17⟩, ⟨%d19, %f19, -, H19⟩, ⟨%f24, %hf24, H24⟩, ⟨%f25, %hf25, H25⟩, ⟨%f26, %hf26, H26⟩, Hk⟩
  sl_exec
  sl_step
  simp only [tileOf, load_whole hf1 off2 inb_S256x1024_S256x1024_0_0, load_whole hf2 off2 inb_S256x1024_S256x1024_0_0, load_whole hf3 off2 inb_S256x1024_S256x1024_0_0, load_part hf4 (Rect.unit (s := S256x3072) ![0, 0] S256x1024.size inb_S256x3072_S256x1024_0_0), load_part hf4 (Rect.unit (s := S256x3072) ![0, 1024] S256x2048.size inb_S256x3072_S256x2048_0_1024), load_whole hf5 off2 inb_S256x2048_S256x2048_0_0, load_part hf6 (Rect.unit (s := S256x2048) ![0, 0] S256x1024.size inb_S256x2048_S256x1024_0_0), load_part hf6 (Rect.unit (s := S256x2048) ![0, 1024] S256x1024.size inb_S256x2048_S256x1024_0_1024), load_whole hf7 off2 inb_S1x1024_S1x1024_0_0, load_whole hf8 off2 inb_S1x2048_S1x2048_0_0, load_whole hf24 off2 inb_S1024x1024_S1024x1024_0_0, load_whole hf25 off2 inb_S2048x1024_S2048x1024_0_0, load_whole hf26 off2 inb_S1024x1024_S1024x1024_0_0]
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H15]
  · iexists _; isplitr; swap; · iexact H15
    ipureintro
    skip
    exact (View.read_writes_eq_canon _ _ _ (cover_whole off2 _ _)).trans (View.canon_unit_zero off2 _ _)
  isplitl [H17]
  · iexists _; isplitr; swap; · iexact H17
    ipureintro
    skip
    exact (View.read_writes_eq_canon _ _ _ (cover_whole off2 _ _)).trans (View.canon_unit_zero off2 _ _)
  isplitl [H19]
  · iexists _; isplitr; swap; · iexact H19
    ipureintro
    skip
    exact (View.read_writes_eq_canon _ _ _ (cover_whole off2 _ _)).trans (View.canon_unit_zero off2 _ _)
  isplitl [H24]
  · iexists _; isplitr; swap; · iexact H24
    ipureintro; exact hf24
  isplitl [H25]
  · iexists _; isplitr; swap; · iexact H25
    ipureintro; exact hf25
  · iexists _; isplitr; swap; · iexact H26
    ipureintro; exact hf26

set_option maxHeartbeats 2000000 in
/-- The gradients' triple: each output at its function of the tile and of the weights. -/
theorem restRun (c : Dev nD) (T : Tile F) (arg10 : Memref sig .tc .vmem S256x1024 .f32) (harg10 : arg10.IsWhole) (arg11 : Memref sig .tc .vmem S256x1024 .f32) (harg11 : arg11.IsWhole) (arg12 : Memref sig .tc .vmem S256x3072 .bf16) (harg12 : arg12.IsWhole) (arg13 : Memref sig .tc .vmem S256x2048 .f32) (harg13 : arg13.IsWhole) (arg14 : Memref sig .tc .vmem S256x2048 .bf16) (harg14 : arg14.IsWhole) (arg16 : Memref sig .tc .vmem S256x1024 .bf16) (harg16 : arg16.IsWhole) (arg18 : Memref sig .tc .vmem S256x1024 .bf16) (harg18 : arg18.IsWhole) (arg20 : Memref sig .tc .vmem S256x1024 .bf16) (harg20 : arg20.IsWhole) (arg21 : Memref sig .tc .vmem S1x2048 .f32) (harg21 : arg21.IsWhole) (arg22 : Memref sig .tc .vmem S1x1024 .f32) (harg22 : arg22.IsWhole) (arg23 : Memref sig .tc .vmem S1x1 .f32) (harg23 : arg23.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole)
    (wa : Vec F S1024x1024 .bf16) (ws : Vec F S2048x1024 .bf16) (wo : Vec F S1024x1024 .bf16) (a21 : Vec F S1x2048 .f32) (a22 : Vec F S1x1024 .f32) (a23 : Vec F S1x1 .f32) (K : PUnit → sProp 𝕄) :
    iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ (∃ d, owns (c : Thread nD τ) arg18 fullShare d) ∗ (∃ d, owns (c : Thread nD τ) arg20 fullShare d) ∗ owns (c : Thread nD τ) arg21 fullShare a21 ∗ owns (c : Thread nD τ) arg22 fullShare a22 ∗ owns (c : Thread nD τ) arg23 fullShare a23 ∗ owns (c : Thread nD τ) arg24 fullShare wa ∗ owns (c : Thread nD τ) arg25 fullShare ws ∗ owns (c : Thread nD τ) arg26 fullShare wo ∗
      (iprop(owns (c : Thread nD τ) arg10 fullShare T.dx ∗ owns (c : Thread nD τ) arg11 fullShare (T.dAtt wo wa) ∗ owns (c : Thread nD τ) arg12 fullShare (T.dzam wo wa ws) ∗ owns (c : Thread nD τ) arg13 fullShare (T.dypre wo ws) ∗ owns (c : Thread nD τ) arg14 fullShare (T.dgab wo) ∗ owns (c : Thread nD τ) arg16 fullShare (T.dya wo) ∗ owns (c : Thread nD τ) arg18 fullShare (T.dyb wo) ∗ owns (c : Thread nD τ) arg20 fullShare T.do_ ∗ owns (c : Thread nD τ) arg21 fullShare (T.nwAcc wo ws a21) ∗ owns (c : Thread nD τ) arg22 fullShare (T.gateAcc a22) ∗ owns (c : Thread nD τ) arg23 fullShare (T.lossAcc a23) ∗ owns (c : Thread nD τ) arg24 fullShare wa ∗ owns (c : Thread nD τ) arg25 fullShare ws ∗ owns (c : Thread nD τ) arg26 fullShare wo) -∗ K ⟨⟩))
      ⊢ wp frame (wpE (defs₀ (F := F)) Variants.none c none) Set.univ (midRest (F := F) T arg10 harg10 arg11 harg11 arg12 harg12 arg13 harg13 arg14 harg14 arg16 harg16 arg18 harg18 arg20 harg20 arg21 harg21 arg22 harg22 arg23 harg23 arg24 harg24 arg25 harg25 arg26 harg26) K := by
  unfold midRest owns
  iintro ⟨⟨%d10, %f10, -, H10⟩, ⟨%d11, %f11, -, H11⟩, ⟨%d12, %f12, -, H12⟩, ⟨%d13, %f13, -, H13⟩, ⟨%d14, %f14, -, H14⟩, ⟨%d16, %f16, -, H16⟩, ⟨%d18, %f18, -, H18⟩, ⟨%d20, %f20, -, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  sl_exec
  sl_step
  iapply Hk
  isplitl [H10]
  · iexists _; isplitr; swap; · iexact H10
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H11]
  · iexists _; isplitr; swap; · iexact H11
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H12]
  · iexists _; isplitr; swap; · iexact H12
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact View.read_writes_eq_canon _ _ _ (cover_dzam _ _)
  isplitl [H13]
  · iexists _; isplitr; swap; · iexact H13
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H14]
  · iexists _; isplitr; swap; · iexact H14
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact View.read_writes_eq_canon _ _ _ (cover_dgab _ _)
  isplitl [H16]
  · iexists _; isplitr; swap; · iexact H16
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H18]
  · iexists _; isplitr; swap; · iexact H18
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H20]
  · iexists _; isplitr; swap; · iexact H20
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H21]
  · iexists _; isplitr; swap; · iexact H21
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H22]
  · iexists _; isplitr; swap; · iexact H22
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H23]
  · iexists _; isplitr; swap; · iexact H23
    ipureintro
    simp only [load_whole hf21 off2 inb_S1x2048_S1x2048_0_0, load_whole hf22 off2 inb_S1x1024_S1x1024_0_0, load_whole hf23 off2 inb_S1x1_S1x1_0_0, load_whole hf24 off2 inb_S1024x1024_S1024x1024_0_0, load_whole hf25 off2 inb_S2048x1024_S2048x1024_0_0, load_whole hf26 off2 inb_S1024x1024_S1024x1024_0_0]
    exact (View.read_writes_eq_canon _ _ _ (cover_whole off2 _ _)).trans (View.canon_unit_zero off2 _ _)
  isplitl [H24]
  · iexists _; isplitr; swap; · iexact H24
    ipureintro; exact hf24
  isplitl [H25]
  · iexists _; isplitr; swap; · iexact H25
    ipureintro; exact hf25
  · iexists _; isplitr; swap; · iexact H26
    ipureintro; exact hf26

end Cert.MidIdeal.Gen

end
-- ==== Proof.Pieces.lean ====
/-
  Several copies that carry parts of one array (hand-written, untrusted): whatever rectangles of a scratch buffer they
  fill, and in whatever order, what is read back there is that array.
-/
module

public import Idealize.ShloMosaic.Lib.Pipeline.Value
public import Idealize.ShloMosaic.Lib.Pipeline.ValueKit

@[expose] public section

open Idealize.ShloMosaic

namespace Cert.Pieces

variable {sig : RefSig} {κ : Kind} {sp : Space} {S : Shape} {e : EltTy} {Val : EltTy → Type} [∀ e, Nonempty (Val e)]

/-- If every piece holds the array's own entries, the canon at a covered index is the array there. -/
theorem canon_apply_of_agree (f : S.Idx → Val e) : ∀ L : List (View.Piece Val S e), (∀ p ∈ L, ∀ x, p.2 x = f (p.1.emb x)) →
    ∀ y, (∃ p ∈ L, y ∈ p.1.set) → View.canon L y = f y := by
  intro L hL y hc
  refine View.canon_eq_of_allAt L y (f y) hc ?_
  intro p hp x hx
  rw [hL p hp x]
  exact congrArg f hx

/-- The whole scratch, when the pieces cover it. -/
theorem canon_of_agree (f : S.Idx → Val e) (L : List (View.Piece Val S e)) (hL : ∀ p ∈ L, ∀ x, p.2 x = f (p.1.emb x))
    (hc : ∀ y, ∃ p ∈ L, y ∈ p.1.set) : View.canon L = f :=
  funext fun y => canon_apply_of_agree f L hL y (hc y)

/-- A load of a rectangle that one of the pieces filled reads the array's window there. -/
theorem readCov_of_agree (v : View sig κ sp S e) (f : S.Idx → Val e) (L : List (View.Piece Val S e)) (r : Rect S)
    (hL : ∀ p ∈ L, ∀ x, p.2 x = f (p.1.emb x)) (hc : ∃ w, (⟨r, w⟩ : View.Piece Val S e) ∈ L) :
    v.readCov L r.toLoadRect = View.ld f r := by
  obtain ⟨w, hw⟩ := hc
  have hcov : ∀ j : r.shape.Idx, ∃ p ∈ L, r.idx j ∈ p.1.set := fun j => ⟨_, hw, by
    show r.emb j ∈ r.set
    rw [← Rect.map_emb_univ]; exact Finset.mem_map_of_mem _ (Finset.mem_univ _)⟩
  rw [View.readCov_eq_canon v L r.toLoadRect hcov]
  exact funext fun j => canon_apply_of_agree f L hL _ (hcov j)

end Cert.Pieces
-- ==== Proof.MidIdealFill.lean ====
module

public import proofs.«01_k».proof.Proof.MidIdealTail
public import proofs.«01_k».proof.Proof.Pieces

@[expose] public section

set_option maxRecDepth 16384

noncomputable section

namespace Cert.MidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The weights' rows, left in HBM, and the three scratch arrays the first point fills from them. -/
abbrev hbM : Memref sig .tc .hbm S8x512x1024 .bf16 := Memref.whole main_arg8
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 := M.view.loc (c : Thread nD τ) ↦{fullShare} f
abbrev sc0 : Memref sig .tc .vmem S1024x1024 .bf16 := Memref.whole cc0_scratch0
abbrev sc1 : Memref sig .tc .vmem S2048x1024 .bf16 := Memref.whole cc0_scratch1
abbrev sc2 : Memref sig .tc .vmem S1024x1024 .bf16 := Memref.whole cc0_scratch2

def zero21 : Vec F S1x2048 .f32 := broadcast S1x2048 (Scalar.ofBits .f32 0x00000000#32 : F .f32)
def zero22 : Vec F S1x1024 .f32 := broadcast S1x1024 (Scalar.ofBits .f32 0x00000000#32 : F .f32)
def zero23 : Vec F S1x1 .f32 := broadcast S1x1 (Scalar.ofBits .f32 0x00000000#32 : F .f32)

/-- The three weights, of the rows: part t of a weight is a band of rows of member t. -/
def wapOf (fh : S8x512x1024.Idx → Elt F .bf16) : Vec F S1024x1024 .bf16 := fun j =>
  fh (ValueIdx.ix3 (⟨(j 0).val / 128, by have := (j 0).isLt; simp only [S1024x1024] at this; simp at this; omega⟩ : Fin 8) (⟨(j 0).val % 128, by omega⟩ : Fin 512) (j 1))
def wspOf (fh : S8x512x1024.Idx → Elt F .bf16) : Vec F S2048x1024 .bf16 := fun j =>
  fh (ValueIdx.ix3 (⟨(j 0).val / 256, by have := (j 0).isLt; simp only [S2048x1024] at this; simp at this; omega⟩ : Fin 8) (⟨128 + (j 0).val % 256, by omega⟩ : Fin 512) (j 1))
def woutOf (fh : S8x512x1024.Idx → Elt F .bf16) : Vec F S1024x1024 .bf16 := fun j =>
  fh (ValueIdx.ix3 (⟨(j 0).val / 128, by have := (j 0).isLt; simp only [S1024x1024] at this; simp at this; omega⟩ : Fin 8) (⟨384 + (j 0).val % 128, by omega⟩ : Fin 512) (j 1))

/-- Pieces that cover a scratch array and agree with a function leave the function. -/
theorem writes_agree0 (c : Dev nD) (g : Buf (Elt F) (sc0.view.loc (c : Thread nD τ))) (L : List (View.Piece (Elt F) S1024x1024 .bf16)) (f : S1024x1024.Idx → Elt F .bf16)
    (hag : ∀ p ∈ L, ∀ x, p.2 x = f (p.1.emb x)) (hcov : ∀ y, ∃ p ∈ L, y ∈ p.1.set) : sc0.view.writes (Elt F) g L = f := by
  have h := (View.read_writes_eq_canon sc0.view g L hcov).trans (Cert.Pieces.canon_of_agree f L hag hcov)
  exact h

/-- Pieces that cover a scratch array and agree with a function leave the function. -/
theorem writes_agree1 (c : Dev nD) (g : Buf (Elt F) (sc1.view.loc (c : Thread nD τ))) (L : List (View.Piece (Elt F) S2048x1024 .bf16)) (f : S2048x1024.Idx → Elt F .bf16)
    (hag : ∀ p ∈ L, ∀ x, p.2 x = f (p.1.emb x)) (hcov : ∀ y, ∃ p ∈ L, y ∈ p.1.set) : sc1.view.writes (Elt F) g L = f := by
  have h := (View.read_writes_eq_canon sc1.view g L hcov).trans (Cert.Pieces.canon_of_agree f L hag hcov)
  exact h

/-- Pieces that cover a scratch array and agree with a function leave the function. -/
theorem writes_agree2 (c : Dev nD) (g : Buf (Elt F) (sc2.view.loc (c : Thread nD τ))) (L : List (View.Piece (Elt F) S1024x1024 .bf16)) (f : S1024x1024.Idx → Elt F .bf16)
    (hag : ∀ p ∈ L, ∀ x, p.2 x = f (p.1.emb x)) (hcov : ∀ y, ∃ p ∈ L, y ∈ p.1.set) : sc2.view.writes (Elt F) g L = f := by
  have h := (View.read_writes_eq_canon sc2.view g L hcov).trans (Cert.Pieces.canon_of_agree f L hag hcov)
  exact h

/-- A band of rows of a member, copied to its place, is the weight there. -/
theorem band0 (t r : ℕ) (hrt : r = t * 128) (inb : ∀ a, (![t, 0, 0] : Fin 3 → ℕ) a + S1x128x1024.size a ≤ S8x512x1024.size a) (hr)
    (hq : S1x128x1024.Squeezes S128x1024) (inbD : ∀ a, (![r, 0] : Fin 2 → ℕ) a + S128x1024.size a ≤ S1024x1024.size a) (fh : S8x512x1024.Idx → Elt F .bf16) (x : S128x1024.Idx) :
    ((hbM.slice (Rect.unit (s := S8x512x1024) ![t, 0, 0] S1x128x1024.size inb) hr).squeeze S128x1024 hq).view.read (Elt F) fh x
      = wapOf fh ((Rect.unit (s := S1024x1024) ![r, 0] S128x1024.size inbD).emb x) := by
  have h1 : ((hbM.slice (Rect.unit (s := S8x512x1024) ![t, 0, 0] S1x128x1024.size inb) hr).squeeze S128x1024 hq).view.read (Elt F) fh x
      = fh ((Rect.unit (s := S8x512x1024) ![t, 0, 0] S1x128x1024.size inb).emb (Shape.reshapeEquiv hq.numel_eq x)) := rfl
  have h2 : Shape.reshapeEquiv hq.numel_eq x = Fin.cons ⟨0, Nat.one_pos⟩ x := Shape.reshapeEquiv_cons_one _ _
  rw [h1, h2]
  have hx : (x 0).val < 128 := (x 0).isLt
  refine congrArg fh (funext fun a => Fin.ext ?_)
  rw [Rect.emb_apply]
  match a with
  | ⟨0, _⟩ => show t + 1 * 0 = (r + 1 * (x 0).val) / 128; omega
  | ⟨1, _⟩ => show 0 + 1 * (x 0).val =  (r + 1 * (x 0).val) % 128; omega
  | ⟨2, _⟩ => show 0 + 1 * (x 1).val = 0 + 1 * (x 1).val; rfl

theorem fill0 (c : Dev nD) (fh : S8x512x1024.Idx → Elt F .bf16) (g : Buf (Elt F) (sc0.view.loc (c : Thread nD τ))) :
    sc0.view.writes (Elt F) g [(⟨Rect.unit (s := S1024x1024) ![896, 0] S128x1024.size inb_S1024x1024_S128x1024_896_0, ((hbM.slice (Rect.unit (s := S8x512x1024) ![7, 0, 0] S1x128x1024.size inb_S8x512x1024_S1x128x1024_7_0_0) (fun _ => rfl)).squeeze S128x1024 squeezes_S1x128x1024_S128x1024).view.read (Elt F) fh⟩ : View.Piece (Elt F) S1024x1024 .bf16),
    (⟨Rect.unit (s := S1024x1024) ![768, 0] S128x1024.size inb_S1024x1024_S128x1024_768_0, ((hbM.slice (Rect.unit (s := S8x512x1024) ![6, 0, 0] S1x128x1024.size inb_S8x512x1024_S1x128x1024_6_0_0) (fun _ => rfl)).squeeze S128x1024 squeezes_S1x128x1024_S128x1024).view.read (Elt F) fh⟩ : View.Piece (Elt F) S1024x1024 .bf16),
    (⟨Rect.unit (s := S1024x1024) ![640, 0] S128x1024.size inb_S1024x1024_S128x1024_640_0, ((hbM.slice (Rect.unit (s := S8x512x1024) ![5, 0, 0] S1x128x1024.size inb_S8x512x1024_S1x128x1024_5_0_0) (fun _ => rfl)).squeeze S128x1024 squeezes_S1x128x1024_S128x1024).view.read (Elt F) fh⟩ : View.Piece (Elt F) S1024x1024 .bf16),
    (⟨Rect.unit (s := S1024x1024) ![512, 0] S128x1024.size inb_S1024x1024_S128x1024_512_0, ((hbM.slice (Rect.unit (s := S8x512x1024) ![4, 0, 0] S1x128x1024.size inb_S8x512x1024_S1x128x1024_4_0_0) (fun _ => rfl)).squeeze S128x1024 squeezes_S1x128x1024_S128x1024).view.read (Elt F) fh⟩ : View.Piece (Elt F) S1024x1024 .bf16),
    (⟨Rect.unit (s := S1024x1024) ![384, 0] S128x1024.size inb_S1024x1024_S128x1024_384_0, ((hbM.slice (Rect.unit (s := S8x512x1024) ![3, 0, 0] S1x128x1024.size inb_S8x512x1024_S1x128x1024_3_0_0) (fun _ => rfl)).squeeze S128x1024 squeezes_S1x128x1024_S128x1024).view.read (Elt F) fh⟩ : View.Piece (Elt F) S1024x1024 .bf16),
    (⟨Rect.unit (s := S1024x1024) ![256, 0] S128x1024.size inb_S1024x1024_S128x1024_256_0, ((hbM.slice (Rect.unit (s := S8x512x1024) ![2, 0, 0] S1x128x1024.size inb_S8x512x1024_S1x128x1024_2_0_0) (fun _ => rfl)).squeeze S128x1024 squeezes_S1x128x1024_S128x1024).view.read (Elt F) fh⟩ : View.Piece (Elt F) S1024x1024 .bf16),
    (⟨Rect.unit (s := S1024x1024) ![128, 0] S128x1024.size inb_S1024x1024_S128x1024_128_0, ((hbM.slice (Rect.unit (s := S8x512x1024) ![1, 0, 0] S1x128x1024.size inb_S8x512x1024_S1x128x1024_1_0_0) (fun _ => rfl)).squeeze S128x1024 squeezes_S1x128x1024_S128x1024).view.read (Elt F) fh⟩ : View.Piece (Elt F) S1024x1024 .bf16),
    (⟨Rect.unit (s := S1024x1024) ![0, 0] S128x1024.size inb_S1024x1024_S128x1024_0_0, ((hbM.slice (Rect.unit (s := S8x512x1024) ![0, 0, 0] S1x128x1024.size inb_S8x512x1024_S1x128x1024_0_0_0) (fun _ => rfl)).squeeze S128x1024 squeezes_S1x128x1024_S128x1024).view.read (Elt F) fh⟩ : View.Piece (Elt F) S1024x1024 .bf16)] = wapOf fh := by
  refine writes_agree0 c g _ (wapOf fh) ?_ (View.cover_of_tiledL _ S128x1024.size (by sl_kernel_rfl))
  refine List.forall_mem_cons.mpr ⟨fun x => band0 7 896 (by decide) inb_S8x512x1024_S1x128x1024_7_0_0 (fun _ => rfl) squeezes_S1x128x1024_S128x1024 inb_S1024x1024_S128x1024_896_0 fh x, ?_⟩
  refine List.forall_mem_cons.mpr ⟨fun x => band0 6 768 (by decide) inb_S8x512x1024_S1x128x1024_6_0_0 (fun _ => rfl) squeezes_S1x128x1024_S128x1024 inb_S1024x1024_S128x1024_768_0 fh x, ?_⟩
  refine List.forall_mem_cons.mpr ⟨fun x => band0 5 640 (by decide) inb_S8x512x1024_S1x128x1024_5_0_0 (fun _ => rfl) squeezes_S1x128x1024_S128x1024 inb_S1024x1024_S128x1024_640_0 fh x, ?_⟩
  refine List.forall_mem_cons.mpr ⟨fun x => band0 4 512 (by decide) inb_S8x512x1024_S1x128x1024_4_0_0 (fun _ => rfl) squeezes_S1x128x1024_S128x1024 inb_S1024x1024_S128x1024_512_0 fh x, ?_⟩
  refine List.forall_mem_cons.mpr ⟨fun x => band0 3 384 (by decide) inb_S8x512x1024_S1x128x1024_3_0_0 (fun _ => rfl) squeezes_S1x128x1024_S128x1024 inb_S1024x1024_S128x1024_384_0 fh x, ?_⟩
  refine List.forall_mem_cons.mpr ⟨fun x => band0 2 256 (by decide) inb_S8x512x1024_S1x128x1024_2_0_0 (fun _ => rfl) squeezes_S1x128x1024_S128x1024 inb_S1024x1024_S128x1024_256_0 fh x, ?_⟩
  refine List.forall_mem_cons.mpr ⟨fun x => band0 1 128 (by decide) inb_S8x512x1024_S1x128x1024_1_0_0 (fun _ => rfl) squeezes_S1x128x1024_S128x1024 inb_S1024x1024_S128x1024_128_0 fh x, ?_⟩
  refine List.forall_mem_cons.mpr ⟨fun x => band0 0 0 (by decide) inb_S8x512x1024_S1x128x1024_0_0_0 (fun _ => rfl) squeezes_S1x128x1024_S128x1024 inb_S1024x1024_S128x1024_0_0 fh x, ?_⟩
  exact fun p hp => absurd hp List.not_mem_nil

/-- A band of rows of a member, copied to its place, is the weight there. -/
theorem band1 (t r : ℕ) (hrt : r = t * 256) (inb : ∀ a, (![t, 128, 0] : Fin 3 → ℕ) a + S1x256x1024.size a ≤ S8x512x1024.size a) (hr)
    (hq : S1x256x1024.Squeezes S256x1024) (inbD : ∀ a, (![r, 0] : Fin 2 → ℕ) a + S256x1024.size a ≤ S2048x1024.size a) (fh : S8x512x1024.Idx → Elt F .bf16) (x : S256x1024.Idx) :
    ((hbM.slice (Rect.unit (s := S8x512x1024) ![t, 128, 0] S1x256x1024.size inb) hr).squeeze S256x1024 hq).view.read (Elt F) fh x
      = wspOf fh ((Rect.unit (s := S2048x1024) ![r, 0] S256x1024.size inbD).emb x) := by
  have h1 : ((hbM.slice (Rect.unit (s := S8x512x1024) ![t, 128, 0] S1x256x1024.size inb) hr).squeeze S256x1024 hq).view.read (Elt F) fh x
      = fh ((Rect.unit (s := S8x512x1024) ![t, 128, 0] S1x256x1024.size inb).emb (Shape.reshapeEquiv hq.numel_eq x)) := rfl
  have h2 : Shape.reshapeEquiv hq.numel_eq x = Fin.cons ⟨0, Nat.one_pos⟩ x := Shape.reshapeEquiv_cons_one _ _
  rw [h1, h2]
  have hx : (x 0).val < 256 := (x 0).isLt
  refine congrArg fh (funext fun a => Fin.ext ?_)
  rw [Rect.emb_apply]
  match a with
  | ⟨0, _⟩ => show t + 1 * 0 = (r + 1 * (x 0).val) / 256; omega
  | ⟨1, _⟩ => show 128 + 1 * (x 0).val = 128 + (r + 1 * (x 0).val) % 256; omega
  | ⟨2, _⟩ => show 0 + 1 * (x 1).val = 0 + 1 * (x 1).val; rfl

theorem fill1 (c : Dev nD) (fh : S8x512x1024.Idx → Elt F .bf16) (g : Buf (Elt F) (sc1.view.loc (c : Thread nD τ))) :
    sc1.view.writes (Elt F) g [(⟨Rect.unit (s := S2048x1024) ![1792, 0] S256x1024.size inb_S2048x1024_S256x1024_1792_0, ((hbM.slice (Rect.unit (s := S8x512x1024) ![7, 128, 0] S1x256x1024.size inb_S8x512x1024_S1x256x1024_7_128_0) (fun _ => rfl)).squeeze S256x1024 squeezes_S1x256x1024_S256x1024).view.read (Elt F) fh⟩ : View.Piece (Elt F) S2048x1024 .bf16),
    (⟨Rect.unit (s := S2048x1024) ![1536, 0] S256x1024.size inb_S2048x1024_S256x1024_1536_0, ((hbM.slice (Rect.unit (s := S8x512x1024) ![6, 128, 0] S1x256x1024.size inb_S8x512x1024_S1x256x1024_6_128_0) (fun _ => rfl)).squeeze S256x1024 squeezes_S1x256x1024_S256x1024).view.read (Elt F) fh⟩ : View.Piece (Elt F) S2048x1024 .bf16),
    (⟨Rect.unit (s := S2048x1024) ![1280, 0] S256x1024.size inb_S2048x1024_S256x1024_1280_0, ((hbM.slice (Rect.unit (s := S8x512x1024) ![5, 128, 0] S1x256x1024.size inb_S8x512x1024_S1x256x1024_5_128_0) (fun _ => rfl)).squeeze S256x1024 squeezes_S1x256x1024_S256x1024).view.read (Elt F) fh⟩ : View.Piece (Elt F) S2048x1024 .bf16),
    (⟨Rect.unit (s := S2048x1024) ![1024, 0] S256x1024.size inb_S2048x1024_S256x1024_1024_0, ((hbM.slice (Rect.unit (s := S8x512x1024) ![4, 128, 0] S1x256x1024.size inb_S8x512x1024_S1x256x1024_4_128_0) (fun _ => rfl)).squeeze S256x1024 squeezes_S1x256x1024_S256x1024).view.read (Elt F) fh⟩ : View.Piece (Elt F) S2048x1024 .bf16),
    (⟨Rect.unit (s := S2048x1024) ![768, 0] S256x1024.size inb_S2048x1024_S256x1024_768_0, ((hbM.slice (Rect.unit (s := S8x512x1024) ![3, 128, 0] S1x256x1024.size inb_S8x512x1024_S1x256x1024_3_128_0) (fun _ => rfl)).squeeze S256x1024 squeezes_S1x256x1024_S256x1024).view.read (Elt F) fh⟩ : View.Piece (Elt F) S2048x1024 .bf16),
    (⟨Rect.unit (s := S2048x1024) ![512, 0] S256x1024.size inb_S2048x1024_S256x1024_512_0, ((hbM.slice (Rect.unit (s := S8x512x1024) ![2, 128, 0] S1x256x1024.size inb_S8x512x1024_S1x256x1024_2_128_0) (fun _ => rfl)).squeeze S256x1024 squeezes_S1x256x1024_S256x1024).view.read (Elt F) fh⟩ : View.Piece (Elt F) S2048x1024 .bf16),
    (⟨Rect.unit (s := S2048x1024) ![256, 0] S256x1024.size inb_S2048x1024_S256x1024_256_0, ((hbM.slice (Rect.unit (s := S8x512x1024) ![1, 128, 0] S1x256x1024.size inb_S8x512x1024_S1x256x1024_1_128_0) (fun _ => rfl)).squeeze S256x1024 squeezes_S1x256x1024_S256x1024).view.read (Elt F) fh⟩ : View.Piece (Elt F) S2048x1024 .bf16),
    (⟨Rect.unit (s := S2048x1024) ![0, 0] S256x1024.size inb_S2048x1024_S256x1024_0_0, ((hbM.slice (Rect.unit (s := S8x512x1024) ![0, 128, 0] S1x256x1024.size inb_S8x512x1024_S1x256x1024_0_128_0) (fun _ => rfl)).squeeze S256x1024 squeezes_S1x256x1024_S256x1024).view.read (Elt F) fh⟩ : View.Piece (Elt F) S2048x1024 .bf16)] = wspOf fh := by
  refine writes_agree1 c g _ (wspOf fh) ?_ (View.cover_of_tiledL _ S256x1024.size (by sl_kernel_rfl))
  refine List.forall_mem_cons.mpr ⟨fun x => band1 7 1792 (by decide) inb_S8x512x1024_S1x256x1024_7_128_0 (fun _ => rfl) squeezes_S1x256x1024_S256x1024 inb_S2048x1024_S256x1024_1792_0 fh x, ?_⟩
  refine List.forall_mem_cons.mpr ⟨fun x => band1 6 1536 (by decide) inb_S8x512x1024_S1x256x1024_6_128_0 (fun _ => rfl) squeezes_S1x256x1024_S256x1024 inb_S2048x1024_S256x1024_1536_0 fh x, ?_⟩
  refine List.forall_mem_cons.mpr ⟨fun x => band1 5 1280 (by decide) inb_S8x512x1024_S1x256x1024_5_128_0 (fun _ => rfl) squeezes_S1x256x1024_S256x1024 inb_S2048x1024_S256x1024_1280_0 fh x, ?_⟩
  refine List.forall_mem_cons.mpr ⟨fun x => band1 4 1024 (by decide) inb_S8x512x1024_S1x256x1024_4_128_0 (fun _ => rfl) squeezes_S1x256x1024_S256x1024 inb_S2048x1024_S256x1024_1024_0 fh x, ?_⟩
  refine List.forall_mem_cons.mpr ⟨fun x => band1 3 768 (by decide) inb_S8x512x1024_S1x256x1024_3_128_0 (fun _ => rfl) squeezes_S1x256x1024_S256x1024 inb_S2048x1024_S256x1024_768_0 fh x, ?_⟩
  refine List.forall_mem_cons.mpr ⟨fun x => band1 2 512 (by decide) inb_S8x512x1024_S1x256x1024_2_128_0 (fun _ => rfl) squeezes_S1x256x1024_S256x1024 inb_S2048x1024_S256x1024_512_0 fh x, ?_⟩
  refine List.forall_mem_cons.mpr ⟨fun x => band1 1 256 (by decide) inb_S8x512x1024_S1x256x1024_1_128_0 (fun _ => rfl) squeezes_S1x256x1024_S256x1024 inb_S2048x1024_S256x1024_256_0 fh x, ?_⟩
  refine List.forall_mem_cons.mpr ⟨fun x => band1 0 0 (by decide) inb_S8x512x1024_S1x256x1024_0_128_0 (fun _ => rfl) squeezes_S1x256x1024_S256x1024 inb_S2048x1024_S256x1024_0_0 fh x, ?_⟩
  exact fun p hp => absurd hp List.not_mem_nil

/-- A band of rows of a member, copied to its place, is the weight there. -/
theorem band2 (t r : ℕ) (hrt : r = t * 128) (inb : ∀ a, (![t, 384, 0] : Fin 3 → ℕ) a + S1x128x1024.size a ≤ S8x512x1024.size a) (hr)
    (hq : S1x128x1024.Squeezes S128x1024) (inbD : ∀ a, (![r, 0] : Fin 2 → ℕ) a + S128x1024.size a ≤ S1024x1024.size a) (fh : S8x512x1024.Idx → Elt F .bf16) (x : S128x1024.Idx) :
    ((hbM.slice (Rect.unit (s := S8x512x1024) ![t, 384, 0] S1x128x1024.size inb) hr).squeeze S128x1024 hq).view.read (Elt F) fh x
      = woutOf fh ((Rect.unit (s := S1024x1024) ![r, 0] S128x1024.size inbD).emb x) := by
  have h1 : ((hbM.slice (Rect.unit (s := S8x512x1024) ![t, 384, 0] S1x128x1024.size inb) hr).squeeze S128x1024 hq).view.read (Elt F) fh x
      = fh ((Rect.unit (s := S8x512x1024) ![t, 384, 0] S1x128x1024.size inb).emb (Shape.reshapeEquiv hq.numel_eq x)) := rfl
  have h2 : Shape.reshapeEquiv hq.numel_eq x = Fin.cons ⟨0, Nat.one_pos⟩ x := Shape.reshapeEquiv_cons_one _ _
  rw [h1, h2]
  have hx : (x 0).val < 128 := (x 0).isLt
  refine congrArg fh (funext fun a => Fin.ext ?_)
  rw [Rect.emb_apply]
  match a with
  | ⟨0, _⟩ => show t + 1 * 0 = (r + 1 * (x 0).val) / 128; omega
  | ⟨1, _⟩ => show 384 + 1 * (x 0).val = 384 + (r + 1 * (x 0).val) % 128; omega
  | ⟨2, _⟩ => show 0 + 1 * (x 1).val = 0 + 1 * (x 1).val; rfl

theorem fill2 (c : Dev nD) (fh : S8x512x1024.Idx → Elt F .bf16) (g : Buf (Elt F) (sc2.view.loc (c : Thread nD τ))) :
    sc2.view.writes (Elt F) g [(⟨Rect.unit (s := S1024x1024) ![896, 0] S128x1024.size inb_S1024x1024_S128x1024_896_0, ((hbM.slice (Rect.unit (s := S8x512x1024) ![7, 384, 0] S1x128x1024.size inb_S8x512x1024_S1x128x1024_7_384_0) (fun _ => rfl)).squeeze S128x1024 squeezes_S1x128x1024_S128x1024).view.read (Elt F) fh⟩ : View.Piece (Elt F) S1024x1024 .bf16),
    (⟨Rect.unit (s := S1024x1024) ![768, 0] S128x1024.size inb_S1024x1024_S128x1024_768_0, ((hbM.slice (Rect.unit (s := S8x512x1024) ![6, 384, 0] S1x128x1024.size inb_S8x512x1024_S1x128x1024_6_384_0) (fun _ => rfl)).squeeze S128x1024 squeezes_S1x128x1024_S128x1024).view.read (Elt F) fh⟩ : View.Piece (Elt F) S1024x1024 .bf16),
    (⟨Rect.unit (s := S1024x1024) ![640, 0] S128x1024.size inb_S1024x1024_S128x1024_640_0, ((hbM.slice (Rect.unit (s := S8x512x1024) ![5, 384, 0] S1x128x1024.size inb_S8x512x1024_S1x128x1024_5_384_0) (fun _ => rfl)).squeeze S128x1024 squeezes_S1x128x1024_S128x1024).view.read (Elt F) fh⟩ : View.Piece (Elt F) S1024x1024 .bf16),
    (⟨Rect.unit (s := S1024x1024) ![512, 0] S128x1024.size inb_S1024x1024_S128x1024_512_0, ((hbM.slice (Rect.unit (s := S8x512x1024) ![4, 384, 0] S1x128x1024.size inb_S8x512x1024_S1x128x1024_4_384_0) (fun _ => rfl)).squeeze S128x1024 squeezes_S1x128x1024_S128x1024).view.read (Elt F) fh⟩ : View.Piece (Elt F) S1024x1024 .bf16),
    (⟨Rect.unit (s := S1024x1024) ![384, 0] S128x1024.size inb_S1024x1024_S128x1024_384_0, ((hbM.slice (Rect.unit (s := S8x512x1024) ![3, 384, 0] S1x128x1024.size inb_S8x512x1024_S1x128x1024_3_384_0) (fun _ => rfl)).squeeze S128x1024 squeezes_S1x128x1024_S128x1024).view.read (Elt F) fh⟩ : View.Piece (Elt F) S1024x1024 .bf16),
    (⟨Rect.unit (s := S1024x1024) ![256, 0] S128x1024.size inb_S1024x1024_S128x1024_256_0, ((hbM.slice (Rect.unit (s := S8x512x1024) ![2, 384, 0] S1x128x1024.size inb_S8x512x1024_S1x128x1024_2_384_0) (fun _ => rfl)).squeeze S128x1024 squeezes_S1x128x1024_S128x1024).view.read (Elt F) fh⟩ : View.Piece (Elt F) S1024x1024 .bf16),
    (⟨Rect.unit (s := S1024x1024) ![128, 0] S128x1024.size inb_S1024x1024_S128x1024_128_0, ((hbM.slice (Rect.unit (s := S8x512x1024) ![1, 384, 0] S1x128x1024.size inb_S8x512x1024_S1x128x1024_1_384_0) (fun _ => rfl)).squeeze S128x1024 squeezes_S1x128x1024_S128x1024).view.read (Elt F) fh⟩ : View.Piece (Elt F) S1024x1024 .bf16),
    (⟨Rect.unit (s := S1024x1024) ![0, 0] S128x1024.size inb_S1024x1024_S128x1024_0_0, ((hbM.slice (Rect.unit (s := S8x512x1024) ![0, 384, 0] S1x128x1024.size inb_S8x512x1024_S1x128x1024_0_384_0) (fun _ => rfl)).squeeze S128x1024 squeezes_S1x128x1024_S128x1024).view.read (Elt F) fh⟩ : View.Piece (Elt F) S1024x1024 .bf16)] = woutOf fh := by
  refine writes_agree2 c g _ (woutOf fh) ?_ (View.cover_of_tiledL _ S128x1024.size (by sl_kernel_rfl))
  refine List.forall_mem_cons.mpr ⟨fun x => band2 7 896 (by decide) inb_S8x512x1024_S1x128x1024_7_384_0 (fun _ => rfl) squeezes_S1x128x1024_S128x1024 inb_S1024x1024_S128x1024_896_0 fh x, ?_⟩
  refine List.forall_mem_cons.mpr ⟨fun x => band2 6 768 (by decide) inb_S8x512x1024_S1x128x1024_6_384_0 (fun _ => rfl) squeezes_S1x128x1024_S128x1024 inb_S1024x1024_S128x1024_768_0 fh x, ?_⟩
  refine List.forall_mem_cons.mpr ⟨fun x => band2 5 640 (by decide) inb_S8x512x1024_S1x128x1024_5_384_0 (fun _ => rfl) squeezes_S1x128x1024_S128x1024 inb_S1024x1024_S128x1024_640_0 fh x, ?_⟩
  refine List.forall_mem_cons.mpr ⟨fun x => band2 4 512 (by decide) inb_S8x512x1024_S1x128x1024_4_384_0 (fun _ => rfl) squeezes_S1x128x1024_S128x1024 inb_S1024x1024_S128x1024_512_0 fh x, ?_⟩
  refine List.forall_mem_cons.mpr ⟨fun x => band2 3 384 (by decide) inb_S8x512x1024_S1x128x1024_3_384_0 (fun _ => rfl) squeezes_S1x128x1024_S128x1024 inb_S1024x1024_S128x1024_384_0 fh x, ?_⟩
  refine List.forall_mem_cons.mpr ⟨fun x => band2 2 256 (by decide) inb_S8x512x1024_S1x128x1024_2_384_0 (fun _ => rfl) squeezes_S1x128x1024_S128x1024 inb_S1024x1024_S128x1024_256_0 fh x, ?_⟩
  refine List.forall_mem_cons.mpr ⟨fun x => band2 1 128 (by decide) inb_S8x512x1024_S1x128x1024_1_384_0 (fun _ => rfl) squeezes_S1x128x1024_S128x1024 inb_S1024x1024_S128x1024_128_0 fh x, ?_⟩
  refine List.forall_mem_cons.mpr ⟨fun x => band2 0 0 (by decide) inb_S8x512x1024_S1x128x1024_0_384_0 (fun _ => rfl) squeezes_S1x128x1024_S128x1024 inb_S1024x1024_S128x1024_0_0 fh x, ?_⟩
  exact fun p hp => absurd hp List.not_mem_nil

set_option maxHeartbeats 4000000 in set_option sl_exec.dmaWindow true in set_option sl_exec.dmaWindowSet true in
/-- The fill's triple. -/
theorem fillRun (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1024 .f32) (harg7 : arg7.IsWhole) (arg8 : Memref sig .tc .vmem S1x2048 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x3072 .bf16) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x2048 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S1x2048 .f32) (harg21 : arg21.IsWhole) (arg22 : Memref sig .tc .vmem S1x1024 .f32) (harg22 : arg22.IsWhole) (arg23 : Memref sig .tc .vmem S1x1 .f32) (harg23 : arg23.IsWhole) (fh0 : HbBuf (F := F) c hbM)
    (b0 : Transfers.BatchOf (c : Thread nD τ) (SemLoc.dma (sig := sig) 39) 8 (windows := true)) (b1 : Transfers.BatchOf (c : Thread nD τ) (SemLoc.dma (sig := sig) 40) 8 (windows := true)) (b2 : Transfers.BatchOf (c : Thread nD τ) (SemLoc.dma (sig := sig) 41) 8 (windows := true))
    (W : Waits sig Unit) (K : PUnit → sProp 𝕄) (g0 : Buf (Elt F) (sc0.view.loc (c : Thread nD τ))) (g1 : Buf (Elt F) (sc1.view.loc (c : Thread nD τ))) (g2 : Buf (Elt F) (sc2.view.loc (c : Thread nD τ))) :
    iprop((∃ d, owns (c : Thread nD τ) arg21 fullShare d) ∗ (∃ d, owns (c : Thread nD τ) arg22 fullShare d) ∗ (∃ d, owns (c : Thread nD τ) arg23 fullShare d) ∗ (sc0.view.loc (c : Thread nD τ) ↦{fullShare} g0) ∗ (sc1.view.loc (c : Thread nD τ) ↦{fullShare} g1) ∗ (sc2.view.loc (c : Thread nD τ) ↦{fullShare} g2) ∗ semVal ((c : Thread nD τ), SemLoc.dma 39) 0 ∗ semVal ((c : Thread nD τ), SemLoc.dma 40) 0 ∗ semVal ((c : Thread nD τ), SemLoc.dma 41) 0 ∗ hbPt c hbM fh0 ∗ owes (c : Thread nD τ) 0 W ∗
      (iprop(owns (c : Thread nD τ) arg21 fullShare zero21 ∗ owns (c : Thread nD τ) arg22 fullShare zero22 ∗ owns (c : Thread nD τ) arg23 fullShare zero23 ∗
        (sc0.view.loc (c : Thread nD τ) ↦{fullShare} wapOf fh0) ∗ (sc1.view.loc (c : Thread nD τ) ↦{fullShare} wspOf fh0) ∗ (sc2.view.loc (c : Thread nD τ) ↦{fullShare} woutOf fh0) ∗ semVal ((c : Thread nD τ), SemLoc.dma 39) 0 ∗ semVal ((c : Thread nD τ), SemLoc.dma 40) 0 ∗ semVal ((c : Thread nD τ), SemLoc.dma 41) 0 ∗ hbPt c hbM fh0 ∗ (∃ W', owes (c : Thread nD τ) 0 W')) -∗ K ⟨⟩))
      ⊢ wp frame (wpE (defs₀ (F := F)) Variants.none c none) Set.univ (midFill (F := F) i arg1 harg1 arg2 harg2 arg3 harg3 arg4 harg4 arg5 harg5 arg6 harg6 arg7 harg7 arg8 harg8 (Memref.whole main_arg8) (Memref.isWhole_whole _) arg10 harg10 arg11 harg11 arg12 harg12 arg13 harg13 arg14 harg14 arg15 harg15 arg16 harg16 arg17 harg17 arg18 harg18 arg19 harg19 arg20 harg20 arg21 harg21 arg22 harg22 arg23 harg23 sc0 (Memref.isWhole_whole _) sc1 (Memref.isWhole_whole _) sc2 (Memref.isWhole_whole _) cc0_scratch3) K := by
  unfold midFill k0_part10
  unfold owns
  iintro ⟨⟨%d21, %f21, -, H21⟩, ⟨%d22, %f22, -, H22⟩, ⟨%d23, %f23, -, H23⟩, HS0, HS1, HS2, Hq0, Hq1, Hq2, Hh0, HW, Hk⟩
  ihave HC' := ((Transfers.pointsTo_toks_split (Ix := Unit) (Name := ℕ) (U := Pipeline.UD sig nD τ) (Lvl := ℕ) fullShare 3).trans
    (show _ ⊢ iprop((hbM.view.loc (c : Thread nD τ) ↦{Transfers.shareDrop fullShare 3} fh0) ∗ (hbM.view.loc (c : Thread nD τ) ↦{Transfers.shareTok fullShare 3 0} fh0) ∗ (hbM.view.loc (c : Thread nD τ) ↦{Transfers.shareTok fullShare 3 1} fh0) ∗ (hbM.view.loc (c : Thread nD τ) ↦{Transfers.shareTok fullShare 3 2} fh0))
      from Entails.of_eq (by rw [BI.bigSep_eq_bigSepL_of_eq [0, 1, 2] (by decide) (by decide)]; rfl))) $$ Hh0
  icases HC' with ⟨HCr, HC0, HC1, HC2⟩
  sl_exec
  sl_step
  iapply Hk
  isplitl [H21]
  · iexists _; isplitr; swap; · iexact H21
    ipureintro
    exact (View.read_writes_eq_canon _ _ _ (cover_whole off2 _ _)).trans (View.canon_unit_zero off2 _ _)
  isplitl [H22]
  · iexists _; isplitr; swap; · iexact H22
    ipureintro
    exact (View.read_writes_eq_canon _ _ _ (cover_whole off2 _ _)).trans (View.canon_unit_zero off2 _ _)
  isplitl [H23]
  · iexists _; isplitr; swap; · iexact H23
    ipureintro
    exact (View.read_writes_eq_canon _ _ _ (cover_whole off2 _ _)).trans (View.canon_unit_zero off2 _ _)
  isplitl [HS0]
  · first | exact (Entails.of_eq (congrArg (fun z => (sc0.view.loc (c : Thread nD τ) ↦{fullShare} z : sProp 𝕄)) (fill0 c fh0 g0))) | (refine BIBase.Entails.trans ?_ (Entails.of_eq (congrArg (fun z => (sc0.view.loc (c : Thread nD τ) ↦{fullShare} z : sProp 𝕄)) (fill0 c fh0 g0))); exact Idealize.SL.BI.Entails.refl _)
  isplitl [HS1]
  · first | exact (Entails.of_eq (congrArg (fun z => (sc1.view.loc (c : Thread nD τ) ↦{fullShare} z : sProp 𝕄)) (fill1 c fh0 g1))) | (refine BIBase.Entails.trans ?_ (Entails.of_eq (congrArg (fun z => (sc1.view.loc (c : Thread nD τ) ↦{fullShare} z : sProp 𝕄)) (fill1 c fh0 g1))); exact Idealize.SL.BI.Entails.refl _)
  isplitl [HS2]
  · first | exact (Entails.of_eq (congrArg (fun z => (sc2.view.loc (c : Thread nD τ) ↦{fullShare} z : sProp 𝕄)) (fill2 c fh0 g2))) | (refine BIBase.Entails.trans ?_ (Entails.of_eq (congrArg (fun z => (sc2.view.loc (c : Thread nD τ) ↦{fullShare} z : sProp 𝕄)) (fill2 c fh0 g2))); exact Idealize.SL.BI.Entails.refl _)
  isplitl [Hq0]; · iexact Hq0
  isplitl [Hq1]; · iexact Hq1
  isplitl [Hq2]; · iexact Hq2
  isplitr [HW]
  · iapply ((show iprop((hbM.view.loc (c : Thread nD τ) ↦{Transfers.shareDrop fullShare 3} fh0) ∗ (hbM.view.loc (c : Thread nD τ) ↦{Transfers.shareTok fullShare 3 0} fh0) ∗ (hbM.view.loc (c : Thread nD τ) ↦{Transfers.shareTok fullShare 3 1} fh0) ∗ (hbM.view.loc (c : Thread nD τ) ↦{Transfers.shareTok fullShare 3 2} fh0)) ⊢ _
      from Entails.of_eq (by rw [BI.bigSep_eq_bigSepL_of_eq [0, 1, 2] (by decide) (by decide)]; rfl)).trans
      (Transfers.pointsTo_toks_join (Ix := Unit) (Name := ℕ) (U := Pipeline.UD sig nD τ) (Lvl := ℕ) fullShare 3))
    isplitl [HCr]; · iexact HCr
    isplitl [HC0]; · iexact HC0
    isplitl [HC1]; · iexact HC1
    iexact HC2
  iexists _; iexact HW

end Cert.MidIdeal.Gen

end
-- ==== Proof.MidIdealFrame.lean ====
module

public import proofs.«01_k».proof.Proof.MidIdealFill
public import proofs.«01_k».proof.Proof.Gen.MidIdeal.Launch
public import proofs.«01_k».proof.Proof.Gen.MidIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers when the kernel is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- A window's block at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem held0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem held1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem held2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem held3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem held4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem held5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem held6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem held7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1320000 in
/-- A run that leaves every array as the proof data say leaves the arguments as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) :=
  (θ_run defs _ _).mono (fun _ h c => ⟨((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6)),
      ((h c).1 7).trans (((dats 0 c).arrAt_in 7 rfl _).trans (hA c 7)),
      (h c).2 main_arg8 (Pipeline.mem_restRefs_of main_arg8 (by decide) (by decide))⟩) h

/-- The first point is the one at zero. -/
theorem atFirst_iff : ∀ t : Fin cfg0.N, atFirst (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [atFirst, e0]
    word_cmp
   : ∀ t : Fin grid0.N, atFirst (grid0.coords t) ↔ t.val % 32 = 0)
abbrev ms0 (t : Fin cfg0.N) : Memref sig .tc .vmem S256x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S256x1024 .f32 := win0_2.stage (cfg0.slots t 2)
abbrev ms3 (t : Fin cfg0.N) : Memref sig .tc .vmem S256x3072 .bf16 := win0_3.stage (cfg0.slots t 3)
abbrev ms4 (t : Fin cfg0.N) : Memref sig .tc .vmem S256x2048 .f32 := win0_4.stage (cfg0.slots t 4)
abbrev ms5 (t : Fin cfg0.N) : Memref sig .tc .vmem S256x2048 .bf16 := win0_5.stage (cfg0.slots t 5)
abbrev ms6 (t : Fin cfg0.N) : Memref sig .tc .vmem S1x1024 .f32 := win0_6.stage (cfg0.slots t 6)
abbrev ms7 (t : Fin cfg0.N) : Memref sig .tc .vmem S1x2048 .f32 := win0_7.stage (cfg0.slots t 7)
abbrev ms8 (t : Fin cfg0.N) : Memref sig .tc .vmem S256x1024 .f32 := win0_8.stage (cfg0.slots t 8)
abbrev ms9 (t : Fin cfg0.N) : Memref sig .tc .vmem S256x1024 .f32 := win0_9.stage (cfg0.slots t 9)
abbrev ms10 (t : Fin cfg0.N) : Memref sig .tc .vmem S256x3072 .bf16 := win0_10.stage (cfg0.slots t 10)
abbrev ms11 (t : Fin cfg0.N) : Memref sig .tc .vmem S256x2048 .f32 := win0_11.stage (cfg0.slots t 11)
abbrev ms12 (t : Fin cfg0.N) : Memref sig .tc .vmem S256x2048 .bf16 := win0_12.stage (cfg0.slots t 12)
abbrev ms13 (t : Fin cfg0.N) : Memref sig .tc .vmem S256x1024 .bf16 := win0_13.stage (cfg0.slots t 13)
abbrev ms14 (t : Fin cfg0.N) : Memref sig .tc .vmem S256x1024 .bf16 := win0_14.stage (cfg0.slots t 14)
abbrev ms15 (t : Fin cfg0.N) : Memref sig .tc .vmem S256x2048 .bf16 := win0_15.stage (cfg0.slots t 15)
abbrev ms16 (t : Fin cfg0.N) : Memref sig .tc .vmem S256x1024 .bf16 := win0_16.stage (cfg0.slots t 16)
abbrev ms17 (t : Fin cfg0.N) : Memref sig .tc .vmem S256x1024 .bf16 := win0_17.stage (cfg0.slots t 17)
abbrev ms18 (t : Fin cfg0.N) : Memref sig .tc .vmem S256x1024 .bf16 := win0_18.stage (cfg0.slots t 18)
abbrev ms19 (t : Fin cfg0.N) : Memref sig .tc .vmem S1x2048 .f32 := win0_19.stage (cfg0.slots t 19)
abbrev ms20 (t : Fin cfg0.N) : Memref sig .tc .vmem S1x1024 .f32 := win0_20.stage (cfg0.slots t 20)
abbrev ms21 (t : Fin cfg0.N) : Memref sig .tc .vmem S1x1 .f32 := win0_21.stage (cfg0.slots t 21)

abbrev osem0 : Fin 3 → SemLoc sig := fun j => (![SemLoc.dma 39, SemLoc.dma 40, SemLoc.dma 41] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2] (by decide) (by decide)]; rfl
/-- The one operand left in HBM. -/
def H0 : Finset (Ref sig .tc) := {main_arg8}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_arg8)) := by
  rw [BI.bigSep_eq_bigSepL_of_eq [main_arg8] (by decide) (by decide)]; rfl

/-- What is handed over before the first point. -/
theorem PhiD0_eq (c : Dev nD) :
    (Pipeline.ΦD osem0 spec0 H0 (V m) c : sProp 𝕄)
      = iprop(iprop((∃ f : Buf (Elt F) (sc0.view.loc (c : Thread nD τ)), sc0.view.loc (c : Thread nD τ) ↦{fullShare} f) ∗ (∃ f : Buf (Elt F) (sc1.view.loc (c : Thread nD τ)), sc1.view.loc (c : Thread nD τ) ↦{fullShare} f) ∗ (∃ f : Buf (Elt F) (sc2.view.loc (c : Thread nD τ)), sc2.view.loc (c : Thread nD τ) ↦{fullShare} f)) ∗ (∃ r, prngReg c r) ∗ iprop(semVal ((c : Thread nD τ), SemLoc.dma 39) 0 ∗ semVal ((c : Thread nD τ), SemLoc.dma 40) 0 ∗ semVal ((c : Thread nD τ), SemLoc.dma 41) 0) ∗ iprop(hbPt c hbM (V m c main_arg8))) := by
  rw [Pipeline.ΦD_eq, scopedRest0_eq, ownSems00_eq, hbmPts0_eq]; try rfl
theorem owns_sc0 (c : Dev nD) (x : Vec F S1024x1024 .bf16) :
    (owns (c : Thread nD τ) sc0 fullShare x : sProp 𝕄) = (sc0.view.loc (c : Thread nD τ) ↦{fullShare} x) := owns_whole _ _ _ _
theorem owns_sc1 (c : Dev nD) (x : Vec F S2048x1024 .bf16) :
    (owns (c : Thread nD τ) sc1 fullShare x : sProp 𝕄) = (sc1.view.loc (c : Thread nD τ) ↦{fullShare} x) := owns_whole _ _ _ _
theorem owns_sc2 (c : Dev nD) (x : Vec F S1024x1024 .bf16) :
    (owns (c : Thread nD τ) sc2 fullShare x : sProp 𝕄) = (sc2.view.loc (c : Thread nD τ) ↦{fullShare} x) := owns_whole _ _ _ _

set_option maxHeartbeats 4000000 in
/-- One grid point after the weights are in place: every output at what the tile makes of it. -/
theorem tileRun (c : Dev nD) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1024 .f32) (harg7 : arg7.IsWhole) (arg8 : Memref sig .tc .vmem S1x2048 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x3072 .bf16) (harg12 : arg12.IsWhole) (arg13 : Memref sig .tc .vmem S256x2048 .f32) (harg13 : arg13.IsWhole) (arg14 : Memref sig .tc .vmem S256x2048 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x2048 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S1x2048 .f32) (harg21 : arg21.IsWhole) (arg22 : Memref sig .tc .vmem S1x1024 .f32) (harg22 : arg22.IsWhole) (arg23 : Memref sig .tc .vmem S1x1 .f32) (harg23 : arg23.IsWhole) (arg24 : Memref sig .tc .vmem S1024x1024 .bf16) (harg24 : arg24.IsWhole) (arg25 : Memref sig .tc .vmem S2048x1024 .bf16) (harg25 : arg25.IsWhole) (arg26 : Memref sig .tc .vmem S1024x1024 .bf16) (harg26 : arg26.IsWhole)
    (x1 : Vec F S256x1024 .f32) (x2 : Vec F S256x1024 .f32) (x3 : Vec F S256x1024 .f32) (x4 : Vec F S256x3072 .bf16) (x5 : Vec F S256x2048 .f32) (x6 : Vec F S256x2048 .bf16) (x7 : Vec F S1x1024 .f32) (x8 : Vec F S1x2048 .f32) (wa : Vec F S1024x1024 .bf16) (ws : Vec F S2048x1024 .bf16) (wo : Vec F S1024x1024 .bf16) (a21 : Vec F S1x2048 .f32) (a22 : Vec F S1x1024 .f32) (a23 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare a21 ∗ owns (c : Thread nD τ) arg22 fullShare a22 ∗ owns (c : Thread nD τ) arg23 fullShare a23 ∗ owns (c : Thread nD τ) arg24 fullShare wa ∗ owns (c : Thread nD τ) arg25 fullShare ws ∗ owns (c : Thread nD τ) arg26 fullShare wo ∗
      (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare ((tileOf x1 x2 x3 x4 x5 x6 x7 x8 wa ws wo).dx) ∗ owns (c : Thread nD τ) arg11 fullShare ((tileOf x1 x2 x3 x4 x5 x6 x7 x8 wa ws wo).dAtt wo wa) ∗ owns (c : Thread nD τ) arg12 fullShare ((tileOf x1 x2 x3 x4 x5 x6 x7 x8 wa ws wo).dzam wo wa ws) ∗ owns (c : Thread nD τ) arg13 fullShare ((tileOf x1 x2 x3 x4 x5 x6 x7 x8 wa ws wo).dypre wo ws) ∗ owns (c : Thread nD τ) arg14 fullShare ((tileOf x1 x2 x3 x4 x5 x6 x7 x8 wa ws wo).dgab wo) ∗ owns (c : Thread nD τ) arg15 fullShare ((tileOf x1 x2 x3 x4 x5 x6 x7 x8 wa ws wo).yag) ∗ owns (c : Thread nD τ) arg16 fullShare ((tileOf x1 x2 x3 x4 x5 x6 x7 x8 wa ws wo).dya wo) ∗ owns (c : Thread nD τ) arg17 fullShare ((tileOf x1 x2 x3 x4 x5 x6 x7 x8 wa ws wo).yn) ∗ owns (c : Thread nD τ) arg18 fullShare ((tileOf x1 x2 x3 x4 x5 x6 x7 x8 wa ws wo).dyb wo) ∗ owns (c : Thread nD τ) arg19 fullShare ((tileOf x1 x2 x3 x4 x5 x6 x7 x8 wa ws wo).mer) ∗ owns (c : Thread nD τ) arg20 fullShare ((tileOf x1 x2 x3 x4 x5 x6 x7 x8 wa ws wo).do_) ∗ owns (c : Thread nD τ) arg21 fullShare ((tileOf x1 x2 x3 x4 x5 x6 x7 x8 wa ws wo).nwAcc wo ws a21) ∗ owns (c : Thread nD τ) arg22 fullShare ((tileOf x1 x2 x3 x4 x5 x6 x7 x8 wa ws wo).gateAcc a22) ∗ owns (c : Thread nD τ) arg23 fullShare ((tileOf x1 x2 x3 x4 x5 x6 x7 x8 wa ws wo).lossAcc a23) ∗ owns (c : Thread nD τ) arg24 fullShare wa ∗ owns (c : Thread nD τ) arg25 fullShare ws ∗ owns (c : Thread nD τ) arg26 fullShare wo) -∗ K ⟨⟩))
      ⊢ wp frame (wpE (defs₀ (F := F)) Variants.none c none) Set.univ (midHead (F := F) arg1 harg1 arg2 harg2 arg3 harg3 arg4 harg4 arg5 harg5 arg6 harg6 arg7 harg7 arg8 harg8 arg15 harg15 arg17 harg17 arg19 harg19 arg24 harg24 arg25 harg25 arg26 harg26 >>= fun T => midRest T arg10 harg10 arg11 harg11 arg12 harg12 arg13 harg13 arg14 harg14 arg16 harg16 arg18 harg18 arg20 harg20 arg21 harg21 arg22 harg22 arg23 harg23 arg24 harg24 arg25 harg25 arg26 harg26) K := by
  rw [wp_bind]
  iintro ⟨H1, H2, H3, H4, H5, H6, H7, H8, H10, H11, H12, H13, H14, H15, H16, H17, H18, H19, H20, H21, H22, H23, H24, H25, H26, Hk⟩
  iapply (headRun c arg1 harg1 arg2 harg2 arg3 harg3 arg4 harg4 arg5 harg5 arg6 harg6 arg7 harg7 arg8 harg8 arg15 harg15 arg17 harg17 arg19 harg19 arg24 harg24 arg25 harg25 arg26 harg26 x1 x2 x3 x4 x5 x6 x7 x8 wa ws wo _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H15]; · iexact H15
  isplitl [H17]; · iexact H17
  isplitl [H19]; · iexact H19
  isplitl [H24]; · iexact H24
  isplitl [H25]; · iexact H25
  isplitl [H26]; · iexact H26
  iintro ⟨H1, H2, H3, H4, H5, H6, H7, H8, H15, H17, H19, H24, H25, H26⟩
  iapply (restRun c _ arg10 harg10 arg11 harg11 arg12 harg12 arg13 harg13 arg14 harg14 arg16 harg16 arg18 harg18 arg20 harg20 arg21 harg21 arg22 harg22 arg23 harg23 arg24 harg24 arg25 harg25 arg26 harg26 wa ws wo a21 a22 a23 K)
  isplitl [H10]; · iexact H10
  isplitl [H11]; · iexact H11
  isplitl [H12]; · iexact H12
  isplitl [H13]; · iexact H13
  isplitl [H14]; · iexact H14
  isplitl [H16]; · iexact H16
  isplitl [H18]; · iexact H18
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H10, H11, H12, H13, H14, H16, H18, H20, H21, H22, H23, H24, H25, H26⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The weights as the first point leaves them in scratch. -/
abbrev wapAt (c : Dev nD) : Vec F S1024x1024 .bf16 := wapOf (V m c main_arg8)
abbrev wspAt (c : Dev nD) : Vec F S2048x1024 .bf16 := wspOf (V m c main_arg8)
abbrev woutAt (c : Dev nD) : Vec F S1024x1024 .bf16 := woutOf (V m c main_arg8)

/-- The tile of a grid point. -/
def tileAt (c : Dev nD) (t : Fin cfg0.N) : Tile F :=
  tileOf (iblk m c 0 t) (iblk m c 1 t) (iblk m c 2 t) (iblk m c 3 t) (iblk m c 4 t) (iblk m c 5 t) (iblk m c 6 t) (iblk m c 7 t) (wapAt m c) (wspAt m c) (woutAt m c)

/-- The three sums carried from point to point. -/
def accStep (T : Tile F) (ws : Vec F S2048x1024 .bf16) (wo : Vec F S1024x1024 .bf16) (a : Vec F S1x2048 .f32 × Vec F S1x1024 .f32 × Vec F S1x1 .f32) :
    Vec F S1x2048 .f32 × Vec F S1x1024 .f32 × Vec F S1x1 .f32 := (T.nwAcc wo ws a.1, T.gateAcc a.2.1, T.lossAcc a.2.2)
def accAt (c : Dev nD) : (n : ℕ) → n < cfg0.N → Vec F S1x2048 .f32 × Vec F S1x1024 .f32 × Vec F S1x1 .f32
  | 0, h => accStep (tileAt m c ⟨0, h⟩) (wspAt m c) (woutAt m c) (zero21, zero22, zero23)
  | n + 1, h => accStep (tileAt m c ⟨n + 1, h⟩) (wspAt m c) (woutAt m c) (accAt c n (Nat.lt_of_succ_lt h))
theorem accAt_first (c : Dev nD) (t : Fin cfg0.N) (h : t.val = 0) :
    accAt m c t.val t.isLt = accStep (tileAt m c t) (wspAt m c) (woutAt m c) (zero21, zero22, zero23) := by
  obtain ⟨n, hn⟩ := t
  cases n with
  | zero => rfl
  | succ n => exact absurd h (Nat.succ_ne_zero n)
theorem accAt_next (c : Dev nD) (t : Fin cfg0.N) (h : t.val ≠ 0) :
    accAt m c t.val t.isLt = accStep (tileAt m c t) (wspAt m c) (woutAt m c) (accAt m c (t.val - 1) (Nat.lt_of_le_of_lt (Nat.sub_le _ _) t.isLt)) := by
  obtain ⟨n, hn⟩ := t
  cases n with
  | zero => exact absurd rfl h
  | succ n => rfl

/-- What is held between the points: before the first whatever is handed over, afterwards the weights in scratch. -/
def PhiS (c : Dev nD) : (n : ℕ) → n ≤ cfg0.N → sProp 𝕄
  | 0, _ => Pipeline.ΦD osem0 spec0 H0 (V m) c
  | n + 1, _ => iprop(iprop(owns (c : Thread nD τ) sc0 fullShare (wapAt m c) ∗ owns (c : Thread nD τ) sc1 fullShare (wspAt m c) ∗ owns (c : Thread nD τ) sc2 fullShare (woutAt m c)) ∗ (∃ r, prngReg c r) ∗ iprop(semVal ((c : Thread nD τ), SemLoc.dma 39) 0 ∗ semVal ((c : Thread nD τ), SemLoc.dma 40) 0 ∗ semVal ((c : Thread nD τ), SemLoc.dma 41) 0) ∗ iprop(hbPt c hbM (V m c main_arg8)))
theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (hz : n ≠ 0) :
    PhiS m c n h = iprop(iprop(owns (c : Thread nD τ) sc0 fullShare (wapAt m c) ∗ owns (c : Thread nD τ) sc1 fullShare (wspAt m c) ∗ owns (c : Thread nD τ) sc2 fullShare (woutAt m c)) ∗ (∃ r, prngReg c r) ∗ iprop(semVal ((c : Thread nD τ), SemLoc.dma 39) 0 ∗ semVal ((c : Thread nD τ), SemLoc.dma 40) 0 ∗ semVal ((c : Thread nD τ), SemLoc.dma 41) 0) ∗ iprop(hbPt c hbM (V m c main_arg8))) := by
  cases n with
  | zero => exact absurd rfl hz
  | succ n => rfl

/-- What every window's buffer holds after the body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (tileAt m c t).dx
    | ⟨9, _⟩ => (tileAt m c t).dAtt (woutAt m c) (wapAt m c)
    | ⟨10, _⟩ => (tileAt m c t).dzam (woutAt m c) (wapAt m c) (wspAt m c)
    | ⟨11, _⟩ => (tileAt m c t).dypre (woutAt m c) (wspAt m c)
    | ⟨12, _⟩ => (tileAt m c t).dgab (woutAt m c)
    | ⟨13, _⟩ => (tileAt m c t).yag
    | ⟨14, _⟩ => (tileAt m c t).dya (woutAt m c)
    | ⟨15, _⟩ => (tileAt m c t).yn
    | ⟨16, _⟩ => (tileAt m c t).dyb (woutAt m c)
    | ⟨17, _⟩ => (tileAt m c t).mer
    | ⟨18, _⟩ => (tileAt m c t).do_
    | ⟨19, _⟩ => (accAt m c t.val t.isLt).1
    | ⟨20, _⟩ => (accAt m c t.val t.isLt).2.1
    | ⟨21, _⟩ => (accAt m c t.val t.isLt).2.2
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (tileAt m c t).dx := by dsimp only [dats]
theorem after0_9 (c : Dev nD) (t : Fin cfg0.N) : (dats m 0 c).after 9 t = (tileAt m c t).dAtt (woutAt m c) (wapAt m c) := by dsimp only [dats]
theorem after0_10 (c : Dev nD) (t : Fin cfg0.N) : (dats m 0 c).after 10 t = (tileAt m c t).dzam (woutAt m c) (wapAt m c) (wspAt m c) := by dsimp only [dats]
theorem after0_11 (c : Dev nD) (t : Fin cfg0.N) : (dats m 0 c).after 11 t = (tileAt m c t).dypre (woutAt m c) (wspAt m c) := by dsimp only [dats]
theorem after0_12 (c : Dev nD) (t : Fin cfg0.N) : (dats m 0 c).after 12 t = (tileAt m c t).dgab (woutAt m c) := by dsimp only [dats]
theorem after0_13 (c : Dev nD) (t : Fin cfg0.N) : (dats m 0 c).after 13 t = (tileAt m c t).yag := by dsimp only [dats]
theorem after0_14 (c : Dev nD) (t : Fin cfg0.N) : (dats m 0 c).after 14 t = (tileAt m c t).dya (woutAt m c) := by dsimp only [dats]
theorem after0_15 (c : Dev nD) (t : Fin cfg0.N) : (dats m 0 c).after 15 t = (tileAt m c t).yn := by dsimp only [dats]
theorem after0_16 (c : Dev nD) (t : Fin cfg0.N) : (dats m 0 c).after 16 t = (tileAt m c t).dyb (woutAt m c) := by dsimp only [dats]
theorem after0_17 (c : Dev nD) (t : Fin cfg0.N) : (dats m 0 c).after 17 t = (tileAt m c t).mer := by dsimp only [dats]
theorem after0_18 (c : Dev nD) (t : Fin cfg0.N) : (dats m 0 c).after 18 t = (tileAt m c t).do_ := by dsimp only [dats]
theorem after0_19 (c : Dev nD) (t : Fin cfg0.N) : (dats m 0 c).after 19 t = (accAt m c t.val t.isLt).1 := by dsimp only [dats]
theorem after0_20 (c : Dev nD) (t : Fin cfg0.N) : (dats m 0 c).after 20 t = (accAt m c t.val t.isLt).2.1 := by dsimp only [dats]
theorem after0_21 (c : Dev nD) (t : Fin cfg0.N) : (dats m 0 c).after 21 t = (accAt m c t.val t.isLt).2.2 := by dsimp only [dats]
theorem before0_0 (c : Dev nD) (t : Fin cfg0.N) (d) : (dats m 0 c).before 0 t d = iblk m c 0 t :=
  held0 m (dats m 0 c) (A_eq m c 0) (after0_0 m c) t d
theorem before0_1 (c : Dev nD) (t : Fin cfg0.N) (d) : (dats m 0 c).before 1 t d = iblk m c 1 t :=
  held1 m (dats m 0 c) (A_eq m c 1) (after0_1 m c) t d
theorem before0_2 (c : Dev nD) (t : Fin cfg0.N) (d) : (dats m 0 c).before 2 t d = iblk m c 2 t :=
  held2 m (dats m 0 c) (A_eq m c 2) (after0_2 m c) t d
theorem before0_3 (c : Dev nD) (t : Fin cfg0.N) (d) : (dats m 0 c).before 3 t d = iblk m c 3 t :=
  held3 m (dats m 0 c) (A_eq m c 3) (after0_3 m c) t d
theorem before0_4 (c : Dev nD) (t : Fin cfg0.N) (d) : (dats m 0 c).before 4 t d = iblk m c 4 t :=
  held4 m (dats m 0 c) (A_eq m c 4) (after0_4 m c) t d
theorem before0_5 (c : Dev nD) (t : Fin cfg0.N) (d) : (dats m 0 c).before 5 t d = iblk m c 5 t :=
  held5 m (dats m 0 c) (A_eq m c 5) (after0_5 m c) t d
theorem before0_6 (c : Dev nD) (t : Fin cfg0.N) (d) : (dats m 0 c).before 6 t d = iblk m c 6 t :=
  held6 m (dats m 0 c) (A_eq m c 6) (after0_6 m c) t d
theorem before0_7 (c : Dev nD) (t : Fin cfg0.N) (d) : (dats m 0 c).before 7 t d = iblk m c 7 t :=
  held7 m (dats m 0 c) (A_eq m c 7) (after0_7 m c) t d
theorem kept19 (c : Dev nD) (t : Fin cfg0.N) (h0 : ¬t.val % 32 = 0) (d) :
    (dats m 0 c).before 19 t d = (accAt m c (t.val - 1) (Nat.lt_of_le_of_lt (Nat.sub_le _ _) t.isLt)).1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
theorem kept20 (c : Dev nD) (t : Fin cfg0.N) (h0 : ¬t.val % 32 = 0) (d) :
    (dats m 0 c).before 20 t d = (accAt m c (t.val - 1) (Nat.lt_of_le_of_lt (Nat.sub_le _ _) t.isLt)).2.1 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]
theorem kept21 (c : Dev nD) (t : Fin cfg0.N) (h0 : ¬t.val % 32 = 0) (d) :
    (dats m 0 c).before 21 t d = (accAt m c (t.val - 1) (Nat.lt_of_le_of_lt (Nat.sub_le _ _) t.isLt)).2.2 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t)
    ∗ owns (c : Thread nD τ) (ms20 t) fullShare ((dats m 0 c).after 20 t)
    ∗ owns (c : Thread nD τ) (ms21 t) fullShare ((dats m 0 c).after 21 t))

set_option maxHeartbeats 19200000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = iprop(iprop(owns (c : Thread nD τ) sc0 fullShare (wapAt m c) ∗ owns (c : Thread nD τ) sc1 fullShare (wspAt m c) ∗ owns (c : Thread nD τ) sc2 fullShare (woutAt m c)) ∗ (∃ r, prngReg c r) ∗ iprop(semVal ((c : Thread nD τ), SemLoc.dma 39) 0 ∗ semVal ((c : Thread nD τ), SemLoc.dma 40) 0 ∗ semVal ((c : Thread nD τ), SemLoc.dma 41) 0) ∗ iprop(hbPt c hbM (V m c main_arg8))) from rfl,
    after0_0, after0_1, after0_2, after0_3, after0_4, after0_5, after0_6, after0_7, after0_8, after0_9, after0_10, after0_11, after0_12, after0_13, after0_14, after0_15, after0_16, after0_17, after0_18, after0_19, after0_20, after0_21]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [cc0_mid_flat]
  by_cases h0 : t.val % 32 = 0
  · have hz : t.val = 0 := by omega
    rw [PhiS_castSucc m c t, PhiS_zero m c _ _ hz, PhiD0_eq, accAt_first m c t hz, if_pos ((atFirst_iff t).mpr h0), wp_bind]
    unfold tileAt accStep
    iintro ⟨⟨⟨⟨%g0, HS0⟩, ⟨%g1, HS1⟩, ⟨%g2, HS2⟩⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (fillRun c (grid0.coords t) _ _ _ _ _ _ _ _ _ _ _ _ _ _ _ _ _ _ _ _ _ _ _ _ _ _ _ _ _ _ _ _ _ _ _ _ _ _ _ _ _ _ _ _ (V m c main_arg8) trivial trivial trivial W _ g0 g1 g2)
    isplitl [H19]; · iexists _; iexact H19
    isplitl [H20]; · iexists _; iexact H20
    isplitl [H21]; · iexists _; iexact H21
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [HW]; · iexact HW
    iintro ⟨H19, H20, H21, HS0, HS1, HS2, Hq0, Hq1, Hq2, Hh0, ⟨%W', HW⟩⟩
    iapply (tileRun c _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (wapAt m c) (wspAt m c) (woutAt m c) zero21 zero22 zero23 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    isplitl [HS0]; · exact Entails.of_eq (owns_sc0 c _).symm
    isplitl [HS1]; · exact Entails.of_eq (owns_sc1 c _).symm
    isplitl [HS2]; · exact Entails.of_eq (owns_sc2 c _).symm
    iintro ⟨H0, H1, H2, H3, H4, H5, H6, H7, H8, H9, H10, H11, H12, H13, H14, H15, H16, H17, H18, H19, H20, H21, HS0, HS1, HS2⟩
    isplitl [HS0 HS1 HS2 Hg Hq0 Hq1 Hq2 Hh0]
    · isplitl [HS0 HS1 HS2]
      · isplitl [HS0]; · iexact HS0
        isplitl [HS1]; · iexact HS1
        iexact HS2
      isplitl [Hg]; · iexact Hg
      isplitl [Hq0 Hq1 Hq2]
      · isplitl [Hq0]; · iexact Hq0
        isplitl [Hq1]; · iexact Hq1
        iexact Hq2
      iexact Hh0
    isplitl [HW]
    · iexists _; isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · have hz : t.val ≠ 0 := fun h => h0 (by rw [h])
    rw [PhiS_castSucc m c t, PhiS_pos m c _ _ hz, accAt_next m c t hz, if_neg fun h => h0 ((atFirst_iff t).mp h), pure_bind]
    simp only [kept19 m c t h0, kept20 m c t h0, kept21 m c t h0]
    unfold tileAt accStep
    iintro ⟨⟨⟨HS0, HS1, HS2⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (tileRun c _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (wapAt m c) (wspAt m c) (woutAt m c) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg Hq0 Hq1 Hq2 Hh0]
    · isplitl [HS0 HS1 HS2]
      · isplitl [HS0]; · iexact HS0
        isplitl [HS1]; · iexact HS1
        iexact HS2
      isplitl [Hg]; · iexact Hg
      isplitl [Hq0 Hq1 Hq2]
      · isplitl [Hq0]; · iexact Hq0
        isplitl [Hq1]; · iexact Hq1
        iexact Hq2
      iexact Hh0
    isplitl [HW]
    · iexists _; isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦD osem0 spec0 H0 (V m) c := by
  rw [show (dats m 0 c).Φ (Fin.last cfg0.N) = PhiS m c cfg0.N le_rfl from rfl, PhiS_pos m c _ _ (by have : cfg0.N = 32 := N_0; omega), PhiD0_eq,
    owns_sc0, owns_sc1, owns_sc2]
  iintro ⟨⟨HS0, HS1, HS2⟩, Hg, ⟨Hq0, Hq1, Hq2⟩, Hh0⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2]
  · isplitl [Hq0]; · iexact Hq0
    isplitl [Hq1]; · iexact Hq1
    iexact Hq2
  iexact Hh0

set_option backward.isDefEq.respectTransparency.types false in
/-- The launch: every array ends at what the proof data compute, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, the counters at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.MidIdeal.Gen

end
-- ==== Proof.Frames.lean ====
/-
  The frames of every program (hand-written, untrusted). A kernel's frame is its generated run; a reference's is
  the run of its host operations.
-/
module

public import proofs.«01_k».proof.Defs
public import proofs.«01_k».proof.Proof.Gen.DhIdeal.Frame
public import proofs.«01_k».proof.Proof.Gen.Dh.Frame
public import proofs.«01_k».proof.Proof.Gen.Dh
public import proofs.«01_k».proof.Proof.Gen.DhRefIdeal.Run
public import proofs.«01_k».proof.Proof.Gen.InprojIdeal.Frame
public import proofs.«01_k».proof.Proof.Gen.Inproj.Frame
public import proofs.«01_k».proof.Proof.Gen.Inproj
public import proofs.«01_k».proof.Proof.Gen.InprojRefIdeal.Run
public import proofs.«01_k».proof.Proof.Gen.Gw32Ideal.Frame
public import proofs.«01_k».proof.Proof.Gen.Gw32.Frame
public import proofs.«01_k».proof.Proof.Gen.Gw32
public import proofs.«01_k».proof.Proof.Gen.Gw32RefIdeal.Run
public import proofs.«01_k».proof.Proof.Gen.Gw512Ideal.Frame
public import proofs.«01_k».proof.Proof.Gen.Gw512.Frame
public import proofs.«01_k».proof.Proof.Gen.Gw512
public import proofs.«01_k».proof.Proof.Gen.Gw512RefIdeal.Run
public import proofs.«01_k».proof.Proof.Gen.Gw1024Ideal.Frame
public import proofs.«01_k».proof.Proof.Gen.Gw1024.Frame
public import proofs.«01_k».proof.Proof.Gen.Gw1024
public import proofs.«01_k».proof.Proof.Gen.Gw1024RefIdeal.Run
public import proofs.«01_k».proof.Proof.Gen.Gw2048Ideal.Frame
public import proofs.«01_k».proof.Proof.Gen.Gw2048.Frame
public import proofs.«01_k».proof.Proof.Gen.Gw2048
public import proofs.«01_k».proof.Proof.Gen.Gw2048RefIdeal.Run
public import proofs.«01_k».proof.Proof.Gen.Gw3072Ideal.Frame
public import proofs.«01_k».proof.Proof.Gen.Gw3072.Frame
public import proofs.«01_k».proof.Proof.Gen.Gw3072
public import proofs.«01_k».proof.Proof.Gen.Gw3072RefIdeal.Run
public import proofs.«01_k».proof.Proof.MidIdealFrame
public import proofs.«01_k».proof.Proof.MidFrame
public import proofs.«01_k».proof.Proof.Gen.Mid
public import proofs.«01_k».proof.Proof.Gen.MidRefIdeal.Run
public import proofs.«01_k».proof.Proof.Gen.AdamInIdeal.Frame
public import proofs.«01_k».proof.Proof.Gen.AdamIn.Frame
public import proofs.«01_k».proof.Proof.Gen.AdamIn
public import proofs.«01_k».proof.Proof.Gen.AdamInRefIdeal.Run
public import proofs.«01_k».proof.Proof.Gen.AdamRowsIdeal.Frame
public import proofs.«01_k».proof.Proof.Gen.AdamRows.Frame
public import proofs.«01_k».proof.Proof.Gen.AdamRows
public import proofs.«01_k».proof.Proof.Gen.AdamRowsRefIdeal.Run
public import proofs.«01_k».proof.Proof.Gen.AdamAdaIdeal.Frame
public import proofs.«01_k».proof.Proof.Gen.AdamAda.Frame
public import proofs.«01_k».proof.Proof.Gen.AdamAda
public import proofs.«01_k».proof.Proof.Gen.AdamAdaRefIdeal.Run
public import proofs.«01_k».proof.Proof.Gen.AdamConvIdeal.Frame
public import proofs.«01_k».proof.Proof.Gen.AdamConv.Frame
public import proofs.«01_k».proof.Proof.Gen.AdamConv
public import proofs.«01_k».proof.Proof.Gen.AdamConvRefIdeal.Run
public import proofs.«01_k».proof.Proof.Gen.GwAdaIdeal.Frame
public import proofs.«01_k».proof.Proof.Gen.GwAda.Frame
public import proofs.«01_k».proof.Proof.Gen.GwAda
public import proofs.«01_k».proof.Proof.Gen.GwAdaRefIdeal.Run
public import Idealize.ShloMosaic.Lib.Tactic
public import Idealize.ShloMosaic.Lib.Quiescent
public import Idealize.ShloMosaic.Lib.StableHlo.Run

@[expose] public section

set_option maxRecDepth 16384

noncomputable section

open Idealize.ShloMosaic Idealize.ShloMosaic.TcCoe Idealize.SL.Sem

namespace Cert.Proof

theorem frame_Dh : Cert.quiescent_Dh := fun m ρ _ => Cert.Dh.Gen.frame (F := Bits) m ρ

theorem frame_DhIdeal : Cert.quiescent_DhIdeal := fun m ρ _ => Cert.DhIdeal.Gen.frame (F := Ideal) m ρ

/-- The reference's run: host operations only, so no semaphore is declared. -/
theorem frame_DhRefIdeal : Cert.quiescent_DhRefIdeal := fun m ρ _ =>
  (θ_run Cert.DhRefIdeal.defs _ _).mono (fun r h => ⟨fun c => (fun h => h.2.2.2.2) (h c), sem_eq_zero_of_no_sems (by decide) r.2⟩)
    (Cert.DhRefIdeal.Value.run m ρ)

theorem frame_Inproj : Cert.quiescent_Inproj := fun m ρ _ => Cert.Inproj.Gen.frame (F := Bits) m ρ

theorem frame_InprojIdeal : Cert.quiescent_InprojIdeal := fun m ρ _ => Cert.InprojIdeal.Gen.frame (F := Ideal) m ρ

/-- The reference's run: host operations only, so no semaphore is declared. -/
theorem frame_InprojRefIdeal : Cert.quiescent_InprojRefIdeal := fun m ρ _ =>
  (θ_run Cert.InprojRefIdeal.defs _ _).mono (fun r h => ⟨fun c => (fun h => h.2.2.2.2.2.2.2) (h c), sem_eq_zero_of_no_sems (by decide) r.2⟩)
    (Cert.InprojRefIdeal.Value.run m ρ)

theorem frame_Gw32 : Cert.quiescent_Gw32 := fun m ρ _ => Cert.Gw32.Gen.frame (F := Bits) m ρ

theorem frame_Gw32Ideal : Cert.quiescent_Gw32Ideal := fun m ρ _ => Cert.Gw32Ideal.Gen.frame (F := Ideal) m ρ

/-- The reference's run: host operations only, so no semaphore is declared. -/
theorem frame_Gw32RefIdeal : Cert.quiescent_Gw32RefIdeal := fun m ρ _ =>
  (θ_run Cert.Gw32RefIdeal.defs _ _).mono (fun r h => ⟨fun c => (fun h => h.2) (h c), sem_eq_zero_of_no_sems (by decide) r.2⟩)
    (Cert.Gw32RefIdeal.Value.run m ρ)

theorem frame_Gw512 : Cert.quiescent_Gw512 := fun m ρ _ => Cert.Gw512.Gen.frame (F := Bits) m ρ

theorem frame_Gw512Ideal : Cert.quiescent_Gw512Ideal := fun m ρ _ => Cert.Gw512Ideal.Gen.frame (F := Ideal) m ρ

/-- The reference's run: host operations only, so no semaphore is declared. -/
theorem frame_Gw512RefIdeal : Cert.quiescent_Gw512RefIdeal := fun m ρ _ =>
  (θ_run Cert.Gw512RefIdeal.defs _ _).mono (fun r h => ⟨fun c => (fun h => h.2) (h c), sem_eq_zero_of_no_sems (by decide) r.2⟩)
    (Cert.Gw512RefIdeal.Value.run m ρ)

theorem frame_Gw1024 : Cert.quiescent_Gw1024 := fun m ρ _ => Cert.Gw1024.Gen.frame (F := Bits) m ρ

theorem frame_Gw1024Ideal : Cert.quiescent_Gw1024Ideal := fun m ρ _ => Cert.Gw1024Ideal.Gen.frame (F := Ideal) m ρ

/-- The reference's run: host operations only, so no semaphore is declared. -/
theorem frame_Gw1024RefIdeal : Cert.quiescent_Gw1024RefIdeal := fun m ρ _ =>
  (θ_run Cert.Gw1024RefIdeal.defs _ _).mono (fun r h => ⟨fun c => (fun h => h.2) (h c), sem_eq_zero_of_no_sems (by decide) r.2⟩)
    (Cert.Gw1024RefIdeal.Value.run m ρ)

theorem frame_Gw2048 : Cert.quiescent_Gw2048 := fun m ρ _ => Cert.Gw2048.Gen.frame (F := Bits) m ρ

theorem frame_Gw2048Ideal : Cert.quiescent_Gw2048Ideal := fun m ρ _ => Cert.Gw2048Ideal.Gen.frame (F := Ideal) m ρ

/-- The reference's run: host operations only, so no semaphore is declared. -/
theorem frame_Gw2048RefIdeal : Cert.quiescent_Gw2048RefIdeal := fun m ρ _ =>
  (θ_run Cert.Gw2048RefIdeal.defs _ _).mono (fun r h => ⟨fun c => (fun h => h.2) (h c), sem_eq_zero_of_no_sems (by decide) r.2⟩)
    (Cert.Gw2048RefIdeal.Value.run m ρ)

theorem frame_Gw3072 : Cert.quiescent_Gw3072 := fun m ρ _ => Cert.Gw3072.Gen.frame (F := Bits) m ρ

theorem frame_Gw3072Ideal : Cert.quiescent_Gw3072Ideal := fun m ρ _ => Cert.Gw3072Ideal.Gen.frame (F := Ideal) m ρ

/-- The reference's run: host operations only, so no semaphore is declared. -/
theorem frame_Gw3072RefIdeal : Cert.quiescent_Gw3072RefIdeal := fun m ρ _ =>
  (θ_run Cert.Gw3072RefIdeal.defs _ _).mono (fun r h => ⟨fun c => (fun h => h.2) (h c), sem_eq_zero_of_no_sems (by decide) r.2⟩)
    (Cert.Gw3072RefIdeal.Value.run m ρ)

theorem frame_Mid : Cert.quiescent_Mid := fun m ρ _ => Cert.Mid.Gen.frame (F := Bits) m ρ

theorem frame_MidIdeal : Cert.quiescent_MidIdeal := fun m ρ _ => Cert.MidIdeal.Gen.frame (F := Ideal) m ρ

/-- The reference's run: host operations only, so no semaphore is declared. -/
theorem frame_MidRefIdeal : Cert.quiescent_MidRefIdeal := fun m ρ _ =>
  (θ_run Cert.MidRefIdeal.defs _ _).mono (fun r h => ⟨fun c => (fun h => h.2.2.2.2.2.2.2.2.2.2.2.2.2.2) (h c), sem_eq_zero_of_no_sems (by decide) r.2⟩)
    (Cert.MidRefIdeal.Value.run m ρ)

theorem frame_AdamIn : Cert.quiescent_AdamIn := fun m ρ _ => Cert.AdamIn.Gen.frame (F := Bits) m ρ

theorem frame_AdamInIdeal : Cert.quiescent_AdamInIdeal := fun m ρ _ => Cert.AdamInIdeal.Gen.frame (F := Ideal) m ρ

/-- The reference's run: host operations only, so no semaphore is declared. -/
theorem frame_AdamInRefIdeal : Cert.quiescent_AdamInRefIdeal := fun m ρ _ =>
  (θ_run Cert.AdamInRefIdeal.defs _ _).mono (fun r h => ⟨fun c => (fun h => h.2.2.2.2) (h c), sem_eq_zero_of_no_sems (by decide) r.2⟩)
    (Cert.AdamInRefIdeal.Value.run m ρ)

theorem frame_AdamRows : Cert.quiescent_AdamRows := fun m ρ _ => Cert.AdamRows.Gen.frame (F := Bits) m ρ

theorem frame_AdamRowsIdeal : Cert.quiescent_AdamRowsIdeal := fun m ρ _ => Cert.AdamRowsIdeal.Gen.frame (F := Ideal) m ρ

/-- The reference's run: host operations only, so no semaphore is declared. -/
theorem frame_AdamRowsRefIdeal : Cert.quiescent_AdamRowsRefIdeal := fun m ρ _ =>
  (θ_run Cert.AdamRowsRefIdeal.defs _ _).mono (fun r h => ⟨fun c => (fun h => h.2.2.2.2) (h c), sem_eq_zero_of_no_sems (by decide) r.2⟩)
    (Cert.AdamRowsRefIdeal.Value.run m ρ)

theorem frame_AdamAda : Cert.quiescent_AdamAda := fun m ρ _ => Cert.AdamAda.Gen.frame (F := Bits) m ρ

theorem frame_AdamAdaIdeal : Cert.quiescent_AdamAdaIdeal := fun m ρ _ => Cert.AdamAdaIdeal.Gen.frame (F := Ideal) m ρ

/-- The reference's run: host operations only, so no semaphore is declared. -/
theorem frame_AdamAdaRefIdeal : Cert.quiescent_AdamAdaRefIdeal := fun m ρ _ =>
  (θ_run Cert.AdamAdaRefIdeal.defs _ _).mono (fun r h => ⟨fun c => (fun h => h.2.2.2.2) (h c), sem_eq_zero_of_no_sems (by decide) r.2⟩)
    (Cert.AdamAdaRefIdeal.Value.run m ρ)

theorem frame_AdamConv : Cert.quiescent_AdamConv := fun m ρ _ => Cert.AdamConv.Gen.frame (F := Bits) m ρ

theorem frame_AdamConvIdeal : Cert.quiescent_AdamConvIdeal := fun m ρ _ => Cert.AdamConvIdeal.Gen.frame (F := Ideal) m ρ

/-- The reference's run: host operations only, so no semaphore is declared. -/
theorem frame_AdamConvRefIdeal : Cert.quiescent_AdamConvRefIdeal := fun m ρ _ =>
  (θ_run Cert.AdamConvRefIdeal.defs _ _).mono (fun r h => ⟨fun c => (fun h => h.2.2.2.2) (h c), sem_eq_zero_of_no_sems (by decide) r.2⟩)
    (Cert.AdamConvRefIdeal.Value.run m ρ)

theorem frame_GwAda : Cert.quiescent_GwAda := fun m ρ _ => Cert.GwAda.Gen.frame (F := Bits) m ρ

theorem frame_GwAdaIdeal : Cert.quiescent_GwAdaIdeal := fun m ρ _ => Cert.GwAdaIdeal.Gen.frame (F := Ideal) m ρ

/-- The reference's run: host operations only, so no semaphore is declared. -/
theorem frame_GwAdaRefIdeal : Cert.quiescent_GwAdaRefIdeal := fun m ρ _ =>
  (θ_run Cert.GwAdaRefIdeal.defs _ _).mono (fun r h => ⟨fun c => (fun h => h.2) (h c), sem_eq_zero_of_no_sems (by decide) r.2⟩)
    (Cert.GwAdaRefIdeal.Value.run m ρ)

end Cert.Proof

end
-- ==== Proof.Sums.lean ====
/-
  Sums over rows cut into equal tiles, shared by the value proofs of this directory (hand-written, untrusted).
-/
module

public import Mathlib.Algebra.BigOperators.Fin
public import Mathlib.Logic.Equiv.Fin.Basic

@[expose] public section

namespace Cert.Sums

/-- A sum over `n * t` rows is the sum over the `n` tiles of the sums over each tile's `t` rows. -/
theorem sum_tiles {M : Type*} [AddCommMonoid M] (n t : ℕ) (f : ℕ → M) :
    ∑ s ∈ Finset.range n, ∑ r : Fin t, f (t * s + r.val) = ∑ k : Fin (n * t), f k.val := by
  rw [Finset.sum_range, ← (finProdFinEquiv (m := n) (n := t)).sum_comp, Fintype.sum_prod_type]
  refine Finset.sum_congr rfl fun s _ => Finset.sum_congr rfl fun r _ => ?_
  congr 1
  simp [finProdFinEquiv, Nat.add_comm]

/-- A sum over the columns of the combined projection, cut into its six streams. -/
theorem sum_six {M : Type*} [AddCommMonoid M] (f : Fin 9760 → M) :
    ∑ q, f q = (∑ j : Fin 1024, f ⟨j.val, by have := j.isLt; omega⟩) + (∑ j : Fin 512, f ⟨1024 + j.val, by have := j.isLt; omega⟩)
      + (∑ j : Fin 3072, f ⟨1536 + j.val, by have := j.isLt; omega⟩) + (∑ j : Fin 3072, f ⟨4608 + j.val, by have := j.isLt; omega⟩)
      + (∑ j : Fin 32, f ⟨7680 + j.val, by have := j.isLt; omega⟩) + ∑ j : Fin 2048, f ⟨7712 + j.val, by have := j.isLt; omega⟩ := by
  refine (Fin.sum_univ_add (a := 7712) (b := 2048) f).trans (congrArg₂ (· + ·) ?_ rfl)
  refine (Fin.sum_univ_add (a := 7680) (b := 32) _).trans (congrArg₂ (· + ·) ?_ rfl)
  refine (Fin.sum_univ_add (a := 4608) (b := 3072) _).trans (congrArg₂ (· + ·) ?_ rfl)
  refine (Fin.sum_univ_add (a := 1536) (b := 3072) _).trans (congrArg₂ (· + ·) ?_ rfl)
  exact (Fin.sum_univ_add (a := 1024) (b := 512) _).trans (congrArg₂ (· + ·) rfl rfl)

end Cert.Sums
-- ==== Proof.Gw32.lean ====
/-
  The value of the weight gradient of width 32 (hand-written, untrusted): the kernel adds, for every block of 32 columns
  of the cotangent, the products of its four row tiles into a scratch array, and stores the sum at the last one. Over the
  extended reals that is the sum over all 8192 rows, as in the reference's one product.
-/
module

public import proofs.«01_k».proof.Proof.Sums
public import proofs.«01_k».proof.Proof.Gen.Gw32Ideal.Value
public import proofs.«01_k».proof.Proof.Gen.Gw32RefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Gw32Ideal.Sum

open Cert.Gw32Ideal Cert.Gw32Ideal.Gen Cert.Gw32Ideal.Value

section Body
variable {F : FTy → Type} [FloatOps F]

theorem hz : (![0, 0] : Fin 2 → Nat) = fun _ => 0 := funext fun a => by fin_cases a <;> rfl

/-- First row tile: the scratch array is left at the zero block plus the tile's product. -/
theorem scratch_A (c : Dev nD) (i : grid0.Coords) (a2 : Memref sig .tc .vmem S2048x1024 .bf16) (h2 : a2.IsWhole) (a3 : Memref sig .tc .vmem S2048x32 .bf16) (h3 : a3.IsWhole)
    (a4 : Memref sig .tc .vmem S32x1024 .bf16) (h4 : a4.IsWhole) (a5 : Memref sig .tc .vmem S32x1024 .f32) (h5 : a5.IsWhole) (hc0 : cond0_0 i) (hc1 : ¬cond0_1 i)
    (x0 : Vec F S2048x1024 .bf16) (x1 : Vec F S2048x32 .bf16) :
    sout0_A_0 c i a2 h2 a3 h3 a4 h4 a5 h5 hc0 hc1 x0 x1 = k0_pay2 k0_pay1 x1 x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S32x1024) hz, View.readCov_unit_zero (S := S32x1024) _ hz]
  simp only [View.readAt_eq_ld, h2.read_unread, h3.read_unread, View.ld_unit_zero (S := S2048x1024) hz, View.ld_unit_zero (S := S2048x32) hz]

/-- A middle row tile: the tile's product is added to what the scratch array held. -/
theorem scratch_B (c : Dev nD) (i : grid0.Coords) (a2 : Memref sig .tc .vmem S2048x1024 .bf16) (h2 : a2.IsWhole) (a3 : Memref sig .tc .vmem S2048x32 .bf16) (h3 : a3.IsWhole)
    (a4 : Memref sig .tc .vmem S32x1024 .bf16) (h4 : a4.IsWhole) (a5 : Memref sig .tc .vmem S32x1024 .f32) (h5 : a5.IsWhole) (hc0 : ¬cond0_0 i) (hc1 : ¬cond0_1 i)
    (x0 : Vec F S2048x1024 .bf16) (x1 : Vec F S2048x32 .bf16) (xs : Vec F S32x1024 .f32) :
    sout0_B_0 c i a2 h2 a3 h3 a4 h4 a5 h5 hc0 hc1 x0 x1 xs = k0_pay2 xs x1 x0 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz, View.ld_unit_zero (S := S2048x32) hz, View.ld_unit_zero (S := S32x1024) hz]

/-- The last row tile, the scratch array: as in the middle. -/
theorem scratch_C (c : Dev nD) (i : grid0.Coords) (a2 : Memref sig .tc .vmem S2048x1024 .bf16) (h2 : a2.IsWhole) (a3 : Memref sig .tc .vmem S2048x32 .bf16) (h3 : a3.IsWhole)
    (a4 : Memref sig .tc .vmem S32x1024 .bf16) (h4 : a4.IsWhole) (a5 : Memref sig .tc .vmem S32x1024 .f32) (h5 : a5.IsWhole) (hc0 : ¬cond0_0 i) (hc1 : cond0_1 i)
    (x0 : Vec F S2048x1024 .bf16) (x1 : Vec F S2048x32 .bf16) (xs : Vec F S32x1024 .f32) :
    sout0_C_0 c i a2 h2 a3 h3 a4 h4 a5 h5 hc0 hc1 x0 x1 xs = k0_pay2 xs x1 x0 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x1024) hz, View.ld_unit_zero (S := S2048x32) hz, View.ld_unit_zero (S := S32x1024) hz]

/-- The last row tile, the output block: the scratch array's final contents, rounded. -/
theorem out_C (c : Dev nD) (i : grid0.Coords) (a2 : Memref sig .tc .vmem S2048x1024 .bf16) (h2 : a2.IsWhole) (a3 : Memref sig .tc .vmem S2048x32 .bf16) (h3 : a3.IsWhole)
    (a4 : Memref sig .tc .vmem S32x1024 .bf16) (h4 : a4.IsWhole) (a5 : Memref sig .tc .vmem S32x1024 .f32) (h5 : a5.IsWhole) (hc0 : ¬cond0_0 i) (hc1 : cond0_1 i)
    (x0 : Vec F S2048x1024 .bf16) (x1 : Vec F S2048x32 .bf16) (xs : Vec F S32x1024 .f32) :
    out0_C_2 c i a2 h2 a3 h3 a4 h4 a5 h5 hc0 hc1 x0 x1 xs = k0_pay3 (k0_pay2 xs x1 x0) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S32x1024) _ hz]
  simp only [View.readAt_eq_ld, h2.read_unread, h3.read_unread, h5.read_unread, View.ld_unit_zero (S := S2048x1024) hz, View.ld_unit_zero (S := S2048x32) hz, View.ld_unit_zero (S := S32x1024) hz]

end Body

variable (m : (ℓ : Loc nD τ sig) → Buf (Elt Ideal) ℓ) (ρ : Dev nD → PrngReg)

/-- Which block each grid point reads: row tile `t % 4` of both arrays, column block `t / 4` of the cotangent. -/
theorem idx_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The two arguments and the result as plain arrays of extended reals. -/
abbrev hArr (c : Dev nD) : S8192x1024.Idx → EReal := m ((c : Thread nD τ).loc main_arg0)
abbrev dArr (c : Dev nD) : S8192x32.Idx → EReal := m ((c : Thread nD τ).loc main_arg1)
abbrev result (c : Dev nD) : S32x1024.Idx → EReal := G2 m c

/-- The normalised input's entry in row `k`, as a function of every natural `k`. -/
def hAt (c : Dev nD) (k : ℕ) (j : Fin 1024) : EReal :=
  if h : k < 8192 then hArr m c (ix2 (⟨k, h⟩ : Fin 8192) j) else 0
/-- The cotangent's entry in row `k` and column `q`. -/
def dAt (c : Dev nD) (k q : ℕ) : EReal :=
  if h : k < 8192 ∧ q < 32 then dArr m c (ix2 (⟨k, h.1⟩ : Fin 8192) (⟨q, h.2⟩ : Fin 32)) else 0

theorem iblk0_apply (c : Dev nD) (t : Fin cfg0.N) (r : Fin 2048) (j : Fin 1024) :
    iblk m c 0 t (ix2 r j : S2048x1024.Idx) = hAt m c (2048 * (t.val % 4) + r.val) j := by
  obtain ⟨e0, e1, -, -⟩ := idx_in t
  have hr := r.isLt; have hm : t.val % 4 < 4 := Nat.mod_lt _ (by decide)
  unfold hAt
  rw [dif_pos (by omega)]; unfold hArr; rw [← V_main_arg0 m c]
  show V m c main_arg0 (((cfg0.win 0).blk t).view.emb (ix2 r j : S2048x1024.Idx)) = _
  congr 1
  funext a; apply Fin.ext
  match a with
  | ⟨0, _⟩ => show win0_0.index t (0 : Fin 2) * 2048 + 1 * r.val = 2048 * (t.val % 4) + r.val; rw [e0]; omega
  | ⟨1, _⟩ => show win0_0.index t (1 : Fin 2) * 1024 + 1 * j.val = j.val; rw [e1]; omega

theorem iblk1_apply (c : Dev nD) (t : Fin cfg0.N) (r : Fin 2048) (q : Fin 32) :
    iblk m c 1 t (ix2 r q : S2048x32.Idx) = dAt m c (2048 * (t.val % 4) + r.val) (32 * (t.val / 4) + q.val) := by
  obtain ⟨-, -, e0, e1⟩ := idx_in t
  have hN : t.val < 4 := lt_of_lt_of_eq t.isLt N_0
  have hr := r.isLt; have hq := q.isLt; have hm : t.val % 4 < 4 := Nat.mod_lt _ (by decide)
  have hd : t.val / 4 < 1 := by omega
  unfold dAt
  rw [dif_pos ⟨by omega, by omega⟩]; unfold dArr; rw [← V_main_arg1 m c]
  show V m c main_arg1 (((cfg0.win 1).blk t).view.emb (ix2 r q : S2048x32.Idx)) = _
  congr 1
  funext a; apply Fin.ext
  match a with
  | ⟨0, _⟩ => show win0_1.index t (0 : Fin 2) * 2048 + 1 * r.val = 2048 * (t.val % 4) + r.val; rw [e0]; omega
  | ⟨1, _⟩ => show win0_1.index t (1 : Fin 2) * 32 + 1 * q.val = 32 * (t.val / 4) + q.val; rw [e1]; omega

/-- The product of row tile `n % 4`, at column block `n / 4`. -/
def tile (c : Dev nD) (n : ℕ) : S32x1024.Idx → EReal := fun i =>
  ∑ r : Fin 2048, dAt m c (2048 * (n % 4) + r.val) (32 * (n / 4) + (i 0).val) * hAt m c (2048 * (n % 4) + r.val) (i 1)

/-- One point's step, at an index: the tile's product added to what the scratch array held. -/
theorem step_apply (c : Dev nD) (t : Fin cfg0.N) (acc : S32x1024.Idx → EReal) (i : S32x1024.Idx) :
    k0_pay2 (F := Ideal) acc (iblk m c 1 t) (iblk m c 0 t) i = acc i + tile m c t.val i := by
  idx_vars i
  unfold tile
  pointwise [k0_pay2]
  congr 1
  refine Finset.sum_congr rfl fun r _ => ?_
  erw [iblk0_apply m c t r, iblk1_apply m c t r]

theorem zero_apply (i : S32x1024.Idx) : k0_pay1 (F := Ideal) i = 0 := by
  idx_vars i
  pointwise [k0_pay1]

/-- After the last row tile of a column block the scratch array holds the sum over the four tiles. -/
theorem scratch_last (c : Dev nD) (t : Fin cfg0.N) (h3 : t.val % 4 = 3) (i : S32x1024.Idx) :
    (outsAt0 m c t.val t.isLt).2 i = ∑ s ∈ Finset.range 4, tile m c (4 * (t.val / 4) + s) i := by
  rw [soutsAt0_0_eq m c t]
  rw [Pipeline.accAt_add_apply _ _ (fun _ => (0 : EReal)) (tile m c) (4 * (t.val / 4)) 3 ?_ ?_ (t.val % 4) (by omega), zero_add, h3]
  · intro h j
    have h0 : 4 * (t.val / 4) % 4 = 0 := by omega
    show scAt0_0 m c (4 * (t.val / 4)) h _ j = _
    unfold scAt0_0
    rw [dif_pos h0, dif_neg (by omega), scratch_A, step_apply m c ⟨_, h⟩, zero_apply]
  · intro n h acc j hb he
    have h0 : ¬n % 4 = 0 := by omega
    unfold scAt0_0
    rw [dif_neg h0]
    by_cases h1 : n % 4 = 3
    · rw [dif_pos h1, scratch_C, step_apply m c ⟨_, h⟩]
    · rw [dif_neg h1, scratch_B, step_apply m c ⟨_, h⟩]

/-- At the last row tile the output block is the scratch array. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [out_C, scratch_C]
  funext i
  idx_vars i
  pointwise [k0_pay3]

/-- The result array, at an index: the sum over all rows of the products. -/
theorem result_apply (c : Dev nD) (q : Fin 32) (j : Fin 1024) :
    result m c (ix2 q j)
      = ∑ k : Fin 8192, dArr m c (ix2 k q) * hArr m c (ix2 k j) := by
  have hq := q.isLt; have hj := j.isLt
  have hr : run2Of (ix2 q j : S32x1024.Idx) = q.val / 32 := by
    show 1 * (q.val / 32 - 0) + 1 * (j.val / 1024 - 0) = _
    omega
  have hp : pt2Of (ix2 q j : S32x1024.Idx) = 4 * (q.val / 32) + 3 := by unfold pt2Of; rw [hr]
  have hlt : 4 * (q.val / 32) + 3 < cfg0.N := lt_of_lt_of_eq (by omega) N_0.symm
  unfold result G2
  rw [dif_pos (by rw [hp]; exact hlt), fold0_congr m c _ _ _ (by omega) hp, ← outsAt0_sweep m c _ hlt]
  have h3 : (4 * (q.val / 32) + 3) % 4 = 3 := by omega
  rw [out_eq_scratch m c ⟨_, hlt⟩ h3, scratch_last m c ⟨_, hlt⟩ h3]
  have hd : (4 * (q.val / 32) + 3) / 4 = q.val / 32 := by omega
  dsimp only
  rw [hd]
  unfold tile
  have e := Cert.Sums.sum_tiles 4 2048 (fun k => dAt m c k q.val * hAt m c k j)
  refine Eq.trans (Finset.sum_congr rfl fun s hs => Finset.sum_congr rfl fun r _ => ?_) (e.trans (Finset.sum_congr rfl fun k _ => ?_))
  · have hs4 : s < 4 := Finset.mem_range.mp hs
    have h1 : (4 * (q.val / 32) + s) % 4 = s := by omega
    have h2 : (4 * (q.val / 32) + s) / 4 = q.val / 32 := by omega
    have h4 : 32 * (q.val / 32) + (loc2Of (ix2 q j : S32x1024.Idx) 0).val = q.val := by
      show 32 * (q.val / 32) + q.val % 32 = q.val
      omega
    have h5 : (loc2Of (ix2 q j : S32x1024.Idx) 1 : Fin 1024) = j := by
      apply Fin.ext
      show j.val % 1024 = j.val
      omega
    rw [h1, h2, h4]
    exact congrArg (fun z => _ * hAt m c _ z) h5
  · have hk : k.val < 8192 := k.isLt
    show dAt m c k.val q.val * hAt m c k.val j = _
    unfold dAt hAt
    rw [dif_pos ⟨hk, hq⟩, dif_pos hk]

end Cert.Gw32Ideal.Sum

end
-- ==== Proof.Gw512.lean ====
/-
  The value of the weight gradient of width 512 (hand-written, untrusted): the kernel adds, for every block of 512 columns
  of the cotangent, the products of its four row tiles into a scratch array, and stores the sum at the last one. Over the
  extended reals that is the sum over all 8192 rows, as in the reference's one product.
-/
module

public import proofs.«01_k».proof.Proof.Sums
public import proofs.«01_k».proof.Proof.Gen.Gw512Ideal.Value
public import proofs.«01_k».proof.Proof.Gen.Gw512RefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Gw512Ideal.Sum

open Cert.Gw512Ideal Cert.Gw512Ideal.Gen Cert.Gw512Ideal.Value

section Body
variable {F : FTy → Type} [FloatOps F]

theorem hz : (![0, 0] : Fin 2 → Nat) = fun _ => 0 := funext fun a => by fin_cases a <;> rfl

/-- First row tile: the scratch array is left at the zero block plus the tile's product. -/
theorem scratch_A (c : Dev nD) (i : grid0.Coords) (a2 : Memref sig .tc .vmem S2048x1024 .bf16) (h2 : a2.IsWhole) (a3 : Memref sig .tc .vmem S2048x512 .bf16) (h3 : a3.IsWhole)
    (a4 : Memref sig .tc .vmem S512x1024 .bf16) (h4 : a4.IsWhole) (a5 : Memref sig .tc .vmem S512x1024 .f32) (h5 : a5.IsWhole) (hc0 : cond0_0 i) (hc1 : ¬cond0_1 i)
    (x0 : Vec F S2048x1024 .bf16) (x1 : Vec F S2048x512 .bf16) :
    sout0_A_0 c i a2 h2 a3 h3 a4 h4 a5 h5 hc0 hc1 x0 x1 = k0_pay2 k0_pay1 x1 x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1024) hz, View.readCov_unit_zero (S := S512x1024) _ hz]
  simp only [View.readAt_eq_ld, h2.read_unread, h3.read_unread, View.ld_unit_zero (S := S2048x1024) hz, View.ld_unit_zero (S := S2048x512) hz]

/-- A middle row tile: the tile's product is added to what the scratch array held. -/
theorem scratch_B (c : Dev nD) (i : grid0.Coords) (a2 : Memref sig .tc .vmem S2048x1024 .bf16) (h2 : a2.IsWhole) (a3 : Memref sig .tc .vmem S2048x512 .bf16) (h3 : a3.IsWhole)
    (a4 : Memref sig .tc .vmem S512x1024 .bf16) (h4 : a4.IsWhole) (a5 : Memref sig .tc .vmem S512x1024 .f32) (h5 : a5.IsWhole) (hc0 : ¬cond0_0 i) (hc1 : ¬cond0_1 i)
    (x0 : Vec F S2048x1024 .bf16) (x1 : Vec F S2048x512 .bf16) (xs : Vec F S512x1024 .f32) :
    sout0_B_0 c i a2 h2 a3 h3 a4 h4 a5 h5 hc0 hc1 x0 x1 xs = k0_pay2 xs x1 x0 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz, View.ld_unit_zero (S := S2048x512) hz, View.ld_unit_zero (S := S512x1024) hz]

/-- The last row tile, the scratch array: as in the middle. -/
theorem scratch_C (c : Dev nD) (i : grid0.Coords) (a2 : Memref sig .tc .vmem S2048x1024 .bf16) (h2 : a2.IsWhole) (a3 : Memref sig .tc .vmem S2048x512 .bf16) (h3 : a3.IsWhole)
    (a4 : Memref sig .tc .vmem S512x1024 .bf16) (h4 : a4.IsWhole) (a5 : Memref sig .tc .vmem S512x1024 .f32) (h5 : a5.IsWhole) (hc0 : ¬cond0_0 i) (hc1 : cond0_1 i)
    (x0 : Vec F S2048x1024 .bf16) (x1 : Vec F S2048x512 .bf16) (xs : Vec F S512x1024 .f32) :
    sout0_C_0 c i a2 h2 a3 h3 a4 h4 a5 h5 hc0 hc1 x0 x1 xs = k0_pay2 xs x1 x0 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x1024) hz, View.ld_unit_zero (S := S2048x512) hz, View.ld_unit_zero (S := S512x1024) hz]

/-- The last row tile, the output block: the scratch array's final contents, rounded. -/
theorem out_C (c : Dev nD) (i : grid0.Coords) (a2 : Memref sig .tc .vmem S2048x1024 .bf16) (h2 : a2.IsWhole) (a3 : Memref sig .tc .vmem S2048x512 .bf16) (h3 : a3.IsWhole)
    (a4 : Memref sig .tc .vmem S512x1024 .bf16) (h4 : a4.IsWhole) (a5 : Memref sig .tc .vmem S512x1024 .f32) (h5 : a5.IsWhole) (hc0 : ¬cond0_0 i) (hc1 : cond0_1 i)
    (x0 : Vec F S2048x1024 .bf16) (x1 : Vec F S2048x512 .bf16) (xs : Vec F S512x1024 .f32) :
    out0_C_2 c i a2 h2 a3 h3 a4 h4 a5 h5 hc0 hc1 x0 x1 xs = k0_pay3 (k0_pay2 xs x1 x0) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S512x1024) _ hz]
  simp only [View.readAt_eq_ld, h2.read_unread, h3.read_unread, h5.read_unread, View.ld_unit_zero (S := S2048x1024) hz, View.ld_unit_zero (S := S2048x512) hz, View.ld_unit_zero (S := S512x1024) hz]

end Body

variable (m : (ℓ : Loc nD τ sig) → Buf (Elt Ideal) ℓ) (ρ : Dev nD → PrngReg)

/-- Which block each grid point reads: row tile `t % 4` of both arrays, column block `t / 4` of the cotangent. -/
theorem idx_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The two arguments and the result as plain arrays of extended reals. -/
abbrev hArr (c : Dev nD) : S8192x1024.Idx → EReal := m ((c : Thread nD τ).loc main_arg0)
abbrev dArr (c : Dev nD) : S8192x512.Idx → EReal := m ((c : Thread nD τ).loc main_arg1)
abbrev result (c : Dev nD) : S512x1024.Idx → EReal := G2 m c

/-- The normalised input's entry in row `k`, as a function of every natural `k`. -/
def hAt (c : Dev nD) (k : ℕ) (j : Fin 1024) : EReal :=
  if h : k < 8192 then hArr m c (ix2 (⟨k, h⟩ : Fin 8192) j) else 0
/-- The cotangent's entry in row `k` and column `q`. -/
def dAt (c : Dev nD) (k q : ℕ) : EReal :=
  if h : k < 8192 ∧ q < 512 then dArr m c (ix2 (⟨k, h.1⟩ : Fin 8192) (⟨q, h.2⟩ : Fin 512)) else 0

theorem iblk0_apply (c : Dev nD) (t : Fin cfg0.N) (r : Fin 2048) (j : Fin 1024) :
    iblk m c 0 t (ix2 r j : S2048x1024.Idx) = hAt m c (2048 * (t.val % 4) + r.val) j := by
  obtain ⟨e0, e1, -, -⟩ := idx_in t
  have hr := r.isLt; have hm : t.val % 4 < 4 := Nat.mod_lt _ (by decide)
  unfold hAt
  rw [dif_pos (by omega)]; unfold hArr; rw [← V_main_arg0 m c]
  show V m c main_arg0 (((cfg0.win 0).blk t).view.emb (ix2 r j : S2048x1024.Idx)) = _
  congr 1
  funext a; apply Fin.ext
  match a with
  | ⟨0, _⟩ => show win0_0.index t (0 : Fin 2) * 2048 + 1 * r.val = 2048 * (t.val % 4) + r.val; rw [e0]; omega
  | ⟨1, _⟩ => show win0_0.index t (1 : Fin 2) * 1024 + 1 * j.val = j.val; rw [e1]; omega

theorem iblk1_apply (c : Dev nD) (t : Fin cfg0.N) (r : Fin 2048) (q : Fin 512) :
    iblk m c 1 t (ix2 r q : S2048x512.Idx) = dAt m c (2048 * (t.val % 4) + r.val) (512 * (t.val / 4) + q.val) := by
  obtain ⟨-, -, e0, e1⟩ := idx_in t
  have hN : t.val < 4 := lt_of_lt_of_eq t.isLt N_0
  have hr := r.isLt; have hq := q.isLt; have hm : t.val % 4 < 4 := Nat.mod_lt _ (by decide)
  have hd : t.val / 4 < 1 := by omega
  unfold dAt
  rw [dif_pos ⟨by omega, by omega⟩]; unfold dArr; rw [← V_main_arg1 m c]
  show V m c main_arg1 (((cfg0.win 1).blk t).view.emb (ix2 r q : S2048x512.Idx)) = _
  congr 1
  funext a; apply Fin.ext
  match a with
  | ⟨0, _⟩ => show win0_1.index t (0 : Fin 2) * 2048 + 1 * r.val = 2048 * (t.val % 4) + r.val; rw [e0]; omega
  | ⟨1, _⟩ => show win0_1.index t (1 : Fin 2) * 512 + 1 * q.val = 512 * (t.val / 4) + q.val; rw [e1]; omega

/-- The product of row tile `n % 4`, at column block `n / 4`. -/
def tile (c : Dev nD) (n : ℕ) : S512x1024.Idx → EReal := fun i =>
  ∑ r : Fin 2048, dAt m c (2048 * (n % 4) + r.val) (512 * (n / 4) + (i 0).val) * hAt m c (2048 * (n % 4) + r.val) (i 1)

/-- One point's step, at an index: the tile's product added to what the scratch array held. -/
theorem step_apply (c : Dev nD) (t : Fin cfg0.N) (acc : S512x1024.Idx → EReal) (i : S512x1024.Idx) :
    k0_pay2 (F := Ideal) acc (iblk m c 1 t) (iblk m c 0 t) i = acc i + tile m c t.val i := by
  idx_vars i
  unfold tile
  pointwise [k0_pay2]
  congr 1
  refine Finset.sum_congr rfl fun r _ => ?_
  erw [iblk0_apply m c t r, iblk1_apply m c t r]

theorem zero_apply (i : S512x1024.Idx) : k0_pay1 (F := Ideal) i = 0 := by
  idx_vars i
  pointwise [k0_pay1]

/-- After the last row tile of a column block the scratch array holds the sum over the four tiles. -/
theorem scratch_last (c : Dev nD) (t : Fin cfg0.N) (h3 : t.val % 4 = 3) (i : S512x1024.Idx) :
    (outsAt0 m c t.val t.isLt).2 i = ∑ s ∈ Finset.range 4, tile m c (4 * (t.val / 4) + s) i := by
  rw [soutsAt0_0_eq m c t]
  rw [Pipeline.accAt_add_apply _ _ (fun _ => (0 : EReal)) (tile m c) (4 * (t.val / 4)) 3 ?_ ?_ (t.val % 4) (by omega), zero_add, h3]
  · intro h j
    have h0 : 4 * (t.val / 4) % 4 = 0 := by omega
    show scAt0_0 m c (4 * (t.val / 4)) h _ j = _
    unfold scAt0_0
    rw [dif_pos h0, dif_neg (by omega), scratch_A, step_apply m c ⟨_, h⟩, zero_apply]
  · intro n h acc j hb he
    have h0 : ¬n % 4 = 0 := by omega
    unfold scAt0_0
    rw [dif_neg h0]
    by_cases h1 : n % 4 = 3
    · rw [dif_pos h1, scratch_C, step_apply m c ⟨_, h⟩]
    · rw [dif_neg h1, scratch_B, step_apply m c ⟨_, h⟩]

/-- At the last row tile the output block is the scratch array. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [out_C, scratch_C]
  funext i
  idx_vars i
  pointwise [k0_pay3]

/-- The result array, at an index: the sum over all rows of the products. -/
theorem result_apply (c : Dev nD) (q : Fin 512) (j : Fin 1024) :
    result m c (ix2 q j)
      = ∑ k : Fin 8192, dArr m c (ix2 k q) * hArr m c (ix2 k j) := by
  have hq := q.isLt; have hj := j.isLt
  have hr : run2Of (ix2 q j : S512x1024.Idx) = q.val / 512 := by
    show 1 * (q.val / 512 - 0) + 1 * (j.val / 1024 - 0) = _
    omega
  have hp : pt2Of (ix2 q j : S512x1024.Idx) = 4 * (q.val / 512) + 3 := by unfold pt2Of; rw [hr]
  have hlt : 4 * (q.val / 512) + 3 < cfg0.N := lt_of_lt_of_eq (by omega) N_0.symm
  unfold result G2
  rw [dif_pos (by rw [hp]; exact hlt), fold0_congr m c _ _ _ (by omega) hp, ← outsAt0_sweep m c _ hlt]
  have h3 : (4 * (q.val / 512) + 3) % 4 = 3 := by omega
  rw [out_eq_scratch m c ⟨_, hlt⟩ h3, scratch_last m c ⟨_, hlt⟩ h3]
  have hd : (4 * (q.val / 512) + 3) / 4 = q.val / 512 := by omega
  dsimp only
  rw [hd]
  unfold tile
  have e := Cert.Sums.sum_tiles 4 2048 (fun k => dAt m c k q.val * hAt m c k j)
  refine Eq.trans (Finset.sum_congr rfl fun s hs => Finset.sum_congr rfl fun r _ => ?_) (e.trans (Finset.sum_congr rfl fun k _ => ?_))
  · have hs4 : s < 4 := Finset.mem_range.mp hs
    have h1 : (4 * (q.val / 512) + s) % 4 = s := by omega
    have h2 : (4 * (q.val / 512) + s) / 4 = q.val / 512 := by omega
    have h4 : 512 * (q.val / 512) + (loc2Of (ix2 q j : S512x1024.Idx) 0).val = q.val := by
      show 512 * (q.val / 512) + q.val % 512 = q.val
      omega
    have h5 : (loc2Of (ix2 q j : S512x1024.Idx) 1 : Fin 1024) = j := by
      apply Fin.ext
      show j.val % 1024 = j.val
      omega
    rw [h1, h2, h4]
    exact congrArg (fun z => _ * hAt m c _ z) h5
  · have hk : k.val < 8192 := k.isLt
    show dAt m c k.val q.val * hAt m c k.val j = _
    unfold dAt hAt
    rw [dif_pos ⟨hk, hq⟩, dif_pos hk]

end Cert.Gw512Ideal.Sum

end
-- ==== Proof.Gw1024.lean ====
/-
  The value of the weight gradient of width 1024 (hand-written, untrusted): the kernel adds, for every block of 1024 columns
  of the cotangent, the products of its four row tiles into a scratch array, and stores the sum at the last one. Over the
  extended reals that is the sum over all 8192 rows, as in the reference's one product.
-/
module

public import proofs.«01_k».proof.Proof.Sums
public import proofs.«01_k».proof.Proof.Gen.Gw1024Ideal.Value
public import proofs.«01_k».proof.Proof.Gen.Gw1024RefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Gw1024Ideal.Sum

open Cert.Gw1024Ideal Cert.Gw1024Ideal.Gen Cert.Gw1024Ideal.Value

section Body
variable {F : FTy → Type} [FloatOps F]

theorem hz : (![0, 0] : Fin 2 → Nat) = fun _ => 0 := funext fun a => by fin_cases a <;> rfl

/-- First row tile: the scratch array is left at the zero block plus the tile's product. -/
theorem scratch_A (c : Dev nD) (i : grid0.Coords) (a2 : Memref sig .tc .vmem S2048x1024 .bf16) (h2 : a2.IsWhole) (a3 : Memref sig .tc .vmem S2048x1024 .bf16) (h3 : a3.IsWhole)
    (a4 : Memref sig .tc .vmem S1024x1024 .bf16) (h4 : a4.IsWhole) (a5 : Memref sig .tc .vmem S1024x1024 .f32) (h5 : a5.IsWhole) (hc0 : cond0_0 i) (hc1 : ¬cond0_1 i)
    (x0 : Vec F S2048x1024 .bf16) (x1 : Vec F S2048x1024 .bf16) :
    sout0_A_0 c i a2 h2 a3 h3 a4 h4 a5 h5 hc0 hc1 x0 x1 = k0_pay2 k0_pay1 x1 x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S2048x1024) hz, View.ld_unit_zero (S := S2048x1024) hz]

/-- A middle row tile: the tile's product is added to what the scratch array held. -/
theorem scratch_B (c : Dev nD) (i : grid0.Coords) (a2 : Memref sig .tc .vmem S2048x1024 .bf16) (h2 : a2.IsWhole) (a3 : Memref sig .tc .vmem S2048x1024 .bf16) (h3 : a3.IsWhole)
    (a4 : Memref sig .tc .vmem S1024x1024 .bf16) (h4 : a4.IsWhole) (a5 : Memref sig .tc .vmem S1024x1024 .f32) (h5 : a5.IsWhole) (hc0 : ¬cond0_0 i) (hc1 : ¬cond0_1 i)
    (x0 : Vec F S2048x1024 .bf16) (x1 : Vec F S2048x1024 .bf16) (xs : Vec F S1024x1024 .f32) :
    sout0_B_0 c i a2 h2 a3 h3 a4 h4 a5 h5 hc0 hc1 x0 x1 xs = k0_pay2 xs x1 x0 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz, View.ld_unit_zero (S := S2048x1024) hz, View.ld_unit_zero (S := S1024x1024) hz]

/-- The last row tile, the scratch array: as in the middle. -/
theorem scratch_C (c : Dev nD) (i : grid0.Coords) (a2 : Memref sig .tc .vmem S2048x1024 .bf16) (h2 : a2.IsWhole) (a3 : Memref sig .tc .vmem S2048x1024 .bf16) (h3 : a3.IsWhole)
    (a4 : Memref sig .tc .vmem S1024x1024 .bf16) (h4 : a4.IsWhole) (a5 : Memref sig .tc .vmem S1024x1024 .f32) (h5 : a5.IsWhole) (hc0 : ¬cond0_0 i) (hc1 : cond0_1 i)
    (x0 : Vec F S2048x1024 .bf16) (x1 : Vec F S2048x1024 .bf16) (xs : Vec F S1024x1024 .f32) :
    sout0_C_0 c i a2 h2 a3 h3 a4 h4 a5 h5 hc0 hc1 x0 x1 xs = k0_pay2 xs x1 x0 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x1024) hz, View.ld_unit_zero (S := S2048x1024) hz, View.ld_unit_zero (S := S1024x1024) hz]

/-- The last row tile, the output block: the scratch array's final contents, rounded. -/
theorem out_C (c : Dev nD) (i : grid0.Coords) (a2 : Memref sig .tc .vmem S2048x1024 .bf16) (h2 : a2.IsWhole) (a3 : Memref sig .tc .vmem S2048x1024 .bf16) (h3 : a3.IsWhole)
    (a4 : Memref sig .tc .vmem S1024x1024 .bf16) (h4 : a4.IsWhole) (a5 : Memref sig .tc .vmem S1024x1024 .f32) (h5 : a5.IsWhole) (hc0 : ¬cond0_0 i) (hc1 : cond0_1 i)
    (x0 : Vec F S2048x1024 .bf16) (x1 : Vec F S2048x1024 .bf16) (xs : Vec F S1024x1024 .f32) :
    out0_C_2 c i a2 h2 a3 h3 a4 h4 a5 h5 hc0 hc1 x0 x1 xs = k0_pay3 (k0_pay2 xs x1 x0) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x1024) _ hz]
  simp only [View.readAt_eq_ld, h2.read_unread, h3.read_unread, h5.read_unread, View.ld_unit_zero (S := S2048x1024) hz, View.ld_unit_zero (S := S2048x1024) hz, View.ld_unit_zero (S := S1024x1024) hz]

end Body

variable (m : (ℓ : Loc nD τ sig) → Buf (Elt Ideal) ℓ) (ρ : Dev nD → PrngReg)

/-- Which block each grid point reads: row tile `t % 4` of both arrays, column block `t / 4` of the cotangent. -/
theorem idx_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The two arguments and the result as plain arrays of extended reals. -/
abbrev hArr (c : Dev nD) : S8192x1024.Idx → EReal := m ((c : Thread nD τ).loc main_arg0)
abbrev dArr (c : Dev nD) : S8192x1024.Idx → EReal := m ((c : Thread nD τ).loc main_arg1)
abbrev result (c : Dev nD) : S1024x1024.Idx → EReal := G2 m c

/-- The normalised input's entry in row `k`, as a function of every natural `k`. -/
def hAt (c : Dev nD) (k : ℕ) (j : Fin 1024) : EReal :=
  if h : k < 8192 then hArr m c (ix2 (⟨k, h⟩ : Fin 8192) j) else 0
/-- The cotangent's entry in row `k` and column `q`. -/
def dAt (c : Dev nD) (k q : ℕ) : EReal :=
  if h : k < 8192 ∧ q < 1024 then dArr m c (ix2 (⟨k, h.1⟩ : Fin 8192) (⟨q, h.2⟩ : Fin 1024)) else 0

theorem iblk0_apply (c : Dev nD) (t : Fin cfg0.N) (r : Fin 2048) (j : Fin 1024) :
    iblk m c 0 t (ix2 r j : S2048x1024.Idx) = hAt m c (2048 * (t.val % 4) + r.val) j := by
  obtain ⟨e0, e1, -, -⟩ := idx_in t
  have hr := r.isLt; have hm : t.val % 4 < 4 := Nat.mod_lt _ (by decide)
  unfold hAt
  rw [dif_pos (by omega)]; unfold hArr; rw [← V_main_arg0 m c]
  show V m c main_arg0 (((cfg0.win 0).blk t).view.emb (ix2 r j : S2048x1024.Idx)) = _
  congr 1
  funext a; apply Fin.ext
  match a with
  | ⟨0, _⟩ => show win0_0.index t (0 : Fin 2) * 2048 + 1 * r.val = 2048 * (t.val % 4) + r.val; rw [e0]; omega
  | ⟨1, _⟩ => show win0_0.index t (1 : Fin 2) * 1024 + 1 * j.val = j.val; rw [e1]; omega

theorem iblk1_apply (c : Dev nD) (t : Fin cfg0.N) (r : Fin 2048) (q : Fin 1024) :
    iblk m c 1 t (ix2 r q : S2048x1024.Idx) = dAt m c (2048 * (t.val % 4) + r.val) (1024 * (t.val / 4) + q.val) := by
  obtain ⟨-, -, e0, e1⟩ := idx_in t
  have hN : t.val < 4 := lt_of_lt_of_eq t.isLt N_0
  have hr := r.isLt; have hq := q.isLt; have hm : t.val % 4 < 4 := Nat.mod_lt _ (by decide)
  have hd : t.val / 4 < 1 := by omega
  unfold dAt
  rw [dif_pos ⟨by omega, by omega⟩]; unfold dArr; rw [← V_main_arg1 m c]
  show V m c main_arg1 (((cfg0.win 1).blk t).view.emb (ix2 r q : S2048x1024.Idx)) = _
  congr 1
  funext a; apply Fin.ext
  match a with
  | ⟨0, _⟩ => show win0_1.index t (0 : Fin 2) * 2048 + 1 * r.val = 2048 * (t.val % 4) + r.val; rw [e0]; omega
  | ⟨1, _⟩ => show win0_1.index t (1 : Fin 2) * 1024 + 1 * q.val = 1024 * (t.val / 4) + q.val; rw [e1]; omega

/-- The product of row tile `n % 4`, at column block `n / 4`. -/
def tile (c : Dev nD) (n : ℕ) : S1024x1024.Idx → EReal := fun i =>
  ∑ r : Fin 2048, dAt m c (2048 * (n % 4) + r.val) (1024 * (n / 4) + (i 0).val) * hAt m c (2048 * (n % 4) + r.val) (i 1)

/-- One point's step, at an index: the tile's product added to what the scratch array held. -/
theorem step_apply (c : Dev nD) (t : Fin cfg0.N) (acc : S1024x1024.Idx → EReal) (i : S1024x1024.Idx) :
    k0_pay2 (F := Ideal) acc (iblk m c 1 t) (iblk m c 0 t) i = acc i + tile m c t.val i := by
  idx_vars i
  unfold tile
  pointwise [k0_pay2]
  congr 1
  refine Finset.sum_congr rfl fun r _ => ?_
  erw [iblk0_apply m c t r, iblk1_apply m c t r]

theorem zero_apply (i : S1024x1024.Idx) : k0_pay1 (F := Ideal) i = 0 := by
  idx_vars i
  pointwise [k0_pay1]

/-- After the last row tile of a column block the scratch array holds the sum over the four tiles. -/
theorem scratch_last (c : Dev nD) (t : Fin cfg0.N) (h3 : t.val % 4 = 3) (i : S1024x1024.Idx) :
    (outsAt0 m c t.val t.isLt).2 i = ∑ s ∈ Finset.range 4, tile m c (4 * (t.val / 4) + s) i := by
  rw [soutsAt0_0_eq m c t]
  rw [Pipeline.accAt_add_apply _ _ (fun _ => (0 : EReal)) (tile m c) (4 * (t.val / 4)) 3 ?_ ?_ (t.val % 4) (by omega), zero_add, h3]
  · intro h j
    have h0 : 4 * (t.val / 4) % 4 = 0 := by omega
    show scAt0_0 m c (4 * (t.val / 4)) h _ j = _
    unfold scAt0_0
    rw [dif_pos h0, dif_neg (by omega), scratch_A, step_apply m c ⟨_, h⟩, zero_apply]
  · intro n h acc j hb he
    have h0 : ¬n % 4 = 0 := by omega
    unfold scAt0_0
    rw [dif_neg h0]
    by_cases h1 : n % 4 = 3
    · rw [dif_pos h1, scratch_C, step_apply m c ⟨_, h⟩]
    · rw [dif_neg h1, scratch_B, step_apply m c ⟨_, h⟩]

/-- At the last row tile the output block is the scratch array. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [out_C, scratch_C]
  funext i
  idx_vars i
  pointwise [k0_pay3]

/-- The result array, at an index: the sum over all rows of the products. -/
theorem result_apply (c : Dev nD) (q : Fin 1024) (j : Fin 1024) :
    result m c (ix2 q j)
      = ∑ k : Fin 8192, dArr m c (ix2 k q) * hArr m c (ix2 k j) := by
  have hq := q.isLt; have hj := j.isLt
  have hr : run2Of (ix2 q j : S1024x1024.Idx) = q.val / 1024 := by
    show 1 * (q.val / 1024 - 0) + 1 * (j.val / 1024 - 0) = _
    omega
  have hp : pt2Of (ix2 q j : S1024x1024.Idx) = 4 * (q.val / 1024) + 3 := by unfold pt2Of; rw [hr]
  have hlt : 4 * (q.val / 1024) + 3 < cfg0.N := lt_of_lt_of_eq (by omega) N_0.symm
  unfold result G2
  rw [dif_pos (by rw [hp]; exact hlt), fold0_congr m c _ _ _ (by omega) hp, ← outsAt0_sweep m c _ hlt]
  have h3 : (4 * (q.val / 1024) + 3) % 4 = 3 := by omega
  rw [out_eq_scratch m c ⟨_, hlt⟩ h3, scratch_last m c ⟨_, hlt⟩ h3]
  have hd : (4 * (q.val / 1024) + 3) / 4 = q.val / 1024 := by omega
  dsimp only
  rw [hd]
  unfold tile
  have e := Cert.Sums.sum_tiles 4 2048 (fun k => dAt m c k q.val * hAt m c k j)
  refine Eq.trans (Finset.sum_congr rfl fun s hs => Finset.sum_congr rfl fun r _ => ?_) (e.trans (Finset.sum_congr rfl fun k _ => ?_))
  · have hs4 : s < 4 := Finset.mem_range.mp hs
    have h1 : (4 * (q.val / 1024) + s) % 4 = s := by omega
    have h2 : (4 * (q.val / 1024) + s) / 4 = q.val / 1024 := by omega
    have h4 : 1024 * (q.val / 1024) + (loc2Of (ix2 q j : S1024x1024.Idx) 0).val = q.val := by
      show 1024 * (q.val / 1024) + q.val % 1024 = q.val
      omega
    have h5 : (loc2Of (ix2 q j : S1024x1024.Idx) 1 : Fin 1024) = j := by
      apply Fin.ext
      show j.val % 1024 = j.val
      omega
    rw [h1, h2, h4]
    exact congrArg (fun z => _ * hAt m c _ z) h5
  · have hk : k.val < 8192 := k.isLt
    show dAt m c k.val q.val * hAt m c k.val j = _
    unfold dAt hAt
    rw [dif_pos ⟨hk, hq⟩, dif_pos hk]

end Cert.Gw1024Ideal.Sum

end
-- ==== Proof.Gw2048.lean ====
/-
  The value of the weight gradient of width 2048 (hand-written, untrusted): the kernel adds, for every block of 2048 columns
  of the cotangent, the products of its four row tiles into a scratch array, and stores the sum at the last one. Over the
  extended reals that is the sum over all 8192 rows, as in the reference's one product.
-/
module

public import proofs.«01_k».proof.Proof.Sums
public import proofs.«01_k».proof.Proof.Gen.Gw2048Ideal.Value
public import proofs.«01_k».proof.Proof.Gen.Gw2048RefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Gw2048Ideal.Sum

open Cert.Gw2048Ideal Cert.Gw2048Ideal.Gen Cert.Gw2048Ideal.Value

section Body
variable {F : FTy → Type} [FloatOps F]

theorem hz : (![0, 0] : Fin 2 → Nat) = fun _ => 0 := funext fun a => by fin_cases a <;> rfl

/-- First row tile: the scratch array is left at the zero block plus the tile's product. -/
theorem scratch_A (c : Dev nD) (i : grid0.Coords) (a2 : Memref sig .tc .vmem S2048x1024 .bf16) (h2 : a2.IsWhole) (a3 : Memref sig .tc .vmem S2048x2048 .bf16) (h3 : a3.IsWhole)
    (a4 : Memref sig .tc .vmem S2048x1024 .bf16) (h4 : a4.IsWhole) (a5 : Memref sig .tc .vmem S2048x1024 .f32) (h5 : a5.IsWhole) (hc0 : cond0_0 i) (hc1 : ¬cond0_1 i)
    (x0 : Vec F S2048x1024 .bf16) (x1 : Vec F S2048x2048 .bf16) :
    sout0_A_0 c i a2 h2 a3 h3 a4 h4 a5 h5 hc0 hc1 x0 x1 = k0_pay2 k0_pay1 x1 x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz, View.readCov_unit_zero (S := S2048x1024) _ hz]
  simp only [View.readAt_eq_ld, h2.read_unread, h3.read_unread, View.ld_unit_zero (S := S2048x1024) hz, View.ld_unit_zero (S := S2048x2048) hz]

/-- A middle row tile: the tile's product is added to what the scratch array held. -/
theorem scratch_B (c : Dev nD) (i : grid0.Coords) (a2 : Memref sig .tc .vmem S2048x1024 .bf16) (h2 : a2.IsWhole) (a3 : Memref sig .tc .vmem S2048x2048 .bf16) (h3 : a3.IsWhole)
    (a4 : Memref sig .tc .vmem S2048x1024 .bf16) (h4 : a4.IsWhole) (a5 : Memref sig .tc .vmem S2048x1024 .f32) (h5 : a5.IsWhole) (hc0 : ¬cond0_0 i) (hc1 : ¬cond0_1 i)
    (x0 : Vec F S2048x1024 .bf16) (x1 : Vec F S2048x2048 .bf16) (xs : Vec F S2048x1024 .f32) :
    sout0_B_0 c i a2 h2 a3 h3 a4 h4 a5 h5 hc0 hc1 x0 x1 xs = k0_pay2 xs x1 x0 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz, View.ld_unit_zero (S := S2048x2048) hz, View.ld_unit_zero (S := S2048x1024) hz]

/-- The last row tile, the scratch array: as in the middle. -/
theorem scratch_C (c : Dev nD) (i : grid0.Coords) (a2 : Memref sig .tc .vmem S2048x1024 .bf16) (h2 : a2.IsWhole) (a3 : Memref sig .tc .vmem S2048x2048 .bf16) (h3 : a3.IsWhole)
    (a4 : Memref sig .tc .vmem S2048x1024 .bf16) (h4 : a4.IsWhole) (a5 : Memref sig .tc .vmem S2048x1024 .f32) (h5 : a5.IsWhole) (hc0 : ¬cond0_0 i) (hc1 : cond0_1 i)
    (x0 : Vec F S2048x1024 .bf16) (x1 : Vec F S2048x2048 .bf16) (xs : Vec F S2048x1024 .f32) :
    sout0_C_0 c i a2 h2 a3 h3 a4 h4 a5 h5 hc0 hc1 x0 x1 xs = k0_pay2 xs x1 x0 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x1024) hz, View.ld_unit_zero (S := S2048x2048) hz, View.ld_unit_zero (S := S2048x1024) hz]

/-- The last row tile, the output block: the scratch array's final contents, rounded. -/
theorem out_C (c : Dev nD) (i : grid0.Coords) (a2 : Memref sig .tc .vmem S2048x1024 .bf16) (h2 : a2.IsWhole) (a3 : Memref sig .tc .vmem S2048x2048 .bf16) (h3 : a3.IsWhole)
    (a4 : Memref sig .tc .vmem S2048x1024 .bf16) (h4 : a4.IsWhole) (a5 : Memref sig .tc .vmem S2048x1024 .f32) (h5 : a5.IsWhole) (hc0 : ¬cond0_0 i) (hc1 : cond0_1 i)
    (x0 : Vec F S2048x1024 .bf16) (x1 : Vec F S2048x2048 .bf16) (xs : Vec F S2048x1024 .f32) :
    out0_C_2 c i a2 h2 a3 h3 a4 h4 a5 h5 hc0 hc1 x0 x1 xs = k0_pay3 (k0_pay2 xs x1 x0) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S2048x1024) _ hz]
  simp only [View.readAt_eq_ld, h2.read_unread, h3.read_unread, h5.read_unread, View.ld_unit_zero (S := S2048x1024) hz, View.ld_unit_zero (S := S2048x2048) hz, View.ld_unit_zero (S := S2048x1024) hz]

end Body

variable (m : (ℓ : Loc nD τ sig) → Buf (Elt Ideal) ℓ) (ρ : Dev nD → PrngReg)

/-- Which block each grid point reads: row tile `t % 4` of both arrays, column block `t / 4` of the cotangent. -/
theorem idx_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The two arguments and the result as plain arrays of extended reals. -/
abbrev hArr (c : Dev nD) : S8192x1024.Idx → EReal := m ((c : Thread nD τ).loc main_arg0)
abbrev dArr (c : Dev nD) : S8192x2048.Idx → EReal := m ((c : Thread nD τ).loc main_arg1)
abbrev result (c : Dev nD) : S2048x1024.Idx → EReal := G2 m c

/-- The normalised input's entry in row `k`, as a function of every natural `k`. -/
def hAt (c : Dev nD) (k : ℕ) (j : Fin 1024) : EReal :=
  if h : k < 8192 then hArr m c (ix2 (⟨k, h⟩ : Fin 8192) j) else 0
/-- The cotangent's entry in row `k` and column `q`. -/
def dAt (c : Dev nD) (k q : ℕ) : EReal :=
  if h : k < 8192 ∧ q < 2048 then dArr m c (ix2 (⟨k, h.1⟩ : Fin 8192) (⟨q, h.2⟩ : Fin 2048)) else 0

theorem iblk0_apply (c : Dev nD) (t : Fin cfg0.N) (r : Fin 2048) (j : Fin 1024) :
    iblk m c 0 t (ix2 r j : S2048x1024.Idx) = hAt m c (2048 * (t.val % 4) + r.val) j := by
  obtain ⟨e0, e1, -, -⟩ := idx_in t
  have hr := r.isLt; have hm : t.val % 4 < 4 := Nat.mod_lt _ (by decide)
  unfold hAt
  rw [dif_pos (by omega)]; unfold hArr; rw [← V_main_arg0 m c]
  show V m c main_arg0 (((cfg0.win 0).blk t).view.emb (ix2 r j : S2048x1024.Idx)) = _
  congr 1
  funext a; apply Fin.ext
  match a with
  | ⟨0, _⟩ => show win0_0.index t (0 : Fin 2) * 2048 + 1 * r.val = 2048 * (t.val % 4) + r.val; rw [e0]; omega
  | ⟨1, _⟩ => show win0_0.index t (1 : Fin 2) * 1024 + 1 * j.val = j.val; rw [e1]; omega

theorem iblk1_apply (c : Dev nD) (t : Fin cfg0.N) (r : Fin 2048) (q : Fin 2048) :
    iblk m c 1 t (ix2 r q : S2048x2048.Idx) = dAt m c (2048 * (t.val % 4) + r.val) (2048 * (t.val / 4) + q.val) := by
  obtain ⟨-, -, e0, e1⟩ := idx_in t
  have hN : t.val < 4 := lt_of_lt_of_eq t.isLt N_0
  have hr := r.isLt; have hq := q.isLt; have hm : t.val % 4 < 4 := Nat.mod_lt _ (by decide)
  have hd : t.val / 4 < 1 := by omega
  unfold dAt
  rw [dif_pos ⟨by omega, by omega⟩]; unfold dArr; rw [← V_main_arg1 m c]
  show V m c main_arg1 (((cfg0.win 1).blk t).view.emb (ix2 r q : S2048x2048.Idx)) = _
  congr 1
  funext a; apply Fin.ext
  match a with
  | ⟨0, _⟩ => show win0_1.index t (0 : Fin 2) * 2048 + 1 * r.val = 2048 * (t.val % 4) + r.val; rw [e0]; omega
  | ⟨1, _⟩ => show win0_1.index t (1 : Fin 2) * 2048 + 1 * q.val = 2048 * (t.val / 4) + q.val; rw [e1]; omega

/-- The product of row tile `n % 4`, at column block `n / 4`. -/
def tile (c : Dev nD) (n : ℕ) : S2048x1024.Idx → EReal := fun i =>
  ∑ r : Fin 2048, dAt m c (2048 * (n % 4) + r.val) (2048 * (n / 4) + (i 0).val) * hAt m c (2048 * (n % 4) + r.val) (i 1)

/-- One point's step, at an index: the tile's product added to what the scratch array held. -/
theorem step_apply (c : Dev nD) (t : Fin cfg0.N) (acc : S2048x1024.Idx → EReal) (i : S2048x1024.Idx) :
    k0_pay2 (F := Ideal) acc (iblk m c 1 t) (iblk m c 0 t) i = acc i + tile m c t.val i := by
  idx_vars i
  unfold tile
  pointwise [k0_pay2]
  congr 1
  refine Finset.sum_congr rfl fun r _ => ?_
  erw [iblk0_apply m c t r, iblk1_apply m c t r]

theorem zero_apply (i : S2048x1024.Idx) : k0_pay1 (F := Ideal) i = 0 := by
  idx_vars i
  pointwise [k0_pay1]

/-- After the last row tile of a column block the scratch array holds the sum over the four tiles. -/
theorem scratch_last (c : Dev nD) (t : Fin cfg0.N) (h3 : t.val % 4 = 3) (i : S2048x1024.Idx) :
    (outsAt0 m c t.val t.isLt).2 i = ∑ s ∈ Finset.range 4, tile m c (4 * (t.val / 4) + s) i := by
  rw [soutsAt0_0_eq m c t]
  rw [Pipeline.accAt_add_apply _ _ (fun _ => (0 : EReal)) (tile m c) (4 * (t.val / 4)) 3 ?_ ?_ (t.val % 4) (by omega), zero_add, h3]
  · intro h j
    have h0 : 4 * (t.val / 4) % 4 = 0 := by omega
    show scAt0_0 m c (4 * (t.val / 4)) h _ j = _
    unfold scAt0_0
    rw [dif_pos h0, dif_neg (by omega), scratch_A, step_apply m c ⟨_, h⟩, zero_apply]
  · intro n h acc j hb he
    have h0 : ¬n % 4 = 0 := by omega
    unfold scAt0_0
    rw [dif_neg h0]
    by_cases h1 : n % 4 = 3
    · rw [dif_pos h1, scratch_C, step_apply m c ⟨_, h⟩]
    · rw [dif_neg h1, scratch_B, step_apply m c ⟨_, h⟩]

/-- At the last row tile the output block is the scratch array. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [out_C, scratch_C]
  funext i
  idx_vars i
  pointwise [k0_pay3]

/-- The result array, at an index: the sum over all rows of the products. -/
theorem result_apply (c : Dev nD) (q : Fin 2048) (j : Fin 1024) :
    result m c (ix2 q j)
      = ∑ k : Fin 8192, dArr m c (ix2 k q) * hArr m c (ix2 k j) := by
  have hq := q.isLt; have hj := j.isLt
  have hr : run2Of (ix2 q j : S2048x1024.Idx) = q.val / 2048 := by
    show 1 * (q.val / 2048 - 0) + 1 * (j.val / 1024 - 0) = _
    omega
  have hp : pt2Of (ix2 q j : S2048x1024.Idx) = 4 * (q.val / 2048) + 3 := by unfold pt2Of; rw [hr]
  have hlt : 4 * (q.val / 2048) + 3 < cfg0.N := lt_of_lt_of_eq (by omega) N_0.symm
  unfold result G2
  rw [dif_pos (by rw [hp]; exact hlt), fold0_congr m c _ _ _ (by omega) hp, ← outsAt0_sweep m c _ hlt]
  have h3 : (4 * (q.val / 2048) + 3) % 4 = 3 := by omega
  rw [out_eq_scratch m c ⟨_, hlt⟩ h3, scratch_last m c ⟨_, hlt⟩ h3]
  have hd : (4 * (q.val / 2048) + 3) / 4 = q.val / 2048 := by omega
  dsimp only
  rw [hd]
  unfold tile
  have e := Cert.Sums.sum_tiles 4 2048 (fun k => dAt m c k q.val * hAt m c k j)
  refine Eq.trans (Finset.sum_congr rfl fun s hs => Finset.sum_congr rfl fun r _ => ?_) (e.trans (Finset.sum_congr rfl fun k _ => ?_))
  · have hs4 : s < 4 := Finset.mem_range.mp hs
    have h1 : (4 * (q.val / 2048) + s) % 4 = s := by omega
    have h2 : (4 * (q.val / 2048) + s) / 4 = q.val / 2048 := by omega
    have h4 : 2048 * (q.val / 2048) + (loc2Of (ix2 q j : S2048x1024.Idx) 0).val = q.val := by
      show 2048 * (q.val / 2048) + q.val % 2048 = q.val
      omega
    have h5 : (loc2Of (ix2 q j : S2048x1024.Idx) 1 : Fin 1024) = j := by
      apply Fin.ext
      show j.val % 1024 = j.val
      omega
    rw [h1, h2, h4]
    exact congrArg (fun z => _ * hAt m c _ z) h5
  · have hk : k.val < 8192 := k.isLt
    show dAt m c k.val q.val * hAt m c k.val j = _
    unfold dAt hAt
    rw [dif_pos ⟨hk, hq⟩, dif_pos hk]

end Cert.Gw2048Ideal.Sum

end
-- ==== Proof.Gw3072.lean ====
/-
  The value of the weight gradient of width 3072 (hand-written, untrusted): the kernel adds, for every block of 1536 columns
  of the cotangent, the products of its four row tiles into a scratch array, and stores the sum at the last one. Over the
  extended reals that is the sum over all 8192 rows, as in the reference's one product.
-/
module

public import proofs.«01_k».proof.Proof.Sums
public import proofs.«01_k».proof.Proof.Gen.Gw3072Ideal.Value
public import proofs.«01_k».proof.Proof.Gen.Gw3072RefIdeal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Gw3072Ideal.Sum

open Cert.Gw3072Ideal Cert.Gw3072Ideal.Gen Cert.Gw3072Ideal.Value

section Body
variable {F : FTy → Type} [FloatOps F]

theorem hz : (![0, 0] : Fin 2 → Nat) = fun _ => 0 := funext fun a => by fin_cases a <;> rfl

/-- First row tile: the scratch array is left at the zero block plus the tile's product. -/
theorem scratch_A (c : Dev nD) (i : grid0.Coords) (a2 : Memref sig .tc .vmem S2048x1024 .bf16) (h2 : a2.IsWhole) (a3 : Memref sig .tc .vmem S2048x1536 .bf16) (h3 : a3.IsWhole)
    (a4 : Memref sig .tc .vmem S1536x1024 .bf16) (h4 : a4.IsWhole) (a5 : Memref sig .tc .vmem S1536x1024 .f32) (h5 : a5.IsWhole) (hc0 : cond0_0 i) (hc1 : ¬cond0_1 i)
    (x0 : Vec F S2048x1024 .bf16) (x1 : Vec F S2048x1536 .bf16) :
    sout0_A_0 c i a2 h2 a3 h3 a4 h4 a5 h5 hc0 hc1 x0 x1 = k0_pay2 k0_pay1 x1 x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1536x1024) hz, View.readCov_unit_zero (S := S1536x1024) _ hz]
  simp only [View.readAt_eq_ld, h2.read_unread, h3.read_unread, View.ld_unit_zero (S := S2048x1024) hz, View.ld_unit_zero (S := S2048x1536) hz]

/-- A middle row tile: the tile's product is added to what the scratch array held. -/
theorem scratch_B (c : Dev nD) (i : grid0.Coords) (a2 : Memref sig .tc .vmem S2048x1024 .bf16) (h2 : a2.IsWhole) (a3 : Memref sig .tc .vmem S2048x1536 .bf16) (h3 : a3.IsWhole)
    (a4 : Memref sig .tc .vmem S1536x1024 .bf16) (h4 : a4.IsWhole) (a5 : Memref sig .tc .vmem S1536x1024 .f32) (h5 : a5.IsWhole) (hc0 : ¬cond0_0 i) (hc1 : ¬cond0_1 i)
    (x0 : Vec F S2048x1024 .bf16) (x1 : Vec F S2048x1536 .bf16) (xs : Vec F S1536x1024 .f32) :
    sout0_B_0 c i a2 h2 a3 h3 a4 h4 a5 h5 hc0 hc1 x0 x1 xs = k0_pay2 xs x1 x0 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz, View.ld_unit_zero (S := S2048x1536) hz, View.ld_unit_zero (S := S1536x1024) hz]

/-- The last row tile, the scratch array: as in the middle. -/
theorem scratch_C (c : Dev nD) (i : grid0.Coords) (a2 : Memref sig .tc .vmem S2048x1024 .bf16) (h2 : a2.IsWhole) (a3 : Memref sig .tc .vmem S2048x1536 .bf16) (h3 : a3.IsWhole)
    (a4 : Memref sig .tc .vmem S1536x1024 .bf16) (h4 : a4.IsWhole) (a5 : Memref sig .tc .vmem S1536x1024 .f32) (h5 : a5.IsWhole) (hc0 : ¬cond0_0 i) (hc1 : cond0_1 i)
    (x0 : Vec F S2048x1024 .bf16) (x1 : Vec F S2048x1536 .bf16) (xs : Vec F S1536x1024 .f32) :
    sout0_C_0 c i a2 h2 a3 h3 a4 h4 a5 h5 hc0 hc1 x0 x1 xs = k0_pay2 xs x1 x0 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S2048x1024) hz, View.ld_unit_zero (S := S2048x1536) hz, View.ld_unit_zero (S := S1536x1024) hz]

/-- The last row tile, the output block: the scratch array's final contents, rounded. -/
theorem out_C (c : Dev nD) (i : grid0.Coords) (a2 : Memref sig .tc .vmem S2048x1024 .bf16) (h2 : a2.IsWhole) (a3 : Memref sig .tc .vmem S2048x1536 .bf16) (h3 : a3.IsWhole)
    (a4 : Memref sig .tc .vmem S1536x1024 .bf16) (h4 : a4.IsWhole) (a5 : Memref sig .tc .vmem S1536x1024 .f32) (h5 : a5.IsWhole) (hc0 : ¬cond0_0 i) (hc1 : cond0_1 i)
    (x0 : Vec F S2048x1024 .bf16) (x1 : Vec F S2048x1536 .bf16) (xs : Vec F S1536x1024 .f32) :
    out0_C_2 c i a2 h2 a3 h3 a4 h4 a5 h5 hc0 hc1 x0 x1 xs = k0_pay3 (k0_pay2 xs x1 x0) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1536x1024) _ hz]
  simp only [View.readAt_eq_ld, h2.read_unread, h3.read_unread, h5.read_unread, View.ld_unit_zero (S := S2048x1024) hz, View.ld_unit_zero (S := S2048x1536) hz, View.ld_unit_zero (S := S1536x1024) hz]

end Body

variable (m : (ℓ : Loc nD τ sig) → Buf (Elt Ideal) ℓ) (ρ : Dev nD → PrngReg)

/-- Which block each grid point reads: row tile `t % 4` of both arrays, column block `t / 4` of the cotangent. -/
theorem idx_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- The two arguments and the result as plain arrays of extended reals. -/
abbrev hArr (c : Dev nD) : S8192x1024.Idx → EReal := m ((c : Thread nD τ).loc main_arg0)
abbrev dArr (c : Dev nD) : S8192x3072.Idx → EReal := m ((c : Thread nD τ).loc main_arg1)
abbrev result (c : Dev nD) : S3072x1024.Idx → EReal := G2 m c

/-- The normalised input's entry in row `k`, as a function of every natural `k`. -/
def hAt (c : Dev nD) (k : ℕ) (j : Fin 1024) : EReal :=
  if h : k < 8192 then hArr m c (ix2 (⟨k, h⟩ : Fin 8192) j) else 0
/-- The cotangent's entry in row `k` and column `q`. -/
def dAt (c : Dev nD) (k q : ℕ) : EReal :=
  if h : k < 8192 ∧ q < 3072 then dArr m c (ix2 (⟨k, h.1⟩ : Fin 8192) (⟨q, h.2⟩ : Fin 3072)) else 0

theorem iblk0_apply (c : Dev nD) (t : Fin cfg0.N) (r : Fin 2048) (j : Fin 1024) :
    iblk m c 0 t (ix2 r j : S2048x1024.Idx) = hAt m c (2048 * (t.val % 4) + r.val) j := by
  obtain ⟨e0, e1, -, -⟩ := idx_in t
  have hr := r.isLt; have hm : t.val % 4 < 4 := Nat.mod_lt _ (by decide)
  unfold hAt
  rw [dif_pos (by omega)]; unfold hArr; rw [← V_main_arg0 m c]
  show V m c main_arg0 (((cfg0.win 0).blk t).view.emb (ix2 r j : S2048x1024.Idx)) = _
  congr 1
  funext a; apply Fin.ext
  match a with
  | ⟨0, _⟩ => show win0_0.index t (0 : Fin 2) * 2048 + 1 * r.val = 2048 * (t.val % 4) + r.val; rw [e0]; omega
  | ⟨1, _⟩ => show win0_0.index t (1 : Fin 2) * 1024 + 1 * j.val = j.val; rw [e1]; omega

theorem iblk1_apply (c : Dev nD) (t : Fin cfg0.N) (r : Fin 2048) (q : Fin 1536) :
    iblk m c 1 t (ix2 r q : S2048x1536.Idx) = dAt m c (2048 * (t.val % 4) + r.val) (1536 * (t.val / 4) + q.val) := by
  obtain ⟨-, -, e0, e1⟩ := idx_in t
  have hN : t.val < 8 := lt_of_lt_of_eq t.isLt N_0
  have hr := r.isLt; have hq := q.isLt; have hm : t.val % 4 < 4 := Nat.mod_lt _ (by decide)
  have hd : t.val / 4 < 2 := by omega
  unfold dAt
  rw [dif_pos ⟨by omega, by omega⟩]; unfold dArr; rw [← V_main_arg1 m c]
  show V m c main_arg1 (((cfg0.win 1).blk t).view.emb (ix2 r q : S2048x1536.Idx)) = _
  congr 1
  funext a; apply Fin.ext
  match a with
  | ⟨0, _⟩ => show win0_1.index t (0 : Fin 2) * 2048 + 1 * r.val = 2048 * (t.val % 4) + r.val; rw [e0]; omega
  | ⟨1, _⟩ => show win0_1.index t (1 : Fin 2) * 1536 + 1 * q.val = 1536 * (t.val / 4) + q.val; rw [e1]; omega

/-- The product of row tile `n % 4`, at column block `n / 4`. -/
def tile (c : Dev nD) (n : ℕ) : S1536x1024.Idx → EReal := fun i =>
  ∑ r : Fin 2048, dAt m c (2048 * (n % 4) + r.val) (1536 * (n / 4) + (i 0).val) * hAt m c (2048 * (n % 4) + r.val) (i 1)

/-- One point's step, at an index: the tile's product added to what the scratch array held. -/
theorem step_apply (c : Dev nD) (t : Fin cfg0.N) (acc : S1536x1024.Idx → EReal) (i : S1536x1024.Idx) :
    k0_pay2 (F := Ideal) acc (iblk m c 1 t) (iblk m c 0 t) i = acc i + tile m c t.val i := by
  idx_vars i
  unfold tile
  pointwise [k0_pay2]
  congr 1
  refine Finset.sum_congr rfl fun r _ => ?_
  erw [iblk0_apply m c t r, iblk1_apply m c t r]

theorem zero_apply (i : S1536x1024.Idx) : k0_pay1 (F := Ideal) i = 0 := by
  idx_vars i
  pointwise [k0_pay1]

/-- After the last row tile of a column block the scratch array holds the sum over the four tiles. -/
theorem scratch_last (c : Dev nD) (t : Fin cfg0.N) (h3 : t.val % 4 = 3) (i : S1536x1024.Idx) :
    (outsAt0 m c t.val t.isLt).2 i = ∑ s ∈ Finset.range 4, tile m c (4 * (t.val / 4) + s) i := by
  rw [soutsAt0_0_eq m c t]
  rw [Pipeline.accAt_add_apply _ _ (fun _ => (0 : EReal)) (tile m c) (4 * (t.val / 4)) 3 ?_ ?_ (t.val % 4) (by omega), zero_add, h3]
  · intro h j
    have h0 : 4 * (t.val / 4) % 4 = 0 := by omega
    show scAt0_0 m c (4 * (t.val / 4)) h _ j = _
    unfold scAt0_0
    rw [dif_pos h0, dif_neg (by omega), scratch_A, step_apply m c ⟨_, h⟩, zero_apply]
  · intro n h acc j hb he
    have h0 : ¬n % 4 = 0 := by omega
    unfold scAt0_0
    rw [dif_neg h0]
    by_cases h1 : n % 4 = 3
    · rw [dif_pos h1, scratch_C, step_apply m c ⟨_, h⟩]
    · rw [dif_neg h1, scratch_B, step_apply m c ⟨_, h⟩]

/-- At the last row tile the output block is the scratch array. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [out_C, scratch_C]
  funext i
  idx_vars i
  pointwise [k0_pay3]

/-- The result array, at an index: the sum over all rows of the products. -/
theorem result_apply (c : Dev nD) (q : Fin 3072) (j : Fin 1024) :
    result m c (ix2 q j)
      = ∑ k : Fin 8192, dArr m c (ix2 k q) * hArr m c (ix2 k j) := by
  have hq := q.isLt; have hj := j.isLt
  have hr : run2Of (ix2 q j : S3072x1024.Idx) = q.val / 1536 := by
    show 1 * (q.val / 1536 - 0) + 1 * (j.val / 1024 - 0) = _
    omega
  have hp : pt2Of (ix2 q j : S3072x1024.Idx) = 4 * (q.val / 1536) + 3 := by unfold pt2Of; rw [hr]
  have hlt : 4 * (q.val / 1536) + 3 < cfg0.N := lt_of_lt_of_eq (by omega) N_0.symm
  unfold result G2
  rw [dif_pos (by rw [hp]; exact hlt), fold0_congr m c _ _ _ (by omega) hp, ← outsAt0_sweep m c _ hlt]
  have h3 : (4 * (q.val / 1536) + 3) % 4 = 3 := by omega
  rw [out_eq_scratch m c ⟨_, hlt⟩ h3, scratch_last m c ⟨_, hlt⟩ h3]
  have hd : (4 * (q.val / 1536) + 3) / 4 = q.val / 1536 := by omega
  dsimp only
  rw [hd]
  unfold tile
  have e := Cert.Sums.sum_tiles 4 2048 (fun k => dAt m c k q.val * hAt m c k j)
  refine Eq.trans (Finset.sum_congr rfl fun s hs => Finset.sum_congr rfl fun r _ => ?_) (e.trans (Finset.sum_congr rfl fun k _ => ?_))
  · have hs4 : s < 4 := Finset.mem_range.mp hs
    have h1 : (4 * (q.val / 1536) + s) % 4 = s := by omega
    have h2 : (4 * (q.val / 1536) + s) / 4 = q.val / 1536 := by omega
    have h4 : 1536 * (q.val / 1536) + (loc2Of (ix2 q j : S3072x1024.Idx) 0).val = q.val := by
      show 1536 * (q.val / 1536) + q.val % 1536 = q.val
      omega
    have h5 : (loc2Of (ix2 q j : S3072x1024.Idx) 1 : Fin 1024) = j := by
      apply Fin.ext
      show j.val % 1024 = j.val
      omega
    rw [h1, h2, h4]
    exact congrArg (fun z => _ * hAt m c _ z) h5
  · have hk : k.val < 8192 := k.isLt
    show dAt m c k.val q.val * hAt m c k.val j = _
    unfold dAt hAt
    rw [dif_pos ⟨hk, hq⟩, dif_pos hk]

end Cert.Gw3072Ideal.Sum

end
-- ==== Proof.GwClaims.lean ====
/-
  The claims on the weight gradients (hand-written, untrusted): kernel and reference end with equal arrays, for each of
  the five widths that the step uses.
-/
module

public import proofs.«01_k».proof.Defs
public import proofs.«01_k».proof.Proof.Gen.Gw32.Frame
public import proofs.«01_k».proof.Proof.Gw32
public import proofs.«01_k».proof.Proof.Gen.Gw512.Frame
public import proofs.«01_k».proof.Proof.Gw512
public import proofs.«01_k».proof.Proof.Gen.Gw1024.Frame
public import proofs.«01_k».proof.Proof.Gw1024
public import proofs.«01_k».proof.Proof.Gen.Gw2048.Frame
public import proofs.«01_k».proof.Proof.Gw2048
public import proofs.«01_k».proof.Proof.Gen.Gw3072.Frame
public import proofs.«01_k».proof.Proof.Gw3072
public import Idealize.ShloMosaic.Lib.Pointwise

@[expose] public section

set_option maxRecDepth 16384

noncomputable section

open Idealize.ShloMosaic Idealize.ShloMosaic.TcCoe Idealize.SL.Sem

namespace Cert.Proof

open Cert.Gw32Ideal.Sum in
/-- Kernel and reference end with the same array, entry by entry the sum over all rows. -/
theorem algebraic_Gw32 : Cert.algebraic_Gw32Ideal_Gw32RefIdeal := by
  intro m g m' g' _ hagree
  refine ⟨fun c => Cert.Gw32Ideal.Value.G2 m c, Cert.Gw32Ideal.Value.run m g,
    (θ_run (Cert.Gw32RefIdeal.defs (F := Ideal)) _ _).mono (fun r h c => ⟨(h c).1.trans ?_, (h c).2.1, (h c).2.2⟩) (Cert.Gw32RefIdeal.Value.run m' g')⟩
  funext i
  obtain ⟨q, j, rfl⟩ : ∃ (q : Fin 32) (j : Fin 1024), i = ix2 q j := ⟨i 0, i 1, eq_ix2 i⟩
  refine Eq.trans ?_ (result_apply m c q j).symm
  rw [(hagree c).1, (hagree c).2]
  pointwise

open Cert.Gw512Ideal.Sum in
/-- Kernel and reference end with the same array, entry by entry the sum over all rows. -/
theorem algebraic_Gw512 : Cert.algebraic_Gw512Ideal_Gw512RefIdeal := by
  intro m g m' g' _ hagree
  refine ⟨fun c => Cert.Gw512Ideal.Value.G2 m c, Cert.Gw512Ideal.Value.run m g,
    (θ_run (Cert.Gw512RefIdeal.defs (F := Ideal)) _ _).mono (fun r h c => ⟨(h c).1.trans ?_, (h c).2.1, (h c).2.2⟩) (Cert.Gw512RefIdeal.Value.run m' g')⟩
  funext i
  obtain ⟨q, j, rfl⟩ : ∃ (q : Fin 512) (j : Fin 1024), i = ix2 q j := ⟨i 0, i 1, eq_ix2 i⟩
  refine Eq.trans ?_ (result_apply m c q j).symm
  rw [(hagree c).1, (hagree c).2]
  pointwise

open Cert.Gw1024Ideal.Sum in
/-- Kernel and reference end with the same array, entry by entry the sum over all rows. -/
theorem algebraic_Gw1024 : Cert.algebraic_Gw1024Ideal_Gw1024RefIdeal := by
  intro m g m' g' _ hagree
  refine ⟨fun c => Cert.Gw1024Ideal.Value.G2 m c, Cert.Gw1024Ideal.Value.run m g,
    (θ_run (Cert.Gw1024RefIdeal.defs (F := Ideal)) _ _).mono (fun r h c => ⟨(h c).1.trans ?_, (h c).2.1, (h c).2.2⟩) (Cert.Gw1024RefIdeal.Value.run m' g')⟩
  funext i
  obtain ⟨q, j, rfl⟩ : ∃ (q : Fin 1024) (j : Fin 1024), i = ix2 q j := ⟨i 0, i 1, eq_ix2 i⟩
  refine Eq.trans ?_ (result_apply m c q j).symm
  rw [(hagree c).1, (hagree c).2]
  pointwise

open Cert.Gw2048Ideal.Sum in
/-- Kernel and reference end with the same array, entry by entry the sum over all rows. -/
theorem algebraic_Gw2048 : Cert.algebraic_Gw2048Ideal_Gw2048RefIdeal := by
  intro m g m' g' _ hagree
  refine ⟨fun c => Cert.Gw2048Ideal.Value.G2 m c, Cert.Gw2048Ideal.Value.run m g,
    (θ_run (Cert.Gw2048RefIdeal.defs (F := Ideal)) _ _).mono (fun r h c => ⟨(h c).1.trans ?_, (h c).2.1, (h c).2.2⟩) (Cert.Gw2048RefIdeal.Value.run m' g')⟩
  funext i
  obtain ⟨q, j, rfl⟩ : ∃ (q : Fin 2048) (j : Fin 1024), i = ix2 q j := ⟨i 0, i 1, eq_ix2 i⟩
  refine Eq.trans ?_ (result_apply m c q j).symm
  rw [(hagree c).1, (hagree c).2]
  pointwise

open Cert.Gw3072Ideal.Sum in
/-- Kernel and reference end with the same array, entry by entry the sum over all rows. -/
theorem algebraic_Gw3072 : Cert.algebraic_Gw3072Ideal_Gw3072RefIdeal := by
  intro m g m' g' _ hagree
  refine ⟨fun c => Cert.Gw3072Ideal.Value.G2 m c, Cert.Gw3072Ideal.Value.run m g,
    (θ_run (Cert.Gw3072RefIdeal.defs (F := Ideal)) _ _).mono (fun r h c => ⟨(h c).1.trans ?_, (h c).2.1, (h c).2.2⟩) (Cert.Gw3072RefIdeal.Value.run m' g')⟩
  funext i
  obtain ⟨q, j, rfl⟩ : ∃ (q : Fin 3072) (j : Fin 1024), i = ix2 q j := ⟨i 0, i 1, eq_ix2 i⟩
  refine Eq.trans ?_ (result_apply m c q j).symm
  rw [(hagree c).1, (hagree c).2]
  pointwise

end Cert.Proof

end
-- ==== Proof.Inproj.lean ====
/-
  The value of the forward input projection (hand-written, untrusted): the first point copies the whole weight into a
  scratch array, in six parts, and every point multiplies its 256 normalised rows with the six parts. Entry by entry that
  is the reference's product, whose six column ranges are the results.
-/
module

public import proofs.«01_k».proof.Proof.Pieces
public import proofs.«01_k».proof.Proof.Gen.InprojIdeal.Value
public import proofs.«01_k».proof.Proof.Gen.InprojRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InprojIdeal.Rows

open Cert.InprojIdeal Cert.InprojIdeal.Gen Cert.InprojIdeal.Value

theorem hz : (![0, 0] : Fin 2 → Nat) = fun _ => 0 := funext fun a => by fin_cases a <;> rfl

/-- The weight's array, as the copies read it. -/
abbrev wOf (c : Dev nD) (fh0 : HbBuf0 (F := Ideal) c hbM0_0) : S9760x1024.Idx → Elt Ideal .bf16 := fh0

/-- The weight's row `q`, as a function of every natural `q`. -/
def wAt (w : S9760x1024.Idx → EReal) (q : ℕ) (k : Fin 1024) : EReal :=
  if h : q < 9760 then w (ix2 (⟨q, h⟩ : Fin 9760) k) else 0

/-- One entry of the normalised and modulated input, from the row `x`, and the entry's norm weight, scale and shift. -/
def hEntry (x : Fin 1024 → EReal) (nw sc sh : EReal) (k : Fin 1024) : EReal :=
  x k * Ideal.rsqrt (Ideal.div (∑ j, x j * x j) (Ideal.ofBits .f32 1149239296#32) + Ideal.ofBits .f32 897988541#32) * (nw * (1 + sc)) + sh

/-- The same in a block of rows. -/
abbrev hRow (x : S256x1024.Idx → EReal) (nw sc sh : S1x1024.Idx → EReal) (r : Fin 256) (k : Fin 1024) : EReal :=
  hEntry (fun j => x (ix2 r j)) (nw (ix2 0 k)) (sc (ix2 0 k)) (sh (ix2 0 k)) k

/-- Output 0 at the first point: rows 0 to 1024 of the weight against the block's normalised rows. -/
theorem out_A_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 1024) :
    out0_A_4 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = ∑ k : Fin 1024, hRow x0 x1 x2 x3 r k * wAt (wOf c fh0) (0 + q.val) k := by
  unfold out0_A_4
  rw [View.read_writes_eq_canon _ _ _ (cover0_A_4 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 0 at a later point: rows 0 to 1024 of the weight against the block's normalised rows. -/
theorem out_B_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 1024) :
    out0_B_4 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = ∑ k : Fin 1024, hRow x0 x1 x2 x3 r k * wAt (xs0) (0 + q.val) k := by
  unfold out0_B_4
  rw [View.read_writes_eq_canon _ _ _ (cover0_B_4 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 1 at the first point: rows 1024 to 1536 of the weight against the block's normalised rows. -/
theorem out_A_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 512) :
    out0_A_5 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = ∑ k : Fin 1024, hRow x0 x1 x2 x3 r k * wAt (wOf c fh0) (1024 + q.val) k := by
  unfold out0_A_5
  rw [View.read_writes_eq_canon _ _ _ (cover0_A_5 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 1 at a later point: rows 1024 to 1536 of the weight against the block's normalised rows. -/
theorem out_B_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 512) :
    out0_B_5 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = ∑ k : Fin 1024, hRow x0 x1 x2 x3 r k * wAt (xs0) (1024 + q.val) k := by
  unfold out0_B_5
  rw [View.read_writes_eq_canon _ _ _ (cover0_B_5 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 2 at the first point: rows 1536 to 4608 of the weight against the block's normalised rows. -/
theorem out_A_6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 3072) :
    out0_A_6 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = ∑ k : Fin 1024, hRow x0 x1 x2 x3 r k * wAt (wOf c fh0) (1536 + q.val) k := by
  unfold out0_A_6
  rw [View.read_writes_eq_canon _ _ _ (cover0_A_6 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 2 at a later point: rows 1536 to 4608 of the weight against the block's normalised rows. -/
theorem out_B_6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 3072) :
    out0_B_6 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = ∑ k : Fin 1024, hRow x0 x1 x2 x3 r k * wAt (xs0) (1536 + q.val) k := by
  unfold out0_B_6
  rw [View.read_writes_eq_canon _ _ _ (cover0_B_6 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 3 at the first point: rows 4608 to 7680 of the weight against the block's normalised rows. -/
theorem out_A_7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 3072) :
    out0_A_7 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = ∑ k : Fin 1024, hRow x0 x1 x2 x3 r k * wAt (wOf c fh0) (4608 + q.val) k := by
  unfold out0_A_7
  rw [View.read_writes_eq_canon _ _ _ (cover0_A_7 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 3 at a later point: rows 4608 to 7680 of the weight against the block's normalised rows. -/
theorem out_B_7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 3072) :
    out0_B_7 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = ∑ k : Fin 1024, hRow x0 x1 x2 x3 r k * wAt (xs0) (4608 + q.val) k := by
  unfold out0_B_7
  rw [View.read_writes_eq_canon _ _ _ (cover0_B_7 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 4 at the first point: rows 7680 to 7712 of the weight against the block's normalised rows. -/
theorem out_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 32) :
    out0_A_8 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = ∑ k : Fin 1024, hRow x0 x1 x2 x3 r k * wAt (wOf c fh0) (7680 + q.val) k := by
  unfold out0_A_8
  rw [View.read_writes_eq_canon _ _ _ (cover0_A_8 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 4 at a later point: rows 7680 to 7712 of the weight against the block's normalised rows. -/
theorem out_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 32) :
    out0_B_8 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = ∑ k : Fin 1024, hRow x0 x1 x2 x3 r k * wAt (xs0) (7680 + q.val) k := by
  unfold out0_B_8
  rw [View.read_writes_eq_canon _ _ _ (cover0_B_8 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 5 at the first point: rows 7712 to 9760 of the weight against the block's normalised rows. -/
theorem out_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 2048) :
    out0_A_9 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = ∑ k : Fin 1024, hRow x0 x1 x2 x3 r k * wAt (wOf c fh0) (7712 + q.val) k := by
  unfold out0_A_9
  rw [View.read_writes_eq_canon _ _ _ (cover0_A_9 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- Output 5 at a later point: rows 7712 to 9760 of the weight against the block's normalised rows. -/
theorem out_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 2048) :
    out0_B_9 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = ∑ k : Fin 1024, hRow x0 x1 x2 x3 r k * wAt (xs0) (7712 + q.val) k := by
  unfold out0_B_9
  rw [View.read_writes_eq_canon _ _ _ (cover0_B_9 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  have hq := q.isLt
  refine Finset.sum_congr rfl fun k _ => ?_
  unfold wAt
  rw [dif_pos (by omega)]
  unfold hRow hEntry
  refine congrArg₂ (· * ·) rfl (congrArg _ ?_)
  first | rfl | exact congrArg (ix2 · k) (Fin.ext (by simp))

/-- The normalised rows themselves, at the first point. -/
theorem out_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) (r : Fin 256) (q : Fin 1024) :
    out0_A_10 c i arg1 harg1 arg2 harg2 arg3 harg3 arg4 harg4 arg6 harg6 arg7 harg7 arg8 harg8 arg9 harg9 arg10 harg10 arg11 harg11 arg12 harg12 arg13 harg13 hc0 hc1 x0 x1 x2 x3 fh0 (ix2 r q) = hRow x0 x1 x2 x3 r q := by
  unfold out0_A_10
  rw [View.read_writes_eq_canon _ _ _ (cover0_A_10 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  unfold kernelRun0_A
  dsimp only
  sl_unfold_words
  rw [View.canon_unit_zero hz]
  simp only [View.readAt_eq_ld, harg1.read_unread, harg2.read_unread, harg3.read_unread, harg4.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  rfl

/-- The normalised rows themselves, at a later point. -/
theorem out_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : ¬cond0_0 i) (hc1 : cond0_1 i) (x0 : Vec Ideal S256x1024 .f32) (x1 : Vec Ideal S1x1024 .f32) (x2 : Vec Ideal S1x1024 .f32) (x3 : Vec Ideal S1x1024 .f32) (xs0 : Vec Ideal S9760x1024 .bf16) (fh0 : HbBuf0 (F := Ideal) c hbM0_0) (r : Fin 256) (q : Fin 1024) :
    out0_B_10 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0 (ix2 r q) = hRow x0 x1 x2 x3 r q := by
  unfold out0_B_10
  rw [View.read_writes_eq_canon _ _ _ (cover0_B_10 c i arg1 harg1 arg2 harg2 arg3 harg3 arg4 harg4 arg6 harg6 arg7 harg7 arg8 harg8 arg9 harg9 arg10 harg10 arg11 harg11 arg12 harg12 arg13 harg13 hc0 hc1 x0 x1 x2 x3 xs0 fh0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S256x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15]
  rfl

/-- The first point leaves the scratch array holding the whole weight. -/
theorem scratch_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg6 : Memref sig .tc .vmem S256x1024 .f32) (harg6 : arg6.IsWhole) (arg7 : Memref sig .tc .vmem S256x512 .f32) (harg7 : arg7.IsWhole) (arg8 : Memref sig .tc .vmem S256x3072 .bf16) (harg8 : arg8.IsWhole) (arg9 : Memref sig .tc .vmem S256x3072 .f32) (harg9 : arg9.IsWhole) (arg10 : Memref sig .tc .vmem S256x32 .f32) (harg10 : arg10.IsWhole) (arg11 : Memref sig .tc .vmem S256x2048 .bf16) (harg11 : arg11.IsWhole) (arg12 : Memref sig .tc .vmem S256x1024 .bf16) (harg12 : arg12.IsWhole) (arg13 : Memref sig .tc .vmem S9760x1024 .bf16) (harg13 : arg13.IsWhole) (hc0 : cond0_0 i) (hc1 : ¬cond0_1 i) (x0 : Vec Ideal S256x1024 .f32) (x1 : Vec Ideal S1x1024 .f32) (x2 : Vec Ideal S1x1024 .f32) (x3 : Vec Ideal S1x1024 .f32) (fh0 : HbBuf0 (F := Ideal) c hbM0_0) : sout0_A_0 c i arg1 harg1 arg2 harg2 arg3 harg3 arg4 harg4 arg6 harg6 arg7 harg7 arg8 harg8 arg9 harg9 arg10 harg10 arg11 harg11 arg12 harg12 arg13 harg13 hc0 hc1 x0 x1 x2 x3 fh0 = wOf c fh0 := by
  unfold sout0_A_0
  rw [View.read_writes_eq_canon _ _ _ (scover0_A_0 c i arg1 harg1 arg2 harg2 arg3 harg3 arg4 harg4 arg6 harg6 arg7 harg7 arg8 harg8 arg9 harg9 arg10 harg10 arg11 harg11 arg12 harg12 arg13 harg13 hc0 hc1 x0 x1 x2 x3 fh0)]
  exact Cert.Pieces.canon_of_agree (wOf c fh0) _ (by
    unfold kernelRun0_A; dsimp only; sl_unfold_words
    repeat' first | exact fun p hp => absurd hp List.not_mem_nil | refine List.forall_mem_cons.mpr ⟨fun _ => rfl, ?_⟩)
    (scover0_A_0 c i arg1 harg1 arg2 harg2 arg3 harg3 arg4 harg4 arg6 harg6 arg7 harg7 arg8 harg8 arg9 harg9 arg10 harg10 arg11 harg11 arg12 harg12 arg13 harg13 hc0 hc1 x0 x1 x2 x3 fh0)

variable (m : (ℓ : Loc nD τ sig) → Buf (Elt Ideal) ℓ) (ρ : Dev nD → PrngReg)

/-- The arguments as plain arrays of extended reals. -/
abbrev xArr (c : Dev nD) : S8192x1024.Idx → EReal := m ((c : Thread nD τ).loc main_arg0)
abbrev nwArr (c : Dev nD) : S1x1024.Idx → EReal := m ((c : Thread nD τ).loc main_arg1)
abbrev scArr (c : Dev nD) : S1x1024.Idx → EReal := m ((c : Thread nD τ).loc main_arg2)
abbrev shArr (c : Dev nD) : S1x1024.Idx → EReal := m ((c : Thread nD τ).loc main_arg3)
abbrev winArr (c : Dev nD) : S1024x9760.Idx → EReal := m ((c : Thread nD τ).loc main_arg4)
/-- The weight as the kernel's copies read it. -/
abbrev wtArr (c : Dev nD) : S9760x1024.Idx → EReal := V m c main_v1

/-- It is the argument, transposed. -/
theorem wtArr_apply (c : Dev nD) (q : Fin 9760) (k : Fin 1024) : wtArr m c (ix2 q k) = winArr m c (ix2 k q) := by
  have e : V m c main_v1 = truncf (F := Ideal) .bf16 (transpose S9760x1024 [1, 0] (m ((c : Thread nD τ).loc main_arg4)) transposes_S1024x9760_S9760x1024_1_0) bitsLt_bf16_f32 := by
    show StableHlo.after hostOps0 _ _ = _
    after_results_simp
  unfold wtArr
  rw [e]
  pointwise

/-- After every point the scratch array holds the whole weight. -/
theorem scratch (c : Dev nD) (n : ℕ) : ∀ hn : n < cfg0.N, (outsAt0 m c n hn).2.2.2.2.2.2.2 = V m c main_v1 := by
  induction n with
  | zero =>
    intro hn
    refine (congrArg (fun o => o.2.2.2.2.2.2.2) (outsAt0_A m c ⟨0, hn⟩ (by show 0 % 32 = 0; rfl) (by show ¬1 ≤ 0; omega))).trans ?_
    dsimp only
    exact scratch_A c _ _ _ _ _ _ _ _ _ _ _ _ _ _ _ _ _ _ _ _ _ _ _ _ _ _ _ _ _ _ _ _
  | succ n ih =>
    intro hn
    have hN : n + 1 < 32 := lt_of_lt_of_eq hn N_0
    refine (congrArg (fun o => o.2.2.2.2.2.2.2) (outsAt0_B m c ⟨n + 1, hn⟩ (by show ¬(n + 1) % 32 = 0; omega) (by show 1 ≤ n + 1; omega))).trans ?_
    dsimp only
    unfold sout0_B_0
    exact ih _

/-- Which rows each grid point reads and writes. -/
theorem idx_in : ∀ t : Fin cfg0.N, win0_0.index t (0 : Fin 2) = t.val ∧ win0_0.index t (1 : Fin 2) = 0 :=
  (by decide +kernel : ∀ t : Fin grid0.N, _)

theorem row_lt (t : Fin cfg0.N) (r : Fin 256) : 256 * t.val + r.val < 8192 := by
  have hN : t.val < 32 := lt_of_lt_of_eq t.isLt N_0
  have hr := r.isLt
  omega

theorem iblk0_apply (c : Dev nD) (t : Fin cfg0.N) (r : Fin 256) (j : Fin 1024) :
    iblk m c 0 t (ix2 r j : S256x1024.Idx) = xArr m c (ix2 ⟨256 * t.val + r.val, row_lt t r⟩ j) := by
  obtain ⟨e0, e1⟩ := idx_in t
  unfold xArr; rw [← V_main_arg0 m c]
  show V m c main_arg0 (((cfg0.win 0).blk t).view.emb (ix2 r j : S256x1024.Idx)) = _
  congr 1
  funext a; apply Fin.ext
  match a with
  | ⟨0, _⟩ => show win0_0.index t (0 : Fin 2) * 256 + 1 * r.val = 256 * t.val + r.val; rw [e0]; omega
  | ⟨1, _⟩ => show win0_0.index t (1 : Fin 2) * 1024 + 1 * j.val = j.val; rw [e1]; omega

theorem idx_in1 : ∀ t : Fin cfg0.N, win0_1.index t (0 : Fin 2) = 0 ∧ win0_1.index t (1 : Fin 2) = 0 :=
  (by decide +kernel : ∀ t : Fin grid0.N, _)

theorem iblk1_apply (c : Dev nD) (t : Fin cfg0.N) (j : Fin 1024) :
    iblk m c 1 t (ix2 (0 : Fin 1) j : S1x1024.Idx) = nwArr m c (ix2 0 j) := by
  obtain ⟨e0, e1⟩ := idx_in1 t
  unfold nwArr; rw [← V_main_arg1 m c]
  show V m c main_arg1 (((cfg0.win 1).blk t).view.emb (ix2 (0 : Fin 1) j : S1x1024.Idx)) = _
  congr 1
  funext a; apply Fin.ext
  match a with
  | ⟨0, _⟩ => show win0_1.index t (0 : Fin 2) * 1 + 1 * 0 = 0; rw [e0]
  | ⟨1, _⟩ => show win0_1.index t (1 : Fin 2) * 1024 + 1 * j.val = j.val; rw [e1]; omega

theorem idx_in2 : ∀ t : Fin cfg0.N, win0_2.index t (0 : Fin 2) = 0 ∧ win0_2.index t (1 : Fin 2) = 0 :=
  (by decide +kernel : ∀ t : Fin grid0.N, _)

theorem iblk2_apply (c : Dev nD) (t : Fin cfg0.N) (j : Fin 1024) :
    iblk m c 2 t (ix2 (0 : Fin 1) j : S1x1024.Idx) = scArr m c (ix2 0 j) := by
  obtain ⟨e0, e1⟩ := idx_in2 t
  unfold scArr; rw [← V_main_arg2 m c]
  show V m c main_arg2 (((cfg0.win 2).blk t).view.emb (ix2 (0 : Fin 1) j : S1x1024.Idx)) = _
  congr 1
  funext a; apply Fin.ext
  match a with
  | ⟨0, _⟩ => show win0_2.index t (0 : Fin 2) * 1 + 1 * 0 = 0; rw [e0]
  | ⟨1, _⟩ => show win0_2.index t (1 : Fin 2) * 1024 + 1 * j.val = j.val; rw [e1]; omega

theorem idx_in3 : ∀ t : Fin cfg0.N, win0_3.index t (0 : Fin 2) = 0 ∧ win0_3.index t (1 : Fin 2) = 0 :=
  (by decide +kernel : ∀ t : Fin grid0.N, _)

theorem iblk3_apply (c : Dev nD) (t : Fin cfg0.N) (j : Fin 1024) :
    iblk m c 3 t (ix2 (0 : Fin 1) j : S1x1024.Idx) = shArr m c (ix2 0 j) := by
  obtain ⟨e0, e1⟩ := idx_in3 t
  unfold shArr; rw [← V_main_arg3 m c]
  show V m c main_arg3 (((cfg0.win 3).blk t).view.emb (ix2 (0 : Fin 1) j : S1x1024.Idx)) = _
  congr 1
  funext a; apply Fin.ext
  match a with
  | ⟨0, _⟩ => show win0_3.index t (0 : Fin 2) * 1 + 1 * 0 = 0; rw [e0]
  | ⟨1, _⟩ => show win0_3.index t (1 : Fin 2) * 1024 + 1 * j.val = j.val; rw [e1]; omega

/-- Row `R`'s normalised and modulated entry `k`, of the whole input. -/
def hFull (c : Dev nD) (R : Fin 8192) (k : Fin 1024) : EReal :=
  hEntry (fun j => xArr m c (ix2 R j)) (nwArr m c (ix2 0 k)) (scArr m c (ix2 0 k)) (shArr m c (ix2 0 k)) k

theorem hRow_iblk (c : Dev nD) (t : Fin cfg0.N) (r : Fin 256) (k : Fin 1024) :
    hRow (iblk m c 0 t) (iblk m c 1 t) (iblk m c 2 t) (iblk m c 3 t) r k = hFull m c ⟨256 * t.val + r.val, row_lt t r⟩ k := by
  have e0 : (fun j => (iblk m c 0 t : S256x1024.Idx → EReal) (ix2 r j)) = fun j => xArr m c (ix2 ⟨256 * t.val + r.val, row_lt t r⟩ j) :=
    funext fun j => iblk0_apply m c t r j
  show hEntry (fun j => (iblk m c 0 t : S256x1024.Idx → EReal) (ix2 r j)) _ _ _ k = _
  rw [e0]
  unfold hFull
  rw [← iblk1_apply m c t k, ← iblk2_apply m c t k, ← iblk3_apply m c t k]

/-- Result 0, entry by entry. -/
def G4 (c : Dev nD) : S8192x1024.Idx → EReal := fun i => ∑ k : Fin 1024, hFull m c (i 0) k * wAt (wtArr m c) (0 + (i 1).val) k

theorem after_4 (c : Dev nD) (t : Fin cfg0.N) (r : Fin 256) (q : Fin 1024) :
    (outsAt0 m c t.val t.isLt).1 (ix2 r q) = G4 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_4]
    rw [scratch m c]; exact Finset.sum_congr rfl fun k _ => congrArg (· * _) (hRow_iblk m c t r k)
  · rw [outsAt0_A m c t (by omega) h1]
    dsimp only
    rw [out_A_4]
    exact Finset.sum_congr rfl fun k _ => congrArg (· * _) (hRow_iblk m c t r k)

theorem idx_out4 : ∀ t : Fin cfg0.N, win0_4.index t (0 : Fin 2) = t.val ∧ win0_4.index t (1 : Fin 2) = 0 :=
  (by decide +kernel : ∀ t : Fin grid0.N, _)

theorem result_4 (c : Dev nD) : (dats m 0 c).arrAt 4 cfg0.N = G4 m c := by
  refine (dats m 0 c).arrAt_eq_of_covers 4 _ (by decide +kernel) fun t hf y => ?_
  obtain ⟨e0, e1⟩ := idx_out4 t
  obtain ⟨r, q, rfl⟩ : ∃ (r : Fin 256) (q : Fin 1024), y = ix2 r q := ⟨y 0, y 1, eq_ix2 y⟩
  rw [after0_4]
  refine (after_4 m c t r q).trans (congrArg (G4 m c) ?_)
  funext a; apply Fin.ext
  match a with
  | ⟨0, _⟩ => show 256 * t.val + r.val = win0_4.index t (0 : Fin 2) * 256 + 1 * r.val; rw [e0]; omega
  | ⟨1, _⟩ => show q.val = win0_4.index t (1 : Fin 2) * 1024 + 1 * q.val; rw [e1]; omega

/-- Result 1, entry by entry. -/
def G5 (c : Dev nD) : S8192x512.Idx → EReal := fun i => ∑ k : Fin 1024, hFull m c (i 0) k * wAt (wtArr m c) (1024 + (i 1).val) k

theorem after_5 (c : Dev nD) (t : Fin cfg0.N) (r : Fin 256) (q : Fin 512) :
    (outsAt0 m c t.val t.isLt).2.1 (ix2 r q) = G5 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_5]
    rw [scratch m c]; exact Finset.sum_congr rfl fun k _ => congrArg (· * _) (hRow_iblk m c t r k)
  · rw [outsAt0_A m c t (by omega) h1]
    dsimp only
    rw [out_A_5]
    exact Finset.sum_congr rfl fun k _ => congrArg (· * _) (hRow_iblk m c t r k)

theorem idx_out5 : ∀ t : Fin cfg0.N, win0_5.index t (0 : Fin 2) = t.val ∧ win0_5.index t (1 : Fin 2) = 0 :=
  (by decide +kernel : ∀ t : Fin grid0.N, _)

theorem result_5 (c : Dev nD) : (dats m 0 c).arrAt 5 cfg0.N = G5 m c := by
  refine (dats m 0 c).arrAt_eq_of_covers 5 _ (by decide +kernel) fun t hf y => ?_
  obtain ⟨e0, e1⟩ := idx_out5 t
  obtain ⟨r, q, rfl⟩ : ∃ (r : Fin 256) (q : Fin 512), y = ix2 r q := ⟨y 0, y 1, eq_ix2 y⟩
  rw [after0_5]
  refine (after_5 m c t r q).trans (congrArg (G5 m c) ?_)
  funext a; apply Fin.ext
  match a with
  | ⟨0, _⟩ => show 256 * t.val + r.val = win0_5.index t (0 : Fin 2) * 256 + 1 * r.val; rw [e0]; omega
  | ⟨1, _⟩ => show q.val = win0_5.index t (1 : Fin 2) * 512 + 1 * q.val; rw [e1]; omega

/-- Result 2, entry by entry. -/
def G6 (c : Dev nD) : S8192x3072.Idx → EReal := fun i => ∑ k : Fin 1024, hFull m c (i 0) k * wAt (wtArr m c) (1536 + (i 1).val) k

theorem after_6 (c : Dev nD) (t : Fin cfg0.N) (r : Fin 256) (q : Fin 3072) :
    (outsAt0 m c t.val t.isLt).2.2.1 (ix2 r q) = G6 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_6]
    rw [scratch m c]; exact Finset.sum_congr rfl fun k _ => congrArg (· * _) (hRow_iblk m c t r k)
  · rw [outsAt0_A m c t (by omega) h1]
    dsimp only
    rw [out_A_6]
    exact Finset.sum_congr rfl fun k _ => congrArg (· * _) (hRow_iblk m c t r k)

theorem idx_out6 : ∀ t : Fin cfg0.N, win0_6.index t (0 : Fin 2) = t.val ∧ win0_6.index t (1 : Fin 2) = 0 :=
  (by decide +kernel : ∀ t : Fin grid0.N, _)

theorem result_6 (c : Dev nD) : (dats m 0 c).arrAt 6 cfg0.N = G6 m c := by
  refine (dats m 0 c).arrAt_eq_of_covers 6 _ (by decide +kernel) fun t hf y => ?_
  obtain ⟨e0, e1⟩ := idx_out6 t
  obtain ⟨r, q, rfl⟩ : ∃ (r : Fin 256) (q : Fin 3072), y = ix2 r q := ⟨y 0, y 1, eq_ix2 y⟩
  rw [after0_6]
  refine (after_6 m c t r q).trans (congrArg (G6 m c) ?_)
  funext a; apply Fin.ext
  match a with
  | ⟨0, _⟩ => show 256 * t.val + r.val = win0_6.index t (0 : Fin 2) * 256 + 1 * r.val; rw [e0]; omega
  | ⟨1, _⟩ => show q.val = win0_6.index t (1 : Fin 2) * 3072 + 1 * q.val; rw [e1]; omega

/-- Result 3, entry by entry. -/
def G7 (c : Dev nD) : S8192x3072.Idx → EReal := fun i => ∑ k : Fin 1024, hFull m c (i 0) k * wAt (wtArr m c) (4608 + (i 1).val) k

theorem after_7 (c : Dev nD) (t : Fin cfg0.N) (r : Fin 256) (q : Fin 3072) :
    (outsAt0 m c t.val t.isLt).2.2.2.1 (ix2 r q) = G7 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_7]
    rw [scratch m c]; exact Finset.sum_congr rfl fun k _ => congrArg (· * _) (hRow_iblk m c t r k)
  · rw [outsAt0_A m c t (by omega) h1]
    dsimp only
    rw [out_A_7]
    exact Finset.sum_congr rfl fun k _ => congrArg (· * _) (hRow_iblk m c t r k)

theorem idx_out7 : ∀ t : Fin cfg0.N, win0_7.index t (0 : Fin 2) = t.val ∧ win0_7.index t (1 : Fin 2) = 0 :=
  (by decide +kernel : ∀ t : Fin grid0.N, _)

theorem result_7 (c : Dev nD) : (dats m 0 c).arrAt 7 cfg0.N = G7 m c := by
  refine (dats m 0 c).arrAt_eq_of_covers 7 _ (by decide +kernel) fun t hf y => ?_
  obtain ⟨e0, e1⟩ := idx_out7 t
  obtain ⟨r, q, rfl⟩ : ∃ (r : Fin 256) (q : Fin 3072), y = ix2 r q := ⟨y 0, y 1, eq_ix2 y⟩
  rw [after0_7]
  refine (after_7 m c t r q).trans (congrArg (G7 m c) ?_)
  funext a; apply Fin.ext
  match a with
  | ⟨0, _⟩ => show 256 * t.val + r.val = win0_7.index t (0 : Fin 2) * 256 + 1 * r.val; rw [e0]; omega
  | ⟨1, _⟩ => show q.val = win0_7.index t (1 : Fin 2) * 3072 + 1 * q.val; rw [e1]; omega

/-- Result 4, entry by entry. -/
def G8 (c : Dev nD) : S8192x32.Idx → EReal := fun i => ∑ k : Fin 1024, hFull m c (i 0) k * wAt (wtArr m c) (7680 + (i 1).val) k

theorem after_8 (c : Dev nD) (t : Fin cfg0.N) (r : Fin 256) (q : Fin 32) :
    (outsAt0 m c t.val t.isLt).2.2.2.2.1 (ix2 r q) = G8 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_8]
    rw [scratch m c]; exact Finset.sum_congr rfl fun k _ => congrArg (· * _) (hRow_iblk m c t r k)
  · rw [outsAt0_A m c t (by omega) h1]
    dsimp only
    rw [out_A_8]
    exact Finset.sum_congr rfl fun k _ => congrArg (· * _) (hRow_iblk m c t r k)

theorem idx_out8 : ∀ t : Fin cfg0.N, win0_8.index t (0 : Fin 2) = t.val ∧ win0_8.index t (1 : Fin 2) = 0 :=
  (by decide +kernel : ∀ t : Fin grid0.N, _)

theorem result_8 (c : Dev nD) : (dats m 0 c).arrAt 8 cfg0.N = G8 m c := by
  refine (dats m 0 c).arrAt_eq_of_covers 8 _ (by decide +kernel) fun t hf y => ?_
  obtain ⟨e0, e1⟩ := idx_out8 t
  obtain ⟨r, q, rfl⟩ : ∃ (r : Fin 256) (q : Fin 32), y = ix2 r q := ⟨y 0, y 1, eq_ix2 y⟩
  rw [after0_8]
  refine (after_8 m c t r q).trans (congrArg (G8 m c) ?_)
  funext a; apply Fin.ext
  match a with
  | ⟨0, _⟩ => show 256 * t.val + r.val = win0_8.index t (0 : Fin 2) * 256 + 1 * r.val; rw [e0]; omega
  | ⟨1, _⟩ => show q.val = win0_8.index t (1 : Fin 2) * 32 + 1 * q.val; rw [e1]; omega

/-- Result 5, entry by entry. -/
def G9 (c : Dev nD) : S8192x2048.Idx → EReal := fun i => ∑ k : Fin 1024, hFull m c (i 0) k * wAt (wtArr m c) (7712 + (i 1).val) k

theorem after_9 (c : Dev nD) (t : Fin cfg0.N) (r : Fin 256) (q : Fin 2048) :
    (outsAt0 m c t.val t.isLt).2.2.2.2.2.1 (ix2 r q) = G9 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_9]
    rw [scratch m c]; exact Finset.sum_congr rfl fun k _ => congrArg (· * _) (hRow_iblk m c t r k)
  · rw [outsAt0_A m c t (by omega) h1]
    dsimp only
    rw [out_A_9]
    exact Finset.sum_congr rfl fun k _ => congrArg (· * _) (hRow_iblk m c t r k)

theorem idx_out9 : ∀ t : Fin cfg0.N, win0_9.index t (0 : Fin 2) = t.val ∧ win0_9.index t (1 : Fin 2) = 0 :=
  (by decide +kernel : ∀ t : Fin grid0.N, _)

theorem result_9 (c : Dev nD) : (dats m 0 c).arrAt 9 cfg0.N = G9 m c := by
  refine (dats m 0 c).arrAt_eq_of_covers 9 _ (by decide +kernel) fun t hf y => ?_
  obtain ⟨e0, e1⟩ := idx_out9 t
  obtain ⟨r, q, rfl⟩ : ∃ (r : Fin 256) (q : Fin 2048), y = ix2 r q := ⟨y 0, y 1, eq_ix2 y⟩
  rw [after0_9]
  refine (after_9 m c t r q).trans (congrArg (G9 m c) ?_)
  funext a; apply Fin.ext
  match a with
  | ⟨0, _⟩ => show 256 * t.val + r.val = win0_9.index t (0 : Fin 2) * 256 + 1 * r.val; rw [e0]; omega
  | ⟨1, _⟩ => show q.val = win0_9.index t (1 : Fin 2) * 2048 + 1 * q.val; rw [e1]; omega

/-- Result 6, entry by entry. -/
def G10 (c : Dev nD) : S8192x1024.Idx → EReal := fun i => hFull m c (i 0) (i 1)

theorem after_10 (c : Dev nD) (t : Fin cfg0.N) (r : Fin 256) (q : Fin 1024) :
    (outsAt0 m c t.val t.isLt).2.2.2.2.2.2.1 (ix2 r q) = G10 m c (ix2 ⟨256 * t.val + r.val, row_lt t r⟩ q) := by
  have hN : t.val < 32 := lt_of_lt_of_eq t.isLt N_0
  by_cases h1 : 1 ≤ t.val
  · rw [outsAt0_B m c t (by omega) h1]
    dsimp only
    rw [out_B_10]
    exact hRow_iblk m c t r q
  · rw [outsAt0_A m c t (by omega) h1]
    dsimp only
    rw [out_A_10]
    exact hRow_iblk m c t r q

theorem idx_out10 : ∀ t : Fin cfg0.N, win0_10.index t (0 : Fin 2) = t.val ∧ win0_10.index t (1 : Fin 2) = 0 :=
  (by decide +kernel : ∀ t : Fin grid0.N, _)

theorem result_10 (c : Dev nD) : (dats m 0 c).arrAt 10 cfg0.N = G10 m c := by
  refine (dats m 0 c).arrAt_eq_of_covers 10 _ (by decide +kernel) fun t hf y => ?_
  obtain ⟨e0, e1⟩ := idx_out10 t
  obtain ⟨r, q, rfl⟩ : ∃ (r : Fin 256) (q : Fin 1024), y = ix2 r q := ⟨y 0, y 1, eq_ix2 y⟩
  rw [after0_10]
  refine (after_10 m c t r q).trans (congrArg (G10 m c) ?_)
  funext a; apply Fin.ext
  match a with
  | ⟨0, _⟩ => show 256 * t.val + r.val = win0_10.index t (0 : Fin 2) * 256 + 1 * r.val; rw [e0]; omega
  | ⟨1, _⟩ => show q.val = win0_10.index t (1 : Fin 2) * 1024 + 1 * q.val; rw [e1]; omega

end Cert.InprojIdeal.Rows
-- ==== Proof.InprojClaim.lean ====
/-
  The claim on the forward input projection (hand-written, untrusted): kernel and reference end with equal arrays.
-/
module

public import proofs.«01_k».proof.Defs
public import proofs.«01_k».proof.Proof.Inproj
public import Idealize.ShloMosaic.Lib.Pointwise

@[expose] public section

set_option maxRecDepth 16384

noncomputable section

open Idealize.ShloMosaic Idealize.ShloMosaic.TcCoe Idealize.SL.Sem
open Cert.InprojIdeal.Rows

namespace Cert.Proof

/-- The kernel multiplies norm weight and modulation first, the reference last. -/
theorem hEntry_eq (x : Fin 1024 → EReal) (nw sc sh : EReal) (k : Fin 1024) :
    hEntry x nw sc sh k = x k * Ideal.rsqrt (Ideal.div (∑ j, x j * x j) (Ideal.ofBits .f32 1149239296#32) + Ideal.ofBits .f32 897988541#32) * nw * (1 + sc) + sh := by
  unfold hEntry
  rw [mul_assoc _ nw]

/-- Kernel and reference end with the same seven arrays. -/
theorem algebraic_Inproj : Cert.algebraic_InprojIdeal_InprojRefIdeal := by
  intro m g m' g' _ hagree
  refine ⟨fun c => G4 m c, fun c => G5 m c, fun c => G6 m c, fun c => G7 m c, fun c => G8 m c, fun c => G9 m c, fun c => G10 m c,
    (θ_run (Cert.InprojIdeal.defs (F := Ideal)) _ _).mono (fun r h c => ⟨(h c).1.trans (result_4 m c), (h c).2.1.trans (result_5 m c), (h c).2.2.1.trans (result_6 m c), (h c).2.2.2.1.trans (result_7 m c), (h c).2.2.2.2.1.trans (result_8 m c), (h c).2.2.2.2.2.1.trans (result_9 m c), (h c).2.2.2.2.2.2.1.trans (result_10 m c), (h c).2.2.2.2.2.2.2⟩) (Cert.InprojIdeal.Value.run_blocks m g),
    (θ_run (Cert.InprojRefIdeal.defs (F := Ideal)) _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.InprojRefIdeal.Value.run m' g')⟩
  · funext i
    obtain ⟨R, q, rfl⟩ : ∃ (R : Fin 8192) (q : Fin 1024), i = ix2 R q := ⟨i 0, i 1, eq_ix2 i⟩
    rw [(hagree c).1, (hagree c).2.1, (hagree c).2.2.1, (hagree c).2.2.2.1, (hagree c).2.2.2.2]
    refine Eq.trans ?_ (show ∑ k : Fin 1024, hFull m c R k * wAt (wtArr m c) (0 + q.val) k = _ from rfl)
    pointwise
    have hq := q.isLt
    refine Finset.sum_congr rfl fun k _ => ?_
    unfold hFull wAt
    rw [hEntry_eq, dif_pos (by omega), wtArr_apply]
  · funext i
    obtain ⟨R, q, rfl⟩ : ∃ (R : Fin 8192) (q : Fin 512), i = ix2 R q := ⟨i 0, i 1, eq_ix2 i⟩
    rw [(hagree c).1, (hagree c).2.1, (hagree c).2.2.1, (hagree c).2.2.2.1, (hagree c).2.2.2.2]
    refine Eq.trans ?_ (show ∑ k : Fin 1024, hFull m c R k * wAt (wtArr m c) (1024 + q.val) k = _ from rfl)
    pointwise
    have hq := q.isLt
    refine Finset.sum_congr rfl fun k _ => ?_
    unfold hFull wAt
    rw [hEntry_eq, dif_pos (by omega), wtArr_apply]
  · funext i
    obtain ⟨R, q, rfl⟩ : ∃ (R : Fin 8192) (q : Fin 3072), i = ix2 R q := ⟨i 0, i 1, eq_ix2 i⟩
    rw [(hagree c).1, (hagree c).2.1, (hagree c).2.2.1, (hagree c).2.2.2.1, (hagree c).2.2.2.2]
    refine Eq.trans ?_ (show ∑ k : Fin 1024, hFull m c R k * wAt (wtArr m c) (1536 + q.val) k = _ from rfl)
    pointwise
    have hq := q.isLt
    refine Finset.sum_congr rfl fun k _ => ?_
    unfold hFull wAt
    rw [hEntry_eq, dif_pos (by omega), wtArr_apply]
  · funext i
    obtain ⟨R, q, rfl⟩ : ∃ (R : Fin 8192) (q : Fin 3072), i = ix2 R q := ⟨i 0, i 1, eq_ix2 i⟩
    rw [(hagree c).1, (hagree c).2.1, (hagree c).2.2.1, (hagree c).2.2.2.1, (hagree c).2.2.2.2]
    refine Eq.trans ?_ (show ∑ k : Fin 1024, hFull m c R k * wAt (wtArr m c) (4608 + q.val) k = _ from rfl)
    pointwise
    have hq := q.isLt
    refine Finset.sum_congr rfl fun k _ => ?_
    unfold hFull wAt
    rw [hEntry_eq, dif_pos (by omega), wtArr_apply]
  · funext i
    obtain ⟨R, q, rfl⟩ : ∃ (R : Fin 8192) (q : Fin 32), i = ix2 R q := ⟨i 0, i 1, eq_ix2 i⟩
    rw [(hagree c).1, (hagree c).2.1, (hagree c).2.2.1, (hagree c).2.2.2.1, (hagree c).2.2.2.2]
    refine Eq.trans ?_ (show ∑ k : Fin 1024, hFull m c R k * wAt (wtArr m c) (7680 + q.val) k = _ from rfl)
    pointwise
    have hq := q.isLt
    refine Finset.sum_congr rfl fun k _ => ?_
    unfold hFull wAt
    rw [hEntry_eq, dif_pos (by omega), wtArr_apply]
  · funext i
    obtain ⟨R, q, rfl⟩ : ∃ (R : Fin 8192) (q : Fin 2048), i = ix2 R q := ⟨i 0, i 1, eq_ix2 i⟩
    rw [(hagree c).1, (hagree c).2.1, (hagree c).2.2.1, (hagree c).2.2.2.1, (hagree c).2.2.2.2]
    refine Eq.trans ?_ (show ∑ k : Fin 1024, hFull m c R k * wAt (wtArr m c) (7712 + q.val) k = _ from rfl)
    pointwise
    have hq := q.isLt
    refine Finset.sum_congr rfl fun k _ => ?_
    unfold hFull wAt
    rw [hEntry_eq, dif_pos (by omega), wtArr_apply]
  · funext i
    obtain ⟨R, q, rfl⟩ : ∃ (R : Fin 8192) (q : Fin 1024), i = ix2 R q := ⟨i 0, i 1, eq_ix2 i⟩
    rw [(hagree c).1, (hagree c).2.1, (hagree c).2.2.1, (hagree c).2.2.2.1]
    refine Eq.trans ?_ (show hFull m c R q = _ from rfl)
    pointwise
    unfold hFull
    rw [hEntry_eq]

end Cert.Proof
-- ==== Proof.Dh.lean ====
/-
  The value of the gradient of the combined input projection, its adaLN and its RMS norm (hand-written, untrusted): the first
  point copies the whole weight into a scratch array, in six parts; every point adds up the six products of its 256 rows of
  cotangents, goes back through modulation and norm, and adds its rows to three sums over all rows.
-/
module

public import proofs.«01_k».proof.Proof.Pieces
public import proofs.«01_k».proof.Proof.Sums
public import proofs.«01_k».proof.Proof.Gen.DhIdeal.Value
public import proofs.«01_k».proof.Proof.Gen.DhRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DhIdeal.Rows

open Cert.DhIdeal Cert.DhIdeal.Gen Cert.DhIdeal.Value

theorem hz : (![0, 0] : Fin 2 → Nat) = fun _ => 0 := funext fun a => by fin_cases a <;> rfl

/-- The weight's array, as the copies read it. -/
abbrev wOf (c : Dev nD) (fh0 : HbBuf0 (F := Ideal) c hbM0_0) : S9760x1024.Idx → Elt Ideal .bf16 := fh0

/-- The weight's row `q`, as a function of every natural `q`. -/
def wAt (w : S9760x1024.Idx → EReal) (q : ℕ) (k : Fin 1024) : EReal :=
  if h : q < 9760 then w (ix2 (⟨q, h⟩ : Fin 9760) k) else 0

/-- One entry of the gradient of the projection: the six streams' rows against column `k` of the weight. -/
def dEntry (a : Fin 1024 → EReal) (b : Fin 512 → EReal) (c d : Fin 3072 → EReal) (e : Fin 32 → EReal) (f : Fin 2048 → EReal)
    (w : ℕ → EReal) : EReal :=
  (∑ j : Fin 1024, a j * w j.val) + (∑ j : Fin 512, b j * w (1024 + j.val)) + (∑ j : Fin 3072, c j * w (1536 + j.val))
    + (∑ j : Fin 3072, d j * w (4608 + j.val)) + (∑ j : Fin 32, e j * w (7680 + j.val)) + ∑ j : Fin 2048, f j * w (7712 + j.val)

/-- The same in a block of rows. -/
abbrev dBlk (x4 : S256x1024.Idx → EReal) (x5 : S256x512.Idx → EReal) (x6 x7 : S256x3072.Idx → EReal) (x8 : S256x32.Idx → EReal)
    (x9 : S256x2048.Idx → EReal) (w : S9760x1024.Idx → EReal) (r : Fin 256) (k : Fin 1024) : EReal :=
  dEntry (fun j => x4 (ix2 r j)) (fun j => x5 (ix2 r j)) (fun j => x6 (ix2 r j)) (fun j => x7 (ix2 r j)) (fun j => x8 (ix2 r j))
    (fun j => x9 (ix2 r j)) (fun q => wAt w q k)

theorem wAt_of (w : S9760x1024.Idx → EReal) (q : ℕ) (k : Fin 1024) (h : q < 9760) : wAt w q k = w (ix2 (⟨q, h⟩ : Fin 9760) k) := by
  unfold wAt
  rw [dif_pos h]

theorem dBlk_eq (x4 : S256x1024.Idx → EReal) (x5 : S256x512.Idx → EReal) (x6 x7 : S256x3072.Idx → EReal) (x8 : S256x32.Idx → EReal)
    (x9 : S256x2048.Idx → EReal) (w : S9760x1024.Idx → EReal) (r : Fin 256) (k : Fin 1024) :
    dBlk x4 x5 x6 x7 x8 x9 w r k =
      (∑ j : Fin 1024, x4 (ix2 r j) * w (ix2 (⟨j.val, by have := j.isLt; omega⟩ : Fin 9760) k))
      + (∑ j : Fin 512, x5 (ix2 r j) * w (ix2 (⟨1024 + j.val, by have := j.isLt; omega⟩ : Fin 9760) k))
      + (∑ j : Fin 3072, x6 (ix2 r j) * w (ix2 (⟨1536 + j.val, by have := j.isLt; omega⟩ : Fin 9760) k))
      + (∑ j : Fin 3072, x7 (ix2 r j) * w (ix2 (⟨4608 + j.val, by have := j.isLt; omega⟩ : Fin 9760) k))
      + (∑ j : Fin 32, x8 (ix2 r j) * w (ix2 (⟨7680 + j.val, by have := j.isLt; omega⟩ : Fin 9760) k))
      + ∑ j : Fin 2048, x9 (ix2 r j) * w (ix2 (⟨7712 + j.val, by have := j.isLt; omega⟩ : Fin 9760) k) := by
  unfold dBlk dEntry
  refine congrArg₂ (· + ·) (congrArg₂ (· + ·) (congrArg₂ (· + ·) (congrArg₂ (· + ·) (congrArg₂ (· + ·) ?_ ?_) ?_) ?_) ?_) ?_
  all_goals exact Finset.sum_congr rfl fun j _ => congrArg (_ * ·) (wAt_of w _ k (by have := j.isLt; omega))

/-- The reciprocal root mean square of a row. -/
def rOf (x : Fin 1024 → EReal) : EReal :=
  Ideal.rsqrt (Ideal.div (∑ j, x j * x j) (Ideal.ofBits .f32 1149239296#32) + Ideal.ofBits .f32 897988541#32)

/-- A normalised entry. -/
def xnEntry (x : Fin 1024 → EReal) (k : Fin 1024) : EReal := x k * rOf x

/-- One entry of the gradient of the input, as the kernel forms it. -/
def gxEntry (x d nw sc : Fin 1024 → EReal) (dout : EReal) (k : Fin 1024) : EReal :=
  dout + rOf x * (d k * (nw k * (1 + sc k))
    - xnEntry x k * Ideal.div (∑ j, xnEntry x j * (d j * (nw j * (1 + sc j)))) (Ideal.ofBits .f32 1149239296#32))

/-- The gradient of the input, at the first point. -/
theorem out_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : cond0_0 i) (hc1 : ¬cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (fh0 : HbBuf0 (F := Ideal) c hbM0_0) (r : Fin 256) (q : Fin 1024) :
    out0_A_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0 (ix2 r q) = gxEntry (fun j => x0 (ix2 r j)) (fun j => dBlk x4 x5 x6 x7 x8 x9 (wOf c fh0) r j) (fun j => x2 (ix2 0 j)) (fun j => x3 (ix2 0 j)) (x1 (ix2 r q)) q := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0)]
  unfold kernelRun0_A
  dsimp only
  sl_unfold_words
  rw [View.canon_unit_zero hz]
  repeat rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The gradient of the input, at a later point. -/
theorem out_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : ¬cond0_0 i) (hc1 : cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (xo11 : Vec Ideal S1x1024 .f32) (xo12 : Vec Ideal S1x1024 .f32) (xo13 : Vec Ideal S1x1024 .f32) (xs0 : Vec Ideal S9760x1024 .bf16) (fh0 : HbBuf0 (F := Ideal) c hbM0_0) (r : Fin 256) (q : Fin 1024) :
    out0_B_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0 (ix2 r q) = gxEntry (fun j => x0 (ix2 r j)) (fun j => dBlk x4 x5 x6 x7 x8 x9 (xs0) r j) (fun j => x2 (ix2 0 j)) (fun j => x3 (ix2 0 j)) (x1 (ix2 r q)) q := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The sum of the rows for the shift, at the first point. -/
theorem out_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : cond0_0 i) (hc1 : ¬cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (fh0 : HbBuf0 (F := Ideal) c hbM0_0) (q : Fin 1024) :
    out0_A_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0 (ix2 (0 : Fin 1) q) = ∑ r : Fin 256, dBlk x4 x5 x6 x7 x8 x9 (wOf c fh0) r q := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0)]
  unfold kernelRun0_A
  dsimp only
  sl_unfold_words
  rw [View.canon_cons_unit_zero (S := S1x1024) hz, View.readCov_unit_zero (S := S1x1024) _ hz]
  repeat rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The sum of the rows for the shift, at a later point. -/
theorem out_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : ¬cond0_0 i) (hc1 : cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (xo11 : Vec Ideal S1x1024 .f32) (xo12 : Vec Ideal S1x1024 .f32) (xo13 : Vec Ideal S1x1024 .f32) (xs0 : Vec Ideal S9760x1024 .bf16) (fh0 : HbBuf0 (F := Ideal) c hbM0_0) (q : Fin 1024) :
    out0_B_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0 (ix2 (0 : Fin 1) q) = xo11 (ix2 0 q) + ∑ r : Fin 256, dBlk x4 x5 x6 x7 x8 x9 (xs0) r q := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The sum of the rows for the scale, at the first point. -/
theorem out_A_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : cond0_0 i) (hc1 : ¬cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (fh0 : HbBuf0 (F := Ideal) c hbM0_0) (q : Fin 1024) :
    out0_A_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0 (ix2 (0 : Fin 1) q) = (∑ r : Fin 256, dBlk x4 x5 x6 x7 x8 x9 (wOf c fh0) r q * xnEntry (fun j => x0 (ix2 r j)) q) * x2 (ix2 0 q) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0)]
  unfold kernelRun0_A
  dsimp only
  sl_unfold_words
  rw [View.canon_cons_unit_zero (S := S1x1024) hz, View.readCov_unit_zero (S := S1x1024) _ hz]
  repeat rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The sum of the rows for the scale, at a later point. -/
theorem out_B_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : ¬cond0_0 i) (hc1 : cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (xo11 : Vec Ideal S1x1024 .f32) (xo12 : Vec Ideal S1x1024 .f32) (xo13 : Vec Ideal S1x1024 .f32) (xs0 : Vec Ideal S9760x1024 .bf16) (fh0 : HbBuf0 (F := Ideal) c hbM0_0) (q : Fin 1024) :
    out0_B_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0 (ix2 (0 : Fin 1) q) = xo12 (ix2 0 q) + (∑ r : Fin 256, dBlk x4 x5 x6 x7 x8 x9 (xs0) r q * xnEntry (fun j => x0 (ix2 r j)) q) * x2 (ix2 0 q) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The sum of the rows for the norm weight, at the first point. -/
theorem out_A_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : cond0_0 i) (hc1 : ¬cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (fh0 : HbBuf0 (F := Ideal) c hbM0_0) (q : Fin 1024) :
    out0_A_13 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0 (ix2 (0 : Fin 1) q) = (∑ r : Fin 256, dBlk x4 x5 x6 x7 x8 x9 (wOf c fh0) r q * xnEntry (fun j => x0 (ix2 r j)) q) * (1 + x3 (ix2 0 q)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0)]
  unfold kernelRun0_A
  dsimp only
  sl_unfold_words
  rw [View.canon_cons_unit_zero (S := S1x1024) hz, View.readCov_unit_zero (S := S1x1024) _ hz]
  repeat rw [Cert.Pieces.readCov_of_agree _ (wOf c fh0) _ _ (by repeat' first | exact fun p hp => absurd hp List.not_mem_nil | refine List.forall_mem_cons.mpr ⟨fun _ => rfl, ?_⟩) (by first | exact ⟨_, .head _⟩ | exact ⟨_, .tail _ (.head _)⟩ | exact ⟨_, .tail _ (.tail _ (.head _))⟩ | exact ⟨_, .tail _ (.tail _ (.tail _ (.head _)))⟩ | exact ⟨_, .tail _ (.tail _ (.tail _ (.tail _ (.head _))))⟩ | exact ⟨_, .tail _ (.tail _ (.tail _ (.tail _ (.tail _ (.head _)))))⟩)]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The sum of the rows for the norm weight, at a later point. -/
theorem out_B_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : ¬cond0_0 i) (hc1 : cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (xo11 : Vec Ideal S1x1024 .f32) (xo12 : Vec Ideal S1x1024 .f32) (xo13 : Vec Ideal S1x1024 .f32) (xs0 : Vec Ideal S9760x1024 .bf16) (fh0 : HbBuf0 (F := Ideal) c hbM0_0) (q : Fin 1024) :
    out0_B_13 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0 (ix2 (0 : Fin 1) q) = xo13 (ix2 0 q) + (∑ r : Fin 256, dBlk x4 x5 x6 x7 x8 x9 (xs0) r q * xnEntry (fun j => x0 (ix2 r j)) q) * (1 + x3 (ix2 0 q)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 xo11 xo12 xo13 xs0 fh0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread, View.ld_unit_zero (S := S256x1024) hz, View.ld_unit_zero (S := S1x1024) hz, View.ld_unit_zero (S := S256x512) hz, View.ld_unit_zero (S := S256x3072) hz, View.ld_unit_zero (S := S256x32) hz, View.ld_unit_zero (S := S256x2048) hz]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  simp only [gxEntry, xnEntry, rOf, dBlk_eq]

/-- The first point leaves the scratch array holding the whole weight. -/
theorem scratch_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x3072 .bf16) (harg7 : arg7.IsWhole) (arg8 : Memref sig .tc .vmem S256x3072 .bf16) (harg8 : arg8.IsWhole) (arg9 : Memref sig .tc .vmem S256x32 .bf16) (harg9 : arg9.IsWhole) (arg10 : Memref sig .tc .vmem S256x2048 .bf16) (harg10 : arg10.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S9760x1024 .bf16) (harg16 : arg16.IsWhole) (hc0 : cond0_0 i) (hc1 : ¬cond0_1 i) (x0 : Vec Ideal S256x1024 .f32) (x1 : Vec Ideal S256x1024 .f32) (x2 : Vec Ideal S1x1024 .f32) (x3 : Vec Ideal S1x1024 .f32) (x4 : Vec Ideal S256x1024 .bf16) (x5 : Vec Ideal S256x512 .bf16) (x6 : Vec Ideal S256x3072 .bf16) (x7 : Vec Ideal S256x3072 .bf16) (x8 : Vec Ideal S256x32 .bf16) (x9 : Vec Ideal S256x2048 .bf16) (fh0 : HbBuf0 (F := Ideal) c hbM0_0) : sout0_A_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0 = wOf c fh0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0)]
  exact Cert.Pieces.canon_of_agree (wOf c fh0) _ (by
    unfold kernelRun0_A; dsimp only; sl_unfold_words
    repeat' first | exact fun p hp => absurd hp List.not_mem_nil | refine List.forall_mem_cons.mpr ⟨fun _ => rfl, ?_⟩)
    (scover0_A_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 hc0 hc1 x0 x1 x2 x3 x4 x5 x6 x7 x8 x9 fh0)

variable (m : (ℓ : Loc nD τ sig) → Buf (Elt Ideal) ℓ) (ρ : Dev nD → PrngReg)

/-- The arguments as plain arrays of extended reals. -/
abbrev xArr (c : Dev nD) : S8192x1024.Idx → EReal := m ((c : Thread nD τ).loc main_arg0)
abbrev doArr (c : Dev nD) : S8192x1024.Idx → EReal := m ((c : Thread nD τ).loc main_arg1)
abbrev nwArr (c : Dev nD) : S1x1024.Idx → EReal := m ((c : Thread nD τ).loc main_arg2)
abbrev scArr (c : Dev nD) : S1x1024.Idx → EReal := m ((c : Thread nD τ).loc main_arg3)
abbrev d0Arr (c : Dev nD) : S8192x1024.Idx → EReal := m ((c : Thread nD τ).loc main_arg4)
abbrev d1Arr (c : Dev nD) : S8192x512.Idx → EReal := m ((c : Thread nD τ).loc main_arg5)
abbrev d2Arr (c : Dev nD) : S8192x3072.Idx → EReal := m ((c : Thread nD τ).loc main_arg6)
abbrev d3Arr (c : Dev nD) : S8192x3072.Idx → EReal := m ((c : Thread nD τ).loc main_arg7)
abbrev d4Arr (c : Dev nD) : S8192x32.Idx → EReal := m ((c : Thread nD τ).loc main_arg8)
abbrev d5Arr (c : Dev nD) : S8192x2048.Idx → EReal := m ((c : Thread nD τ).loc main_arg9)
abbrev winArr (c : Dev nD) : S1024x9760.Idx → EReal := m ((c : Thread nD τ).loc main_arg10)
/-- The weight as the kernel's copies read it. -/
abbrev wtArr (c : Dev nD) : S9760x1024.Idx → EReal := V m c main_v1

/-- It is the argument, transposed. -/
theorem wtArr_apply (c : Dev nD) (q : Fin 9760) (k : Fin 1024) : wtArr m c (ix2 q k) = winArr m c (ix2 k q) := by
  have e : V m c main_v1 = truncf (F := Ideal) .bf16 (transpose S9760x1024 [1, 0] (m ((c : Thread nD τ).loc main_arg10)) transposes_S1024x9760_S9760x1024_1_0) bitsLt_bf16_f32 := by
    show StableHlo.after hostOps0 _ _ = _
    after_results_simp
  unfold wtArr
  rw [e]
  pointwise

/-- After every point the scratch array holds the whole weight. -/
theorem scratch (c : Dev nD) (n : ℕ) : ∀ hn : n < cfg0.N, (outsAt0 m c n hn).2.2.2.2 = V m c main_v1 := by
  induction n with
  | zero =>
    intro hn
    refine (congrArg (fun o => o.2.2.2.2) (outsAt0_A m c ⟨0, hn⟩ (by show 0 % 32 = 0; rfl) (by show ¬1 ≤ 0; omega))).trans ?_
    dsimp only
    exact scratch_A c _ _ _ _ _ _ _ _ _ _ _ _ _ _ _ _ _ _ _ _ _ _ _ _ _ _ _ _ _ _ _ _ _ _ _ _ _ _ _ _ _ _ _ _
  | succ n ih =>
    intro hn
    have hN : n + 1 < 32 := lt_of_lt_of_eq hn N_0
    refine (congrArg (fun o => o.2.2.2.2) (outsAt0_B m c ⟨n + 1, hn⟩ (by show ¬(n + 1) % 32 = 0; omega) (by show 1 ≤ n + 1; omega))).trans ?_
    dsimp only
    unfold sout0_B_0
    exact ih _

/-- The array's row with number `R`. -/
def rowN (R : ℕ) : Fin 8192 := ⟨R % 8192, Nat.mod_lt _ (by decide)⟩

theorem rowN_val (R : Fin 8192) : rowN R.val = R := Fin.ext (Nat.mod_eq_of_lt R.isLt)

theorem idx_in0 : ∀ t : Fin cfg0.N, win0_0.index t (0 : Fin 2) = t.val ∧ win0_0.index t (1 : Fin 2) = 0 :=
  (by decide +kernel : ∀ t : Fin grid0.N, _)

theorem iblk0_apply (c : Dev nD) (t : Fin cfg0.N) (r : Fin 256) (j : Fin 1024) :
    iblk m c 0 t (ix2 r j : S256x1024.Idx) = xArr m c (ix2 (rowN (256 * t.val + r.val)) j) := by
  obtain ⟨e0, e1⟩ := idx_in0 t
  have hN : t.val < 32 := lt_of_lt_of_eq t.isLt N_0
  have hr := r.isLt
  unfold xArr; rw [← V_main_arg0 m c]
  show V m c main_arg0 (((cfg0.win 0).blk t).view.emb (ix2 r j : S256x1024.Idx)) = _
  congr 1
  funext a; apply Fin.ext
  match a with
  | ⟨0, _⟩ => show win0_0.index t (0 : Fin 2) * 256 + 1 * r.val = (256 * t.val + r.val) % 8192; rw [e0]; omega
  | ⟨1, _⟩ => show win0_0.index t (1 : Fin 2) * 1024 + 1 * j.val = j.val; rw [e1]; omega

theorem idx_in1 : ∀ t : Fin cfg0.N, win0_1.index t (0 : Fin 2) = t.val ∧ win0_1.index t (1 : Fin 2) = 0 :=
  (by decide +kernel : ∀ t : Fin grid0.N, _)

theorem iblk1_apply (c : Dev nD) (t : Fin cfg0.N) (r : Fin 256) (j : Fin 1024) :
    iblk m c 1 t (ix2 r j : S256x1024.Idx) = doArr m c (ix2 (rowN (256 * t.val + r.val)) j) := by
  obtain ⟨e0, e1⟩ := idx_in1 t
  have hN : t.val < 32 := lt_of_lt_of_eq t.isLt N_0
  have hr := r.isLt
  unfold doArr; rw [← V_main_arg1 m c]
  show V m c main_arg1 (((cfg0.win 1).blk t).view.emb (ix2 r j : S256x1024.Idx)) = _
  congr 1
  funext a; apply Fin.ext
  match a with
  | ⟨0, _⟩ => show win0_1.index t (0 : Fin 2) * 256 + 1 * r.val = (256 * t.val + r.val) % 8192; rw [e0]; omega
  | ⟨1, _⟩ => show win0_1.index t (1 : Fin 2) * 1024 + 1 * j.val = j.val; rw [e1]; omega

theorem idx_in4 : ∀ t : Fin cfg0.N, win0_4.index t (0 : Fin 2) = t.val ∧ win0_4.index t (1 : Fin 2) = 0 :=
  (by decide +kernel : ∀ t : Fin grid0.N, _)

theorem iblk4_apply (c : Dev nD) (t : Fin cfg0.N) (r : Fin 256) (j : Fin 1024) :
    iblk m c 4 t (ix2 r j : S256x1024.Idx) = d0Arr m c (ix2 (rowN (256 * t.val + r.val)) j) := by
  obtain ⟨e0, e1⟩ := idx_in4 t
  have hN : t.val < 32 := lt_of_lt_of_eq t.isLt N_0
  have hr := r.isLt
  unfold d0Arr; rw [← V_main_arg4 m c]
  show V m c main_arg4 (((cfg0.win 4).blk t).view.emb (ix2 r j : S256x1024.Idx)) = _
  congr 1
  funext a; apply Fin.ext
  match a with
  | ⟨0, _⟩ => show win0_4.index t (0 : Fin 2) * 256 + 1 * r.val = (256 * t.val + r.val) % 8192; rw [e0]; omega
  | ⟨1, _⟩ => show win0_4.index t (1 : Fin 2) * 1024 + 1 * j.val = j.val; rw [e1]; omega

theorem idx_in5 : ∀ t : Fin cfg0.N, win0_5.index t (0 : Fin 2) = t.val ∧ win0_5.index t (1 : Fin 2) = 0 :=
  (by decide +kernel : ∀ t : Fin grid0.N, _)

theorem iblk5_apply (c : Dev nD) (t : Fin cfg0.N) (r : Fin 256) (j : Fin 512) :
    iblk m c 5 t (ix2 r j : S256x512.Idx) = d1Arr m c (ix2 (rowN (256 * t.val + r.val)) j) := by
  obtain ⟨e0, e1⟩ := idx_in5 t
  have hN : t.val < 32 := lt_of_lt_of_eq t.isLt N_0
  have hr := r.isLt
  unfold d1Arr; rw [← V_main_arg5 m c]
  show V m c main_arg5 (((cfg0.win 5).blk t).view.emb (ix2 r j : S256x512.Idx)) = _
  congr 1
  funext a; apply Fin.ext
  match a with
  | ⟨0, _⟩ => show win0_5.index t (0 : Fin 2) * 256 + 1 * r.val = (256 * t.val + r.val) % 8192; rw [e0]; omega
  | ⟨1, _⟩ => show win0_5.index t (1 : Fin 2) * 512 + 1 * j.val = j.val; rw [e1]; omega

theorem idx_in6 : ∀ t : Fin cfg0.N, win0_6.index t (0 : Fin 2) = t.val ∧ win0_6.index t (1 : Fin 2) = 0 :=
  (by decide +kernel : ∀ t : Fin grid0.N, _)

theorem iblk6_apply (c : Dev nD) (t : Fin cfg0.N) (r : Fin 256) (j : Fin 3072) :
    iblk m c 6 t (ix2 r j : S256x3072.Idx) = d2Arr m c (ix2 (rowN (256 * t.val + r.val)) j) := by
  obtain ⟨e0, e1⟩ := idx_in6 t
  have hN : t.val < 32 := lt_of_lt_of_eq t.isLt N_0
  have hr := r.isLt
  unfold d2Arr; rw [← V_main_arg6 m c]
  show V m c main_arg6 (((cfg0.win 6).blk t).view.emb (ix2 r j : S256x3072.Idx)) = _
  congr 1
  funext a; apply Fin.ext
  match a with
  | ⟨0, _⟩ => show win0_6.index t (0 : Fin 2) * 256 + 1 * r.val = (256 * t.val + r.val) % 8192; rw [e0]; omega
  | ⟨1, _⟩ => show win0_6.index t (1 : Fin 2) * 3072 + 1 * j.val = j.val; rw [e1]; omega

theorem idx_in7 : ∀ t : Fin cfg0.N, win0_7.index t (0 : Fin 2) = t.val ∧ win0_7.index t (1 : Fin 2) = 0 :=
  (by decide +kernel : ∀ t : Fin grid0.N, _)

theorem iblk7_apply (c : Dev nD) (t : Fin cfg0.N) (r : Fin 256) (j : Fin 3072) :
    iblk m c 7 t (ix2 r j : S256x3072.Idx) = d3Arr m c (ix2 (rowN (256 * t.val + r.val)) j) := by
  obtain ⟨e0, e1⟩ := idx_in7 t
  have hN : t.val < 32 := lt_of_lt_of_eq t.isLt N_0
  have hr := r.isLt
  unfold d3Arr; rw [← V_main_arg7 m c]
  show V m c main_arg7 (((cfg0.win 7).blk t).view.emb (ix2 r j : S256x3072.Idx)) = _
  congr 1
  funext a; apply Fin.ext
  match a with
  | ⟨0, _⟩ => show win0_7.index t (0 : Fin 2) * 256 + 1 * r.val = (256 * t.val + r.val) % 8192; rw [e0]; omega
  | ⟨1, _⟩ => show win0_7.index t (1 : Fin 2) * 3072 + 1 * j.val = j.val; rw [e1]; omega

theorem idx_in8 : ∀ t : Fin cfg0.N, win0_8.index t (0 : Fin 2) = t.val ∧ win0_8.index t (1 : Fin 2) = 0 :=
  (by decide +kernel : ∀ t : Fin grid0.N, _)

theorem iblk8_apply (c : Dev nD) (t : Fin cfg0.N) (r : Fin 256) (j : Fin 32) :
    iblk m c 8 t (ix2 r j : S256x32.Idx) = d4Arr m c (ix2 (rowN (256 * t.val + r.val)) j) := by
  obtain ⟨e0, e1⟩ := idx_in8 t
  have hN : t.val < 32 := lt_of_lt_of_eq t.isLt N_0
  have hr := r.isLt
  unfold d4Arr; rw [← V_main_arg8 m c]
  show V m c main_arg8 (((cfg0.win 8).blk t).view.emb (ix2 r j : S256x32.Idx)) = _
  congr 1
  funext a; apply Fin.ext
  match a with
  | ⟨0, _⟩ => show win0_8.index t (0 : Fin 2) * 256 + 1 * r.val = (256 * t.val + r.val) % 8192; rw [e0]; omega
  | ⟨1, _⟩ => show win0_8.index t (1 : Fin 2) * 32 + 1 * j.val = j.val; rw [e1]; omega

theorem idx_in9 : ∀ t : Fin cfg0.N, win0_9.index t (0 : Fin 2) = t.val ∧ win0_9.index t (1 : Fin 2) = 0 :=
  (by decide +kernel : ∀ t : Fin grid0.N, _)

theorem iblk9_apply (c : Dev nD) (t : Fin cfg0.N) (r : Fin 256) (j : Fin 2048) :
    iblk m c 9 t (ix2 r j : S256x2048.Idx) = d5Arr m c (ix2 (rowN (256 * t.val + r.val)) j) := by
  obtain ⟨e0, e1⟩ := idx_in9 t
  have hN : t.val < 32 := lt_of_lt_of_eq t.isLt N_0
  have hr := r.isLt
  unfold d5Arr; rw [← V_main_arg9 m c]
  show V m c main_arg9 (((cfg0.win 9).blk t).view.emb (ix2 r j : S256x2048.Idx)) = _
  congr 1
  funext a; apply Fin.ext
  match a with
  | ⟨0, _⟩ => show win0_9.index t (0 : Fin 2) * 256 + 1 * r.val = (256 * t.val + r.val) % 8192; rw [e0]; omega
  | ⟨1, _⟩ => show win0_9.index t (1 : Fin 2) * 2048 + 1 * j.val = j.val; rw [e1]; omega

theorem idx_in2 : ∀ t : Fin cfg0.N, win0_2.index t (0 : Fin 2) = 0 ∧ win0_2.index t (1 : Fin 2) = 0 :=
  (by decide +kernel : ∀ t : Fin grid0.N, _)

theorem iblk2_apply (c : Dev nD) (t : Fin cfg0.N) (j : Fin 1024) :
    iblk m c 2 t (ix2 (0 : Fin 1) j : S1x1024.Idx) = nwArr m c (ix2 0 j) := by
  obtain ⟨e0, e1⟩ := idx_in2 t
  unfold nwArr; rw [← V_main_arg2 m c]
  show V m c main_arg2 (((cfg0.win 2).blk t).view.emb (ix2 (0 : Fin 1) j : S1x1024.Idx)) = _
  congr 1
  funext a; apply Fin.ext
  match a with
  | ⟨0, _⟩ => show win0_2.index t (0 : Fin 2) * 1 + 1 * 0 = 0; rw [e0]
  | ⟨1, _⟩ => show win0_2.index t (1 : Fin 2) * 1024 + 1 * j.val = j.val; rw [e1]; omega

theorem idx_in3 : ∀ t : Fin cfg0.N, win0_3.index t (0 : Fin 2) = 0 ∧ win0_3.index t (1 : Fin 2) = 0 :=
  (by decide +kernel : ∀ t : Fin grid0.N, _)

theorem iblk3_apply (c : Dev nD) (t : Fin cfg0.N) (j : Fin 1024) :
    iblk m c 3 t (ix2 (0 : Fin 1) j : S1x1024.Idx) = scArr m c (ix2 0 j) := by
  obtain ⟨e0, e1⟩ := idx_in3 t
  unfold scArr; rw [← V_main_arg3 m c]
  show V m c main_arg3 (((cfg0.win 3).blk t).view.emb (ix2 (0 : Fin 1) j : S1x1024.Idx)) = _
  congr 1
  funext a; apply Fin.ext
  match a with
  | ⟨0, _⟩ => show win0_3.index t (0 : Fin 2) * 1 + 1 * 0 = 0; rw [e0]
  | ⟨1, _⟩ => show win0_3.index t (1 : Fin 2) * 1024 + 1 * j.val = j.val; rw [e1]; omega

/-- Row `R` of the input. -/
def xRow (c : Dev nD) (R : Fin 8192) (j : Fin 1024) : EReal := xArr m c (ix2 R j)
/-- The norm weight and the scale, as functions of the column. -/
def nwRow (c : Dev nD) (j : Fin 1024) : EReal := nwArr m c (ix2 0 j)
def scRow (c : Dev nD) (j : Fin 1024) : EReal := scArr m c (ix2 0 j)
/-- The gradient of the projection's input, of the whole arrays. -/
def dFull (c : Dev nD) (R : Fin 8192) (k : Fin 1024) : EReal :=
  dEntry (fun j => d0Arr m c (ix2 R j)) (fun j => d1Arr m c (ix2 R j)) (fun j => d2Arr m c (ix2 R j)) (fun j => d3Arr m c (ix2 R j))
    (fun j => d4Arr m c (ix2 R j)) (fun j => d5Arr m c (ix2 R j)) (fun q => wAt (wtArr m c) q k)

theorem x_iblk (c : Dev nD) (t : Fin cfg0.N) (r : Fin 256) :
    (fun j => (iblk m c 0 t : S256x1024.Idx → EReal) (ix2 r j)) = xRow m c (rowN (256 * t.val + r.val)) :=
  funext fun j => iblk0_apply m c t r j

theorem nw_iblk (c : Dev nD) (t : Fin cfg0.N) : (fun j => (iblk m c 2 t : S1x1024.Idx → EReal) (ix2 0 j)) = nwRow m c :=
  funext fun j => iblk2_apply m c t j

theorem sc_iblk (c : Dev nD) (t : Fin cfg0.N) : (fun j => (iblk m c 3 t : S1x1024.Idx → EReal) (ix2 0 j)) = scRow m c :=
  funext fun j => iblk3_apply m c t j

theorem d_iblk (c : Dev nD) (t : Fin cfg0.N) (r : Fin 256) (k : Fin 1024) :
    dBlk (iblk m c 4 t) (iblk m c 5 t) (iblk m c 6 t) (iblk m c 7 t) (iblk m c 8 t) (iblk m c 9 t) (wtArr m c) r k
      = dFull m c (rowN (256 * t.val + r.val)) k := by
  have e4 : (fun j => (iblk m c 4 t : S256x1024.Idx → EReal) (ix2 r j)) = fun j => d0Arr m c (ix2 (rowN (256 * t.val + r.val)) j) :=
    funext fun j => iblk4_apply m c t r j
  have e5 : (fun j => (iblk m c 5 t : S256x512.Idx → EReal) (ix2 r j)) = fun j => d1Arr m c (ix2 (rowN (256 * t.val + r.val)) j) :=
    funext fun j => iblk5_apply m c t r j
  have e6 : (fun j => (iblk m c 6 t : S256x3072.Idx → EReal) (ix2 r j)) = fun j => d2Arr m c (ix2 (rowN (256 * t.val + r.val)) j) :=
    funext fun j => iblk6_apply m c t r j
  have e7 : (fun j => (iblk m c 7 t : S256x3072.Idx → EReal) (ix2 r j)) = fun j => d3Arr m c (ix2 (rowN (256 * t.val + r.val)) j) :=
    funext fun j => iblk7_apply m c t r j
  have e8 : (fun j => (iblk m c 8 t : S256x32.Idx → EReal) (ix2 r j)) = fun j => d4Arr m c (ix2 (rowN (256 * t.val + r.val)) j) :=
    funext fun j => iblk8_apply m c t r j
  have e9 : (fun j => (iblk m c 9 t : S256x2048.Idx → EReal) (ix2 r j)) = fun j => d5Arr m c (ix2 (rowN (256 * t.val + r.val)) j) :=
    funext fun j => iblk9_apply m c t r j
  show dEntry (fun j => (iblk m c 4 t : S256x1024.Idx → EReal) (ix2 r j)) (fun j => (iblk m c 5 t : S256x512.Idx → EReal) (ix2 r j))
    (fun j => (iblk m c 6 t : S256x3072.Idx → EReal) (ix2 r j)) (fun j => (iblk m c 7 t : S256x3072.Idx → EReal) (ix2 r j))
    (fun j => (iblk m c 8 t : S256x32.Idx → EReal) (ix2 r j)) (fun j => (iblk m c 9 t : S256x2048.Idx → EReal) (ix2 r j)) _ = _
  rw [e4, e5, e6, e7, e8, e9]
  rfl

/-- The gradient of the input, entry by entry. -/
def G10 (c : Dev nD) : S8192x1024.Idx → EReal := fun i =>
  gxEntry (xRow m c (i 0)) (dFull m c (i 0)) (nwRow m c) (scRow m c) (doArr m c i) (i 1)

theorem gx_iblk (c : Dev nD) (t : Fin cfg0.N) (r : Fin 256) (q : Fin 1024) :
    gxEntry (fun j => (iblk m c 0 t : S256x1024.Idx → EReal) (ix2 r j))
      (fun j => dBlk (iblk m c 4 t) (iblk m c 5 t) (iblk m c 6 t) (iblk m c 7 t) (iblk m c 8 t) (iblk m c 9 t) (wtArr m c) r j)
      (fun j => (iblk m c 2 t : S1x1024.Idx → EReal) (ix2 0 j)) (fun j => (iblk m c 3 t : S1x1024.Idx → EReal) (ix2 0 j))
      ((iblk m c 1 t : S256x1024.Idx → EReal) (ix2 r q)) q = G10 m c (ix2 (rowN (256 * t.val + r.val)) q) := by
  rw [x_iblk, nw_iblk, sc_iblk, show (fun j => dBlk (iblk m c 4 t) (iblk m c 5 t) (iblk m c 6 t) (iblk m c 7 t) (iblk m c 8 t) (iblk m c 9 t) (wtArr m c) r j)
    = dFull m c (rowN (256 * t.val + r.val)) from funext fun j => d_iblk m c t r j]
  refine congrArg (fun z => gxEntry _ _ _ _ z q) ?_
  exact iblk1_apply m c t r q

theorem after_10 (c : Dev nD) (t : Fin cfg0.N) (r : Fin 256) (q : Fin 1024) :
    (outsAt0 m c t.val t.isLt).1 (ix2 r q) = G10 m c (ix2 (rowN (256 * t.val + r.val)) q) := by
  have hN : t.val < 32 := lt_of_lt_of_eq t.isLt N_0
  by_cases h1 : 1 ≤ t.val
  · rw [outsAt0_B m c t (by omega) h1]
    dsimp only
    rw [out_B_10, scratch m c]
    exact gx_iblk m c t r q
  · rw [outsAt0_A m c t (by omega) h1]
    dsimp only
    rw [out_A_10]
    exact gx_iblk m c t r q

theorem idx_out10 : ∀ t : Fin cfg0.N, win0_10.index t (0 : Fin 2) = t.val ∧ win0_10.index t (1 : Fin 2) = 0 :=
  (by decide +kernel : ∀ t : Fin grid0.N, _)

theorem result_10 (c : Dev nD) : (dats m 0 c).arrAt 10 cfg0.N = G10 m c := by
  refine (dats m 0 c).arrAt_eq_of_covers 10 _ (by decide +kernel) fun t hf y => ?_
  obtain ⟨e0, e1⟩ := idx_out10 t
  have hN : t.val < 32 := lt_of_lt_of_eq t.isLt N_0
  obtain ⟨r, q, rfl⟩ : ∃ (r : Fin 256) (q : Fin 1024), y = ix2 r q := ⟨y 0, y 1, eq_ix2 y⟩
  have hr := r.isLt
  rw [after0_10]
  refine (after_10 m c t r q).trans (congrArg (G10 m c) ?_)
  funext a; apply Fin.ext
  match a with
  | ⟨0, _⟩ => show (256 * t.val + r.val) % 8192 = win0_10.index t (0 : Fin 2) * 256 + 1 * r.val; rw [e0]; omega
  | ⟨1, _⟩ => show q.val = win0_10.index t (1 : Fin 2) * 1024 + 1 * q.val; rw [e1]; omega

/-- What one tile of rows adds to the three sums. -/
def shTile (c : Dev nD) (q : Fin 1024) (s : ℕ) : EReal := ∑ r : Fin 256, dFull m c (rowN (256 * s + r.val)) q
def xnTile (c : Dev nD) (q : Fin 1024) (s : ℕ) : EReal :=
  ∑ r : Fin 256, dFull m c (rowN (256 * s + r.val)) q * xnEntry (xRow m c (rowN (256 * s + r.val))) q

theorem sh_iblk (c : Dev nD) (t : Fin cfg0.N) (q : Fin 1024) :
    (∑ r : Fin 256, dBlk (iblk m c 4 t) (iblk m c 5 t) (iblk m c 6 t) (iblk m c 7 t) (iblk m c 8 t) (iblk m c 9 t) (wtArr m c) r q) = shTile m c q t.val :=
  Finset.sum_congr rfl fun r _ => d_iblk m c t r q

theorem xn_iblk (c : Dev nD) (t : Fin cfg0.N) (q : Fin 1024) :
    (∑ r : Fin 256, dBlk (iblk m c 4 t) (iblk m c 5 t) (iblk m c 6 t) (iblk m c 7 t) (iblk m c 8 t) (iblk m c 9 t) (wtArr m c) r q
      * xnEntry (fun j => (iblk m c 0 t : S256x1024.Idx → EReal) (ix2 r j)) q) = xnTile m c q t.val :=
  Finset.sum_congr rfl fun r _ => by rw [d_iblk m c t r q, x_iblk m c t r]

/-- What one tile adds to the sum for the shift. -/
def add11 (c : Dev nD) (q : Fin 1024) (s : ℕ) : EReal := shTile m c q s

theorem after_11 (c : Dev nD) (q : Fin 1024) (n : ℕ) : ∀ hn : n < cfg0.N,
    (outsAt0 m c n hn).2.1 (ix2 (0 : Fin 1) q) = ∑ s ∈ Finset.range (n + 1), add11 m c q s := by
  induction n with
  | zero =>
    intro hn
    rw [Finset.sum_range_one]
    refine (congrArg (fun o => o.2.1 (ix2 (0 : Fin 1) q)) (outsAt0_A m c ⟨0, hn⟩ (by show 0 % 32 = 0; rfl) (by show ¬1 ≤ 0; omega))).trans ?_
    dsimp only
    rw [out_A_11]
    exact sh_iblk m c ⟨0, hn⟩ q
  | succ n ih =>
    intro hn
    have hN : n + 1 < 32 := lt_of_lt_of_eq hn N_0
    rw [Finset.sum_range_succ, ← ih (Nat.lt_of_succ_lt hn)]
    refine (congrArg (fun o => o.2.1 (ix2 (0 : Fin 1) q)) (outsAt0_B m c ⟨n + 1, hn⟩ (by show ¬(n + 1) % 32 = 0; omega) (by show 1 ≤ n + 1; omega))).trans ?_
    dsimp only
    rw [out_B_11, scratch m c]
    exact congrArg₂ (· + ·) rfl (sh_iblk m c ⟨n + 1, hn⟩ q)

/-- The result, entry by entry. -/
def G11 (c : Dev nD) : S1x1024.Idx → EReal := fun i => ∑ s ∈ Finset.range 32, add11 m c (i 1) s

theorem idx_out11 : ∀ t : Fin cfg0.N, win0_11.index t (0 : Fin 2) = 0 ∧ win0_11.index t (1 : Fin 2) = 0 :=
  (by decide +kernel : ∀ t : Fin grid0.N, _)

theorem flush11 : ∀ t : Fin cfg0.N, (cfg0.win 11).flush t = true → t.val = 31 :=
  (by decide +kernel : ∀ t : Fin grid0.N, _)

theorem result_11 (c : Dev nD) : (dats m 0 c).arrAt 11 cfg0.N = G11 m c := by
  refine (dats m 0 c).arrAt_eq_of_covers 11 _ (by decide +kernel) fun t hf y => ?_
  obtain ⟨e0, e1⟩ := idx_out11 t
  have ht := flush11 t hf
  obtain ⟨r, q, rfl⟩ : ∃ (r : Fin 1) (q : Fin 1024), y = ix2 r q := ⟨y 0, y 1, eq_ix2 y⟩
  obtain rfl : r = 0 := Subsingleton.elim _ _
  rw [after0_11]
  refine (after_11 m c q t.val t.isLt).trans ?_
  rw [ht]
  refine (show _ = G11 m c (ix2 0 q) from rfl).trans (congrArg (G11 m c) ?_)
  funext a; apply Fin.ext
  match a with
  | ⟨0, _⟩ => show 0 = win0_11.index t (0 : Fin 2) * 1 + 1 * 0; rw [e0]
  | ⟨1, _⟩ => show q.val = win0_11.index t (1 : Fin 2) * 1024 + 1 * q.val; rw [e1]; omega

/-- What one tile adds to the sum for the scale. -/
def add12 (c : Dev nD) (q : Fin 1024) (s : ℕ) : EReal := xnTile m c q s * nwRow m c q

theorem after_12 (c : Dev nD) (q : Fin 1024) (n : ℕ) : ∀ hn : n < cfg0.N,
    (outsAt0 m c n hn).2.2.1 (ix2 (0 : Fin 1) q) = ∑ s ∈ Finset.range (n + 1), add12 m c q s := by
  induction n with
  | zero =>
    intro hn
    rw [Finset.sum_range_one]
    refine (congrArg (fun o => o.2.2.1 (ix2 (0 : Fin 1) q)) (outsAt0_A m c ⟨0, hn⟩ (by show 0 % 32 = 0; rfl) (by show ¬1 ≤ 0; omega))).trans ?_
    dsimp only
    rw [out_A_12]
    exact congrArg₂ (· * ·) (xn_iblk m c ⟨0, hn⟩ q) (iblk2_apply m c ⟨0, hn⟩ q)
  | succ n ih =>
    intro hn
    have hN : n + 1 < 32 := lt_of_lt_of_eq hn N_0
    rw [Finset.sum_range_succ, ← ih (Nat.lt_of_succ_lt hn)]
    refine (congrArg (fun o => o.2.2.1 (ix2 (0 : Fin 1) q)) (outsAt0_B m c ⟨n + 1, hn⟩ (by show ¬(n + 1) % 32 = 0; omega) (by show 1 ≤ n + 1; omega))).trans ?_
    dsimp only
    rw [out_B_12, scratch m c]
    exact congrArg₂ (· + ·) rfl (congrArg₂ (· * ·) (xn_iblk m c ⟨n + 1, hn⟩ q) (iblk2_apply m c ⟨n + 1, hn⟩ q))

/-- The result, entry by entry. -/
def G12 (c : Dev nD) : S1x1024.Idx → EReal := fun i => ∑ s ∈ Finset.range 32, add12 m c (i 1) s

theorem idx_out12 : ∀ t : Fin cfg0.N, win0_12.index t (0 : Fin 2) = 0 ∧ win0_12.index t (1 : Fin 2) = 0 :=
  (by decide +kernel : ∀ t : Fin grid0.N, _)

theorem flush12 : ∀ t : Fin cfg0.N, (cfg0.win 12).flush t = true → t.val = 31 :=
  (by decide +kernel : ∀ t : Fin grid0.N, _)

theorem result_12 (c : Dev nD) : (dats m 0 c).arrAt 12 cfg0.N = G12 m c := by
  refine (dats m 0 c).arrAt_eq_of_covers 12 _ (by decide +kernel) fun t hf y => ?_
  obtain ⟨e0, e1⟩ := idx_out12 t
  have ht := flush12 t hf
  obtain ⟨r, q, rfl⟩ : ∃ (r : Fin 1) (q : Fin 1024), y = ix2 r q := ⟨y 0, y 1, eq_ix2 y⟩
  obtain rfl : r = 0 := Subsingleton.elim _ _
  rw [after0_12]
  refine (after_12 m c q t.val t.isLt).trans ?_
  rw [ht]
  refine (show _ = G12 m c (ix2 0 q) from rfl).trans (congrArg (G12 m c) ?_)
  funext a; apply Fin.ext
  match a with
  | ⟨0, _⟩ => show 0 = win0_12.index t (0 : Fin 2) * 1 + 1 * 0; rw [e0]
  | ⟨1, _⟩ => show q.val = win0_12.index t (1 : Fin 2) * 1024 + 1 * q.val; rw [e1]; omega

/-- What one tile adds to the sum for the norm weight. -/
def add13 (c : Dev nD) (q : Fin 1024) (s : ℕ) : EReal := xnTile m c q s * (1 + scRow m c q)

theorem after_13 (c : Dev nD) (q : Fin 1024) (n : ℕ) : ∀ hn : n < cfg0.N,
    (outsAt0 m c n hn).2.2.2.1 (ix2 (0 : Fin 1) q) = ∑ s ∈ Finset.range (n + 1), add13 m c q s := by
  induction n with
  | zero =>
    intro hn
    rw [Finset.sum_range_one]
    refine (congrArg (fun o => o.2.2.2.1 (ix2 (0 : Fin 1) q)) (outsAt0_A m c ⟨0, hn⟩ (by show 0 % 32 = 0; rfl) (by show ¬1 ≤ 0; omega))).trans ?_
    dsimp only
    rw [out_A_13]
    exact congrArg₂ (· * ·) (xn_iblk m c ⟨0, hn⟩ q) (congrArg (1 + ·) (iblk3_apply m c ⟨0, hn⟩ q))
  | succ n ih =>
    intro hn
    have hN : n + 1 < 32 := lt_of_lt_of_eq hn N_0
    rw [Finset.sum_range_succ, ← ih (Nat.lt_of_succ_lt hn)]
    refine (congrArg (fun o => o.2.2.2.1 (ix2 (0 : Fin 1) q)) (outsAt0_B m c ⟨n + 1, hn⟩ (by show ¬(n + 1) % 32 = 0; omega) (by show 1 ≤ n + 1; omega))).trans ?_
    dsimp only
    rw [out_B_13, scratch m c]
    exact congrArg₂ (· + ·) rfl (congrArg₂ (· * ·) (xn_iblk m c ⟨n + 1, hn⟩ q) (congrArg (1 + ·) (iblk3_apply m c ⟨n + 1, hn⟩ q)))

/-- The result, entry by entry. -/
def G13 (c : Dev nD) : S1x1024.Idx → EReal := fun i => ∑ s ∈ Finset.range 32, add13 m c (i 1) s

theorem idx_out13 : ∀ t : Fin cfg0.N, win0_13.index t (0 : Fin 2) = 0 ∧ win0_13.index t (1 : Fin 2) = 0 :=
  (by decide +kernel : ∀ t : Fin grid0.N, _)

theorem flush13 : ∀ t : Fin cfg0.N, (cfg0.win 13).flush t = true → t.val = 31 :=
  (by decide +kernel : ∀ t : Fin grid0.N, _)

theorem result_13 (c : Dev nD) : (dats m 0 c).arrAt 13 cfg0.N = G13 m c := by
  refine (dats m 0 c).arrAt_eq_of_covers 13 _ (by decide +kernel) fun t hf y => ?_
  obtain ⟨e0, e1⟩ := idx_out13 t
  have ht := flush13 t hf
  obtain ⟨r, q, rfl⟩ : ∃ (r : Fin 1) (q : Fin 1024), y = ix2 r q := ⟨y 0, y 1, eq_ix2 y⟩
  obtain rfl : r = 0 := Subsingleton.elim _ _
  rw [after0_13]
  refine (after_13 m c q t.val t.isLt).trans ?_
  rw [ht]
  refine (show _ = G13 m c (ix2 0 q) from rfl).trans (congrArg (G13 m c) ?_)
  funext a; apply Fin.ext
  match a with
  | ⟨0, _⟩ => show 0 = win0_13.index t (0 : Fin 2) * 1 + 1 * 0; rw [e0]
  | ⟨1, _⟩ => show q.val = win0_13.index t (1 : Fin 2) * 1024 + 1 * q.val; rw [e1]; omega

end Cert.DhIdeal.Rows
-- ==== Proof.DhRef.lean ====
/-
  The reference of the gradient of the combined input projection, read entry by entry (hand-written, untrusted).
-/
module

public import proofs.«01_k».proof.Proof.Sums
public import proofs.«01_k».proof.Proof.Dh
public import Idealize.ShloMosaic.Lib.Pointwise

@[expose] public section

set_option maxRecDepth 16384

noncomputable section

open Idealize.ShloMosaic Idealize.ShloMosaic.TcCoe Idealize.SL.Sem
open Cert.DhRefIdeal Cert.DhRefIdeal.Gen
open Cert.DhIdeal.Rows (dEntry rOf xnEntry)

namespace Cert.DhRefIdeal.Rows

/-- The six streams' cotangents, side by side. -/
def cat (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) : FVec Ideal S8192x9760 .f32 :=
  concatenate S8192x9760 1 [⟨S8192x1024, ((extf .f32 d0 bitsLt_bf16_f32) : (⟨S8192x1024, .f32⟩ : BufTy).Contents (Elt Ideal))⟩, ⟨S8192x512, ((extf .f32 d1 bitsLt_bf16_f32) : (⟨S8192x512, .f32⟩ : BufTy).Contents (Elt Ideal))⟩, ⟨S8192x3072, ((extf .f32 d2 bitsLt_bf16_f32) : (⟨S8192x3072, .f32⟩ : BufTy).Contents (Elt Ideal))⟩, ⟨S8192x3072, ((extf .f32 d3 bitsLt_bf16_f32) : (⟨S8192x3072, .f32⟩ : BufTy).Contents (Elt Ideal))⟩, ⟨S8192x32, ((extf .f32 d4 bitsLt_bf16_f32) : (⟨S8192x32, .f32⟩ : BufTy).Contents (Elt Ideal))⟩, ⟨S8192x2048, ((extf .f32 d5 bitsLt_bf16_f32) : (⟨S8192x2048, .f32⟩ : BufTy).Contents (Elt Ideal))⟩] concatenates_S8192x1024_S8192x512_S8192x3072_S8192x3072_S8192x32_S8192x2048_S8192x9760_d1

theorem cat_0 (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (R : Fin 8192) (j : Fin 1024) :
    cat d0 d1 d2 d3 d4 d5 (ix2 R (⟨j.val, by have := j.isLt; omega⟩ : Fin 9760)) = d0 (ix2 R j) := by
  have hj := j.isLt
  unfold cat
  pointwise

theorem cat_1 (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (R : Fin 8192) (j : Fin 512) :
    cat d0 d1 d2 d3 d4 d5 (ix2 R (⟨1024 + j.val, by have := j.isLt; omega⟩ : Fin 9760)) = d1 (ix2 R j) := by
  have hj := j.isLt
  unfold cat
  pointwise

theorem cat_2 (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (R : Fin 8192) (j : Fin 3072) :
    cat d0 d1 d2 d3 d4 d5 (ix2 R (⟨1536 + j.val, by have := j.isLt; omega⟩ : Fin 9760)) = d2 (ix2 R j) := by
  have hj := j.isLt
  unfold cat
  pointwise
  rw [dif_neg (by omega), dif_neg (by omega), dif_pos (by omega)]
  exact congrArg (fun z => d2 (ix2 R z)) (Fin.ext (by show _ = j.val; simp only []; omega))

theorem cat_3 (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (R : Fin 8192) (j : Fin 3072) :
    cat d0 d1 d2 d3 d4 d5 (ix2 R (⟨4608 + j.val, by have := j.isLt; omega⟩ : Fin 9760)) = d3 (ix2 R j) := by
  have hj := j.isLt
  unfold cat
  pointwise
  rw [dif_neg (by omega), dif_neg (by omega), dif_neg (by omega), dif_pos (by omega)]
  exact congrArg (fun z => d3 (ix2 R z)) (Fin.ext (by show _ = j.val; simp only []; omega))

theorem cat_4 (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (R : Fin 8192) (j : Fin 32) :
    cat d0 d1 d2 d3 d4 d5 (ix2 R (⟨7680 + j.val, by have := j.isLt; omega⟩ : Fin 9760)) = d4 (ix2 R j) := by
  have hj := j.isLt
  unfold cat
  pointwise
  rw [dif_neg (by omega), dif_neg (by omega), dif_neg (by omega), dif_neg (by omega), dif_pos (by omega)]
  exact congrArg (fun z => d4 (ix2 R z)) (Fin.ext (by show _ = j.val; simp only []; omega))

theorem cat_5 (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (R : Fin 8192) (j : Fin 2048) :
    cat d0 d1 d2 d3 d4 d5 (ix2 R (⟨7712 + j.val, by have := j.isLt; omega⟩ : Fin 9760)) = d5 (ix2 R j) := by
  have hj := j.isLt
  unfold cat
  pointwise
  rw [dif_neg (by omega), dif_neg (by omega), dif_neg (by omega), dif_neg (by omega), dif_neg (by omega)]
  exact congrArg (fun z => d5 (ix2 R z)) (Fin.ext (by show _ = j.val; simp only []; omega))

/-- The weight's column `q`, as a function of every natural `q`. -/
def wN (w : S1024x9760.Idx → EReal) (q : ℕ) (k : Fin 1024) : EReal :=
  if h : q < 9760 then w (ix2 k (⟨q, h⟩ : Fin 9760)) else 0

theorem wN_of (w : S1024x9760.Idx → EReal) (q : ℕ) (k : Fin 1024) (h : q < 9760) : wN w q k = w (ix2 k (⟨q, h⟩ : Fin 9760)) := by
  unfold wN
  rw [dif_pos h]

/-- The gradient of the projection's input. -/
def dArr (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (w : FVec Ideal S1024x9760 .f32) : FVec Ideal S8192x1024 .f32 :=
  Host.dotGeneral dot_S8192x9760_S1024x9760_S8192x1024_1_1_0_0_n_n none (cat d0 d1 d2 d3 d4 d5) w

theorem dArr_apply (d0 : FVec Ideal S8192x1024 .bf16) (d1 : FVec Ideal S8192x512 .bf16) (d2 : FVec Ideal S8192x3072 .bf16) (d3 : FVec Ideal S8192x3072 .bf16) (d4 : FVec Ideal S8192x32 .bf16) (d5 : FVec Ideal S8192x2048 .bf16) (w : FVec Ideal S1024x9760 .f32) (R : Fin 8192) (k : Fin 1024) :
    dArr d0 d1 d2 d3 d4 d5 w (ix2 R k) = dEntry (fun j => d0 (ix2 R j)) (fun j => d1 (ix2 R j)) (fun j => d2 (ix2 R j)) (fun j => d3 (ix2 R j))
      (fun j => d4 (ix2 R j)) (fun j => d5 (ix2 R j)) (fun q => wN w q k) := by
  have e : dArr d0 d1 d2 d3 d4 d5 w (ix2 R k) = ∑ q : Fin 9760, cat d0 d1 d2 d3 d4 d5 (ix2 R q) * w (ix2 k q) := by
    unfold dArr
    generalize cat d0 d1 d2 d3 d4 d5 = C
    pointwise
  rw [e, Cert.Sums.sum_six]
  unfold dEntry
  refine congrArg₂ (· + ·) (congrArg₂ (· + ·) (congrArg₂ (· + ·) (congrArg₂ (· + ·) (congrArg₂ (· + ·) ?_ ?_) ?_) ?_) ?_) ?_
  · exact Finset.sum_congr rfl fun j _ => congrArg₂ (· * ·) (cat_0 d0 d1 d2 d3 d4 d5 R j) (wN_of w _ k (by have := j.isLt; omega)).symm
  · exact Finset.sum_congr rfl fun j _ => congrArg₂ (· * ·) (cat_1 d0 d1 d2 d3 d4 d5 R j) (wN_of w _ k (by have := j.isLt; omega)).symm
  · exact Finset.sum_congr rfl fun j _ => congrArg₂ (· * ·) (cat_2 d0 d1 d2 d3 d4 d5 R j) (wN_of w _ k (by have := j.isLt; omega)).symm
  · exact Finset.sum_congr rfl fun j _ => congrArg₂ (· * ·) (cat_3 d0 d1 d2 d3 d4 d5 R j) (wN_of w _ k (by have := j.isLt; omega)).symm
  · exact Finset.sum_congr rfl fun j _ => congrArg₂ (· * ·) (cat_4 d0 d1 d2 d3 d4 d5 R j) (wN_of w _ k (by have := j.isLt; omega)).symm
  · exact Finset.sum_congr rfl fun j _ => congrArg₂ (· * ·) (cat_5 d0 d1 d2 d3 d4 d5 R j) (wN_of w _ k (by have := j.isLt; omega)).symm

/-- What the mean of squares sends back to every entry of its row. -/
def back (x d nw sc : Fin 1024 → EReal) : EReal :=
  Ideal.div ((∑ j, x j * (d j * (1 + sc j) * nw j)) * (Ideal.ofBits .f32 3204448256#32
    * Ideal.div (rOf x) (Ideal.div (∑ j, x j * x j) (Ideal.ofBits .f32 1149239296#32) + Ideal.ofBits .f32 897988541#32)))
    (Ideal.ofBits .f32 1149239296#32)

/-- The result `gx` as an array. -/
def gxArr (x dout D : FVec Ideal S8192x1024 .f32) (nw sc : FVec Ideal S1x1024 .f32) : FVec Ideal S8192x1024 .f32 :=
  addf (addf (addf dout (mulf (mulf (mulf (D) (broadcastInDim S8192x1024 ![0, 1] bcast_S1x1024_S8192x1024_0_1 (addf (broadcastInDim S1x1024 ![] bcast_S_S1x1024 (constant S_ .f32 0x3F800000#32)) sc))) (broadcastInDim S8192x1024 ![0, 1] bcast_S1x1024_S8192x1024_0_1 nw)) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x (broadcastInDim S8192x1024 ![0] bcast_S8192_S8192x1024_0 (Host.reduceAdd (Host.divf (mulf (shapeCast _ (Host.reduceAdd (mulf x (mulf (mulf (D) (broadcastInDim S8192x1024 ![0, 1] bcast_S1x1024_S8192x1024_0_1 (addf (broadcastInDim S1x1024 ![] bcast_S_S1x1024 (constant S_ .f32 0x3F800000#32)) sc))) (broadcastInDim S8192x1024 ![0, 1] bcast_S1x1024_S8192x1024_0_1 nw))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf (mulf (D) (broadcastInDim S8192x1024 ![0, 1] bcast_S1x1024_S8192x1024_0_1 (addf (broadcastInDim S1x1024 ![] bcast_S_S1x1024 (constant S_ .f32 0x3F800000#32)) sc))) (broadcastInDim S8192x1024 ![0, 1] bcast_S1x1024_S8192x1024_0_1 nw))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)

theorem gx_apply (x dout D : FVec Ideal S8192x1024 .f32) (nw sc : FVec Ideal S1x1024 .f32) (R : Fin 8192) (q : Fin 1024) :
    gxArr x dout D nw sc (ix2 R q) = dout (ix2 R q) + D (ix2 R q) * (1 + sc (ix2 0 q)) * nw (ix2 0 q) * rOf (fun j => x (ix2 R j))
      + x (ix2 R q) * back (fun j => x (ix2 R j)) (fun j => D (ix2 R j)) (fun j => nw (ix2 0 j)) (fun j => sc (ix2 0 j))
      + back (fun j => x (ix2 R j)) (fun j => D (ix2 R j)) (fun j => nw (ix2 0 j)) (fun j => sc (ix2 0 j)) * x (ix2 R q) := by
  unfold gxArr
  pointwise
  simp only [rOf, back, Finset.sum_const, Finset.card_univ, Fintype.card_fin, one_nsmul]

/-- The result `sh` as an array. -/
def shArr (x dout D : FVec Ideal S8192x1024 .f32) (nw sc : FVec Ideal S1x1024 .f32) : FVec Ideal S1x1024 .f32 :=
  shapeCast _ (Host.reduceAdd (D) (constant S_ .f32 0x00000000#32) reducesTo_S8192x1024_S1024_d0 h_S_) shapeCasts_S1024_S1x1024

theorem sh_apply (x dout D : FVec Ideal S8192x1024 .f32) (nw sc : FVec Ideal S1x1024 .f32) (q : Fin 1024) :
    shArr x dout D nw sc (ix2 (0 : Fin 1) q) = ∑ R : Fin 8192, D (ix2 R q) := by
  unfold shArr
  pointwise

/-- The result `sc` as an array. -/
def scArr (x dout D : FVec Ideal S8192x1024 .f32) (nw sc : FVec Ideal S1x1024 .f32) : FVec Ideal S1x1024 .f32 :=
  shapeCast _ (Host.reduceAdd (mulf (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 nw)) (D)) (constant S_ .f32 0x00000000#32) reducesTo_S8192x1024_S1024_d0 h_S_) shapeCasts_S1024_S1x1024

theorem sc_apply (x dout D : FVec Ideal S8192x1024 .f32) (nw sc : FVec Ideal S1x1024 .f32) (q : Fin 1024) :
    scArr x dout D nw sc (ix2 (0 : Fin 1) q) = ∑ R : Fin 8192, xnEntry (fun j => x (ix2 R j)) q * nw (ix2 0 q) * D (ix2 R q) := by
  unfold scArr
  pointwise
  simp only [rOf, xnEntry]

/-- The result `nw` as an array. -/
def nwArr (x dout D : FVec Ideal S8192x1024 .f32) (nw sc : FVec Ideal S1x1024 .f32) : FVec Ideal S1x1024 .f32 :=
  shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (D) (broadcastInDim S8192x1024 ![0, 1] bcast_S1x1024_S8192x1024_0_1 (addf (broadcastInDim S1x1024 ![] bcast_S_S1x1024 (constant S_ .f32 0x3F800000#32)) sc)))) (constant S_ .f32 0x00000000#32) reducesTo_S8192x1024_S1024_d0 h_S_) shapeCasts_S1024_S1x1024

theorem nw_apply (x dout D : FVec Ideal S8192x1024 .f32) (nw sc : FVec Ideal S1x1024 .f32) (q : Fin 1024) :
    nwArr x dout D nw sc (ix2 (0 : Fin 1) q) = ∑ R : Fin 8192, xnEntry (fun j => x (ix2 R j)) q * (D (ix2 R q) * (1 + sc (ix2 0 q))) := by
  unfold nwArr
  pointwise
  simp only [rOf, xnEntry]

end Cert.DhRefIdeal.Rows
-- ==== Proof.Reals.lean ====
/-
  Extended reals that are real, shared by the value proofs of this directory (hand-written, untrusted): the constants, sums of
  real entries, and the norm's reciprocal root.
-/
module

public import Idealize.ShloMosaic.Lib.Pointwise
public import Idealize.ShloMosaic.Lib.IdealHost
public import Mathlib.Tactic.NormNum
public import Mathlib.Tactic.FieldSimp
public import Mathlib.Tactic.Ring
public import Mathlib.Tactic.Positivity

@[expose] public section

open Idealize.ShloMosaic

namespace Cert.Reals

theorem c1024 : Ideal.ofBits .f32 1149239296#32 = ((1024 : ℝ) : EReal) := by
  simp [Ideal.ofBits, Ideal.ieee, -EReal.coe_mul]; norm_num

theorem chalf : Ideal.ofBits .f32 3204448256#32 = ((-(1/2) : ℝ) : EReal) := by
  simp [Ideal.ofBits, Ideal.ieee, -EReal.coe_mul, -EReal.coe_neg]; norm_num

theorem ceps : ∃ e : ℝ, 0 < e ∧ Ideal.ofBits .f32 897988541#32 = (e : EReal) := by
  refine ⟨_, ?_, by simp [Ideal.ofBits, Ideal.ieee, -EReal.coe_mul]; rfl⟩
  norm_num

theorem sum_coe {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The precondition's test, at one entry: the entry is real. -/
theorem real_of_test (x : EReal) (h : Ideal.cmp .olt (max x (-x)) (Ideal.ofBits .f32 2139095040#32) = 1#1) : ∃ r : ℝ, x = (r : EReal) := by
  have htop : Ideal.ofBits .f32 2139095040#32 = ⊤ := by simp [Ideal.ofBits, Ideal.ieee]
  rw [htop] at h
  induction x with
  | bot => simp [Ideal.cmp] at h
  | top => simp [Ideal.cmp] at h
  | coe r => exact ⟨r, rfl⟩

/-- A sum of products of real entries is real. -/
theorem dot_real {ι : Type*} [Fintype ι] (f g : ι → EReal) (hf : ∀ i, ∃ r : ℝ, f i = (r : EReal)) (hg : ∀ i, ∃ r : ℝ, g i = (r : EReal)) :
    ∃ r : ℝ, (∑ i, f i * g i) = (r : EReal) := by
  choose a ha using hf
  choose b hb using hg
  refine ⟨∑ i, a i * b i, ?_⟩
  rw [← sum_coe]
  exact Finset.sum_congr rfl fun i _ => by rw [ha, hb, EReal.coe_mul]

theorem add_real {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- The mean of squares plus the small constant, of a real row: a positive real. -/
theorem mean_real {n : ℕ} (x : Fin n → ℝ) : ∃ v : ℝ, 0 < v ∧
    Ideal.div (∑ j, (x j : EReal) * (x j : EReal)) (Ideal.ofBits .f32 1149239296#32) + Ideal.ofBits .f32 897988541#32 = (v : EReal) := by
  obtain ⟨e, he, h⟩ := ceps
  refine ⟨(∑ j, x j * x j) * (1 / 1024) + e, ?_, ?_⟩
  · have : 0 ≤ ∑ j, x j * x j := Finset.sum_nonneg fun j _ => mul_self_nonneg _
    positivity
  · rw [h, c1024, Ideal.div_coe (by norm_num), EReal.coe_add, EReal.coe_mul, ← sum_coe]
    simp only [EReal.coe_mul]

theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- The reciprocal root's square. -/
theorem inv_sqrt_sq {v : ℝ} (h : 0 < v) : (Real.sqrt v)⁻¹ * (Real.sqrt v)⁻¹ = 1 / v := by
  rw [← mul_inv, Real.mul_self_sqrt h.le, one_div]

end Cert.Reals
-- ==== Proof.DhClaim.lean ====
/-
  The claim on the gradient of the combined input projection, its adaLN and its RMS norm (hand-written, untrusted): kernel and
  reference end with equal arrays, when every input is finite.
-/
module

public import proofs.«01_k».proof.Defs
public import proofs.«01_k».proof.Proof.DhRef
public import proofs.«01_k».proof.Proof.Reals
public import Idealize.ShloMosaic.Lib.Pointwise

@[expose] public section

set_option maxRecDepth 16384

noncomputable section

open Idealize.ShloMosaic Idealize.ShloMosaic.TcCoe Idealize.SL.Sem
open Cert.DhIdeal.Rows Cert.DhRefIdeal.Rows Cert.Reals

namespace Cert.Proof

instance finite_facts : Cert.Pre_finite.Facts where
  bcast_S_S8192x1024 := by decide
  bcast_S_S1x1024 := by decide
  bitsLt_bf16_f32 := by decide
  bcast_S_S8192x512 := by decide
  bcast_S_S8192x3072 := by decide
  bcast_S_S8192x32 := by decide
  bcast_S_S8192x2048 := by decide
  bcast_S_S1024x9760 := by decide

/-- For a real row the kernel's gradient of the norm is the reference's: the reciprocal root's square is the reciprocal of the
    mean. -/
theorem gx_eq (x d nw sc : Fin 1024 → EReal) (dout : EReal) (k : Fin 1024) (hx : ∀ j, ∃ r : ℝ, x j = (r : EReal))
    (hd : ∀ j, ∃ r : ℝ, d j = (r : EReal)) (hn : ∀ j, ∃ r : ℝ, nw j = (r : EReal)) (hs : ∀ j, ∃ r : ℝ, sc j = (r : EReal))
    (ho : ∃ r : ℝ, dout = (r : EReal)) :
    dout + d k * (1 + sc k) * nw k * rOf x + x k * back x d nw sc + back x d nw sc * x k = gxEntry x d nw sc dout k := by
  choose a ha using hx
  choose b hb using hd
  choose n hn using hn
  choose s hs using hs
  obtain ⟨o, rfl⟩ := ho
  obtain rfl : x = fun j => (a j : EReal) := funext ha
  obtain rfl : d = fun j => (b j : EReal) := funext hb
  obtain rfl : nw = fun j => (n j : EReal) := funext hn
  obtain rfl : sc = fun j => (s j : EReal) := funext hs
  obtain ⟨v, hv, e⟩ := mean_real a
  unfold gxEntry back xnEntry rOf
  dsimp only
  rw [e, rsqrt_pos hv]
  have h2 := inv_sqrt_sq hv
  generalize (Real.sqrt v)⁻¹ = p at h2 ⊢
  rw [c1024, chalf, Ideal.div_coe hv.ne', Ideal.div_coe (by norm_num), Ideal.div_coe (by norm_num), ← h2, ← EReal.coe_one]
  simp only [← EReal.coe_mul, ← EReal.coe_add, ← EReal.coe_sub, sum_coe]
  congr 1
  have S : ∑ j, a j * p * (b j * (n j * (1 + s j))) = p * ∑ j, a j * (b j * (1 + s j) * n j) := by
    rw [Finset.mul_sum]
    exact Finset.sum_congr rfl fun j _ => by ring
  rw [S]
  ring

/-- A factor common to all rows may be multiplied in before the rows are summed. -/
theorem rows_eq (D X : ℕ → EReal) (w : EReal) (hD : ∀ k, ∃ r : ℝ, D k = (r : EReal)) (hX : ∀ k, ∃ r : ℝ, X k = (r : EReal))
    (hw : ∃ r : ℝ, w = (r : EReal)) :
    (∑ k : Fin 8192, X k.val * w * D k.val) = ∑ s ∈ Finset.range 32, (∑ r : Fin 256, D (256 * s + r.val) * X (256 * s + r.val)) * w := by
  choose b hb using hD
  choose a ha using hX
  obtain ⟨u, rfl⟩ := hw
  obtain rfl : D = fun j => (b j : EReal) := funext hb
  obtain rfl : X = fun j => (a j : EReal) := funext ha
  refine (Cert.Sums.sum_tiles 32 256 (fun k => (a k : EReal) * u * b k)).symm.trans (Finset.sum_congr rfl fun s _ => ?_)
  simp only [← EReal.coe_mul, sum_coe]
  congr 1
  rw [Finset.sum_mul]
  exact Finset.sum_congr rfl fun r _ => by ring

theorem xn_real (x : Fin 1024 → EReal) (hx : ∀ j, ∃ r : ℝ, x j = (r : EReal)) (k : Fin 1024) : ∃ r : ℝ, xnEntry x k = (r : EReal) := by
  choose a ha using hx
  obtain rfl : x = fun j => (a j : EReal) := funext ha
  obtain ⟨v, hv, e⟩ := mean_real a
  unfold xnEntry rOf
  dsimp only
  rw [e, rsqrt_pos hv]
  exact ⟨_, (EReal.coe_mul _ _).symm⟩

/-- Under the precondition every entry of every argument is real. -/
theorem real_args (m : (ℓ : Loc Cert.DhIdeal.nD Cert.DhIdeal.τ Cert.DhIdeal.sig) → Buf (Elt Ideal) ℓ) (h : Cert.Pre_DhIdeal_finite m)
    (c : Dev Cert.DhIdeal.nD) :
    (∀ i, ∃ r : ℝ, xArr m c i = (r : EReal)) ∧ (∀ i, ∃ r : ℝ, doArr m c i = (r : EReal)) ∧ (∀ i, ∃ r : ℝ, nwArr m c i = (r : EReal))
      ∧ (∀ i, ∃ r : ℝ, scArr m c i = (r : EReal)) ∧ (∀ i, ∃ r : ℝ, d0Arr m c i = (r : EReal)) ∧ (∀ i, ∃ r : ℝ, d1Arr m c i = (r : EReal))
      ∧ (∀ i, ∃ r : ℝ, d2Arr m c i = (r : EReal)) ∧ (∀ i, ∃ r : ℝ, d3Arr m c i = (r : EReal)) ∧ (∀ i, ∃ r : ℝ, d4Arr m c i = (r : EReal))
      ∧ (∀ i, ∃ r : ℝ, d5Arr m c i = (r : EReal)) ∧ ∀ i, ∃ r : ℝ, winArr m c i = (r : EReal) := by
  obtain ⟨h0, h1, h2, h3, h4, h5, h6, h7, h8, h9, h10⟩ := h c
  exact ⟨fun i => real_of_test _ (congrFun h0 i), fun i => real_of_test _ (congrFun h1 i), fun i => real_of_test _ (congrFun h2 i),
    fun i => real_of_test _ (congrFun h3 i), fun i => real_of_test _ (congrFun h4 i), fun i => real_of_test _ (congrFun h5 i),
    fun i => real_of_test _ (congrFun h6 i), fun i => real_of_test _ (congrFun h7 i), fun i => real_of_test _ (congrFun h8 i),
    fun i => real_of_test _ (congrFun h9 i), fun i => real_of_test _ (congrFun h10 i)⟩

/-- The kernel's transposed weight is the reference's, read the other way round. -/
theorem wAt_eq (m : (ℓ : Loc Cert.DhIdeal.nD Cert.DhIdeal.τ Cert.DhIdeal.sig) → Buf (Elt Ideal) ℓ) (c : Dev Cert.DhIdeal.nD) (q : ℕ) (k : Fin 1024) :
    wN (winArr m c) q k = wAt (wtArr m c) q k := by
  unfold wN wAt
  split
  · rw [wtArr_apply]
  · rfl

theorem d_real (m : (ℓ : Loc Cert.DhIdeal.nD Cert.DhIdeal.τ Cert.DhIdeal.sig) → Buf (Elt Ideal) ℓ) (h : Cert.Pre_DhIdeal_finite m)
    (c : Dev Cert.DhIdeal.nD) (R : Fin 8192) (k : Fin 1024) : ∃ r : ℝ, dFull m c R k = (r : EReal) := by
  obtain ⟨-, -, -, -, h4, h5, h6, h7, h8, h9, h10⟩ := real_args m h c
  have hw : ∀ q, ∃ r : ℝ, wAt (wtArr m c) q k = (r : EReal) := by
    intro q
    rw [← wAt_eq]
    unfold wN
    split
    · exact h10 _
    · exact ⟨0, EReal.coe_zero.symm⟩
  unfold dFull dEntry
  exact add_real (add_real (add_real (add_real (add_real (dot_real _ _ (fun _ => h4 _) fun _ => hw _) (dot_real _ _ (fun _ => h5 _) fun _ => hw _))
    (dot_real _ _ (fun _ => h6 _) fun _ => hw _)) (dot_real _ _ (fun _ => h7 _) fun _ => hw _)) (dot_real _ _ (fun _ => h8 _) fun _ => hw _))
    (dot_real _ _ (fun _ => h9 _) fun _ => hw _)

/-- The reference's gradient of the projection's input is the kernel's. -/
theorem d_eq (m : (ℓ : Loc Cert.DhIdeal.nD Cert.DhIdeal.τ Cert.DhIdeal.sig) → Buf (Elt Ideal) ℓ) (c : Dev Cert.DhIdeal.nD) (R : Fin 8192) (k : Fin 1024) :
    dArr (d0Arr m c) (d1Arr m c) (d2Arr m c) (d3Arr m c) (d4Arr m c) (d5Arr m c) (winArr m c) (ix2 R k) = dFull m c R k := by
  refine (dArr_apply _ _ _ _ _ _ _ R k).trans ?_
  unfold dFull
  rw [show (fun q => wN (winArr m c) q k) = fun q => wAt (wtArr m c) q k from funext fun q => wAt_eq m c q k]

/-- Kernel and reference end with the same four arrays. -/
theorem algebraic_Dh : Cert.algebraic_DhIdeal_DhRefIdeal_pre_finite := by
  intro m g m' g' hpre hagree
  refine ⟨fun c => G10 m c, fun c => G11 m c, fun c => G12 m c, fun c => G13 m c,
    (θ_run (Cert.DhIdeal.defs (F := Ideal)) _ _).mono (fun r h c => ⟨(h c).1.trans (result_10 m c), (h c).2.1.trans (result_11 m c), (h c).2.2.1.trans (result_12 m c), (h c).2.2.2.1.trans (result_13 m c), (h c).2.2.2.2⟩) (Cert.DhIdeal.Value.run_blocks m g),
    (θ_run (Cert.DhRefIdeal.defs (F := Ideal)) _ _).mono (fun r h c => ⟨(h c).1.trans ?_, (h c).2.1.trans ?_, (h c).2.2.1.trans ?_, (h c).2.2.2.1.trans ?_, (h c).2.2.2.2⟩) (Cert.DhRefIdeal.Value.run m' g')⟩
  · obtain ⟨hx, ho, hn, hs, -⟩ := real_args m hpre c
    refine (show _ = gxArr (m' ((c : Thread Cert.DhRefIdeal.nD Cert.DhRefIdeal.τ).loc Cert.DhRefIdeal.main_arg0)) (m' ((c : Thread Cert.DhRefIdeal.nD Cert.DhRefIdeal.τ).loc Cert.DhRefIdeal.main_arg1)) (dArr (m' ((c : Thread Cert.DhRefIdeal.nD Cert.DhRefIdeal.τ).loc Cert.DhRefIdeal.main_arg4)) (m' ((c : Thread Cert.DhRefIdeal.nD Cert.DhRefIdeal.τ).loc Cert.DhRefIdeal.main_arg5)) (m' ((c : Thread Cert.DhRefIdeal.nD Cert.DhRefIdeal.τ).loc Cert.DhRefIdeal.main_arg6)) (m' ((c : Thread Cert.DhRefIdeal.nD Cert.DhRefIdeal.τ).loc Cert.DhRefIdeal.main_arg7)) (m' ((c : Thread Cert.DhRefIdeal.nD Cert.DhRefIdeal.τ).loc Cert.DhRefIdeal.main_arg8)) (m' ((c : Thread Cert.DhRefIdeal.nD Cert.DhRefIdeal.τ).loc Cert.DhRefIdeal.main_arg9)) (m' ((c : Thread Cert.DhRefIdeal.nD Cert.DhRefIdeal.τ).loc Cert.DhRefIdeal.main_arg10))) (m' ((c : Thread Cert.DhRefIdeal.nD Cert.DhRefIdeal.τ).loc Cert.DhRefIdeal.main_arg2)) (m' ((c : Thread Cert.DhRefIdeal.nD Cert.DhRefIdeal.τ).loc Cert.DhRefIdeal.main_arg3)) from by unfold Cert.DhRefIdeal.Value.res_main_v57 gxArr dArr cat; rfl).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext i
    obtain ⟨R, q, rfl⟩ : ∃ (R : Fin 8192) (q : Fin 1024), i = ix2 R q := ⟨i 0, i 1, eq_ix2 i⟩
    refine (gx_apply _ _ _ _ _ R q).trans ?_
    have eD : (fun j => dArr (d0Arr m c) (d1Arr m c) (d2Arr m c) (d3Arr m c) (d4Arr m c) (d5Arr m c) (winArr m c) (ix2 R j)) = dFull m c R :=
      funext fun j => d_eq m c R j
    refine Eq.trans ?_ (gx_eq (xRow m c R) (dFull m c R) (nwRow m c) (scRow m c) (doArr m c (ix2 R q)) q (fun _ => hx _) (fun _ => d_real m hpre c R _) (fun _ => hn _) (fun _ => hs _) (ho _))
    rw [← eD]
    rfl
  · obtain ⟨hx, ho, hn, hs, -⟩ := real_args m hpre c
    refine (show _ = shArr (m' ((c : Thread Cert.DhRefIdeal.nD Cert.DhRefIdeal.τ).loc Cert.DhRefIdeal.main_arg0)) (m' ((c : Thread Cert.DhRefIdeal.nD Cert.DhRefIdeal.τ).loc Cert.DhRefIdeal.main_arg1)) (dArr (m' ((c : Thread Cert.DhRefIdeal.nD Cert.DhRefIdeal.τ).loc Cert.DhRefIdeal.main_arg4)) (m' ((c : Thread Cert.DhRefIdeal.nD Cert.DhRefIdeal.τ).loc Cert.DhRefIdeal.main_arg5)) (m' ((c : Thread Cert.DhRefIdeal.nD Cert.DhRefIdeal.τ).loc Cert.DhRefIdeal.main_arg6)) (m' ((c : Thread Cert.DhRefIdeal.nD Cert.DhRefIdeal.τ).loc Cert.DhRefIdeal.main_arg7)) (m' ((c : Thread Cert.DhRefIdeal.nD Cert.DhRefIdeal.τ).loc Cert.DhRefIdeal.main_arg8)) (m' ((c : Thread Cert.DhRefIdeal.nD Cert.DhRefIdeal.τ).loc Cert.DhRefIdeal.main_arg9)) (m' ((c : Thread Cert.DhRefIdeal.nD Cert.DhRefIdeal.τ).loc Cert.DhRefIdeal.main_arg10))) (m' ((c : Thread Cert.DhRefIdeal.nD Cert.DhRefIdeal.τ).loc Cert.DhRefIdeal.main_arg2)) (m' ((c : Thread Cert.DhRefIdeal.nD Cert.DhRefIdeal.τ).loc Cert.DhRefIdeal.main_arg3)) from rfl).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext i
    obtain ⟨R, q, rfl⟩ : ∃ (R : Fin 1) (q : Fin 1024), i = ix2 R q := ⟨i 0, i 1, eq_ix2 i⟩
    obtain rfl : R = 0 := Subsingleton.elim _ _
    refine (sh_apply _ _ _ _ _ q).trans ?_
    refine (Finset.sum_congr rfl fun R _ => (d_eq m c R q).trans (congrArg (fun z => dFull m c z q) (rowN_val R).symm)).trans ?_
    exact (Cert.Sums.sum_tiles 32 256 (fun k => dFull m c (rowN k) q)).symm
  · obtain ⟨hx, ho, hn, hs, -⟩ := real_args m hpre c
    refine (show _ = scArr (m' ((c : Thread Cert.DhRefIdeal.nD Cert.DhRefIdeal.τ).loc Cert.DhRefIdeal.main_arg0)) (m' ((c : Thread Cert.DhRefIdeal.nD Cert.DhRefIdeal.τ).loc Cert.DhRefIdeal.main_arg1)) (dArr (m' ((c : Thread Cert.DhRefIdeal.nD Cert.DhRefIdeal.τ).loc Cert.DhRefIdeal.main_arg4)) (m' ((c : Thread Cert.DhRefIdeal.nD Cert.DhRefIdeal.τ).loc Cert.DhRefIdeal.main_arg5)) (m' ((c : Thread Cert.DhRefIdeal.nD Cert.DhRefIdeal.τ).loc Cert.DhRefIdeal.main_arg6)) (m' ((c : Thread Cert.DhRefIdeal.nD Cert.DhRefIdeal.τ).loc Cert.DhRefIdeal.main_arg7)) (m' ((c : Thread Cert.DhRefIdeal.nD Cert.DhRefIdeal.τ).loc Cert.DhRefIdeal.main_arg8)) (m' ((c : Thread Cert.DhRefIdeal.nD Cert.DhRefIdeal.τ).loc Cert.DhRefIdeal.main_arg9)) (m' ((c : Thread Cert.DhRefIdeal.nD Cert.DhRefIdeal.τ).loc Cert.DhRefIdeal.main_arg10))) (m' ((c : Thread Cert.DhRefIdeal.nD Cert.DhRefIdeal.τ).loc Cert.DhRefIdeal.main_arg2)) (m' ((c : Thread Cert.DhRefIdeal.nD Cert.DhRefIdeal.τ).loc Cert.DhRefIdeal.main_arg3)) from rfl).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext i
    obtain ⟨R, q, rfl⟩ : ∃ (R : Fin 1) (q : Fin 1024), i = ix2 R q := ⟨i 0, i 1, eq_ix2 i⟩
    obtain rfl : R = 0 := Subsingleton.elim _ _
    refine (sc_apply _ _ _ _ _ q).trans ?_
    refine Eq.trans ?_ (rows_eq (fun k => dFull m c (rowN k) q) (fun k => xnEntry (xRow m c (rowN k)) q) (nwRow m c q) (fun _ => d_real m hpre c _ _)
      (fun _ => xn_real _ (fun _ => hx _) _) (hn _))
    refine Finset.sum_congr rfl fun R _ => ?_
    rw [rowN_val R]
    exact congrArg (_ * ·) (d_eq m c R q)
  · obtain ⟨hx, ho, hn, hs, -⟩ := real_args m hpre c
    refine (show _ = nwArr (m' ((c : Thread Cert.DhRefIdeal.nD Cert.DhRefIdeal.τ).loc Cert.DhRefIdeal.main_arg0)) (m' ((c : Thread Cert.DhRefIdeal.nD Cert.DhRefIdeal.τ).loc Cert.DhRefIdeal.main_arg1)) (dArr (m' ((c : Thread Cert.DhRefIdeal.nD Cert.DhRefIdeal.τ).loc Cert.DhRefIdeal.main_arg4)) (m' ((c : Thread Cert.DhRefIdeal.nD Cert.DhRefIdeal.τ).loc Cert.DhRefIdeal.main_arg5)) (m' ((c : Thread Cert.DhRefIdeal.nD Cert.DhRefIdeal.τ).loc Cert.DhRefIdeal.main_arg6)) (m' ((c : Thread Cert.DhRefIdeal.nD Cert.DhRefIdeal.τ).loc Cert.DhRefIdeal.main_arg7)) (m' ((c : Thread Cert.DhRefIdeal.nD Cert.DhRefIdeal.τ).loc Cert.DhRefIdeal.main_arg8)) (m' ((c : Thread Cert.DhRefIdeal.nD Cert.DhRefIdeal.τ).loc Cert.DhRefIdeal.main_arg9)) (m' ((c : Thread Cert.DhRefIdeal.nD Cert.DhRefIdeal.τ).loc Cert.DhRefIdeal.main_arg10))) (m' ((c : Thread Cert.DhRefIdeal.nD Cert.DhRefIdeal.τ).loc Cert.DhRefIdeal.main_arg2)) (m' ((c : Thread Cert.DhRefIdeal.nD Cert.DhRefIdeal.τ).loc Cert.DhRefIdeal.main_arg3)) from rfl).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext i
    obtain ⟨R, q, rfl⟩ : ∃ (R : Fin 1) (q : Fin 1024), i = ix2 R q := ⟨i 0, i 1, eq_ix2 i⟩
    obtain rfl : R = 0 := Subsingleton.elim _ _
    refine (nw_apply _ _ _ _ _ q).trans ?_
    refine Eq.trans ?_ (rows_eq (fun k => dFull m c (rowN k) q) (fun k => xnEntry (xRow m c (rowN k)) q) (1 + scRow m c q) (fun _ => d_real m hpre c _ _)
      (fun _ => xn_real _ (fun _ => hx _) _) (add_real ⟨1, EReal.coe_one.symm⟩ (hs _)))
    refine Finset.sum_congr rfl fun R _ => ?_
    rw [rowN_val R, mul_assoc, mul_comm (1 + scRow m c q)]
    exact congrArg (fun z => _ * (z * _)) (d_eq m c R q)

end Cert.Proof
-- ==== Proof.MidRow.lean ====
/-
  One row of the gated merge of the two branches, its loss and its gradients, in real numbers: what kernel and reference both
  compute (hand-written, untrusted).
-/
module

public import proofs.«01_k».proof.Proof.Reals
public import Mathlib.Analysis.SpecialFunctions.Trigonometric.DerivHyp

@[expose] public section

noncomputable section

open Idealize.ShloMosaic

namespace Cert.MidRows

open Cert.Reals

theorem khalf : Ideal.ofBits .f32 1056964608#32 = ((1/2 : ℝ) : EReal) := by
  simp [Ideal.ofBits, Ideal.ieee, -EReal.coe_mul]; norm_num
theorem kone : Ideal.ofBits .f32 1065353216#32 = ((1 : ℝ) : EReal) := by
  simp [Ideal.ofBits, Ideal.ieee, -EReal.coe_mul]; norm_num
theorem ktwo : Ideal.ofBits .f32 1073741824#32 = ((2 : ℝ) : EReal) := by
  simp [Ideal.ofBits, Ideal.ieee, -EReal.coe_mul]; norm_num
theorem k512 : Ideal.ofBits .f32 1140850688#32 = ((512 : ℝ) : EReal) := by
  simp [Ideal.ofBits, Ideal.ieee, -EReal.coe_mul]; norm_num
theorem k2048 : Ideal.ofBits .f32 973078528#32 = ((1/2048 : ℝ) : EReal) := by
  simp [Ideal.ofBits, Ideal.ieee, -EReal.coe_mul]; norm_num
theorem ki1024 : Ideal.ofBits .f32 981467136#32 = ((1/1024 : ℝ) : EReal) := by
  simp [Ideal.ofBits, Ideal.ieee, -EReal.coe_mul]; norm_num

/-- The small constant under the norm's root. -/
def eps : ℝ := ceps.choose
theorem eps_pos : 0 < eps := ceps.choose_spec.1
theorem keps : Ideal.ofBits .f32 897988541#32 = (eps : EReal) := ceps.choose_spec.2

/-- The sigmoid. -/
def sg (z : ℝ) : ℝ := (1 + Real.exp (-z))⁻¹

/-- The reference's sigmoid. -/
theorem sg_ref (z : ℝ) : Ideal.div 1 (1 + Ideal.exp (-(z : EReal))) = (sg z : EReal) := by
  have h : (1 + Real.exp (-z)) ≠ 0 := by positivity
  rw [← EReal.coe_neg, Ideal.exp_coe, ← EReal.coe_one, ← EReal.coe_add, Ideal.div_coe h, ← EReal.coe_mul, sg, one_mul, one_div]

/-- The kernel's sigmoid, through the hyperbolic tangent. -/
theorem sg_ker (z : ℝ) : ((1/2 : ℝ) : EReal) * Ideal.tanh (((1/2 : ℝ) : EReal) * (z : EReal)) + ((1/2 : ℝ) : EReal) = (sg z : EReal) := by
  rw [← EReal.coe_mul]
  show ((1/2 : ℝ) : EReal) * ((Real.tanh (1/2 * z) : ℝ) : EReal) + ((1/2 : ℝ) : EReal) = (sg z : EReal)
  rw [← EReal.coe_mul, ← EReal.coe_add]
  congr 1
  have e : Real.exp (-z) = Real.exp (-(1/2 * z)) * Real.exp (-(1/2 * z)) := by rw [← Real.exp_add]; congr 1; ring
  have i : Real.exp (1/2 * z) * Real.exp (-(1/2 * z)) = 1 := by rw [← Real.exp_add]; simp
  have p := Real.exp_pos (1/2 * z)
  have q := Real.exp_pos (-(1/2 * z))
  rw [Real.tanh_eq_sinh_div_cosh, Real.sinh_eq, Real.cosh_eq, sg, e]
  generalize Real.exp (1/2 * z) = a at *
  generalize Real.exp (-(1/2 * z)) = b at *
  have h1 : a + b ≠ 0 := by positivity
  have h2 : 1 + b * b ≠ 0 := by positivity
  field_simp
  nlinarith [i]

/-- The index of column `j` of group `g`. -/
def at4 (g : Fin 4) (j : Fin 512) : Fin 2048 := ⟨512 * g.val + j.val, by have := g.isLt; have := j.isLt; omega⟩
/-- The group of a column. -/
def grp (k : Fin 2048) : Fin 4 := ⟨k.val / 512, by have := k.isLt; omega⟩
theorem at4_grp (k : Fin 2048) : at4 (grp k) ⟨k.val % 512, Nat.mod_lt _ (by decide)⟩ = k := Fin.ext (by show 512 * (k.val / 512) + k.val % 512 = k.val; omega)
theorem grp_at4 (g : Fin 4) (j : Fin 512) : grp (at4 g j) = g := Fin.ext (by show (512 * g.val + j.val) / 512 = g.val; have := j.isLt; omega)

/-- The inputs of one row, with the weights. -/
structure Row where
  x : Fin 1024 → ℝ
  t : Fin 1024 → ℝ
  o : Fin 1024 → ℝ
  za : Fin 1024 → ℝ
  zm : Fin 2048 → ℝ
  y : Fin 2048 → ℝ
  ga : Fin 1024 → ℝ
  gb : Fin 1024 → ℝ
  gate : Fin 1024 → ℝ
  nw : Fin 2048 → ℝ
  wa : Fin 1024 → Fin 1024 → ℝ
  ws : Fin 2048 → Fin 1024 → ℝ
  wo : Fin 1024 → Fin 1024 → ℝ

namespace Row
variable (p : Row)

def yag (k : Fin 1024) : ℝ := p.o k * (p.za k * sg (p.za k))
def u (k : Fin 2048) : ℝ := p.y k * (p.zm k * sg (p.zm k))
/-- The mean square of a group, with the small constant. -/
def ms (g : Fin 4) : ℝ := (∑ j, p.u (at4 g j) * p.u (at4 g j)) * (1 / 512) + eps
theorem ms_pos (g : Fin 4) : 0 < p.ms g := by
  have h : 0 ≤ ∑ j, p.u (at4 g j) * p.u (at4 g j) := Finset.sum_nonneg fun j _ => mul_self_nonneg _
  have := eps_pos
  unfold ms
  positivity
/-- The reciprocal root of a group. -/
def inv (g : Fin 4) : ℝ := (Real.sqrt (p.ms g))⁻¹
def yn0 (k : Fin 2048) : ℝ := p.u k * p.inv (grp k)
def yn (k : Fin 2048) : ℝ := p.yn0 k * p.nw k
def ya (k : Fin 1024) : ℝ := ∑ j, p.yag j * p.wa j k
def yb (k : Fin 1024) : ℝ := ∑ j, p.yn j * p.ws j k
def mer (k : Fin 1024) : ℝ := sg (p.ga k) * p.ya k + sg (p.gb k) * p.yb k
def out (k : Fin 1024) : ℝ := ∑ j, p.mer j * p.wo j k
def diff (k : Fin 1024) : ℝ := p.x k + p.gate k * p.out k - p.t k
def dx (k : Fin 1024) : ℝ := p.diff k * (1 / 1024)
def dO (k : Fin 1024) : ℝ := p.dx k * p.gate k
def dm (k : Fin 1024) : ℝ := ∑ j, p.dO j * p.wo k j
def dya (k : Fin 1024) : ℝ := p.dm k * sg (p.ga k)
def dyb (k : Fin 1024) : ℝ := p.dm k * sg (p.gb k)
def dga (k : Fin 1024) : ℝ := p.dya k * p.ya k * (1 - sg (p.ga k))
def dgb (k : Fin 1024) : ℝ := p.dyb k * p.yb k * (1 - sg (p.gb k))
def dyag (k : Fin 1024) : ℝ := ∑ j, p.dya j * p.wa k j
def dAtt (k : Fin 1024) : ℝ := p.dyag k * (p.za k * sg (p.za k))
def dza (k : Fin 1024) : ℝ := p.dyag k * p.o k * (sg (p.za k) * (1 + (p.za k - p.za k * sg (p.za k))))
def dyn (k : Fin 2048) : ℝ := ∑ j, p.dyb j * p.ws k j
def dhat (k : Fin 2048) : ℝ := p.dyn k * p.nw k
/-- The mean over a group of the gradient times the normalised row. -/
def cross (g : Fin 4) : ℝ := (∑ j, p.dhat (at4 g j) * p.yn0 (at4 g j)) * (1 / 512)
def du (k : Fin 2048) : ℝ := p.inv (grp k) * (p.dhat k - p.yn0 k * p.cross (grp k))
def dypre (k : Fin 2048) : ℝ := p.du k * (p.zm k * sg (p.zm k))
def dzm (k : Fin 2048) : ℝ := p.du k * p.y k * (sg (p.zm k) * (1 + (p.zm k - p.zm k * sg (p.zm k))))
/-- The row's share of the loss. -/
def loss : ℝ := (∑ k, p.diff k * p.diff k) * (1 / 2048)

end Row

/-- The arguments as real arrays. -/
structure Args where
  x : Fin 8192 → Fin 1024 → ℝ
  t : Fin 8192 → Fin 1024 → ℝ
  o : Fin 8192 → Fin 1024 → ℝ
  z : Fin 8192 → Fin 3072 → ℝ
  y : Fin 8192 → Fin 2048 → ℝ
  g : Fin 8192 → Fin 2048 → ℝ
  gate : Fin 1024 → ℝ
  nw : Fin 2048 → ℝ
  rows : Fin 8 → Fin 512 → Fin 1024 → ℝ

/-- One token's row of the arguments, with the three weights. -/
def Args.row (A : Args) (R : Fin 8192) : Row where
  x := A.x R
  t := A.t R
  o := A.o R
  za k := A.z R ⟨k.val, by have := k.isLt; omega⟩
  zm k := A.z R ⟨1024 + k.val, by have := k.isLt; omega⟩
  y := A.y R
  ga k := A.g R ⟨k.val, by have := k.isLt; omega⟩
  gb k := A.g R ⟨1024 + k.val, by have := k.isLt; omega⟩
  gate := A.gate
  nw := A.nw
  wa j k := A.rows ⟨j.val / 128, by have := j.isLt; omega⟩ ⟨j.val % 128, by omega⟩ k
  ws j k := A.rows ⟨j.val / 256, by have := j.isLt; omega⟩ ⟨128 + j.val % 256, by omega⟩ k
  wo j k := A.rows ⟨j.val / 128, by have := j.isLt; omega⟩ ⟨384 + j.val % 128, by omega⟩ k

end Cert.MidRows
-- ==== Proof.MidIdealRow.lean ====
/-
  The kernel's tile, row by row: every array of a tile of real rows is what the row's real formulas say (hand-written, untrusted).
-/
module

public import proofs.«01_k».proof.Proof.MidRow
public import proofs.«01_k».proof.Proof.MidIdealTile
public import Idealize.ShloMosaic.Lib.Pointwise

@[expose] public section

set_option maxRecDepth 16384

noncomputable section

open Idealize.ShloMosaic Idealize.ShloMosaic.TcCoe
open Cert.MidIdeal Cert.MidIdeal.Gen Cert.MidRows Cert.Reals

namespace Cert.MidIdeal.Rows

theorem sigm_real {s : Shape} (z : FVec Ideal s .f32) (i : s.Idx) (a : ℝ) (h : z i = (a : EReal)) : sigm z i = (sg a : EReal) := by
  refine Eq.trans ?_ (sg_ker a)
  unfold sigm
  pointwise
  rw [h, khalf]

theorem silu_real {s : Shape} (z : FVec Ideal s .bf16) (i : s.Idx) (a : ℝ) (h : z i = (a : EReal)) : silu z i = ((a * sg a : ℝ) : EReal) := by
  have e : silu z i = z i * sigm (wide z) i := by
    unfold silu wide
    generalize sigm (F := Ideal) _ = S
    pointwise
  rw [e, sigm_real _ i a (by unfold wide; pointwise; exact h), h, EReal.coe_mul]

theorem dsilu_real {s : Shape} (z : FVec Ideal s .bf16) (i : s.Idx) (a : ℝ) (h : z i = (a : EReal)) :
    dsilu z i = ((sg a * (1 + (a - a * sg a)) : ℝ) : EReal) := by
  have e : dsilu z i = sigm (wide z) i * (((1 : ℝ) : EReal) + (z i - silu z i)) := by
    unfold dsilu
    rw [← kone]
    generalize silu z = S
    unfold wide
    generalize sigm (F := Ideal) _ = Q
    pointwise
  rw [e, sigm_real _ i a (by unfold wide; pointwise; exact h), silu_real z i a h, h]
  simp only [← EReal.coe_mul, ← EReal.coe_add, ← EReal.coe_sub]

theorem mmA_real (a : FVec Ideal S256x1024 .bf16) (w : FVec Ideal S1024x1024 .bf16) (r : Fin 256) (k : Fin 1024) (f W : Fin 1024 → ℝ)
    (ha : ∀ j, a (ix2 r j) = (f j : EReal)) (hw : ∀ j, w (ix2 j k) = (W j : EReal)) : mmA a w (ix2 r k) = ((∑ j, f j * W j : ℝ) : EReal) := by
  have e : mmA a w (ix2 r k) = ∑ j : Fin 1024, a (ix2 r j) * w (ix2 j k) := by
    unfold mmA
    pointwise
  rw [e, ← sum_coe]
  exact Finset.sum_congr rfl fun j _ => by rw [ha, hw, EReal.coe_mul]
theorem mmB_real (a : FVec Ideal S256x2048 .bf16) (w : FVec Ideal S2048x1024 .bf16) (r : Fin 256) (k : Fin 1024) (f W : Fin 2048 → ℝ)
    (ha : ∀ j, a (ix2 r j) = (f j : EReal)) (hw : ∀ j, w (ix2 j k) = (W j : EReal)) : mmB a w (ix2 r k) = ((∑ j, f j * W j : ℝ) : EReal) := by
  have e : mmB a w (ix2 r k) = ∑ j : Fin 2048, a (ix2 r j) * w (ix2 j k) := by
    unfold mmB
    pointwise
  rw [e, ← sum_coe]
  exact Finset.sum_congr rfl fun j _ => by rw [ha, hw, EReal.coe_mul]
theorem mmAt_real (a : FVec Ideal S256x1024 .bf16) (w : FVec Ideal S1024x1024 .bf16) (r : Fin 256) (k : Fin 1024) (f W : Fin 1024 → ℝ)
    (ha : ∀ j, a (ix2 r j) = (f j : EReal)) (hw : ∀ j, w (ix2 k j) = (W j : EReal)) : mmAt a w (ix2 r k) = ((∑ j, f j * W j : ℝ) : EReal) := by
  have e : mmAt a w (ix2 r k) = ∑ j : Fin 1024, a (ix2 r j) * w (ix2 k j) := by
    unfold mmAt
    pointwise
  rw [e, ← sum_coe]
  exact Finset.sum_congr rfl fun j _ => by rw [ha, hw, EReal.coe_mul]
theorem mmBt_real (a : FVec Ideal S256x1024 .bf16) (w : FVec Ideal S2048x1024 .bf16) (r : Fin 256) (k : Fin 2048) (f W : Fin 1024 → ℝ)
    (ha : ∀ j, a (ix2 r j) = (f j : EReal)) (hw : ∀ j, w (ix2 k j) = (W j : EReal)) : mmBt a w (ix2 r k) = ((∑ j, f j * W j : ℝ) : EReal) := by
  have e : mmBt a w (ix2 r k) = ∑ j : Fin 1024, a (ix2 r j) * w (ix2 k j) := by
    unfold mmBt
    pointwise
  rw [e, ← sum_coe]
  exact Finset.sum_congr rfl fun j _ => by rw [ha, hw, EReal.coe_mul]

theorem grpMean_real (v : FVec Ideal S256x512 .f32) (r : Fin 256) (z : Fin 1) (f : Fin 512 → ℝ) (hv : ∀ j, v (ix2 r j) = (f j : EReal)) :
    grpMean v (ix2 r z) = (((∑ j, f j) * (1 / 512) : ℝ) : EReal) := by
  have e : grpMean v (ix2 r z) = Ideal.div (∑ j : Fin 512, v (ix2 r j)) (Ideal.ofBits .f32 1140850688#32) := by
    unfold grpMean
    pointwise
  rw [e, k512, Ideal.div_coe (by norm_num), EReal.coe_mul, ← sum_coe]
  exact congrArg (· * _) (Finset.sum_congr rfl fun j _ => hv j)

theorem spread_apply (v : FVec Ideal S256x1 .f32) (r : Fin 256) (j : Fin 512) : spread v (ix2 r j) = v (ix2 r 0) := by
  unfold spread
  pointwise

/-- One group of a row of 2048. -/
theorem slice4 (u : FVec Ideal S256x2048 .f32) (o : Fin 2 → ℕ) (h : S256x2048.Slices o S256x512) (g : Fin 4) (ho : o = ![0, 512 * g.val]) (r : Fin 256) (j : Fin 512) :
    extractStridedSlice S256x512 o u h (ix2 r j) = u (ix2 r (at4 g j)) := by
  subst ho
  pointwise
  all_goals exact congrArg (fun z => u (ix2 r z)) (Fin.ext (by show _ = 512 * g.val + j.val; first | rfl | (simp only []; omega) | omega))

/-- Four groups side by side. -/
theorem cat4 (a b c d : FVec Ideal S256x512 .f32) (r : Fin 256) (g : Fin 4) (j : Fin 512) :
    concatenate S256x2048 1 [⟨S256x512, a⟩, ⟨S256x512, b⟩, ⟨S256x512, c⟩, ⟨S256x512, d⟩] concatenates_S256x512_S256x512_S256x512_S256x512_S256x2048_d1 (ix2 r (at4 g j))
      = (![a, b, c, d] g) (ix2 r j) := by
  have hj := j.isLt
  fin_cases g
  · show _ = a (ix2 r j)
    unfold at4
    pointwise
    try rw [dif_pos (by first | omega | (simp only []; omega)  | (dsimp only; omega))]
    all_goals try exact congrArg (fun z => a (ix2 r z)) (Fin.ext (by show _ = j.val; first | rfl | omega | (simp only []; omega)))
  · show _ = b (ix2 r j)
    unfold at4
    pointwise
    try rw [dif_neg (by first | omega | (simp only []; omega)  | (dsimp only; omega)), dif_pos (by first | omega | (simp only []; omega)  | (dsimp only; omega))]
    all_goals try exact congrArg (fun z => b (ix2 r z)) (Fin.ext (by show _ = j.val; first | rfl | omega | (simp only []; omega)))
  · show _ = c (ix2 r j)
    unfold at4
    pointwise
    try rw [dif_neg (by first | omega | (simp only []; omega)  | (dsimp only; omega)), dif_neg (by first | omega | (simp only []; omega)  | (dsimp only; omega)), dif_pos (by first | omega | (simp only []; omega)  | (dsimp only; omega))]
    all_goals exact congrArg (fun z => c (ix2 r z)) (Fin.ext (by show _ = j.val; first | rfl | omega | (simp only []; omega)))
  · show _ = d (ix2 r j)
    unfold at4
    pointwise
    try rw [dif_neg (by first | omega | (simp only []; omega)  | (dsimp only; omega)), dif_neg (by first | omega | (simp only []; omega)  | (dsimp only; omega)), dif_neg (by first | omega | (simp only []; omega)  | (dsimp only; omega))]
    all_goals exact congrArg (fun z => d (ix2 r z)) (Fin.ext (by show _ = j.val; first | rfl | omega | (simp only []; omega)))

theorem grpInv_real (v : FVec Ideal S256x512 .f32) (r : Fin 256) (j : Fin 512) (f : Fin 512 → ℝ) (hv : ∀ j, v (ix2 r j) = (f j : EReal)) :
    grpInv v (ix2 r j) = (((Real.sqrt ((∑ j, f j * f j) * (1 / 512) + eps))⁻¹ : ℝ) : EReal) := by
  have h : 0 ≤ ∑ j, f j * f j := Finset.sum_nonneg fun j _ => mul_self_nonneg _
  have he := eps_pos
  have m := grpMean_real (mulf v v) r 0 (fun j => f j * f j) fun j => by
    pointwise
    rw [hv, EReal.coe_mul]
  unfold grpInv
  rw [spread_apply]
  generalize grpMean (mulf v v) = M at m
  pointwise
  rw [m, keps, ← EReal.coe_add, rsqrt_pos (by positivity)]

theorem inv4_real (u : FVec Ideal S256x2048 .f32) (r : Fin 256) (f : Fin 2048 → ℝ) (hu : ∀ k, u (ix2 r k) = (f k : EReal)) (g : Fin 4) (j : Fin 512) :
    inv4 u (ix2 r (at4 g j)) = (((Real.sqrt ((∑ j, f (at4 g j) * f (at4 g j)) * (1 / 512) + eps))⁻¹ : ℝ) : EReal) := by
  unfold inv4
  rw [cat4]
  fin_cases g
  · exact grpInv_real _ r j (fun j => f (at4 0 j)) fun j => (slice4 u _ _ 0 rfl r j).trans (hu _)
  · exact grpInv_real _ r j (fun j => f (at4 1 j)) fun j => (slice4 u _ _ 1 rfl r j).trans (hu _)
  · exact grpInv_real _ r j (fun j => f (at4 2 j)) fun j => (slice4 u _ _ 2 rfl r j).trans (hu _)
  · exact grpInv_real _ r j (fun j => f (at4 3 j)) fun j => (slice4 u _ _ 3 rfl r j).trans (hu _)

theorem mean4_real (u : FVec Ideal S256x2048 .f32) (r : Fin 256) (f : Fin 2048 → ℝ) (hu : ∀ k, u (ix2 r k) = (f k : EReal)) (g : Fin 4) (j : Fin 512) :
    mean4 u (ix2 r (at4 g j)) = (((∑ j, f (at4 g j)) * (1 / 512) : ℝ) : EReal) := by
  unfold mean4
  rw [cat4]
  fin_cases g
  · exact (spread_apply _ r j).trans (grpMean_real _ r 0 (fun j => f (at4 0 j)) fun j => (slice4 u _ _ 0 rfl r j).trans (hu _))
  · exact (spread_apply _ r j).trans (grpMean_real _ r 0 (fun j => f (at4 1 j)) fun j => (slice4 u _ _ 1 rfl r j).trans (hu _))
  · exact (spread_apply _ r j).trans (grpMean_real _ r 0 (fun j => f (at4 2 j)) fun j => (slice4 u _ _ 2 rfl r j).trans (hu _))
  · exact (spread_apply _ r j).trans (grpMean_real _ r 0 (fun j => f (at4 3 j)) fun j => (slice4 u _ _ 3 rfl r j).trans (hu _))

/-- Row `r` of the tile is the real row `p`. -/
structure RowOf (T : Tile Ideal) (r : Fin 256) (p : Row) : Prop where
  x : ∀ k, T.x (ix2 r k) = (p.x k : EReal)
  t : ∀ k, T.t (ix2 r k) = (p.t k : EReal)
  o : ∀ k, T.o (ix2 r k) = (p.o k : EReal)
  za : ∀ k, T.za (ix2 r k) = (p.za k : EReal)
  zm : ∀ k, T.zm (ix2 r k) = (p.zm k : EReal)
  y : ∀ k, T.y (ix2 r k) = (p.y k : EReal)
  ga : ∀ k, T.ga (ix2 r k) = (p.ga k : EReal)
  gb : ∀ k, T.gb (ix2 r k) = (p.gb k : EReal)
  gate : ∀ k, T.gate (ix2 0 k) = (p.gate k : EReal)
  nw : ∀ k, T.nw (ix2 0 k) = (p.nw k : EReal)
  wa : ∀ j k, T.wa (ix2 j k) = (p.wa j k : EReal)
  ws : ∀ j k, T.ws (ix2 j k) = (p.ws j k : EReal)
  wo : ∀ j k, T.wo (ix2 j k) = (p.wo j k : EReal)

namespace RowOf
variable {T : Tile Ideal} {r : Fin 256} {p : Row} (h : RowOf T r p)
include h

theorem yag (k : Fin 1024) : T.yag (ix2 r k) = (p.yag k : EReal) := by
  have s := silu_real T.za (ix2 r k) _ (h.za k)
  unfold Tile.yag fYag narrow
  generalize silu T.za = S at s
  pointwise
  rw [s, h.o, ← EReal.coe_mul]; rfl
theorem u (k : Fin 2048) : fU T.y T.zm (ix2 r k) = (p.u k : EReal) := by
  have s := silu_real T.zm (ix2 r k) _ (h.zm k)
  unfold fU
  generalize silu T.zm = S at s
  pointwise
  rw [s, h.y, ← EReal.coe_mul]; rfl
theorem inv (k : Fin 2048) : inv4 (fU T.y T.zm) (ix2 r k) = (p.inv (grp k) : EReal) := by
  have e := inv4_real (fU T.y T.zm) r p.u (fun k => u h k) (grp k) ⟨k.val % 512, Nat.mod_lt _ (by decide)⟩
  rw [at4_grp] at e
  exact e
theorem yn0 (k : Fin 2048) : T.yn0 (ix2 r k) = (p.yn0 k : EReal) := by
  have e1 := u h k
  have e2 := inv h k
  unfold Tile.yn0 fYn0
  generalize inv4 (fU T.y T.zm) = I at e2
  generalize fU T.y T.zm = U at e1
  pointwise
  rw [e1, e2, ← EReal.coe_mul]; rfl
theorem yn (k : Fin 2048) : T.yn (ix2 r k) = (p.yn k : EReal) := by
  have e1 : fYn0 T.y T.zm (ix2 r k) = _ := yn0 h k
  unfold Tile.yn fYn narrow rowB
  generalize fYn0 T.y T.zm = U at e1
  pointwise
  rw [e1, h.nw, ← EReal.coe_mul]; rfl
theorem ya (k : Fin 1024) : mmA T.yag T.wa (ix2 r k) = (p.ya k : EReal) := mmA_real _ _ r k _ _ (fun j => yag h j) fun j => h.wa j k
theorem yb (k : Fin 1024) : mmB T.yn T.ws (ix2 r k) = (p.yb k : EReal) := mmB_real _ _ r k _ _ (fun j => yn h j) fun j => h.ws j k
theorem sga (k : Fin 1024) : sigm (wide T.ga) (ix2 r k) = (sg (p.ga k) : EReal) := sigm_real _ _ _ (by unfold wide; pointwise; exact h.ga k)
theorem sgb (k : Fin 1024) : sigm (wide T.gb) (ix2 r k) = (sg (p.gb k) : EReal) := sigm_real _ _ _ (by unfold wide; pointwise; exact h.gb k)
theorem mer (k : Fin 1024) : T.mer (ix2 r k) = (p.mer k : EReal) := by
  have e1 := ya h k
  have e2 := yb h k
  have e3 := sga h k
  have e4 := sgb h k
  unfold Tile.mer fMer narrow
  generalize mmA T.yag T.wa = A at e1
  generalize mmB T.yn T.ws = B at e2
  generalize sigm (wide T.ga) = C at e3
  generalize sigm (wide T.gb) = D at e4
  pointwise
  rw [e1, e2, e3, e4, ← EReal.coe_mul, ← EReal.coe_mul, ← EReal.coe_add]; rfl
theorem out (k : Fin 1024) : T.out (ix2 r k) = (p.out k : EReal) := mmA_real _ _ r k _ _ (fun j => mer h j) fun j => h.wo j k
theorem diff (k : Fin 1024) : T.diff (ix2 r k) = (p.diff k : EReal) := by
  have e1 := out h k
  unfold Tile.diff rowA
  generalize T.out = U at e1
  pointwise
  rw [e1, h.x, h.t, h.gate, ← EReal.coe_mul, ← EReal.coe_add, ← EReal.coe_sub]; rfl
theorem dx (k : Fin 1024) : T.dx (ix2 r k) = (p.dx k : EReal) := by
  have e1 := diff h k
  unfold Tile.dx
  generalize T.diff = U at e1
  pointwise
  rw [e1, ki1024, ← EReal.coe_mul]; rfl
theorem dO (k : Fin 1024) : T.do_ (ix2 r k) = (p.dO k : EReal) := by
  have e1 := dx h k
  unfold Tile.do_ narrow rowA
  generalize T.dx = U at e1
  pointwise
  rw [e1, h.gate, ← EReal.coe_mul]; rfl
theorem dm (k : Fin 1024) : T.dm T.wo (ix2 r k) = (p.dm k : EReal) := mmAt_real _ _ r k _ _ (fun j => dO h j) fun j => h.wo k j
theorem dya0 (k : Fin 1024) : T.dya0 T.wo (ix2 r k) = (p.dya k : EReal) := by
  have e1 := dm h k
  have e2 := sga h k
  unfold Tile.dya0
  generalize T.dm T.wo = U at e1
  generalize sigm (wide T.ga) = C at e2
  pointwise
  rw [e1, e2, ← EReal.coe_mul]; rfl
theorem dyb0 (k : Fin 1024) : T.dyb0 T.wo (ix2 r k) = (p.dyb k : EReal) := by
  have e1 := dm h k
  have e2 := sgb h k
  unfold Tile.dyb0
  generalize T.dm T.wo = U at e1
  generalize sigm (wide T.gb) = C at e2
  pointwise
  rw [e1, e2, ← EReal.coe_mul]; rfl
theorem dya (k : Fin 1024) : T.dya T.wo (ix2 r k) = (p.dya k : EReal) := by
  have e1 := dya0 h k
  unfold Tile.dya narrow
  generalize T.dya0 T.wo = U at e1
  pointwise
  exact e1
theorem dyb (k : Fin 1024) : T.dyb T.wo (ix2 r k) = (p.dyb k : EReal) := by
  have e1 := dyb0 h k
  unfold Tile.dyb narrow
  generalize T.dyb0 T.wo = U at e1
  pointwise
  exact e1
theorem dga (k : Fin 1024) : T.dga T.wo (ix2 r k) = (p.dga k : EReal) := by
  have e1 := dya0 h k
  have e2 := ya h k
  have e3 := sga h k
  unfold Tile.dga narrow oneSub
  generalize T.dya0 T.wo = U at e1
  generalize mmA T.yag T.wa = A at e2
  generalize sigm (wide T.ga) = C at e3
  pointwise
  rw [e1, e2, e3]
  try rw [kone]
  try rw [← EReal.coe_one]
  rw [← EReal.coe_mul, ← EReal.coe_sub, ← EReal.coe_mul]; rfl
theorem dgb (k : Fin 1024) : T.dgb T.wo (ix2 r k) = (p.dgb k : EReal) := by
  have e1 := dyb0 h k
  have e2 := yb h k
  have e3 := sgb h k
  unfold Tile.dgb narrow oneSub
  generalize T.dyb0 T.wo = U at e1
  generalize mmB T.yn T.ws = A at e2
  generalize sigm (wide T.gb) = C at e3
  pointwise
  rw [e1, e2, e3]
  try rw [kone]
  try rw [← EReal.coe_one]
  rw [← EReal.coe_mul, ← EReal.coe_sub, ← EReal.coe_mul]; rfl
theorem dyag (k : Fin 1024) : T.dyag T.wo T.wa (ix2 r k) = (p.dyag k : EReal) := mmAt_real _ _ r k _ _ (fun j => dya h j) fun j => h.wa k j
theorem dAtt (k : Fin 1024) : T.dAtt T.wo T.wa (ix2 r k) = (p.dAtt k : EReal) := by
  have e1 := dyag h k
  have e2 := silu_real T.za (ix2 r k) _ (h.za k)
  unfold Tile.dAtt
  generalize T.dyag T.wo T.wa = U at e1
  generalize silu T.za = S at e2
  pointwise
  rw [e1, e2, ← EReal.coe_mul]; rfl
theorem dza (k : Fin 1024) : T.dza T.wo T.wa (ix2 r k) = (p.dza k : EReal) := by
  have e1 := dyag h k
  have e2 := dsilu_real T.za (ix2 r k) _ (h.za k)
  unfold Tile.dza narrow
  generalize T.dyag T.wo T.wa = U at e1
  generalize dsilu T.za = S at e2
  pointwise
  rw [e1, e2, h.o, ← EReal.coe_mul, ← EReal.coe_mul]; rfl
theorem dyn (k : Fin 2048) : T.dyn T.wo T.ws (ix2 r k) = (p.dyn k : EReal) := mmBt_real _ _ r k _ _ (fun j => dyb h j) fun j => h.ws k j
theorem dhat (k : Fin 2048) : T.dhat T.wo T.ws (ix2 r k) = (p.dhat k : EReal) := by
  have e1 := dyn h k
  unfold Tile.dhat rowB
  generalize T.dyn T.wo T.ws = U at e1
  pointwise
  rw [e1, h.nw, ← EReal.coe_mul]; rfl
theorem cross (k : Fin 2048) : mean4 (mulf (T.dhat T.wo T.ws) T.yn0) (ix2 r k) = (p.cross (grp k) : EReal) := by
  have e := mean4_real (mulf (T.dhat T.wo T.ws) T.yn0) r (fun k => p.dhat k * p.yn0 k) (fun k => by
    have e1 := dhat h k
    have e2 := yn0 h k
    generalize T.dhat T.wo T.ws = U at e1
    generalize T.yn0 = V at e2
    pointwise
    rw [e1, e2, ← EReal.coe_mul]) (grp k) ⟨k.val % 512, Nat.mod_lt _ (by decide)⟩
  rw [at4_grp] at e
  exact e
theorem du (k : Fin 2048) : T.du T.wo T.ws (ix2 r k) = (p.du k : EReal) := by
  have e1 := dhat h k
  have e2 := yn0 h k
  have e3 := inv h k
  have e4 := cross h k
  unfold Tile.du
  generalize mean4 (mulf (T.dhat T.wo T.ws) T.yn0) = M at e4
  generalize inv4 (fU T.y T.zm) = I at e3
  generalize T.dhat T.wo T.ws = U at e1
  generalize T.yn0 = V at e2
  pointwise
  rw [e1, e2, e3, e4, ← EReal.coe_mul, ← EReal.coe_sub, ← EReal.coe_mul]; rfl
theorem dypre (k : Fin 2048) : T.dypre T.wo T.ws (ix2 r k) = (p.dypre k : EReal) := by
  have e1 := du h k
  have e2 := silu_real T.zm (ix2 r k) _ (h.zm k)
  unfold Tile.dypre
  generalize T.du T.wo T.ws = U at e1
  generalize silu T.zm = S at e2
  pointwise
  rw [e1, e2, ← EReal.coe_mul]; rfl
theorem dzm (k : Fin 2048) : T.dzm T.wo T.ws (ix2 r k) = (p.dzm k : EReal) := by
  have e1 := du h k
  have e2 := dsilu_real T.zm (ix2 r k) _ (h.zm k)
  unfold Tile.dzm narrow
  generalize T.du T.wo T.ws = U at e1
  generalize dsilu T.zm = S at e2
  pointwise
  rw [e1, e2, h.y, ← EReal.coe_mul, ← EReal.coe_mul]; rfl

end RowOf

/-- What a tile of real rows adds to the three sums. -/
theorem nwAcc_real (T : Tile Ideal) (P : Fin 256 → Row) (h : ∀ r, RowOf T r (P r)) (acc : FVec Ideal S1x2048 .f32) (k : Fin 2048) :
    T.nwAcc T.wo T.ws acc (ix2 0 k) = acc (ix2 0 k) + ((∑ r, (P r).dyn k * (P r).yn0 k : ℝ) : EReal) := by
  have e : T.nwAcc T.wo T.ws acc (ix2 0 k) = acc (ix2 0 k) + ∑ r : Fin 256, T.dyn T.wo T.ws (ix2 r k) * T.yn0 (ix2 r k) := by
    unfold Tile.nwAcc colB
    generalize T.dyn T.wo T.ws = U
    generalize T.yn0 = V
    pointwise
  rw [e, ← sum_coe]
  exact congrArg (_ + ·) (Finset.sum_congr rfl fun r _ => by rw [(h r).dyn, (h r).yn0, EReal.coe_mul])
theorem gateAcc_real (T : Tile Ideal) (P : Fin 256 → Row) (h : ∀ r, RowOf T r (P r)) (acc : FVec Ideal S1x1024 .f32) (k : Fin 1024) :
    T.gateAcc acc (ix2 0 k) = acc (ix2 0 k) + ((∑ r, (P r).dx k * (P r).out k : ℝ) : EReal) := by
  have e : T.gateAcc acc (ix2 0 k) = acc (ix2 0 k) + ∑ r : Fin 256, T.dx (ix2 r k) * T.out (ix2 r k) := by
    unfold Tile.gateAcc colA
    generalize T.dx = U
    generalize T.out = V
    pointwise
  rw [e, ← sum_coe]
  exact congrArg (_ + ·) (Finset.sum_congr rfl fun r _ => by rw [(h r).dx, (h r).out, EReal.coe_mul])
theorem lossAcc_real (T : Tile Ideal) (P : Fin 256 → Row) (h : ∀ r, RowOf T r (P r)) (acc : FVec Ideal S1x1 .f32) :
    T.lossAcc acc (ix2 0 0) = acc (ix2 0 0) + ((∑ r, (P r).loss : ℝ) : EReal) := by
  have e : T.lossAcc acc (ix2 0 0) = acc (ix2 0 0) + (Ideal.ofBits .f32 973078528#32 : EReal) * ∑ r : Fin 256, ∑ k : Fin 1024, T.diff (ix2 r k) * T.diff (ix2 r k) := by
    unfold Tile.lossAcc
    generalize T.diff = U
    pointwise
  have e2 : (∑ r : Fin 256, ∑ k : Fin 1024, T.diff (ix2 r k) * T.diff (ix2 r k)) = ((∑ r, ∑ k, (P r).diff k * (P r).diff k : ℝ) : EReal) := by
    rw [← sum_coe]
    refine Finset.sum_congr rfl fun r _ => ?_
    rw [← sum_coe]
    exact Finset.sum_congr rfl fun k _ => by rw [(h r).diff, EReal.coe_mul]
  rw [e, e2, k2048, ← EReal.coe_mul]
  refine congrArg (fun z : ℝ => acc (ix2 0 0) + (z : EReal)) ?_
  rw [Finset.mul_sum]
  exact Finset.sum_congr rfl fun r _ => mul_comm _ _

end Cert.MidIdeal.Rows
-- ==== Proof.MidVal.lean ====
/-
  The kernel's gated merge, loss and gradient over whole arrays: every result, entry by entry, of real arguments (hand-written,
  untrusted).
-/
module

public import proofs.«01_k».proof.Proof.Sums
public import proofs.«01_k».proof.Proof.Pieces
public import proofs.«01_k».proof.Proof.MidIdealRow
public import proofs.«01_k».proof.Proof.MidIdealFrame
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat Cfg Window)
open Cert.MidIdeal Cert.MidIdeal.Gen Cert.MidIdeal.Rows Cert.MidRows Cert.Reals

namespace Cert.MidIdeal.Val

variable (m : (ℓ : Loc nD τ sig) → Buf (Elt Ideal) ℓ) (ρ : Dev nD → PrngReg)

abbrev a0 (c : Dev nD) : FVec Ideal S8192x1024 .f32 := m ((c : Thread nD τ).loc main_arg0)
abbrev a1 (c : Dev nD) : FVec Ideal S8192x1024 .f32 := m ((c : Thread nD τ).loc main_arg1)
abbrev a2 (c : Dev nD) : FVec Ideal S8192x1024 .f32 := m ((c : Thread nD τ).loc main_arg2)
abbrev a3 (c : Dev nD) : FVec Ideal S8192x3072 .bf16 := m ((c : Thread nD τ).loc main_arg3)
abbrev a4 (c : Dev nD) : FVec Ideal S8192x2048 .f32 := m ((c : Thread nD τ).loc main_arg4)
abbrev a5 (c : Dev nD) : FVec Ideal S8192x2048 .bf16 := m ((c : Thread nD τ).loc main_arg5)
abbrev a6 (c : Dev nD) : FVec Ideal S1x1024 .f32 := m ((c : Thread nD τ).loc main_arg6)
abbrev a7 (c : Dev nD) : FVec Ideal S1x2048 .f32 := m ((c : Thread nD τ).loc main_arg7)
abbrev a8 (c : Dev nD) : FVec Ideal S8x512x1024 .bf16 := m ((c : Thread nD τ).loc main_arg8)

/-- The arguments are the real arrays `A`. -/
structure Is (c : Dev nD) (A : Args) : Prop where
  a0 : ∀ R k, a0 m c (ix2 R k) = (A.x R k : EReal)
  a1 : ∀ R k, a1 m c (ix2 R k) = (A.t R k : EReal)
  a2 : ∀ R k, a2 m c (ix2 R k) = (A.o R k : EReal)
  a3 : ∀ R k, a3 m c (ix2 R k) = (A.z R k : EReal)
  a4 : ∀ R k, a4 m c (ix2 R k) = (A.y R k : EReal)
  a5 : ∀ R k, a5 m c (ix2 R k) = (A.g R k : EReal)
  a6 : ∀ k, a6 m c (ix2 0 k) = (A.gate k : EReal)
  a7 : ∀ k, a7 m c (ix2 0 k) = (A.nw k : EReal)
  a8 : ∀ a b k, a8 m c (ix3 a b k) = (A.rows a b k : EReal)

/-- The array's row with number `R`. -/
def rowN (R : ℕ) : Fin 8192 := ⟨R % 8192, Nat.mod_lt _ (by decide)⟩
theorem rowN_val (R : Fin 8192) : rowN R.val = R := Fin.ext (Nat.mod_eq_of_lt R.isLt)
theorem points : cfg0.N = 32 := by decide

theorem idx_in0 : ∀ t : Fin cfg0.N, win0_0.index t (0 : Fin 2) = t.val ∧ win0_0.index t (1 : Fin 2) = 0 :=
  (by decide +kernel : ∀ t : Fin grid0.N, _)
theorem iblk0 (c : Dev nD) (t : Fin cfg0.N) (r : Fin 256) (j : Fin 1024) :
    iblk m c 0 t (ix2 r j : S256x1024.Idx) = a0 m c (ix2 (rowN (256 * t.val + r.val)) j) := by
  obtain ⟨e0, e1⟩ := idx_in0 t
  have hN : t.val < 32 := lt_of_lt_of_eq t.isLt points
  have hr := r.isLt
  show V m c main_arg0 (((cfg0.win 0).blk t).view.emb (ix2 r j : S256x1024.Idx)) = _
  congr 1
  funext a; apply Fin.ext
  match a with
  | ⟨0, _⟩ => show win0_0.index t (0 : Fin 2) * 256 + 1 * r.val = (256 * t.val + r.val) % 8192; rw [e0]; omega
  | ⟨1, _⟩ => show win0_0.index t (1 : Fin 2) * 1024 + 1 * j.val = j.val; rw [e1]; omega

theorem idx_in1 : ∀ t : Fin cfg0.N, win0_1.index t (0 : Fin 2) = t.val ∧ win0_1.index t (1 : Fin 2) = 0 :=
  (by decide +kernel : ∀ t : Fin grid0.N, _)
theorem iblk1 (c : Dev nD) (t : Fin cfg0.N) (r : Fin 256) (j : Fin 1024) :
    iblk m c 1 t (ix2 r j : S256x1024.Idx) = a1 m c (ix2 (rowN (256 * t.val + r.val)) j) := by
  obtain ⟨e0, e1⟩ := idx_in1 t
  have hN : t.val < 32 := lt_of_lt_of_eq t.isLt points
  have hr := r.isLt
  show V m c main_arg1 (((cfg0.win 1).blk t).view.emb (ix2 r j : S256x1024.Idx)) = _
  congr 1
  funext a; apply Fin.ext
  match a with
  | ⟨0, _⟩ => show win0_1.index t (0 : Fin 2) * 256 + 1 * r.val = (256 * t.val + r.val) % 8192; rw [e0]; omega
  | ⟨1, _⟩ => show win0_1.index t (1 : Fin 2) * 1024 + 1 * j.val = j.val; rw [e1]; omega

theorem idx_in2 : ∀ t : Fin cfg0.N, win0_2.index t (0 : Fin 2) = t.val ∧ win0_2.index t (1 : Fin 2) = 0 :=
  (by decide +kernel : ∀ t : Fin grid0.N, _)
theorem iblk2 (c : Dev nD) (t : Fin cfg0.N) (r : Fin 256) (j : Fin 1024) :
    iblk m c 2 t (ix2 r j : S256x1024.Idx) = a2 m c (ix2 (rowN (256 * t.val + r.val)) j) := by
  obtain ⟨e0, e1⟩ := idx_in2 t
  have hN : t.val < 32 := lt_of_lt_of_eq t.isLt points
  have hr := r.isLt
  show V m c main_arg2 (((cfg0.win 2).blk t).view.emb (ix2 r j : S256x1024.Idx)) = _
  congr 1
  funext a; apply Fin.ext
  match a with
  | ⟨0, _⟩ => show win0_2.index t (0 : Fin 2) * 256 + 1 * r.val = (256 * t.val + r.val) % 8192; rw [e0]; omega
  | ⟨1, _⟩ => show win0_2.index t (1 : Fin 2) * 1024 + 1 * j.val = j.val; rw [e1]; omega

theorem idx_in3 : ∀ t : Fin cfg0.N, win0_3.index t (0 : Fin 2) = t.val ∧ win0_3.index t (1 : Fin 2) = 0 :=
  (by decide +kernel : ∀ t : Fin grid0.N, _)
theorem iblk3 (c : Dev nD) (t : Fin cfg0.N) (r : Fin 256) (j : Fin 3072) :
    iblk m c 3 t (ix2 r j : S256x3072.Idx) = a3 m c (ix2 (rowN (256 * t.val + r.val)) j) := by
  obtain ⟨e0, e1⟩ := idx_in3 t
  have hN : t.val < 32 := lt_of_lt_of_eq t.isLt points
  have hr := r.isLt
  show V m c main_arg3 (((cfg0.win 3).blk t).view.emb (ix2 r j : S256x3072.Idx)) = _
  congr 1
  funext a; apply Fin.ext
  match a with
  | ⟨0, _⟩ => show win0_3.index t (0 : Fin 2) * 256 + 1 * r.val = (256 * t.val + r.val) % 8192; rw [e0]; omega
  | ⟨1, _⟩ => show win0_3.index t (1 : Fin 2) * 3072 + 1 * j.val = j.val; rw [e1]; omega

theorem idx_in4 : ∀ t : Fin cfg0.N, win0_4.index t (0 : Fin 2) = t.val ∧ win0_4.index t (1 : Fin 2) = 0 :=
  (by decide +kernel : ∀ t : Fin grid0.N, _)
theorem iblk4 (c : Dev nD) (t : Fin cfg0.N) (r : Fin 256) (j : Fin 2048) :
    iblk m c 4 t (ix2 r j : S256x2048.Idx) = a4 m c (ix2 (rowN (256 * t.val + r.val)) j) := by
  obtain ⟨e0, e1⟩ := idx_in4 t
  have hN : t.val < 32 := lt_of_lt_of_eq t.isLt points
  have hr := r.isLt
  show V m c main_arg4 (((cfg0.win 4).blk t).view.emb (ix2 r j : S256x2048.Idx)) = _
  congr 1
  funext a; apply Fin.ext
  match a with
  | ⟨0, _⟩ => show win0_4.index t (0 : Fin 2) * 256 + 1 * r.val = (256 * t.val + r.val) % 8192; rw [e0]; omega
  | ⟨1, _⟩ => show win0_4.index t (1 : Fin 2) * 2048 + 1 * j.val = j.val; rw [e1]; omega

theorem idx_in5 : ∀ t : Fin cfg0.N, win0_5.index t (0 : Fin 2) = t.val ∧ win0_5.index t (1 : Fin 2) = 0 :=
  (by decide +kernel : ∀ t : Fin grid0.N, _)
theorem iblk5 (c : Dev nD) (t : Fin cfg0.N) (r : Fin 256) (j : Fin 2048) :
    iblk m c 5 t (ix2 r j : S256x2048.Idx) = a5 m c (ix2 (rowN (256 * t.val + r.val)) j) := by
  obtain ⟨e0, e1⟩ := idx_in5 t
  have hN : t.val < 32 := lt_of_lt_of_eq t.isLt points
  have hr := r.isLt
  show V m c main_arg5 (((cfg0.win 5).blk t).view.emb (ix2 r j : S256x2048.Idx)) = _
  congr 1
  funext a; apply Fin.ext
  match a with
  | ⟨0, _⟩ => show win0_5.index t (0 : Fin 2) * 256 + 1 * r.val = (256 * t.val + r.val) % 8192; rw [e0]; omega
  | ⟨1, _⟩ => show win0_5.index t (1 : Fin 2) * 2048 + 1 * j.val = j.val; rw [e1]; omega

theorem idx_in6 : ∀ t : Fin cfg0.N, win0_6.index t (0 : Fin 2) = 0 ∧ win0_6.index t (1 : Fin 2) = 0 :=
  (by decide +kernel : ∀ t : Fin grid0.N, _)
theorem iblk6 (c : Dev nD) (t : Fin cfg0.N) (j : Fin 1024) :
    iblk m c 6 t (ix2 (0 : Fin 1) j : S1x1024.Idx) = a6 m c (ix2 0 j) := by
  obtain ⟨e0, e1⟩ := idx_in6 t
  show V m c main_arg6 (((cfg0.win 6).blk t).view.emb (ix2 (0 : Fin 1) j : S1x1024.Idx)) = _
  congr 1
  funext a; apply Fin.ext
  match a with
  | ⟨0, _⟩ => show win0_6.index t (0 : Fin 2) * 1 + 1 * 0 = 0; rw [e0]
  | ⟨1, _⟩ => show win0_6.index t (1 : Fin 2) * 1024 + 1 * j.val = j.val; rw [e1]; omega

theorem idx_in7 : ∀ t : Fin cfg0.N, win0_7.index t (0 : Fin 2) = 0 ∧ win0_7.index t (1 : Fin 2) = 0 :=
  (by decide +kernel : ∀ t : Fin grid0.N, _)
theorem iblk7 (c : Dev nD) (t : Fin cfg0.N) (j : Fin 2048) :
    iblk m c 7 t (ix2 (0 : Fin 1) j : S1x2048.Idx) = a7 m c (ix2 0 j) := by
  obtain ⟨e0, e1⟩ := idx_in7 t
  show V m c main_arg7 (((cfg0.win 7).blk t).view.emb (ix2 (0 : Fin 1) j : S1x2048.Idx)) = _
  congr 1
  funext a; apply Fin.ext
  match a with
  | ⟨0, _⟩ => show win0_7.index t (0 : Fin 2) * 1 + 1 * 0 = 0; rw [e0]
  | ⟨1, _⟩ => show win0_7.index t (1 : Fin 2) * 2048 + 1 * j.val = j.val; rw [e1]; omega

/-- A column range of a tile, entry by entry. -/
theorem ld_cols {n w off : ℕ} (x : (⟨2, ![256, n]⟩ : Shape).Idx → EReal) (inb : ∀ a, (![0, off] : Fin 2 → ℕ) a + (![256, w] : Fin 2 → ℕ) a ≤ (![256, n] : Fin 2 → ℕ) a) (r : Fin 256) (k : Fin w) (hk : off + k.val < n) :
    View.ld (Val := Elt Ideal) (e' := .bf16) x (Rect.unit (s := ⟨2, ![256, n]⟩) ![0, off] ![256, w] inb) (ix2 r k) = x (ix2 r ⟨off + k.val, hk⟩) := by
  refine congrArg x ?_
  funext a; apply Fin.ext
  match a with
  | ⟨0, _⟩ => show 0 + 1 * r.val = r.val; omega
  | ⟨1, _⟩ => show off + 1 * k.val = off + k.val; omega
theorem z_cols {n : ℕ} (x : (⟨2, ![256, n]⟩ : Shape).Idx → EReal) (r : Fin 256) (k : ℕ) (hk : 0 + k < n) (hk' : k < n) : x (ix2 r ⟨0 + k, hk⟩) = x (ix2 r ⟨k, hk'⟩) :=
  congrArg (fun z => x (ix2 r z)) (Fin.ext (Nat.zero_add k))

variable {m} {c : Dev nD} {A : Args} (h : Is m c A)
include h

/-- Every tile's rows are the rows of the arguments. -/
theorem tile_row (t : Fin cfg0.N) (r : Fin 256) : RowOf (tileAt m c t) r (A.row (rowN (256 * t.val + r.val))) where
  x k := (iblk0 m c t r k).trans (h.a0 _ k)
  t k := (iblk1 m c t r k).trans (h.a1 _ k)
  o k := (iblk2 m c t r k).trans (h.a2 _ k)
  za k := (ld_cols (iblk m c 3 t) _ r k (by have := k.isLt; omega)).trans ((z_cols (iblk m c 3 t) r k.val _ (by have := k.isLt; omega)).trans ((iblk3 m c t r _).trans (h.a3 _ _)))
  zm k := (ld_cols (iblk m c 3 t) _ r k (by have := k.isLt; omega)).trans ((iblk3 m c t r _).trans (h.a3 _ _))
  y k := (iblk4 m c t r k).trans (h.a4 _ k)
  ga k := (ld_cols (iblk m c 5 t) _ r k (by have := k.isLt; omega)).trans ((z_cols (iblk m c 5 t) r k.val _ (by have := k.isLt; omega)).trans ((iblk5 m c t r _).trans (h.a5 _ _)))
  gb k := (ld_cols (iblk m c 5 t) _ r k (by have := k.isLt; omega)).trans ((iblk5 m c t r _).trans (h.a5 _ _))
  gate k := (iblk6 m c t k).trans (h.a6 k)
  nw k := (iblk7 m c t k).trans (h.a7 k)
  wa j k := h.a8 _ _ k
  ws j k := h.a8 _ _ k
  wo j k := h.a8 _ _ k
omit h

/-- Two real rows side by side. -/
def lohi {a b : ℕ} (f : Fin a → ℝ) (g : Fin b → ℝ) (q : ℕ) : ℝ := if h : q < a then f ⟨q, h⟩ else if h : q - a < b then g ⟨q - a, h⟩ else 0
theorem lohi_lo {a b : ℕ} (f : Fin a → ℝ) (g : Fin b → ℝ) (k : Fin a) : lohi f g k.val = f k := by
  unfold lohi; rw [dif_pos k.isLt]
theorem lohi_hi {a b : ℕ} (f : Fin a → ℝ) (g : Fin b → ℝ) (k : Fin b) : lohi f g (a + k.val) = g k := by
  have := k.isLt
  unfold lohi; rw [dif_neg (by omega), dif_pos (by omega)]
  exact congrArg g (Fin.ext (by show a + k.val - a = k.val; omega))

theorem dzam_row (T : Tile Ideal) (P : Fin 256 → Row) (hT : ∀ r, RowOf T r (P r)) (r : Fin 256) (q : Fin 3072) :
    T.dzam T.wo T.wa T.ws (ix2 r q) = (lohi (P r).dza (P r).dzm q.val : EReal) := by
  refine Cert.Pieces.canon_apply_of_agree (Val := Elt Ideal) (e := .bf16) (fun y : S256x3072.Idx => ((lohi (P (y 0)).dza (P (y 0)).dzm (y 1).val : ℝ) : EReal)) _ ?_ (ix2 r q) (cover_dzam _ _ _)
  intro p hp
  rcases List.mem_cons.mp hp with rfl | hp
  · intro x
    obtain ⟨a, k, rfl⟩ : ∃ (a : Fin 256) (k : Fin 2048), x = ix2 a k := ⟨x 0, x 1, eq_ix2 x⟩
    refine ((hT a).dzm k).trans ?_
    have ea : (⟨0 + 1 * a.val, by have := a.isLt; omega⟩ : Fin 256) = a := Fin.ext (by show 0 + 1 * a.val = a.val; omega)
    show _ = ((lohi (P ⟨0 + 1 * a.val, _⟩).dza (P ⟨0 + 1 * a.val, _⟩).dzm (1024 + 1 * k.val) : ℝ) : EReal)
    rw [ea, Nat.one_mul, lohi_hi]
  · obtain rfl := List.mem_singleton.mp hp
    intro x
    obtain ⟨a, k, rfl⟩ : ∃ (a : Fin 256) (k : Fin 1024), x = ix2 a k := ⟨x 0, x 1, eq_ix2 x⟩
    refine ((hT a).dza k).trans ?_
    have ea : (⟨0 + 1 * a.val, by have := a.isLt; omega⟩ : Fin 256) = a := Fin.ext (by show 0 + 1 * a.val = a.val; omega)
    show _ = ((lohi (P ⟨0 + 1 * a.val, _⟩).dza (P ⟨0 + 1 * a.val, _⟩).dzm (0 + 1 * k.val) : ℝ) : EReal)
    rw [ea, Nat.one_mul, Nat.zero_add, lohi_lo]

theorem dgab_row (T : Tile Ideal) (P : Fin 256 → Row) (hT : ∀ r, RowOf T r (P r)) (r : Fin 256) (q : Fin 2048) :
    T.dgab T.wo (ix2 r q) = (lohi (P r).dga (P r).dgb q.val : EReal) := by
  refine Cert.Pieces.canon_apply_of_agree (Val := Elt Ideal) (e := .bf16) (fun y : S256x2048.Idx => ((lohi (P (y 0)).dga (P (y 0)).dgb (y 1).val : ℝ) : EReal)) _ ?_ (ix2 r q) (cover_dgab _ _ _)
  intro p hp
  rcases List.mem_cons.mp hp with rfl | hp
  · intro x
    obtain ⟨a, k, rfl⟩ : ∃ (a : Fin 256) (k : Fin 1024), x = ix2 a k := ⟨x 0, x 1, eq_ix2 x⟩
    refine ((hT a).dgb k).trans ?_
    have ea : (⟨0 + 1 * a.val, by have := a.isLt; omega⟩ : Fin 256) = a := Fin.ext (by show 0 + 1 * a.val = a.val; omega)
    show _ = ((lohi (P ⟨0 + 1 * a.val, _⟩).dga (P ⟨0 + 1 * a.val, _⟩).dgb (1024 + 1 * k.val) : ℝ) : EReal)
    rw [ea, Nat.one_mul, lohi_hi]
  · obtain rfl := List.mem_singleton.mp hp
    intro x
    obtain ⟨a, k, rfl⟩ : ∃ (a : Fin 256) (k : Fin 1024), x = ix2 a k := ⟨x 0, x 1, eq_ix2 x⟩
    refine ((hT a).dga k).trans ?_
    have ea : (⟨0 + 1 * a.val, by have := a.isLt; omega⟩ : Fin 256) = a := Fin.ext (by show 0 + 1 * a.val = a.val; omega)
    show _ = ((lohi (P ⟨0 + 1 * a.val, _⟩).dga (P ⟨0 + 1 * a.val, _⟩).dgb (0 + 1 * k.val) : ℝ) : EReal)
    rw [ea, Nat.one_mul, Nat.zero_add, lohi_lo]

/-- Result 0, entry by entry. -/
def G8 (A : Args) : S8192x1024.Idx → EReal := fun i => (((A.row (i 0)).dx (i 1) : ℝ) : EReal)
theorem idx_out8 : ∀ t : Fin cfg0.N, win0_8.index t (0 : Fin 2) = t.val ∧ win0_8.index t (1 : Fin 2) = 0 :=
  (by decide +kernel : ∀ t : Fin grid0.N, _)
include h in
theorem result_8 : (dats m 0 c).arrAt 8 cfg0.N = G8 A := by
  refine (dats m 0 c).arrAt_eq_of_covers 8 _ (by decide +kernel) fun t hf y => ?_
  obtain ⟨e0, e1⟩ := idx_out8 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_8 m c t) _).trans ?_
  have e : (tileAt m c t).dx (ix2 r q) = G8 A (ix2 (rowN (256 * t.val + r.val)) q) :=
    (tile_row h t r).dx q
  have ex : (cfg0.win 8).xinj (cfg0.grid.coords t) (ix2 r q : S256x1024.Idx) = (ix2 r q : S256x1024.Idx) := rfl
  refine ((congrArg ((tileAt m c t).dx) ex).trans e).trans (congrArg (G8 A) ?_)
  funext a; apply Fin.ext
  match a with
  | ⟨0, _⟩ => show (256 * t.val + r.val) % 8192 = win0_8.index t (0 : Fin 2) * 256 + 1 * r.val; rw [e0]; omega
  | ⟨1, _⟩ => show q.val = win0_8.index t (1 : Fin 2) * 1024 + 1 * q.val; rw [e1]; omega

/-- Result 1, entry by entry. -/
def G9 (A : Args) : S8192x1024.Idx → EReal := fun i => (((A.row (i 0)).dAtt (i 1) : ℝ) : EReal)
theorem idx_out9 : ∀ t : Fin cfg0.N, win0_9.index t (0 : Fin 2) = t.val ∧ win0_9.index t (1 : Fin 2) = 0 :=
  (by decide +kernel : ∀ t : Fin grid0.N, _)
include h in
theorem result_9 : (dats m 0 c).arrAt 9 cfg0.N = G9 A := by
  refine (dats m 0 c).arrAt_eq_of_covers 9 _ (by decide +kernel) fun t hf y => ?_
  obtain ⟨e0, e1⟩ := idx_out9 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_9 m c t) _).trans ?_
  have e : (tileAt m c t).dAtt (woutAt m c) (wapAt m c) (ix2 r q) = G9 A (ix2 (rowN (256 * t.val + r.val)) q) :=
    (tile_row h t r).dAtt q
  have ex : (cfg0.win 9).xinj (cfg0.grid.coords t) (ix2 r q : S256x1024.Idx) = (ix2 r q : S256x1024.Idx) := rfl
  refine ((congrArg ((tileAt m c t).dAtt (woutAt m c) (wapAt m c)) ex).trans e).trans (congrArg (G9 A) ?_)
  funext a; apply Fin.ext
  match a with
  | ⟨0, _⟩ => show (256 * t.val + r.val) % 8192 = win0_9.index t (0 : Fin 2) * 256 + 1 * r.val; rw [e0]; omega
  | ⟨1, _⟩ => show q.val = win0_9.index t (1 : Fin 2) * 1024 + 1 * q.val; rw [e1]; omega

/-- Result 2, entry by entry. -/
def G10 (A : Args) : S8192x3072.Idx → EReal := fun i => ((lohi (A.row (i 0)).dza (A.row (i 0)).dzm (i 1).val : ℝ) : EReal)
theorem idx_out10 : ∀ t : Fin cfg0.N, win0_10.index t (0 : Fin 2) = t.val ∧ win0_10.index t (1 : Fin 2) = 0 :=
  (by decide +kernel : ∀ t : Fin grid0.N, _)
include h in
theorem result_10 : (dats m 0 c).arrAt 10 cfg0.N = G10 A := by
  refine (dats m 0 c).arrAt_eq_of_covers 10 _ (by decide +kernel) fun t hf y => ?_
  obtain ⟨e0, e1⟩ := idx_out10 t
  have hN : t.val < 32 := lt_of_lt_of_eq t.isLt points
  obtain ⟨r, q, rfl⟩ : ∃ (r : Fin 256) (q : Fin 3072), y = ix2 r q := ⟨y 0, y 1, eq_ix2 y⟩
  have hr := r.isLt
  refine (congrFun (after0_10 m c t) _).trans ?_
  have e : (tileAt m c t).dzam (woutAt m c) (wapAt m c) (wspAt m c) (ix2 r q) = G10 A (ix2 (rowN (256 * t.val + r.val)) q) :=
    (dzam_row (tileAt m c t) (fun r => A.row (rowN (256 * t.val + r.val))) (fun r => tile_row h t r) r q).trans rfl
  have ex : (cfg0.win 10).xinj (cfg0.grid.coords t) (ix2 r q : S256x3072.Idx) = (ix2 r q : S256x3072.Idx) := rfl
  refine ((congrArg ((tileAt m c t).dzam (woutAt m c) (wapAt m c) (wspAt m c)) ex).trans e).trans (congrArg (G10 A) ?_)
  funext a; apply Fin.ext
  match a with
  | ⟨0, _⟩ => show (256 * t.val + r.val) % 8192 = win0_10.index t (0 : Fin 2) * 256 + 1 * r.val; rw [e0]; omega
  | ⟨1, _⟩ => show q.val = win0_10.index t (1 : Fin 2) * 3072 + 1 * q.val; rw [e1]; omega

/-- Result 3, entry by entry. -/
def G11 (A : Args) : S8192x2048.Idx → EReal := fun i => (((A.row (i 0)).dypre (i 1) : ℝ) : EReal)
theorem idx_out11 : ∀ t : Fin cfg0.N, win0_11.index t (0 : Fin 2) = t.val ∧ win0_11.index t (1 : Fin 2) = 0 :=
  (by decide +kernel : ∀ t : Fin grid0.N, _)
include h in
theorem result_11 : (dats m 0 c).arrAt 11 cfg0.N = G11 A := by
  refine (dats m 0 c).arrAt_eq_of_covers 11 _ (by decide +kernel) fun t hf y => ?_
  obtain ⟨e0, e1⟩ := idx_out11 t
  have hN : t.val < 32 := lt_of_lt_of_eq t.isLt points
  obtain ⟨r, q, rfl⟩ : ∃ (r : Fin 256) (q : Fin 2048), y = ix2 r q := ⟨y 0, y 1, eq_ix2 y⟩
  have hr := r.isLt
  refine (congrFun (after0_11 m c t) _).trans ?_
  have e : (tileAt m c t).dypre (woutAt m c) (wspAt m c) (ix2 r q) = G11 A (ix2 (rowN (256 * t.val + r.val)) q) :=
    (tile_row h t r).dypre q
  have ex : (cfg0.win 11).xinj (cfg0.grid.coords t) (ix2 r q : S256x2048.Idx) = (ix2 r q : S256x2048.Idx) := rfl
  refine ((congrArg ((tileAt m c t).dypre (woutAt m c) (wspAt m c)) ex).trans e).trans (congrArg (G11 A) ?_)
  funext a; apply Fin.ext
  match a with
  | ⟨0, _⟩ => show (256 * t.val + r.val) % 8192 = win0_11.index t (0 : Fin 2) * 256 + 1 * r.val; rw [e0]; omega
  | ⟨1, _⟩ => show q.val = win0_11.index t (1 : Fin 2) * 2048 + 1 * q.val; rw [e1]; omega

/-- Result 4, entry by entry. -/
def G12 (A : Args) : S8192x2048.Idx → EReal := fun i => ((lohi (A.row (i 0)).dga (A.row (i 0)).dgb (i 1).val : ℝ) : EReal)
theorem idx_out12 : ∀ t : Fin cfg0.N, win0_12.index t (0 : Fin 2) = t.val ∧ win0_12.index t (1 : Fin 2) = 0 :=
  (by decide +kernel : ∀ t : Fin grid0.N, _)
include h in
theorem result_12 : (dats m 0 c).arrAt 12 cfg0.N = G12 A := by
  refine (dats m 0 c).arrAt_eq_of_covers 12 _ (by decide +kernel) fun t hf y => ?_
  obtain ⟨e0, e1⟩ := idx_out12 t
  have hN : t.val < 32 := lt_of_lt_of_eq t.isLt points
  obtain ⟨r, q, rfl⟩ : ∃ (r : Fin 256) (q : Fin 2048), y = ix2 r q := ⟨y 0, y 1, eq_ix2 y⟩
  have hr := r.isLt
  refine (congrFun (after0_12 m c t) _).trans ?_
  have e : (tileAt m c t).dgab (woutAt m c) (ix2 r q) = G12 A (ix2 (rowN (256 * t.val + r.val)) q) :=
    (dgab_row (tileAt m c t) (fun r => A.row (rowN (256 * t.val + r.val))) (fun r => tile_row h t r) r q).trans rfl
  have ex : (cfg0.win 12).xinj (cfg0.grid.coords t) (ix2 r q : S256x2048.Idx) = (ix2 r q : S256x2048.Idx) := rfl
  refine ((congrArg ((tileAt m c t).dgab (woutAt m c)) ex).trans e).trans (congrArg (G12 A) ?_)
  funext a; apply Fin.ext
  match a with
  | ⟨0, _⟩ => show (256 * t.val + r.val) % 8192 = win0_12.index t (0 : Fin 2) * 256 + 1 * r.val; rw [e0]; omega
  | ⟨1, _⟩ => show q.val = win0_12.index t (1 : Fin 2) * 2048 + 1 * q.val; rw [e1]; omega

/-- Result 5, entry by entry. -/
def G13 (A : Args) : S8192x1024.Idx → EReal := fun i => (((A.row (i 0)).yag (i 1) : ℝ) : EReal)
theorem idx_out13 : ∀ t : Fin cfg0.N, win0_13.index t (0 : Fin 2) = t.val ∧ win0_13.index t (1 : Fin 2) = 0 :=
  (by decide +kernel : ∀ t : Fin grid0.N, _)
include h in
theorem result_13 : (dats m 0 c).arrAt 13 cfg0.N = G13 A := by
  refine (dats m 0 c).arrAt_eq_of_covers 13 _ (by decide +kernel) fun t hf y => ?_
  obtain ⟨e0, e1⟩ := idx_out13 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_13 m c t) _).trans ?_
  have e : (tileAt m c t).yag (ix2 r q) = G13 A (ix2 (rowN (256 * t.val + r.val)) q) :=
    (tile_row h t r).yag q
  have ex : (cfg0.win 13).xinj (cfg0.grid.coords t) (ix2 r q : S256x1024.Idx) = (ix2 r q : S256x1024.Idx) := rfl
  refine ((congrArg ((tileAt m c t).yag) ex).trans e).trans (congrArg (G13 A) ?_)
  funext a; apply Fin.ext
  match a with
  | ⟨0, _⟩ => show (256 * t.val + r.val) % 8192 = win0_13.index t (0 : Fin 2) * 256 + 1 * r.val; rw [e0]; omega
  | ⟨1, _⟩ => show q.val = win0_13.index t (1 : Fin 2) * 1024 + 1 * q.val; rw [e1]; omega

/-- Result 6, entry by entry. -/
def G14 (A : Args) : S8192x1024.Idx → EReal := fun i => (((A.row (i 0)).dya (i 1) : ℝ) : EReal)
theorem idx_out14 : ∀ t : Fin cfg0.N, win0_14.index t (0 : Fin 2) = t.val ∧ win0_14.index t (1 : Fin 2) = 0 :=
  (by decide +kernel : ∀ t : Fin grid0.N, _)
include h in
theorem result_14 : (dats m 0 c).arrAt 14 cfg0.N = G14 A := by
  refine (dats m 0 c).arrAt_eq_of_covers 14 _ (by decide +kernel) fun t hf y => ?_
  obtain ⟨e0, e1⟩ := idx_out14 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_14 m c t) _).trans ?_
  have e : (tileAt m c t).dya (woutAt m c) (ix2 r q) = G14 A (ix2 (rowN (256 * t.val + r.val)) q) :=
    (tile_row h t r).dya q
  have ex : (cfg0.win 14).xinj (cfg0.grid.coords t) (ix2 r q : S256x1024.Idx) = (ix2 r q : S256x1024.Idx) := rfl
  refine ((congrArg ((tileAt m c t).dya (woutAt m c)) ex).trans e).trans (congrArg (G14 A) ?_)
  funext a; apply Fin.ext
  match a with
  | ⟨0, _⟩ => show (256 * t.val + r.val) % 8192 = win0_14.index t (0 : Fin 2) * 256 + 1 * r.val; rw [e0]; omega
  | ⟨1, _⟩ => show q.val = win0_14.index t (1 : Fin 2) * 1024 + 1 * q.val; rw [e1]; omega

/-- Result 7, entry by entry. -/
def G15 (A : Args) : S8192x2048.Idx → EReal := fun i => (((A.row (i 0)).yn (i 1) : ℝ) : EReal)
theorem idx_out15 : ∀ t : Fin cfg0.N, win0_15.index t (0 : Fin 2) = t.val ∧ win0_15.index t (1 : Fin 2) = 0 :=
  (by decide +kernel : ∀ t : Fin grid0.N, _)
include h in
theorem result_15 : (dats m 0 c).arrAt 15 cfg0.N = G15 A := by
  refine (dats m 0 c).arrAt_eq_of_covers 15 _ (by decide +kernel) fun t hf y => ?_
  obtain ⟨e0, e1⟩ := idx_out15 t
  have hN : t.val < 32 := lt_of_lt_of_eq t.isLt points
  obtain ⟨r, q, rfl⟩ : ∃ (r : Fin 256) (q : Fin 2048), y = ix2 r q := ⟨y 0, y 1, eq_ix2 y⟩
  have hr := r.isLt
  refine (congrFun (after0_15 m c t) _).trans ?_
  have e : (tileAt m c t).yn (ix2 r q) = G15 A (ix2 (rowN (256 * t.val + r.val)) q) :=
    (tile_row h t r).yn q
  have ex : (cfg0.win 15).xinj (cfg0.grid.coords t) (ix2 r q : S256x2048.Idx) = (ix2 r q : S256x2048.Idx) := rfl
  refine ((congrArg ((tileAt m c t).yn) ex).trans e).trans (congrArg (G15 A) ?_)
  funext a; apply Fin.ext
  match a with
  | ⟨0, _⟩ => show (256 * t.val + r.val) % 8192 = win0_15.index t (0 : Fin 2) * 256 + 1 * r.val; rw [e0]; omega
  | ⟨1, _⟩ => show q.val = win0_15.index t (1 : Fin 2) * 2048 + 1 * q.val; rw [e1]; omega

/-- Result 8, entry by entry. -/
def G16 (A : Args) : S8192x1024.Idx → EReal := fun i => (((A.row (i 0)).dyb (i 1) : ℝ) : EReal)
theorem idx_out16 : ∀ t : Fin cfg0.N, win0_16.index t (0 : Fin 2) = t.val ∧ win0_16.index t (1 : Fin 2) = 0 :=
  (by decide +kernel : ∀ t : Fin grid0.N, _)
include h in
theorem result_16 : (dats m 0 c).arrAt 16 cfg0.N = G16 A := by
  refine (dats m 0 c).arrAt_eq_of_covers 16 _ (by decide +kernel) fun t hf y => ?_
  obtain ⟨e0, e1⟩ := idx_out16 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_16 m c t) _).trans ?_
  have e : (tileAt m c t).dyb (woutAt m c) (ix2 r q) = G16 A (ix2 (rowN (256 * t.val + r.val)) q) :=
    (tile_row h t r).dyb q
  have ex : (cfg0.win 16).xinj (cfg0.grid.coords t) (ix2 r q : S256x1024.Idx) = (ix2 r q : S256x1024.Idx) := rfl
  refine ((congrArg ((tileAt m c t).dyb (woutAt m c)) ex).trans e).trans (congrArg (G16 A) ?_)
  funext a; apply Fin.ext
  match a with
  | ⟨0, _⟩ => show (256 * t.val + r.val) % 8192 = win0_16.index t (0 : Fin 2) * 256 + 1 * r.val; rw [e0]; omega
  | ⟨1, _⟩ => show q.val = win0_16.index t (1 : Fin 2) * 1024 + 1 * q.val; rw [e1]; omega

/-- Result 9, entry by entry. -/
def G17 (A : Args) : S8192x1024.Idx → EReal := fun i => (((A.row (i 0)).mer (i 1) : ℝ) : EReal)
theorem idx_out17 : ∀ t : Fin cfg0.N, win0_17.index t (0 : Fin 2) = t.val ∧ win0_17.index t (1 : Fin 2) = 0 :=
  (by decide +kernel : ∀ t : Fin grid0.N, _)
include h in
theorem result_17 : (dats m 0 c).arrAt 17 cfg0.N = G17 A := by
  refine (dats m 0 c).arrAt_eq_of_covers 17 _ (by decide +kernel) fun t hf y => ?_
  obtain ⟨e0, e1⟩ := idx_out17 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_17 m c t) _).trans ?_
  have e : (tileAt m c t).mer (ix2 r q) = G17 A (ix2 (rowN (256 * t.val + r.val)) q) :=
    (tile_row h t r).mer q
  have ex : (cfg0.win 17).xinj (cfg0.grid.coords t) (ix2 r q : S256x1024.Idx) = (ix2 r q : S256x1024.Idx) := rfl
  refine ((congrArg ((tileAt m c t).mer) ex).trans e).trans (congrArg (G17 A) ?_)
  funext a; apply Fin.ext
  match a with
  | ⟨0, _⟩ => show (256 * t.val + r.val) % 8192 = win0_17.index t (0 : Fin 2) * 256 + 1 * r.val; rw [e0]; omega
  | ⟨1, _⟩ => show q.val = win0_17.index t (1 : Fin 2) * 1024 + 1 * q.val; rw [e1]; omega

/-- Result 10, entry by entry. -/
def G18 (A : Args) : S8192x1024.Idx → EReal := fun i => (((A.row (i 0)).dO (i 1) : ℝ) : EReal)
theorem idx_out18 : ∀ t : Fin cfg0.N, win0_18.index t (0 : Fin 2) = t.val ∧ win0_18.index t (1 : Fin 2) = 0 :=
  (by decide +kernel : ∀ t : Fin grid0.N, _)
include h in
theorem result_18 : (dats m 0 c).arrAt 18 cfg0.N = G18 A := by
  refine (dats m 0 c).arrAt_eq_of_covers 18 _ (by decide +kernel) fun t hf y => ?_
  obtain ⟨e0, e1⟩ := idx_out18 t
  have hN : t.val < 32 := lt_of_lt_of_eq t.isLt points
  obtain ⟨r, q, rfl⟩ : ∃ (r : Fin 256) (q : Fin 1024), y = ix2 r q := ⟨y 0, y 1, eq_ix2 y⟩
  have hr := r.isLt
  refine (congrFun (after0_18 m c t) _).trans ?_
  have e : (tileAt m c t).do_ (ix2 r q) = G18 A (ix2 (rowN (256 * t.val + r.val)) q) :=
    (tile_row h t r).dO q
  have ex : (cfg0.win 18).xinj (cfg0.grid.coords t) (ix2 r q : S256x1024.Idx) = (ix2 r q : S256x1024.Idx) := rfl
  refine ((congrArg ((tileAt m c t).do_) ex).trans e).trans (congrArg (G18 A) ?_)
  funext a; apply Fin.ext
  match a with
  | ⟨0, _⟩ => show (256 * t.val + r.val) % 8192 = win0_18.index t (0 : Fin 2) * 256 + 1 * r.val; rw [e0]; omega
  | ⟨1, _⟩ => show q.val = win0_18.index t (1 : Fin 2) * 1024 + 1 * q.val; rw [e1]; omega

/-- A row's share of result 11. -/
def s19 (A : Args) (q : Fin 2048) (R : Fin 8192) : ℝ := (A.row R).dyn q * (A.row R).yn0 q
theorem zero21_apply (i : S1x2048.Idx) : ((zero21 : Vec Ideal S1x2048 .f32) : FVec Ideal S1x2048 .f32) i = 0 := by
  unfold zero21
  pointwise
include h in
theorem after_19 (q : Fin 2048) (n : ℕ) : ∀ hn : n < cfg0.N,
    (accAt m c n hn).1 (ix2 0 q) = ((∑ s ∈ Finset.range (n + 1), ∑ r : Fin 256, s19 A q (rowN (256 * s + r.val)) : ℝ) : EReal) := by
  induction n with
  | zero =>
    intro hn
    refine (nwAcc_real (tileAt m c ⟨0, hn⟩) (fun r => A.row (rowN (256 * 0 + r.val))) (fun r => tile_row h ⟨0, hn⟩ r) (zero21 : Vec Ideal S1x2048 .f32) q).trans ?_
    rw [zero21_apply, zero_add, Finset.sum_range_one]
    rfl
  | succ n ih =>
    intro hn
    refine (nwAcc_real (tileAt m c ⟨n + 1, hn⟩) (fun r => A.row (rowN (256 * (n + 1) + r.val))) (fun r => tile_row h ⟨n + 1, hn⟩ r) (accAt m c n (Nat.lt_of_succ_lt hn)).1 q).trans ?_
    rw [ih, Finset.sum_range_succ _ (n + 1), ← EReal.coe_add]
    rfl
/-- Result 11, entry by entry: the sum over all rows. -/
def G19 (A : Args) : S1x2048.Idx → EReal := fun i => ((∑ R, s19 A (i 1) R : ℝ) : EReal)
theorem idx_out19 : ∀ t : Fin cfg0.N, win0_19.index t (0 : Fin 2) = 0 ∧ win0_19.index t (1 : Fin 2) = 0 :=
  (by decide +kernel : ∀ t : Fin grid0.N, _)
theorem flush19 : ∀ t : Fin cfg0.N, (cfg0.win 19).flush t = true → t.val = 31 :=
  (by decide +kernel : ∀ t : Fin grid0.N, _)
include h in
theorem result_19 : (dats m 0 c).arrAt 19 cfg0.N = G19 A := by
  refine (dats m 0 c).arrAt_eq_of_covers 19 _ (by decide +kernel) fun t hf y => ?_
  obtain ⟨e0, e1⟩ := idx_out19 t
  have ht := flush19 t hf
  obtain ⟨r, q, rfl⟩ : ∃ (r : Fin 1) (q : Fin 2048), y = ix2 r q := ⟨y 0, y 1, eq_ix2 y⟩
  obtain rfl : r = 0 := Subsingleton.elim _ _
  have hq := q.isLt
  rw [after0_19]
  refine (after_19 h q t.val t.isLt).trans ?_
  rw [ht]
  have e : (∑ s ∈ Finset.range (31 + 1), ∑ r : Fin 256, s19 A q (rowN (256 * s + r.val))) = ∑ R, s19 A q R :=
    (Cert.Sums.sum_tiles 32 256 (fun k => s19 A q (rowN k))).trans (Finset.sum_congr rfl fun R _ => congrArg (s19 A q) (rowN_val R))
  rw [e]
  refine (show _ = G19 A (ix2 0 q) from rfl).trans (congrArg (G19 A) ?_)
  funext a; apply Fin.ext
  match a with
  | ⟨0, _⟩ => show 0 = win0_19.index t (0 : Fin 2) * 1 + 1 * 0; rw [e0]
  | ⟨1, _⟩ => show q.val = win0_19.index t (1 : Fin 2) * 2048 + 1 * q.val; rw [e1]; omega

/-- A row's share of result 12. -/
def s20 (A : Args) (q : Fin 1024) (R : Fin 8192) : ℝ := (A.row R).dx q * (A.row R).out q
theorem zero22_apply (i : S1x1024.Idx) : ((zero22 : Vec Ideal S1x1024 .f32) : FVec Ideal S1x1024 .f32) i = 0 := by
  unfold zero22
  pointwise
include h in
theorem after_20 (q : Fin 1024) (n : ℕ) : ∀ hn : n < cfg0.N,
    (accAt m c n hn).2.1 (ix2 0 q) = ((∑ s ∈ Finset.range (n + 1), ∑ r : Fin 256, s20 A q (rowN (256 * s + r.val)) : ℝ) : EReal) := by
  induction n with
  | zero =>
    intro hn
    refine (gateAcc_real (tileAt m c ⟨0, hn⟩) (fun r => A.row (rowN (256 * 0 + r.val))) (fun r => tile_row h ⟨0, hn⟩ r) (zero22 : Vec Ideal S1x1024 .f32) q).trans ?_
    rw [zero22_apply, zero_add, Finset.sum_range_one]
    rfl
  | succ n ih =>
    intro hn
    refine (gateAcc_real (tileAt m c ⟨n + 1, hn⟩) (fun r => A.row (rowN (256 * (n + 1) + r.val))) (fun r => tile_row h ⟨n + 1, hn⟩ r) (accAt m c n (Nat.lt_of_succ_lt hn)).2.1 q).trans ?_
    rw [ih, Finset.sum_range_succ _ (n + 1), ← EReal.coe_add]
    rfl
/-- Result 12, entry by entry: the sum over all rows. -/
def G20 (A : Args) : S1x1024.Idx → EReal := fun i => ((∑ R, s20 A (i 1) R : ℝ) : EReal)
theorem idx_out20 : ∀ t : Fin cfg0.N, win0_20.index t (0 : Fin 2) = 0 ∧ win0_20.index t (1 : Fin 2) = 0 :=
  (by decide +kernel : ∀ t : Fin grid0.N, _)
theorem flush20 : ∀ t : Fin cfg0.N, (cfg0.win 20).flush t = true → t.val = 31 :=
  (by decide +kernel : ∀ t : Fin grid0.N, _)
include h in
theorem result_20 : (dats m 0 c).arrAt 20 cfg0.N = G20 A := by
  refine (dats m 0 c).arrAt_eq_of_covers 20 _ (by decide +kernel) fun t hf y => ?_
  obtain ⟨e0, e1⟩ := idx_out20 t
  have ht := flush20 t hf
  obtain ⟨r, q, rfl⟩ : ∃ (r : Fin 1) (q : Fin 1024), y = ix2 r q := ⟨y 0, y 1, eq_ix2 y⟩
  obtain rfl : r = 0 := Subsingleton.elim _ _
  have hq := q.isLt
  rw [after0_20]
  refine (after_20 h q t.val t.isLt).trans ?_
  rw [ht]
  have e : (∑ s ∈ Finset.range (31 + 1), ∑ r : Fin 256, s20 A q (rowN (256 * s + r.val))) = ∑ R, s20 A q R :=
    (Cert.Sums.sum_tiles 32 256 (fun k => s20 A q (rowN k))).trans (Finset.sum_congr rfl fun R _ => congrArg (s20 A q) (rowN_val R))
  rw [e]
  refine (show _ = G20 A (ix2 0 q) from rfl).trans (congrArg (G20 A) ?_)
  funext a; apply Fin.ext
  match a with
  | ⟨0, _⟩ => show 0 = win0_20.index t (0 : Fin 2) * 1 + 1 * 0; rw [e0]
  | ⟨1, _⟩ => show q.val = win0_20.index t (1 : Fin 2) * 1024 + 1 * q.val; rw [e1]; omega

/-- A row's share of result 13. -/
def s21 (A : Args)  (R : Fin 8192) : ℝ := (A.row R).loss
theorem zero23_apply (i : S1x1.Idx) : ((zero23 : Vec Ideal S1x1 .f32) : FVec Ideal S1x1 .f32) i = 0 := by
  unfold zero23
  pointwise
include h in
theorem after_21  (n : ℕ) : ∀ hn : n < cfg0.N,
    (accAt m c n hn).2.2 (ix2 0 0) = ((∑ s ∈ Finset.range (n + 1), ∑ r : Fin 256, s21 A (rowN (256 * s + r.val)) : ℝ) : EReal) := by
  induction n with
  | zero =>
    intro hn
    refine (lossAcc_real (tileAt m c ⟨0, hn⟩) (fun r => A.row (rowN (256 * 0 + r.val))) (fun r => tile_row h ⟨0, hn⟩ r) (zero23 : Vec Ideal S1x1 .f32)).trans ?_
    rw [zero23_apply, zero_add, Finset.sum_range_one]
    rfl
  | succ n ih =>
    intro hn
    refine (lossAcc_real (tileAt m c ⟨n + 1, hn⟩) (fun r => A.row (rowN (256 * (n + 1) + r.val))) (fun r => tile_row h ⟨n + 1, hn⟩ r) (accAt m c n (Nat.lt_of_succ_lt hn)).2.2).trans ?_
    rw [ih, Finset.sum_range_succ _ (n + 1), ← EReal.coe_add]
    rfl
/-- Result 13, entry by entry: the sum over all rows. -/
def G21 (A : Args) : S1x1.Idx → EReal := fun i => ((∑ R, s21 A R : ℝ) : EReal)
theorem idx_out21 : ∀ t : Fin cfg0.N, win0_21.index t (0 : Fin 2) = 0 ∧ win0_21.index t (1 : Fin 2) = 0 :=
  (by decide +kernel : ∀ t : Fin grid0.N, _)
theorem flush21 : ∀ t : Fin cfg0.N, (cfg0.win 21).flush t = true → t.val = 31 :=
  (by decide +kernel : ∀ t : Fin grid0.N, _)
include h in
theorem result_21 : (dats m 0 c).arrAt 21 cfg0.N = G21 A := by
  refine (dats m 0 c).arrAt_eq_of_covers 21 _ (by decide +kernel) fun t hf y => ?_
  obtain ⟨e0, e1⟩ := idx_out21 t
  have ht := flush21 t hf
  obtain ⟨r, q, rfl⟩ : ∃ (r : Fin 1) (q : Fin 1), y = ix2 r q := ⟨y 0, y 1, eq_ix2 y⟩
  obtain rfl : r = 0 := Subsingleton.elim _ _
  obtain rfl : q = 0 := Subsingleton.elim _ _
  rw [after0_21]
  refine (after_21 h t.val t.isLt).trans ?_
  rw [ht]
  have e : (∑ s ∈ Finset.range (31 + 1), ∑ r : Fin 256, s21 A (rowN (256 * s + r.val))) = ∑ R, s21 A R :=
    (Cert.Sums.sum_tiles 32 256 (fun k => s21 A (rowN k))).trans (Finset.sum_congr rfl fun R _ => congrArg (s21 A) (rowN_val R))
  rw [e]
  refine (show _ = G21 A (ix2 0 0) from rfl).trans (congrArg (G21 A) ?_)
  funext a; apply Fin.ext
  match a with
  | ⟨0, _⟩ => show 0 = win0_21.index t (0 : Fin 2) * 1 + 1 * 0; rw [e0]
  | ⟨1, _⟩ => show 0 = win0_21.index t (1 : Fin 2) * 1 + 1 * 0; rw [e1]

variable (m) in
set_option maxHeartbeats 1320000 in
/-- The kernel ends with every result at its array of blocks, the arguments unchanged. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 8 cfg0.N
      ∧ r.2.mem ((c.tc : Thread nD τ).loc main_v0_1) = (dats m 0 c).arrAt 9 cfg0.N
      ∧ r.2.mem ((c.tc : Thread nD τ).loc main_v0_2) = (dats m 0 c).arrAt 10 cfg0.N
      ∧ r.2.mem ((c.tc : Thread nD τ).loc main_v0_3) = (dats m 0 c).arrAt 11 cfg0.N
      ∧ r.2.mem ((c.tc : Thread nD τ).loc main_v0_4) = (dats m 0 c).arrAt 12 cfg0.N
      ∧ r.2.mem ((c.tc : Thread nD τ).loc main_v0_5) = (dats m 0 c).arrAt 13 cfg0.N
      ∧ r.2.mem ((c.tc : Thread nD τ).loc main_v0_6) = (dats m 0 c).arrAt 14 cfg0.N
      ∧ r.2.mem ((c.tc : Thread nD τ).loc main_v0_7) = (dats m 0 c).arrAt 15 cfg0.N
      ∧ r.2.mem ((c.tc : Thread nD τ).loc main_v0_8) = (dats m 0 c).arrAt 16 cfg0.N
      ∧ r.2.mem ((c.tc : Thread nD τ).loc main_v0_9) = (dats m 0 c).arrAt 17 cfg0.N
      ∧ r.2.mem ((c.tc : Thread nD τ).loc main_v0_10) = (dats m 0 c).arrAt 18 cfg0.N
      ∧ r.2.mem ((c.tc : Thread nD τ).loc main_v0_11) = (dats m 0 c).arrAt 19 cfg0.N
      ∧ r.2.mem ((c.tc : Thread nD τ).loc main_v0_12) = (dats m 0 c).arrAt 20 cfg0.N
      ∧ r.2.mem ((c.tc : Thread nD τ).loc main_v0_13) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1 8,
      (h c).1 9,
      (h c).1 10,
      (h c).1 11,
      (h c).1 12,
      (h c).1 13,
      (h c).1 14,
      (h c).1 15,
      (h c).1 16,
      (h c).1 17,
      (h c).1 18,
      (h c).1 19,
      (h c).1 20,
      (h c).1 21,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      (h c).2 main_arg8 (Pipeline.mem_restRefs_of main_arg8 (by decide) (by decide))⟩) (run_main m ρ)

end Cert.MidIdeal.Val
-- ==== Proof.MidRefRow.lean ====
/-
  The reference of the gated merge, its loss and its gradient, read entry by entry: for real arguments every array is what the
  row's real formulas say (hand-written, untrusted).
-/
module

public import proofs.«01_k».proof.Proof.MidRow
public import proofs.«01_k».proof.Proof.Gen.MidRefIdeal.Run
public import Idealize.ShloMosaic.Lib.Pointwise

@[expose] public section

set_option maxRecDepth 16384

noncomputable section

open Idealize.ShloMosaic Idealize.ShloMosaic.TcCoe
open Cert.MidRefIdeal Cert.MidRefIdeal.Gen Cert.MidRefIdeal.Value Cert.MidRows Cert.Reals

namespace Cert.MidRefIdeal.Rows

def x0 (V0 : Valuation τ sig (Elt Ideal)) : FVec Ideal S8192x1024 .f32 := V0 (Proc.devRef .tc main_arg0)
def x1 (V0 : Valuation τ sig (Elt Ideal)) : FVec Ideal S8192x1024 .f32 := V0 (Proc.devRef .tc main_arg1)
def x2 (V0 : Valuation τ sig (Elt Ideal)) : FVec Ideal S8192x1024 .f32 := V0 (Proc.devRef .tc main_arg2)
def x3 (V0 : Valuation τ sig (Elt Ideal)) : FVec Ideal S8192x3072 .bf16 := V0 (Proc.devRef .tc main_arg3)
def x4 (V0 : Valuation τ sig (Elt Ideal)) : FVec Ideal S8192x2048 .f32 := V0 (Proc.devRef .tc main_arg4)
def x5 (V0 : Valuation τ sig (Elt Ideal)) : FVec Ideal S8192x2048 .bf16 := V0 (Proc.devRef .tc main_arg5)
def x6 (V0 : Valuation τ sig (Elt Ideal)) : FVec Ideal S1x1024 .f32 := V0 (Proc.devRef .tc main_arg6)
def x7 (V0 : Valuation τ sig (Elt Ideal)) : FVec Ideal S1x2048 .f32 := V0 (Proc.devRef .tc main_arg7)
def x8 (V0 : Valuation τ sig (Elt Ideal)) : FVec Ideal S8x512x1024 .bf16 := V0 (Proc.devRef .tc main_arg8)
def w0 (V0 : Valuation τ sig (Elt Ideal)) : FVec Ideal S8x512x1024 .f32 := res_main_v0 V0
def w4 (V0 : Valuation τ sig (Elt Ideal)) : FVec Ideal S1024x1024 .f32 := res_main_v4 V0
def w5 (V0 : Valuation τ sig (Elt Ideal)) : FVec Ideal S2048x1024 .f32 := res_main_v5 V0
def w6 (V0 : Valuation τ sig (Elt Ideal)) : FVec Ideal S1024x1024 .f32 := res_main_v6 V0
def w7 (V0 : Valuation τ sig (Elt Ideal)) : FVec Ideal S8192x3072 .f32 := res_main_v7 V0
def w8 (V0 : Valuation τ sig (Elt Ideal)) : FVec Ideal S8192x1024 .f32 := res_main_v8 V0
def w9 (V0 : Valuation τ sig (Elt Ideal)) : FVec Ideal S8192x2048 .f32 := res_main_v9 V0
def w10 (V0 : Valuation τ sig (Elt Ideal)) : FVec Ideal S8192x2048 .f32 := res_main_v10 V0
def w13_2 (V0 : Valuation τ sig (Elt Ideal)) : FVec Ideal S8192x1024 .f32 := res_main_v13_2 V0
def w13_0 (V0 : Valuation τ sig (Elt Ideal)) : FVec Ideal S8192x1024 .f32 := res_main_v13_0 V0
def w14 (V0 : Valuation τ sig (Elt Ideal)) : FVec Ideal S8192x1024 .f32 := res_main_v14 V0
def w15_2 (V0 : Valuation τ sig (Elt Ideal)) : FVec Ideal S8192x2048 .f32 := res_main_v15_2 V0
def w15_0 (V0 : Valuation τ sig (Elt Ideal)) : FVec Ideal S8192x2048 .f32 := res_main_v15_0 V0
def w17 (V0 : Valuation τ sig (Elt Ideal)) : FVec Ideal S8192x4x512 .f32 := res_main_v17 V0
def w25 (V0 : Valuation τ sig (Elt Ideal)) : FVec Ideal S8192x4x1 .f32 := res_main_v25 V0
def w26 (V0 : Valuation τ sig (Elt Ideal)) : FVec Ideal S8192x4x1 .f32 := res_main_v26 V0
def w31 (V0 : Valuation τ sig (Elt Ideal)) : FVec Ideal S8192x4x512 .f32 := res_main_v31 V0
def w32 (V0 : Valuation τ sig (Elt Ideal)) : FVec Ideal S1x4x512 .f32 := res_main_v32 V0
def w35 (V0 : Valuation τ sig (Elt Ideal)) : FVec Ideal S8192x2048 .f32 := res_main_v35 V0
def w36 (V0 : Valuation τ sig (Elt Ideal)) : FVec Ideal S8192x1024 .f32 := res_main_v36 V0
def w37 (V0 : Valuation τ sig (Elt Ideal)) : FVec Ideal S8192x1024 .f32 := res_main_v37 V0
def w43 (V0 : Valuation τ sig (Elt Ideal)) : FVec Ideal S8192x1024 .f32 := res_main_v43 V0
def w53 (V0 : Valuation τ sig (Elt Ideal)) : FVec Ideal S8192x1024 .f32 := res_main_v53 V0
def w58 (V0 : Valuation τ sig (Elt Ideal)) : FVec Ideal S8192x1024 .f32 := res_main_v58 V0
def w59 (V0 : Valuation τ sig (Elt Ideal)) : FVec Ideal S8192x1024 .f32 := res_main_v59 V0
def w63 (V0 : Valuation τ sig (Elt Ideal)) : FVec Ideal S8192x1024 .f32 := res_main_v63 V0
def w77 (V0 : Valuation τ sig (Elt Ideal)) : FVec Ideal S8192x1024 .f32 := res_main_v77 V0
def w79 (V0 : Valuation τ sig (Elt Ideal)) : FVec Ideal S8192x1024 .f32 := res_main_v79 V0
def w83 (V0 : Valuation τ sig (Elt Ideal)) : FVec Ideal S8192x1024 .f32 := res_main_v83 V0
def w84 (V0 : Valuation τ sig (Elt Ideal)) : FVec Ideal S8192x1024 .f32 := res_main_v84 V0
def w87 (V0 : Valuation τ sig (Elt Ideal)) : FVec Ideal S8192x1024 .f32 := res_main_v87 V0
def w90 (V0 : Valuation τ sig (Elt Ideal)) : FVec Ideal S8192x1024 .f32 := res_main_v90 V0
def w91 (V0 : Valuation τ sig (Elt Ideal)) : FVec Ideal S8192x1024 .f32 := res_main_v91 V0
def w95 (V0 : Valuation τ sig (Elt Ideal)) : FVec Ideal S8192x4x512 .f32 := res_main_v95 V0
def w100 (V0 : Valuation τ sig (Elt Ideal)) : FVec Ideal S8192x4x512 .f32 := res_main_v100 V0
def w111 (V0 : Valuation τ sig (Elt Ideal)) : FVec Ideal S8192x4x512 .f32 := res_main_v111 V0
def w117 (V0 : Valuation τ sig (Elt Ideal)) : FVec Ideal S8192x2048 .f32 := res_main_v117 V0
def w118 (V0 : Valuation τ sig (Elt Ideal)) : FVec Ideal S8192x2048 .f32 := res_main_v118 V0
theorem w0_eq (V0 : Valuation τ sig (Elt Ideal)) : w0 V0 = extf .f32 (x8 V0) bitsLt_bf16_f32 := rfl
theorem w4_eq (V0 : Valuation τ sig (Elt Ideal)) : w4 V0 = shapeCast _ (extractStridedSlice S8x128x1024 ![0, 0, 0] (w0 V0) slices_S8x512x1024_S8x128x1024_0_0_0) shapeCasts_S8x128x1024_S1024x1024 := rfl
theorem w5_eq (V0 : Valuation τ sig (Elt Ideal)) : w5 V0 = shapeCast _ (extractStridedSlice S8x256x1024 ![0, 128, 0] (w0 V0) slices_S8x512x1024_S8x256x1024_0_128_0) shapeCasts_S8x256x1024_S2048x1024 := rfl
theorem w6_eq (V0 : Valuation τ sig (Elt Ideal)) : w6 V0 = shapeCast _ (extractStridedSlice S8x128x1024 ![0, 384, 0] (w0 V0) slices_S8x512x1024_S8x128x1024_0_384_0) shapeCasts_S8x128x1024_S1024x1024 := rfl
theorem w7_eq (V0 : Valuation τ sig (Elt Ideal)) : w7 V0 = extf .f32 (x3 V0) bitsLt_bf16_f32 := rfl
theorem w8_eq (V0 : Valuation τ sig (Elt Ideal)) : w8 V0 = extractStridedSlice S8192x1024 ![0, 0] (w7 V0) slices_S8192x3072_S8192x1024_0_0 := rfl
theorem w9_eq (V0 : Valuation τ sig (Elt Ideal)) : w9 V0 = extractStridedSlice S8192x2048 ![0, 1024] (w7 V0) slices_S8192x3072_S8192x2048_0_1024 := rfl
theorem w10_eq (V0 : Valuation τ sig (Elt Ideal)) : w10 V0 = extf .f32 (x5 V0) bitsLt_bf16_f32 := rfl
theorem w13_2_eq (V0 : Valuation τ sig (Elt Ideal)) : w13_2 V0 = Host.divf (broadcastInDim S8192x1024 ![] bcast_S_S8192x1024 (constant S_ .f32 0x3F800000#32)) (addf (broadcastInDim S8192x1024 ![] bcast_S_S8192x1024 (constant S_ .f32 0x3F800000#32)) (Host.exp (Host.negf (w8 V0)))) := rfl
theorem w13_0_eq (V0 : Valuation τ sig (Elt Ideal)) : w13_0 V0 = mulf (w8 V0) (w13_2 V0) := rfl
theorem w14_eq (V0 : Valuation τ sig (Elt Ideal)) : w14 V0 = mulf (x2 V0) (w13_0 V0) := rfl
theorem w15_2_eq (V0 : Valuation τ sig (Elt Ideal)) : w15_2 V0 = Host.divf (broadcastInDim S8192x2048 ![] bcast_S_S8192x2048 (constant S_ .f32 0x3F800000#32)) (addf (broadcastInDim S8192x2048 ![] bcast_S_S8192x2048 (constant S_ .f32 0x3F800000#32)) (Host.exp (Host.negf (w9 V0)))) := rfl
theorem w15_0_eq (V0 : Valuation τ sig (Elt Ideal)) : w15_0 V0 = mulf (w9 V0) (w15_2 V0) := rfl
theorem w17_eq (V0 : Valuation τ sig (Elt Ideal)) : w17 V0 = shapeCast _ (mulf (x4 V0) (w15_0 V0)) shapeCasts_S8192x2048_S8192x4x512 := rfl
theorem w25_eq (V0 : Valuation τ sig (Elt Ideal)) : w25 V0 = addf (Host.divf (broadcastInDim S8192x4x1 ![0, 1] bcast_S8192x4_S8192x4x1_0_1 (Host.reduceAdd (mulf (w17 V0) (w17 V0)) (constant S_ .f32 0x00000000#32) reducesTo_S8192x4x512_S8192x4_d2 h_S_)) (broadcastInDim S8192x4x1 ![] bcast_S_S8192x4x1 (constant S_ .f32 0x44000000#32))) (broadcastInDim S8192x4x1 ![] bcast_S_S8192x4x1 (constant S_ .f32 0x358637BD#32)) := rfl
theorem w26_eq (V0 : Valuation τ sig (Elt Ideal)) : w26 V0 = Host.rsqrt (w25 V0) := rfl
theorem w31_eq (V0 : Valuation τ sig (Elt Ideal)) : w31 V0 = mulf (w17 V0) (broadcastInDim S8192x4x512 ![0, 1, 2] bcast_S8192x4x1_S8192x4x512_0_1_2 (w26 V0)) := rfl
theorem w32_eq (V0 : Valuation τ sig (Elt Ideal)) : w32 V0 = broadcastInDim S1x4x512 ![1, 2] bcast_S4x512_S1x4x512_1_2 (shapeCast _ (x7 V0) shapeCasts_S1x2048_S4x512) := rfl
theorem w35_eq (V0 : Valuation τ sig (Elt Ideal)) : w35 V0 = shapeCast _ (mulf (w31 V0) (broadcastInDim S8192x4x512 ![0, 1, 2] bcast_S1x4x512_S8192x4x512_0_1_2 (w32 V0))) shapeCasts_S8192x4x512_S8192x2048 := rfl
theorem w36_eq (V0 : Valuation τ sig (Elt Ideal)) : w36 V0 = Host.dotGeneral dot_S8192x1024_S1024x1024_S8192x1024_1_0_0_1_n_n none (w14 V0) (w4 V0) := rfl
theorem w37_eq (V0 : Valuation τ sig (Elt Ideal)) : w37 V0 = Host.dotGeneral dot_S8192x2048_S2048x1024_S8192x1024_1_0_0_1_n_n none (w35 V0) (w5 V0) := rfl
theorem w43_eq (V0 : Valuation τ sig (Elt Ideal)) : w43 V0 = Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 0] (w10 V0) slices_S8192x2048_S8192x1024_0_0)))) := rfl
theorem w53_eq (V0 : Valuation τ sig (Elt Ideal)) : w53 V0 = Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] (w10 V0) slices_S8192x2048_S8192x1024_0_1024)))) := rfl
theorem w58_eq (V0 : Valuation τ sig (Elt Ideal)) : w58 V0 = addf (mulf (w43 V0) (w36 V0)) (mulf (w53 V0) (w37 V0)) := rfl
theorem w59_eq (V0 : Valuation τ sig (Elt Ideal)) : w59 V0 = Host.dotGeneral dot_S8192x1024_S1024x1024_S8192x1024_1_0_0_1_n_n none (w58 V0) (w6 V0) := rfl
theorem w63_eq (V0 : Valuation τ sig (Elt Ideal)) : w63 V0 = subf (addf (x0 V0) (mulf (broadcastInDim S8192x1024 ![0, 1] bcast_S1x1024_S8192x1024_0_1 (x6 V0)) (w59 V0))) (x1 V0) := rfl
theorem w77_eq (V0 : Valuation τ sig (Elt Ideal)) : w77 V0 = mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (w63 V0)) := rfl
theorem w79_eq (V0 : Valuation τ sig (Elt Ideal)) : w79 V0 = mulf (broadcastInDim S8192x1024 ![0, 1] bcast_S1x1024_S8192x1024_0_1 (x6 V0)) (w77 V0) := rfl
theorem w83_eq (V0 : Valuation τ sig (Elt Ideal)) : w83 V0 = Host.dotGeneral dot_S8192x1024_S1024x1024_S8192x1024_1_1_0_0_n_n none (w79 V0) (w6 V0) := rfl
theorem w84_eq (V0 : Valuation τ sig (Elt Ideal)) : w84 V0 = mulf (w53 V0) (w83 V0) := rfl
theorem w87_eq (V0 : Valuation τ sig (Elt Ideal)) : w87 V0 = mulf (w43 V0) (w83 V0) := rfl
theorem w90_eq (V0 : Valuation τ sig (Elt Ideal)) : w90 V0 = Host.dotGeneral dot_S8192x1024_S1024x1024_S8192x1024_1_1_0_0_n_n none (w87 V0) (w4 V0) := rfl
theorem w91_eq (V0 : Valuation τ sig (Elt Ideal)) : w91 V0 = mulf (x2 V0) (w90 V0) := rfl
theorem w95_eq (V0 : Valuation τ sig (Elt Ideal)) : w95 V0 = shapeCast _ (Host.dotGeneral dot_S8192x1024_S2048x1024_S8192x2048_1_1_0_0_n_n none (w84 V0) (w5 V0)) shapeCasts_S8192x2048_S8192x4x512 := rfl
theorem w100_eq (V0 : Valuation τ sig (Elt Ideal)) : w100 V0 = mulf (w95 V0) (broadcastInDim S8192x4x512 ![0, 1, 2] bcast_S1x4x512_S8192x4x512_0_1_2 (w32 V0)) := rfl
theorem w111_eq (V0 : Valuation τ sig (Elt Ideal)) : w111 V0 = broadcastInDim S8192x4x512 ![0, 1] bcast_S8192x4_S8192x4x512_0_1 (Host.reduceAdd (Host.divf (mulf (shapeCast _ (Host.reduceAdd (mulf (w17 V0) (w100 V0)) (constant S_ .f32 0x00000000#32) reducesTo_S8192x4x512_S8192x4_d2 h_S_) shapeCasts_S8192x4_S8192x4x1) (mulf (broadcastInDim S8192x4x1 ![] bcast_S_S8192x4x1 (constant S_ .f32 0xBF000000#32)) (Host.divf (w26 V0) (w25 V0)))) (broadcastInDim S8192x4x1 ![] bcast_S_S8192x4x1 (constant S_ .f32 0x44000000#32))) (constant S_ .f32 0x00000000#32) reducesTo_S8192x4x1_S8192x4_d2 h_S_) := rfl
theorem w117_eq (V0 : Valuation τ sig (Elt Ideal)) : w117 V0 = shapeCast _ (addf (addf (mulf (w100 V0) (broadcastInDim S8192x4x512 ![0, 1, 2] bcast_S8192x4x1_S8192x4x512_0_1_2 (w26 V0))) (mulf (w17 V0) (w111 V0))) (mulf (w111 V0) (w17 V0))) shapeCasts_S8192x4x512_S8192x2048 := rfl
theorem w118_eq (V0 : Valuation τ sig (Elt Ideal)) : w118 V0 = mulf (x4 V0) (w117 V0) := rfl
/-- Result 1. -/
def y1 (V0 : Valuation τ sig (Elt Ideal)) : FVec Ideal S8192x1024 .f32 := mulf (w90 V0) (w13_0 V0)
/-- Result 2. -/
def y2 (V0 : Valuation τ sig (Elt Ideal)) : FVec Ideal S8192x3072 .bf16 := truncf .bf16 (concatenate S8192x3072 1 [⟨S8192x1024, (addf (mulf (w91 V0) (w13_2 V0)) (mulf (mulf (w8 V0) (w91 V0)) (mulf (w13_2 V0) (subf (broadcastInDim S8192x1024 ![] bcast_S_S8192x1024 (constant S_ .f32 0x3F800000#32)) (w13_2 V0)))))⟩, ⟨S8192x2048, (addf (mulf (w118 V0) (w15_2 V0)) (mulf (mulf (w9 V0) (w118 V0)) (mulf (w15_2 V0) (subf (broadcastInDim S8192x2048 ![] bcast_S_S8192x2048 (constant S_ .f32 0x3F800000#32)) (w15_2 V0)))))⟩] concatenates_S8192x1024_S8192x2048_S8192x3072_d1) bitsLt_bf16_f32
/-- Result 3. -/
def y3 (V0 : Valuation τ sig (Elt Ideal)) : FVec Ideal S8192x2048 .f32 := mulf (w117 V0) (w15_0 V0)
/-- Result 4. -/
def y4 (V0 : Valuation τ sig (Elt Ideal)) : FVec Ideal S8192x2048 .bf16 := truncf .bf16 (concatenate S8192x2048 1 [⟨S8192x1024, (mulf (mulf (w83 V0) (w36 V0)) (mulf (w43 V0) (subf (broadcastInDim S8192x1024 ![] bcast_S_S8192x1024 (constant S_ .f32 0x3F800000#32)) (w43 V0))))⟩, ⟨S8192x1024, (mulf (mulf (w83 V0) (w37 V0)) (mulf (w53 V0) (subf (broadcastInDim S8192x1024 ![] bcast_S_S8192x1024 (constant S_ .f32 0x3F800000#32)) (w53 V0))))⟩] concatenates_S8192x1024_S8192x1024_S8192x2048_d1) bitsLt_bf16_f32
/-- Result 5. -/
def y5 (V0 : Valuation τ sig (Elt Ideal)) : FVec Ideal S8192x1024 .bf16 := truncf .bf16 (w14 V0) bitsLt_bf16_f32
/-- Result 6. -/
def y6 (V0 : Valuation τ sig (Elt Ideal)) : FVec Ideal S8192x1024 .bf16 := truncf .bf16 (w87 V0) bitsLt_bf16_f32
/-- Result 7. -/
def y7 (V0 : Valuation τ sig (Elt Ideal)) : FVec Ideal S8192x2048 .bf16 := truncf .bf16 (w35 V0) bitsLt_bf16_f32
/-- Result 8. -/
def y8 (V0 : Valuation τ sig (Elt Ideal)) : FVec Ideal S8192x1024 .bf16 := truncf .bf16 (w84 V0) bitsLt_bf16_f32
/-- Result 9. -/
def y9 (V0 : Valuation τ sig (Elt Ideal)) : FVec Ideal S8192x1024 .bf16 := truncf .bf16 (w58 V0) bitsLt_bf16_f32
/-- Result 10. -/
def y10 (V0 : Valuation τ sig (Elt Ideal)) : FVec Ideal S8192x1024 .bf16 := truncf .bf16 (w79 V0) bitsLt_bf16_f32
/-- Result 11. -/
def y11 (V0 : Valuation τ sig (Elt Ideal)) : FVec Ideal S1x2048 .f32 := shapeCast _ (Host.reduceAdd (shapeCast _ (Host.reduceAdd (mulf (w31 V0) (w95 V0)) (constant S_ .f32 0x00000000#32) reducesTo_S8192x4x512_S4x512_d0 h_S_) shapeCasts_S4x512_S1x4x512) (constant S_ .f32 0x00000000#32) reducesTo_S1x4x512_S4x512_d0 h_S_) shapeCasts_S4x512_S1x2048
/-- Result 12. -/
def y12 (V0 : Valuation τ sig (Elt Ideal)) : FVec Ideal S1x1024 .f32 := shapeCast _ (Host.reduceAdd (mulf (w77 V0) (w59 V0)) (constant S_ .f32 0x00000000#32) reducesTo_S8192x1024_S1024_d0 h_S_) shapeCasts_S1024_S1x1024
/-- Result 13. -/
def y13 (V0 : Valuation τ sig (Elt Ideal)) : FVec Ideal S1x1 .f32 := shapeCast _ (mulf (constant S_ .f32 0x3F000000#32) (Host.reduceAdd (Host.divf (Host.reduceAdd (mulf (w63 V0) (w63 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1

/-- The arguments are the real arrays `A`. -/
structure Is (V0 : Valuation τ sig (Elt Ideal)) (A : Args) : Prop where
  a0 : ∀ R k, x0 V0 (ix2 R k) = (A.x R k : EReal)
  a1 : ∀ R k, x1 V0 (ix2 R k) = (A.t R k : EReal)
  a2 : ∀ R k, x2 V0 (ix2 R k) = (A.o R k : EReal)
  a3 : ∀ R k, x3 V0 (ix2 R k) = (A.z R k : EReal)
  a4 : ∀ R k, x4 V0 (ix2 R k) = (A.y R k : EReal)
  a5 : ∀ R k, x5 V0 (ix2 R k) = (A.g R k : EReal)
  a6 : ∀ k, x6 V0 (ix2 0 k) = (A.gate k : EReal)
  a7 : ∀ k, x7 V0 (ix2 0 k) = (A.nw k : EReal)
  a8 : ∀ a b k, x8 V0 (ix3 a b k) = (A.rows a b k : EReal)

/-- The gradient through the grouped norm, as the chain rule writes it, is the closed form. -/
theorem du_eq (p : Row) (k : Fin 2048) :
    p.dhat k * p.inv (grp k) + p.u k * ((∑ i, p.u (at4 (grp k) i) * p.dhat (at4 (grp k) i)) * (-(1 / 2) * (p.inv (grp k) * (1 / p.ms (grp k)))) * (1 / 512))
      + ((∑ i, p.u (at4 (grp k) i) * p.dhat (at4 (grp k) i)) * (-(1 / 2) * (p.inv (grp k) * (1 / p.ms (grp k)))) * (1 / 512)) * p.u k = p.du k := by
  have h2 := inv_sqrt_sq (p.ms_pos (grp k))
  unfold Row.du Row.cross
  have S : (∑ j, p.dhat (at4 (grp k) j) * p.yn0 (at4 (grp k) j)) = p.inv (grp k) * ∑ i, p.u (at4 (grp k) i) * p.dhat (at4 (grp k) i) := by
    rw [Finset.mul_sum]
    exact Finset.sum_congr rfl fun j _ => by unfold Row.yn0; rw [grp_at4]; ring
  rw [S]
  unfold Row.yn0
  change (p.inv (grp k)) * (p.inv (grp k)) = _ at h2
  rw [← h2]
  ring

/-- A row of 2048 as four groups of 512. -/
theorem split4 (v : FVec Ideal S8192x2048 .f32) (R : Fin 8192) (g : Fin 4) (j : Fin 512) :
    shapeCast S8192x4x512 v shapeCasts_S8192x2048_S8192x4x512 (ix3 R g j) = v (ix2 R (at4 g j)) := by
  unfold at4
  pointwise
  exact congrArg (fun z => v (ix2 R z)) (Fin.ext (by show g.val * 512 + j.val = 512 * g.val + j.val; omega))
/-- Four groups of 512 as a row of 2048. -/
theorem join4 (v : FVec Ideal S8192x4x512 .f32) (R : Fin 8192) (k : Fin 2048) :
    shapeCast S8192x2048 v shapeCasts_S8192x4x512_S8192x2048 (ix2 R k) = v (ix3 R (grp k) ⟨k.val % 512, Nat.mod_lt _ (by decide)⟩) := by
  unfold grp
  pointwise

variable {V0 : Valuation τ sig (Elt Ideal)} {A : Args} (h : Is V0 A)

section
include h

theorem r0 (a : Fin 8) (b : Fin 512) (c : Fin 1024) : w0 V0 (ix3 a b c) = (A.rows a b c : EReal) := by
  have e0 := h.a8 a b c
  rw [w0_eq]
  generalize x8 V0 = q0 at e0 ⊢
  pointwise
  exact e0
theorem r4 (j : Fin 1024) (k : Fin 1024) (R : Fin 8192) : w4 V0 (ix2 j k) = ((A.row R).wa j k : EReal) := by
  have hj := j.isLt
  have e0 := r0 h ⟨j.val / 128, by omega⟩ ⟨j.val % 128, by omega⟩ k
  rw [w4_eq]
  generalize w0 V0 = q0 at e0 ⊢
  refine Eq.trans ?_ e0
  pointwise

theorem r5 (j : Fin 2048) (k : Fin 1024) (R : Fin 8192) : w5 V0 (ix2 j k) = ((A.row R).ws j k : EReal) := by
  have hj := j.isLt
  have e0 := r0 h ⟨j.val / 256, by omega⟩ ⟨128 + j.val % 256, by omega⟩ k
  rw [w5_eq]
  generalize w0 V0 = q0 at e0 ⊢
  refine Eq.trans ?_ e0
  pointwise

theorem r6 (j : Fin 1024) (k : Fin 1024) (R : Fin 8192) : w6 V0 (ix2 j k) = ((A.row R).wo j k : EReal) := by
  have hj := j.isLt
  have e0 := r0 h ⟨j.val / 128, by omega⟩ ⟨384 + j.val % 128, by omega⟩ k
  rw [w6_eq]
  generalize w0 V0 = q0 at e0 ⊢
  refine Eq.trans ?_ e0
  pointwise

theorem r7 (R : Fin 8192) (k : Fin 3072) : w7 V0 (ix2 R k) = (A.z R k : EReal) := by
  have e0 := h.a3 R k
  rw [w7_eq]
  generalize x3 V0 = q0 at e0 ⊢
  pointwise
  exact e0
theorem r8 (R : Fin 8192) (k : Fin 1024) : w8 V0 (ix2 R k) = ((A.row R).za k : EReal) := by
  have e0 := r7 h R ⟨k.val, by have := k.isLt; omega⟩
  rw [w8_eq]
  generalize w7 V0 = q0 at e0 ⊢
  pointwise
  exact e0
theorem r9 (R : Fin 8192) (k : Fin 2048) : w9 V0 (ix2 R k) = ((A.row R).zm k : EReal) := by
  have e0 := r7 h R ⟨1024 + k.val, by have := k.isLt; omega⟩
  rw [w9_eq]
  generalize w7 V0 = q0 at e0 ⊢
  pointwise
  exact e0
theorem r10 (R : Fin 8192) (k : Fin 2048) : w10 V0 (ix2 R k) = (A.g R k : EReal) := by
  have e0 := h.a5 R k
  rw [w10_eq]
  generalize x5 V0 = q0 at e0 ⊢
  pointwise
  exact e0
theorem r13_2 (R : Fin 8192) (k : Fin 1024) : w13_2 V0 (ix2 R k) = (sg ((A.row R).za k) : EReal) := by
  have e0 := r8 h R k
  rw [w13_2_eq]
  generalize w8 V0 = q0 at e0 ⊢
  pointwise
  try rw [kone]
  try rw [EReal.coe_one]
  rw [e0]
  exact sg_ref _
theorem r13_0 (R : Fin 8192) (k : Fin 1024) : w13_0 V0 (ix2 R k) = (((A.row R).za k * sg ((A.row R).za k) : ℝ) : EReal) := by
  have e0 := r8 h R k
  have e1 := r13_2 h R k
  rw [w13_0_eq]
  generalize w8 V0 = q0 at e0 ⊢
  generalize w13_2 V0 = q1 at e1 ⊢
  pointwise
  rw [e0, e1, ← EReal.coe_mul]
theorem r14 (R : Fin 8192) (k : Fin 1024) : w14 V0 (ix2 R k) = ((A.row R).yag k : EReal) := by
  have e0 := h.a2 R k
  have e1 := r13_0 h R k
  rw [w14_eq]
  generalize x2 V0 = q0 at e0 ⊢
  generalize w13_0 V0 = q1 at e1 ⊢
  pointwise
  rw [e0, e1, ← EReal.coe_mul]; rfl
theorem r15_2 (R : Fin 8192) (k : Fin 2048) : w15_2 V0 (ix2 R k) = (sg ((A.row R).zm k) : EReal) := by
  have e0 := r9 h R k
  rw [w15_2_eq]
  generalize w9 V0 = q0 at e0 ⊢
  pointwise
  try rw [kone]
  try rw [EReal.coe_one]
  rw [e0]
  exact sg_ref _
theorem r15_0 (R : Fin 8192) (k : Fin 2048) : w15_0 V0 (ix2 R k) = (((A.row R).zm k * sg ((A.row R).zm k) : ℝ) : EReal) := by
  have e0 := r9 h R k
  have e1 := r15_2 h R k
  rw [w15_0_eq]
  generalize w9 V0 = q0 at e0 ⊢
  generalize w15_2 V0 = q1 at e1 ⊢
  pointwise
  rw [e0, e1, ← EReal.coe_mul]
theorem r17 (R : Fin 8192) (g : Fin 4) (j : Fin 512) : w17 V0 (ix3 R g j) = ((A.row R).u (at4 g j) : EReal) := by
  have e0 := h.a4 R (at4 g j)
  have e1 := r15_0 h R (at4 g j)
  rw [w17_eq]
  generalize w15_0 V0 = q0 at e1 ⊢
  generalize x4 V0 = q1 at e0 ⊢
  refine (split4 _ R g j).trans ?_
  pointwise
  rw [e0, e1, ← EReal.coe_mul]; rfl
theorem r25 (R : Fin 8192) (g : Fin 4) (z : Fin 1) : w25 V0 (ix3 R g z) = ((A.row R).ms g : EReal) := by
  have e0 := fun j => r17 h R g j
  rw [w25_eq]
  generalize w17 V0 = q0 at e0 ⊢
  pointwise
  simp only [e0]
  rw [k512, keps, Ideal.div_coe (by norm_num)]
  simp only [← EReal.coe_mul, ← EReal.coe_add, ← EReal.coe_sub, sum_coe]
  rfl
theorem r26 (R : Fin 8192) (g : Fin 4) (z : Fin 1) : w26 V0 (ix3 R g z) = ((A.row R).inv g : EReal) := by
  have e0 := r25 h R g z
  rw [w26_eq]
  generalize w25 V0 = q0 at e0 ⊢
  pointwise
  rw [e0, rsqrt_pos ((A.row R).ms_pos g)]; rfl
theorem r31 (R : Fin 8192) (g : Fin 4) (j : Fin 512) : w31 V0 (ix3 R g j) = ((A.row R).yn0 (at4 g j) : EReal) := by
  have e0 := r17 h R g j
  have e1 := r26 h R g 0
  rw [w31_eq]
  generalize w17 V0 = q0 at e0 ⊢
  generalize w26 V0 = q1 at e1 ⊢
  pointwise
  unfold Row.yn0
  rw [grp_at4, e0, e1, ← EReal.coe_mul]
theorem r32 (z : Fin 1) (g : Fin 4) (j : Fin 512) : w32 V0 (ix3 z g j) = (A.nw (at4 g j) : EReal) := by
  have e0 := h.a7 (at4 g j)
  rw [w32_eq]
  generalize x7 V0 = q0 at e0 ⊢
  refine Eq.trans ?_ e0
  unfold at4
  pointwise
  exact congrArg (fun z => q0 (ix2 0 z)) (Fin.ext (by show g.val * 512 + j.val = 512 * g.val + j.val; omega))
theorem r35 (R : Fin 8192) (k : Fin 2048) : w35 V0 (ix2 R k) = ((A.row R).yn k : EReal) := by
  have e0 := r31 h R (grp k) ⟨k.val % 512, Nat.mod_lt _ (by decide)⟩
  have e1 := r32 h 0 (grp k) ⟨k.val % 512, Nat.mod_lt _ (by decide)⟩
  rw [at4_grp] at e0 e1
  rw [w35_eq]
  generalize w31 V0 = q0 at e0 ⊢
  generalize w32 V0 = q1 at e1 ⊢
  refine (join4 _ R k).trans ?_
  pointwise
  rw [e0, e1, ← EReal.coe_mul]; rfl
theorem r36 (R : Fin 8192) (k : Fin 1024) : w36 V0 (ix2 R k) = ((A.row R).ya k : EReal) := by
  have e0 := fun j => r14 h R j
  have e1 := fun j => r4 h j k R
  rw [w36_eq]
  generalize w14 V0 = q0 at e0 ⊢
  generalize w4 V0 = q1 at e1 ⊢
  pointwise
  simp only [e0, e1]
  simp only [← EReal.coe_mul, ← EReal.coe_add, ← EReal.coe_sub, sum_coe]
  rfl
theorem r37 (R : Fin 8192) (k : Fin 1024) : w37 V0 (ix2 R k) = ((A.row R).yb k : EReal) := by
  have e0 := fun j => r35 h R j
  have e1 := fun j => r5 h j k R
  rw [w37_eq]
  generalize w35 V0 = q0 at e0 ⊢
  generalize w5 V0 = q1 at e1 ⊢
  pointwise
  simp only [e0, e1]
  simp only [← EReal.coe_mul, ← EReal.coe_add, ← EReal.coe_sub, sum_coe]
  rfl
theorem r43 (R : Fin 8192) (k : Fin 1024) : w43 V0 (ix2 R k) = (sg ((A.row R).ga k) : EReal) := by
  have e0 := r10 h R ⟨k.val, by have := k.isLt; omega⟩
  rw [w43_eq]
  generalize w10 V0 = q0 at e0 ⊢
  pointwise
  try rw [kone]
  try rw [EReal.coe_one]
  rw [e0]
  exact sg_ref _
theorem r53 (R : Fin 8192) (k : Fin 1024) : w53 V0 (ix2 R k) = (sg ((A.row R).gb k) : EReal) := by
  have e0 := r10 h R ⟨1024 + k.val, by have := k.isLt; omega⟩
  rw [w53_eq]
  generalize w10 V0 = q0 at e0 ⊢
  pointwise
  try rw [kone]
  try rw [EReal.coe_one]
  rw [e0]
  exact sg_ref _
theorem r58 (R : Fin 8192) (k : Fin 1024) : w58 V0 (ix2 R k) = ((A.row R).mer k : EReal) := by
  have e0 := r43 h R k
  have e1 := r36 h R k
  have e2 := r53 h R k
  have e3 := r37 h R k
  rw [w58_eq]
  generalize w43 V0 = q0 at e0 ⊢
  generalize w36 V0 = q1 at e1 ⊢
  generalize w53 V0 = q2 at e2 ⊢
  generalize w37 V0 = q3 at e3 ⊢
  pointwise
  rw [e0, e1, e2, e3]
  simp only [← EReal.coe_mul, ← EReal.coe_add, ← EReal.coe_sub, sum_coe]
  rfl
theorem r59 (R : Fin 8192) (k : Fin 1024) : w59 V0 (ix2 R k) = ((A.row R).out k : EReal) := by
  have e0 := fun j => r58 h R j
  have e1 := fun j => r6 h j k R
  rw [w59_eq]
  generalize w58 V0 = q0 at e0 ⊢
  generalize w6 V0 = q1 at e1 ⊢
  pointwise
  simp only [e0, e1]
  simp only [← EReal.coe_mul, ← EReal.coe_add, ← EReal.coe_sub, sum_coe]
  rfl
theorem r63 (R : Fin 8192) (k : Fin 1024) : w63 V0 (ix2 R k) = ((A.row R).diff k : EReal) := by
  have e0 := h.a0 R k
  have e1 := h.a6 k
  have e2 := r59 h R k
  have e3 := h.a1 R k
  rw [w63_eq]
  generalize x0 V0 = q0 at e0 ⊢
  generalize x6 V0 = q1 at e1 ⊢
  generalize w59 V0 = q2 at e2 ⊢
  generalize x1 V0 = q3 at e3 ⊢
  pointwise
  rw [e0, e1, e2, e3]
  simp only [← EReal.coe_mul, ← EReal.coe_add, ← EReal.coe_sub, sum_coe]
  rfl
theorem r77 (R : Fin 8192) (k : Fin 1024) : w77 V0 (ix2 R k) = ((A.row R).dx k : EReal) := by
  have e0 := r63 h R k
  rw [w77_eq]
  generalize w63 V0 = q0 at e0 ⊢
  pointwise
  rw [e0, khalf, c1024, ktwo, Ideal.div_coe (by norm_num)]
  try rw [kone]
  try rw [← EReal.coe_one]
  simp only [← EReal.coe_mul, ← EReal.coe_add, ← EReal.coe_sub, sum_coe]
  congr 1
  unfold Row.dx
  ring
theorem r79 (R : Fin 8192) (k : Fin 1024) : w79 V0 (ix2 R k) = ((A.row R).dO k : EReal) := by
  have e0 := h.a6 k
  have e1 := r77 h R k
  rw [w79_eq]
  generalize x6 V0 = q0 at e0 ⊢
  generalize w77 V0 = q1 at e1 ⊢
  pointwise
  rw [e0, e1, ← EReal.coe_mul, mul_comm]; rfl
theorem r83 (R : Fin 8192) (k : Fin 1024) : w83 V0 (ix2 R k) = ((A.row R).dm k : EReal) := by
  have e0 := fun j => r79 h R j
  have e1 := fun j => r6 h k j R
  rw [w83_eq]
  generalize w79 V0 = q0 at e0 ⊢
  generalize w6 V0 = q1 at e1 ⊢
  pointwise
  simp only [e0, e1]
  simp only [← EReal.coe_mul, ← EReal.coe_add, ← EReal.coe_sub, sum_coe]
  rfl
theorem r84 (R : Fin 8192) (k : Fin 1024) : w84 V0 (ix2 R k) = ((A.row R).dyb k : EReal) := by
  have e0 := r53 h R k
  have e1 := r83 h R k
  rw [w84_eq]
  generalize w53 V0 = q0 at e0 ⊢
  generalize w83 V0 = q1 at e1 ⊢
  pointwise
  rw [e0, e1, ← EReal.coe_mul, mul_comm]; rfl
theorem r87 (R : Fin 8192) (k : Fin 1024) : w87 V0 (ix2 R k) = ((A.row R).dya k : EReal) := by
  have e0 := r43 h R k
  have e1 := r83 h R k
  rw [w87_eq]
  generalize w43 V0 = q0 at e0 ⊢
  generalize w83 V0 = q1 at e1 ⊢
  pointwise
  rw [e0, e1, ← EReal.coe_mul, mul_comm]; rfl
theorem r90 (R : Fin 8192) (k : Fin 1024) : w90 V0 (ix2 R k) = ((A.row R).dyag k : EReal) := by
  have e0 := fun j => r87 h R j
  have e1 := fun j => r4 h k j R
  rw [w90_eq]
  generalize w87 V0 = q0 at e0 ⊢
  generalize w4 V0 = q1 at e1 ⊢
  pointwise
  simp only [e0, e1]
  simp only [← EReal.coe_mul, ← EReal.coe_add, ← EReal.coe_sub, sum_coe]
  rfl
theorem r91 (R : Fin 8192) (k : Fin 1024) : w91 V0 (ix2 R k) = (((A.row R).o k * (A.row R).dyag k : ℝ) : EReal) := by
  have e0 := h.a2 R k
  have e1 := r90 h R k
  rw [w91_eq]
  generalize x2 V0 = q0 at e0 ⊢
  generalize w90 V0 = q1 at e1 ⊢
  pointwise
  rw [e0, e1, ← EReal.coe_mul]; rfl
theorem r95 (R : Fin 8192) (g : Fin 4) (j : Fin 512) : w95 V0 (ix3 R g j) = ((A.row R).dyn (at4 g j) : EReal) := by
  have e0 := fun j => r84 h R j
  have e1 := fun i => r5 h (at4 g j) i R
  rw [w95_eq]
  generalize w84 V0 = q0 at e0 ⊢
  generalize w5 V0 = q1 at e1 ⊢
  refine (split4 _ R g j).trans ?_
  pointwise
  simp only [e0, e1]
  simp only [← EReal.coe_mul, ← EReal.coe_add, ← EReal.coe_sub, sum_coe]
  rfl
theorem r100 (R : Fin 8192) (g : Fin 4) (j : Fin 512) : w100 V0 (ix3 R g j) = ((A.row R).dhat (at4 g j) : EReal) := by
  have e0 := r95 h R g j
  have e1 := r32 h 0 g j
  rw [w100_eq]
  generalize w95 V0 = q0 at e0 ⊢
  generalize w32 V0 = q1 at e1 ⊢
  pointwise
  rw [e0, e1, ← EReal.coe_mul]; rfl
theorem r111 (R : Fin 8192) (g : Fin 4) (j : Fin 512) : w111 V0 (ix3 R g j) = (((∑ i, (A.row R).u (at4 g i) * (A.row R).dhat (at4 g i)) * (-(1 / 2) * ((A.row R).inv g * (1 / (A.row R).ms g))) * (1 / 512) : ℝ) : EReal) := by
  have e0 := fun i => r17 h R g i
  have e1 := fun i => r100 h R g i
  have e2 := fun z => r26 h R g z
  have e3 := fun z => r25 h R g z
  rw [w111_eq]
  generalize w17 V0 = q0 at e0 ⊢
  generalize w100 V0 = q1 at e1 ⊢
  generalize w26 V0 = q2 at e2 ⊢
  generalize w25 V0 = q3 at e3 ⊢
  pointwise
  simp only [e0, e1, e2, e3]
  simp only [Finset.sum_const, Finset.card_univ, Fintype.card_fin, one_nsmul]
  rw [k512, chalf, Ideal.div_coe (by norm_num), Ideal.div_coe ((A.row R).ms_pos g).ne']
  simp only [← EReal.coe_mul, ← EReal.coe_add, ← EReal.coe_sub, sum_coe]
theorem r117 (R : Fin 8192) (k : Fin 2048) : w117 V0 (ix2 R k) = ((A.row R).du k : EReal) := by
  have e0 := r100 h R (grp k) ⟨k.val % 512, Nat.mod_lt _ (by decide)⟩
  have e1 := r26 h R (grp k) 0
  have e2 := r17 h R (grp k) ⟨k.val % 512, Nat.mod_lt _ (by decide)⟩
  have e3 := r111 h R (grp k) ⟨k.val % 512, Nat.mod_lt _ (by decide)⟩
  rw [at4_grp] at e0 e2
  rw [w117_eq]
  generalize w100 V0 = q0 at e0 ⊢
  generalize w26 V0 = q1 at e1 ⊢
  generalize w17 V0 = q2 at e2 ⊢
  generalize w111 V0 = q3 at e3 ⊢
  refine (join4 _ R k).trans ?_
  pointwise
  rw [e0, e1, e2, e3]
  simp only [← EReal.coe_mul, ← EReal.coe_add, ← EReal.coe_sub, sum_coe]
  exact congrArg _ (du_eq (A.row R) k)
theorem r118 (R : Fin 8192) (k : Fin 2048) : w118 V0 (ix2 R k) = (((A.row R).y k * (A.row R).du k : ℝ) : EReal) := by
  have e0 := h.a4 R k
  have e1 := r117 h R k
  rw [w118_eq]
  generalize x4 V0 = q0 at e0 ⊢
  generalize w117 V0 = q1 at e1 ⊢
  pointwise
  rw [e0, e1, ← EReal.coe_mul]; rfl
theorem y1_apply (R : Fin 8192) (k : Fin 1024) : y1 V0 (ix2 R k) = ((A.row R).dAtt k : EReal) := by
  have e0 := r90 h R k
  have e1 := r13_0 h R k
  unfold y1
  generalize w90 V0 = q0 at e0 ⊢
  generalize w13_0 V0 = q1 at e1 ⊢
  pointwise
  rw [e0, e1, ← EReal.coe_mul]; rfl
theorem y2_lo (R : Fin 8192) (k : Fin 1024) : y2 V0 (ix2 R ⟨k.val, by have := k.isLt; omega⟩) = ((A.row R).dza k : EReal) := by
  have e0 := r91 h R k
  have e1 := r13_2 h R k
  have e2 := r8 h R k
  unfold y2
  generalize w91 V0 = q0 at e0 ⊢
  generalize w13_2 V0 = q1 at e1 ⊢
  generalize w8 V0 = q2 at e2 ⊢
  have hk := k.isLt
  pointwise
  rw [e0, e1, e2]
  try rw [kone]
  try rw [← EReal.coe_one]
  simp only [← EReal.coe_mul, ← EReal.coe_add, ← EReal.coe_sub, sum_coe]
  congr 1
  unfold Row.dza
  ring
theorem y2_hi (R : Fin 8192) (k : Fin 2048) : y2 V0 (ix2 R ⟨1024 + k.val, by have := k.isLt; omega⟩) = ((A.row R).dzm k : EReal) := by
  have e0 := r118 h R k
  have e1 := r15_2 h R k
  have e2 := r9 h R k
  unfold y2
  generalize w118 V0 = q0 at e0 ⊢
  generalize w15_2 V0 = q1 at e1 ⊢
  generalize w9 V0 = q2 at e2 ⊢
  have hk := k.isLt
  pointwise
  rw [e0, e1, e2]
  try rw [kone]
  try rw [← EReal.coe_one]
  simp only [← EReal.coe_mul, ← EReal.coe_add, ← EReal.coe_sub, sum_coe]
  congr 1
  unfold Row.dzm
  ring
theorem y3_apply (R : Fin 8192) (k : Fin 2048) : y3 V0 (ix2 R k) = ((A.row R).dypre k : EReal) := by
  have e0 := r117 h R k
  have e1 := r15_0 h R k
  unfold y3
  generalize w117 V0 = q0 at e0 ⊢
  generalize w15_0 V0 = q1 at e1 ⊢
  pointwise
  rw [e0, e1, ← EReal.coe_mul]; rfl
theorem y4_lo (R : Fin 8192) (k : Fin 1024) : y4 V0 (ix2 R ⟨k.val, by have := k.isLt; omega⟩) = ((A.row R).dga k : EReal) := by
  have e0 := r83 h R k
  have e1 := r36 h R k
  have e2 := r43 h R k
  unfold y4
  generalize w83 V0 = q0 at e0 ⊢
  generalize w36 V0 = q1 at e1 ⊢
  generalize w43 V0 = q2 at e2 ⊢
  have hk := k.isLt
  pointwise
  rw [e0, e1, e2]
  try rw [kone]
  try rw [← EReal.coe_one]
  simp only [← EReal.coe_mul, ← EReal.coe_add, ← EReal.coe_sub, sum_coe]
  congr 1
  unfold Row.dga Row.dya
  ring
theorem y4_hi (R : Fin 8192) (k : Fin 1024) : y4 V0 (ix2 R ⟨1024 + k.val, by have := k.isLt; omega⟩) = ((A.row R).dgb k : EReal) := by
  have e0 := r83 h R k
  have e1 := r37 h R k
  have e2 := r53 h R k
  unfold y4
  generalize w83 V0 = q0 at e0 ⊢
  generalize w37 V0 = q1 at e1 ⊢
  generalize w53 V0 = q2 at e2 ⊢
  have hk := k.isLt
  pointwise
  rw [e0, e1, e2]
  try rw [kone]
  try rw [← EReal.coe_one]
  simp only [← EReal.coe_mul, ← EReal.coe_add, ← EReal.coe_sub, sum_coe]
  congr 1
  unfold Row.dgb Row.dyb
  ring
theorem y5_apply (R : Fin 8192) (k : Fin 1024) : y5 V0 (ix2 R k) = ((A.row R).yag k : EReal) := by
  have e0 := r14 h R k
  unfold y5
  generalize w14 V0 = q0 at e0 ⊢
  pointwise
  exact e0
theorem y6_apply (R : Fin 8192) (k : Fin 1024) : y6 V0 (ix2 R k) = ((A.row R).dya k : EReal) := by
  have e0 := r87 h R k
  unfold y6
  generalize w87 V0 = q0 at e0 ⊢
  pointwise
  exact e0
theorem y7_apply (R : Fin 8192) (k : Fin 2048) : y7 V0 (ix2 R k) = ((A.row R).yn k : EReal) := by
  have e0 := r35 h R k
  unfold y7
  generalize w35 V0 = q0 at e0 ⊢
  pointwise
  exact e0
theorem y8_apply (R : Fin 8192) (k : Fin 1024) : y8 V0 (ix2 R k) = ((A.row R).dyb k : EReal) := by
  have e0 := r84 h R k
  unfold y8
  generalize w84 V0 = q0 at e0 ⊢
  pointwise
  exact e0
theorem y9_apply (R : Fin 8192) (k : Fin 1024) : y9 V0 (ix2 R k) = ((A.row R).mer k : EReal) := by
  have e0 := r58 h R k
  unfold y9
  generalize w58 V0 = q0 at e0 ⊢
  pointwise
  exact e0
theorem y10_apply (R : Fin 8192) (k : Fin 1024) : y10 V0 (ix2 R k) = ((A.row R).dO k : EReal) := by
  have e0 := r79 h R k
  unfold y10
  generalize w79 V0 = q0 at e0 ⊢
  pointwise
  exact e0
theorem y11_apply (k : Fin 2048) : y11 V0 (ix2 0 k) = ((∑ R, (A.row R).yn0 k * (A.row R).dyn k : ℝ) : EReal) := by
  have e0 := fun R => r31 h R (grp k) ⟨k.val % 512, Nat.mod_lt _ (by decide)⟩
  have e1 := fun R => r95 h R (grp k) ⟨k.val % 512, Nat.mod_lt _ (by decide)⟩
  unfold y11
  generalize w31 V0 = q0 at e0 ⊢
  generalize w95 V0 = q1 at e1 ⊢
  simp only [at4_grp] at e0 e1
  unfold grp at e0 e1
  pointwise
  simp only [e0, e1]
  simp only [Finset.sum_const, Finset.card_univ, Fintype.card_fin, one_nsmul]
  simp only [← EReal.coe_mul, ← EReal.coe_add, ← EReal.coe_sub, sum_coe]
theorem y12_apply (k : Fin 1024) : y12 V0 (ix2 0 k) = ((∑ R, (A.row R).dx k * (A.row R).out k : ℝ) : EReal) := by
  have e0 := fun R => r77 h R k
  have e1 := fun R => r59 h R k
  unfold y12
  generalize w77 V0 = q0 at e0 ⊢
  generalize w59 V0 = q1 at e1 ⊢
  pointwise
  simp only [e0, e1]
  simp only [← EReal.coe_mul, ← EReal.coe_add, ← EReal.coe_sub, sum_coe]
theorem y13_apply  : y13 V0 (ix2 0 0) = ((∑ R, (A.row R).loss : ℝ) : EReal) := by
  have e0 := fun R k => r63 h R k
  unfold y13
  generalize w63 V0 = q0 at e0 ⊢
  pointwise
  simp only [e0, c1024, khalf, Ideal.div_coe (show (1024 : ℝ) ≠ 0 by norm_num)]
  simp only [← EReal.coe_mul, ← EReal.coe_add, ← EReal.coe_sub, sum_coe]
  congr 1
  rw [Finset.mul_sum]
  exact Finset.sum_congr rfl fun R _ => by unfold Row.loss; ring

end

end Cert.MidRefIdeal.Rows
-- ==== Proof.MidClaim.lean ====
/-
  The claim on the gated merge, its loss and its gradient (hand-written, untrusted): kernel and reference end with equal arrays,
  when every input is finite.
-/
module

public import proofs.«01_k».proof.Defs
public import proofs.«01_k».proof.Proof.MidVal
public import proofs.«01_k».proof.Proof.MidRefRow
public import proofs.«01_k».proof.Proof.Reals
public import Idealize.ShloMosaic.Lib.Pointwise

@[expose] public section

set_option maxRecDepth 16384

noncomputable section

open Idealize.ShloMosaic Idealize.ShloMosaic.TcCoe Idealize.SL.Sem
open Cert.MidIdeal.Val Cert.MidRows Cert.Reals

namespace Cert.Proof

instance finite_mid_facts : Cert.Pre_finite_mid.Facts where
  bcast_S_S8192x1024 := by decide
  bitsLt_bf16_f32 := by decide
  bcast_S_S8192x3072 := by decide
  bcast_S_S8192x2048 := by decide
  bcast_S_S1x1024 := by decide
  bcast_S_S1x2048 := by decide
  bcast_S_S8x512x1024 := by decide

/-- Under the precondition the arguments are real arrays. -/
theorem mid_args (m : (ℓ : Loc Cert.MidIdeal.nD Cert.MidIdeal.τ Cert.MidIdeal.sig) → Buf (Elt Ideal) ℓ) (h : Cert.Pre_MidIdeal_finite_mid m)
    (c : Dev Cert.MidIdeal.nD) : ∃ A, Cert.MidIdeal.Val.Is m c A := by
  obtain ⟨h0, h1, h2, h3, h4, h5, h6, h7, h8⟩ := h c
  have e0 : ∀ i, ∃ r : ℝ, a0 m c i = (r : EReal) := fun i => real_of_test _ (congrFun h0 i)
  have e1 : ∀ i, ∃ r : ℝ, a1 m c i = (r : EReal) := fun i => real_of_test _ (congrFun h1 i)
  have e2 : ∀ i, ∃ r : ℝ, a2 m c i = (r : EReal) := fun i => real_of_test _ (congrFun h2 i)
  have e3 : ∀ i, ∃ r : ℝ, a3 m c i = (r : EReal) := fun i => real_of_test _ (congrFun h3 i)
  have e4 : ∀ i, ∃ r : ℝ, a4 m c i = (r : EReal) := fun i => real_of_test _ (congrFun h4 i)
  have e5 : ∀ i, ∃ r : ℝ, a5 m c i = (r : EReal) := fun i => real_of_test _ (congrFun h5 i)
  have e6 : ∀ i, ∃ r : ℝ, a6 m c i = (r : EReal) := fun i => real_of_test _ (congrFun h6 i)
  have e7 : ∀ i, ∃ r : ℝ, a7 m c i = (r : EReal) := fun i => real_of_test _ (congrFun h7 i)
  have e8 : ∀ i, ∃ r : ℝ, a8 m c i = (r : EReal) := fun i => real_of_test _ (congrFun h8 i)
  choose f0 g0 using e0
  choose f1 g1 using e1
  choose f2 g2 using e2
  choose f3 g3 using e3
  choose f4 g4 using e4
  choose f5 g5 using e5
  choose f6 g6 using e6
  choose f7 g7 using e7
  choose f8 g8 using e8
  exact ⟨⟨fun R k => f0 (ix2 R k), fun R k => f1 (ix2 R k), fun R k => f2 (ix2 R k), fun R k => f3 (ix2 R k), fun R k => f4 (ix2 R k),
    fun R k => f5 (ix2 R k), fun k => f6 (ix2 0 k), fun k => f7 (ix2 0 k), fun a b k => f8 (ix3 a b k)⟩,
    ⟨fun R k => g0 _, fun R k => g1 _, fun R k => g2 _, fun R k => g3 _, fun R k => g4 _, fun R k => g5 _, fun k => g6 _, fun k => g7 _, fun a b k => g8 _⟩⟩

section
open Cert.MidRefIdeal.Rows
variable {V0 : Valuation Cert.MidRefIdeal.τ Cert.MidRefIdeal.sig (Elt Ideal)} {A : Args} (h : Cert.MidRefIdeal.Rows.Is V0 A)
include h

theorem mid_eq8 : w77 V0 = G8 A := by
  funext i
  obtain ⟨R, q, rfl⟩ : ∃ (R : Fin 8192) (q : Fin 1024), i = ix2 R q := ⟨i 0, i 1, eq_ix2 i⟩
  exact r77 h R q
theorem mid_eq9 : y1 V0 = G9 A := by
  funext i
  obtain ⟨R, q, rfl⟩ : ∃ (R : Fin 8192) (q : Fin 1024), i = ix2 R q := ⟨i 0, i 1, eq_ix2 i⟩
  exact y1_apply h R q
theorem mid_eq11 : y3 V0 = G11 A := by
  funext i
  obtain ⟨R, q, rfl⟩ : ∃ (R : Fin 8192) (q : Fin 2048), i = ix2 R q := ⟨i 0, i 1, eq_ix2 i⟩
  exact y3_apply h R q
theorem mid_eq13 : y5 V0 = G13 A := by
  funext i
  obtain ⟨R, q, rfl⟩ : ∃ (R : Fin 8192) (q : Fin 1024), i = ix2 R q := ⟨i 0, i 1, eq_ix2 i⟩
  exact y5_apply h R q
theorem mid_eq14 : y6 V0 = G14 A := by
  funext i
  obtain ⟨R, q, rfl⟩ : ∃ (R : Fin 8192) (q : Fin 1024), i = ix2 R q := ⟨i 0, i 1, eq_ix2 i⟩
  exact y6_apply h R q
theorem mid_eq15 : y7 V0 = G15 A := by
  funext i
  obtain ⟨R, q, rfl⟩ : ∃ (R : Fin 8192) (q : Fin 2048), i = ix2 R q := ⟨i 0, i 1, eq_ix2 i⟩
  exact y7_apply h R q
theorem mid_eq16 : y8 V0 = G16 A := by
  funext i
  obtain ⟨R, q, rfl⟩ : ∃ (R : Fin 8192) (q : Fin 1024), i = ix2 R q := ⟨i 0, i 1, eq_ix2 i⟩
  exact y8_apply h R q
theorem mid_eq17 : y9 V0 = G17 A := by
  funext i
  obtain ⟨R, q, rfl⟩ : ∃ (R : Fin 8192) (q : Fin 1024), i = ix2 R q := ⟨i 0, i 1, eq_ix2 i⟩
  exact y9_apply h R q
theorem mid_eq18 : y10 V0 = G18 A := by
  funext i
  obtain ⟨R, q, rfl⟩ : ∃ (R : Fin 8192) (q : Fin 1024), i = ix2 R q := ⟨i 0, i 1, eq_ix2 i⟩
  exact y10_apply h R q
theorem mid_eq10 : y2 V0 = G10 A := by
  funext i
  obtain ⟨R, q, rfl⟩ : ∃ (R : Fin 8192) (q : Fin 3072), i = ix2 R q := ⟨i 0, i 1, eq_ix2 i⟩
  by_cases hq : q.val < 1024
  · refine (y2_lo h R ⟨q.val, hq⟩).trans ?_
    exact congrArg (fun z : ℝ => (z : EReal)) (lohi_lo (A.row R).dza (A.row R).dzm ⟨q.val, hq⟩).symm
  · obtain ⟨k, e⟩ : ∃ k : Fin 2048, q = ⟨1024 + k.val, by have := k.isLt; omega⟩ :=
      ⟨⟨q.val - 1024, by have := q.isLt; omega⟩, Fin.ext (by show q.val = 1024 + (q.val - 1024); omega)⟩
    rw [e]
    refine (y2_hi h R k).trans ?_
    exact congrArg (fun z : ℝ => (z : EReal)) (lohi_hi (A.row R).dza (A.row R).dzm k).symm
theorem mid_eq12 : y4 V0 = G12 A := by
  funext i
  obtain ⟨R, q, rfl⟩ : ∃ (R : Fin 8192) (q : Fin 2048), i = ix2 R q := ⟨i 0, i 1, eq_ix2 i⟩
  by_cases hq : q.val < 1024
  · refine (y4_lo h R ⟨q.val, hq⟩).trans ?_
    exact congrArg (fun z : ℝ => (z : EReal)) (lohi_lo (A.row R).dga (A.row R).dgb ⟨q.val, hq⟩).symm
  · obtain ⟨k, e⟩ : ∃ k : Fin 1024, q = ⟨1024 + k.val, by have := k.isLt; omega⟩ :=
      ⟨⟨q.val - 1024, by have := q.isLt; omega⟩, Fin.ext (by show q.val = 1024 + (q.val - 1024); omega)⟩
    rw [e]
    refine (y4_hi h R k).trans ?_
    exact congrArg (fun z : ℝ => (z : EReal)) (lohi_hi (A.row R).dga (A.row R).dgb k).symm
theorem mid_eq19 : y11 V0 = G19 A := by
  funext i
  obtain ⟨z, q, rfl⟩ : ∃ (z : Fin 1) (q : Fin 2048), i = ix2 z q := ⟨i 0, i 1, eq_ix2 i⟩
  obtain rfl : z = 0 := Subsingleton.elim _ _
  refine (y11_apply h q).trans (congrArg (fun z : ℝ => (z : EReal)) ?_)
  exact Finset.sum_congr rfl fun R _ => mul_comm _ _
theorem mid_eq20 : y12 V0 = G20 A := by
  funext i
  obtain ⟨z, q, rfl⟩ : ∃ (z : Fin 1) (q : Fin 1024), i = ix2 z q := ⟨i 0, i 1, eq_ix2 i⟩
  obtain rfl : z = 0 := Subsingleton.elim _ _
  exact y12_apply h q
theorem mid_eq21 : y13 V0 = G21 A := by
  funext i
  obtain ⟨z, q, rfl⟩ : ∃ (z : Fin 1) (q : Fin 1), i = ix2 z q := ⟨i 0, i 1, eq_ix2 i⟩
  obtain rfl : z = 0 := Subsingleton.elim _ _
  obtain rfl : q = 0 := Subsingleton.elim _ _
  exact y13_apply h
end

/-- Kernel and reference end with the same fourteen arrays. -/
theorem algebraic_Mid : Cert.algebraic_MidIdeal_MidRefIdeal_pre_finite_mid := by
  intro m g m' g' hpre hagree
  choose A hA using fun c => mid_args m hpre c
  have hR : ∀ c : Dev Cert.MidRefIdeal.nD, Cert.MidRefIdeal.Rows.Is (Idealize.ShloMosaic.StableHlo.launchContents m' c) (A c) := fun c =>
    ⟨fun R k => (congrFun (hagree c).1 _).trans ((hA c).a0 R k),
      fun R k => (congrFun (hagree c).2.1 _).trans ((hA c).a1 R k),
      fun R k => (congrFun (hagree c).2.2.1 _).trans ((hA c).a2 R k),
      fun R k => (congrFun (hagree c).2.2.2.1 _).trans ((hA c).a3 R k),
      fun R k => (congrFun (hagree c).2.2.2.2.1 _).trans ((hA c).a4 R k),
      fun R k => (congrFun (hagree c).2.2.2.2.2.1 _).trans ((hA c).a5 R k),
      fun k => (congrFun (hagree c).2.2.2.2.2.2.1 _).trans ((hA c).a6 k),
      fun k => (congrFun (hagree c).2.2.2.2.2.2.2.1 _).trans ((hA c).a7 k),
      fun a b k => (congrFun (hagree c).2.2.2.2.2.2.2.2 _).trans ((hA c).a8 a b k)⟩
  exact ⟨fun c => G8 (A c), fun c => G9 (A c), fun c => G10 (A c), fun c => G11 (A c), fun c => G12 (A c), fun c => G13 (A c), fun c => G14 (A c), fun c => G15 (A c), fun c => G16 (A c), fun c => G17 (A c), fun c => G18 (A c), fun c => G19 (A c), fun c => G20 (A c), fun c => G21 (A c),
    (θ_run (Cert.MidIdeal.defs (F := Ideal)) _ _).mono (fun r h c => ⟨(h c).1.trans (result_8 (hA c)), (h c).2.1.trans (result_9 (hA c)), (h c).2.2.1.trans (result_10 (hA c)), (h c).2.2.2.1.trans (result_11 (hA c)), (h c).2.2.2.2.1.trans (result_12 (hA c)), (h c).2.2.2.2.2.1.trans (result_13 (hA c)), (h c).2.2.2.2.2.2.1.trans (result_14 (hA c)), (h c).2.2.2.2.2.2.2.1.trans (result_15 (hA c)), (h c).2.2.2.2.2.2.2.2.1.trans (result_16 (hA c)), (h c).2.2.2.2.2.2.2.2.2.1.trans (result_17 (hA c)), (h c).2.2.2.2.2.2.2.2.2.2.1.trans (result_18 (hA c)), (h c).2.2.2.2.2.2.2.2.2.2.2.1.trans (result_19 (hA c)), (h c).2.2.2.2.2.2.2.2.2.2.2.2.1.trans (result_20 (hA c)), (h c).2.2.2.2.2.2.2.2.2.2.2.2.2.1.trans (result_21 (hA c)), (h c).2.2.2.2.2.2.2.2.2.2.2.2.2.2⟩) (Cert.MidIdeal.Val.run_blocks m g),
    (θ_run (Cert.MidRefIdeal.defs (F := Ideal)) _ _).mono (fun r h c => ⟨(h c).1.trans (mid_eq8 (hR c)), (h c).2.1.trans (mid_eq9 (hR c)), (h c).2.2.1.trans (mid_eq10 (hR c)), (h c).2.2.2.1.trans (mid_eq11 (hR c)), (h c).2.2.2.2.1.trans (mid_eq12 (hR c)), (h c).2.2.2.2.2.1.trans (mid_eq13 (hR c)), (h c).2.2.2.2.2.2.1.trans (mid_eq14 (hR c)), (h c).2.2.2.2.2.2.2.1.trans (mid_eq15 (hR c)), (h c).2.2.2.2.2.2.2.2.1.trans (mid_eq16 (hR c)), (h c).2.2.2.2.2.2.2.2.2.1.trans (mid_eq17 (hR c)), (h c).2.2.2.2.2.2.2.2.2.2.1.trans (mid_eq18 (hR c)), (h c).2.2.2.2.2.2.2.2.2.2.2.1.trans (mid_eq19 (hR c)), (h c).2.2.2.2.2.2.2.2.2.2.2.2.1.trans (mid_eq20 (hR c)), (h c).2.2.2.2.2.2.2.2.2.2.2.2.2.1.trans (mid_eq21 (hR c)), (h c).2.2.2.2.2.2.2.2.2.2.2.2.2.2⟩) (Cert.MidRefIdeal.Value.run m' g')⟩

end Cert.Proof
-- ==== Proof.AdamMath.lean ====
/-
  AdamW at one entry (hand-written, untrusted): the update that all the optimiser's calls compute, from the gradient and the
  entry's weight and moments.
-/
module

public import Idealize.ShloMosaic.Lib.Pointwise
public import Mathlib.Algebra.BigOperators.Fin

@[expose] public section

noncomputable section

open Idealize.ShloMosaic

namespace Cert.Adam

/-- The first moment after the step. -/
def newM (m g : EReal) : EReal := Ideal.ofBits .f32 0x3F666666#32 * m + Ideal.ofBits .f32 0x3DCCCCCD#32 * g
/-- The second moment after the step. -/
def newV (v g : EReal) : EReal := Ideal.ofBits .f32 0x3F7FBE77#32 * v + Ideal.ofBits .f32 0x3A83126F#32 * (g * g)
/-- The change of the weight: bias-corrected moments, and weight decay. -/
def delta (w m v g : EReal) : EReal :=
  Ideal.ofBits .f32 0xBA83126F#32 * (Ideal.div (Ideal.div (newM m g) (Ideal.ofBits .f32 0x3F26BD02#32))
    (Ideal.sqrt (Ideal.div (newV v g) (Ideal.ofBits .f32 0x3C231ACC#32)) + Ideal.ofBits .f32 0x322BCC77#32) + Ideal.ofBits .f32 0x3C23D70A#32 * w)

end Cert.Adam

end
-- ==== Proof.AdamIn.lean ====
/-
  The optimiser's call on the combined input projection (hand-written, untrusted): what the kernel's blocks and the
  reference's arrays hold, entry by entry.
-/
module

public import proofs.«01_k».proof.Defs
public import proofs.«01_k».proof.Proof.AdamMath
public import proofs.«01_k».proof.Proof.Gen.AdamInIdeal.Frame
public import proofs.«01_k».proof.Proof.Gen.AdamInRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamInIdeal.Entry

open Cert.AdamInIdeal Cert.AdamInIdeal.Gen Cert.Adam

theorem hz : (![0, 0] : Fin 2 → Nat) = fun _ => 0 := funext fun a => by fin_cases a <;> rfl

/-- The block's gradient, entry by entry: the sum over the devices. -/
theorem sum_apply (x0 : Vec Ideal S8x1220x256 .bf16) (x1 x2 x3 : Vec Ideal S1220x256 .f32) (r : Fin 1220) (q : Fin 256) :
    out0_4 x0 x1 x2 x3 (ix2 r q) = ∑ d : Fin 8, (x0 : S8x1220x256.Idx → EReal) (ix3 d r q) := by
  unfold_out out0_4
  rw [View.canon_unit_zero hz]
  pointwise [k0_pay1, k0_pay2, k0_pay3, k0_pay4, k0_pay5]
  simp only [Fin.sum_univ_succ, Fin.sum_univ_zero]
  simp only [add_zero, ← add_assoc]
  rfl

/-- The three other blocks are the update of that gradient. -/
theorem delta_apply (x0 : Vec Ideal S8x1220x256 .bf16) (x1 x2 x3 : Vec Ideal S1220x256 .f32) (r : Fin 1220) (q : Fin 256) :
    out0_5 x0 x1 x2 x3 (ix2 r q) = delta ((x1 : S1220x256.Idx → EReal) (ix2 r q)) ((x2 : S1220x256.Idx → EReal) (ix2 r q)) ((x3 : S1220x256.Idx → EReal) (ix2 r q)) (∑ d : Fin 8, (x0 : S8x1220x256.Idx → EReal) (ix3 d r q)) := by
  rw [← sum_apply x0 x1 x2 x3 r q]
  unfold out0_4 out0_5
  rw [View.canon_unit_zero hz, View.canon_unit_zero hz]
  generalize k0_pay5 x0 x1 x2 x3 = g
  pointwise [k0_pay1, k0_pay2, k0_pay3, delta, newM, newV]

theorem newM_apply (x0 : Vec Ideal S8x1220x256 .bf16) (x1 x2 x3 : Vec Ideal S1220x256 .f32) (r : Fin 1220) (q : Fin 256) :
    out0_6 x0 x1 x2 x3 (ix2 r q) = newM ((x2 : S1220x256.Idx → EReal) (ix2 r q)) (∑ d : Fin 8, (x0 : S8x1220x256.Idx → EReal) (ix3 d r q)) := by
  rw [← sum_apply x0 x1 x2 x3 r q]
  unfold out0_4 out0_6
  rw [View.canon_unit_zero hz, View.canon_unit_zero hz]
  generalize k0_pay5 x0 x1 x2 x3 = g
  pointwise [k0_pay1, newM]

theorem newV_apply (x0 : Vec Ideal S8x1220x256 .bf16) (x1 x2 x3 : Vec Ideal S1220x256 .f32) (r : Fin 1220) (q : Fin 256) :
    out0_7 x0 x1 x2 x3 (ix2 r q) = newV ((x3 : S1220x256.Idx → EReal) (ix2 r q)) (∑ d : Fin 8, (x0 : S8x1220x256.Idx → EReal) (ix3 d r q)) := by
  rw [← sum_apply x0 x1 x2 x3 r q]
  unfold out0_4 out0_7
  rw [View.canon_unit_zero hz, View.canon_unit_zero hz]
  generalize k0_pay5 x0 x1 x2 x3 = g
  pointwise [k0_pay2, newV]

variable (m : (ℓ : Loc nD τ sig) → Buf (Elt Ideal) ℓ) (ρ : Dev nD → PrngReg)

/-- The arguments as plain arrays: the devices' gradients, the weight and its moments. -/
abbrev pArr (c : Dev nD) : S8x1220x1024.Idx → EReal := m ((c : Thread nD τ).loc main_arg0)
abbrev wArr (c : Dev nD) : S1220x1024.Idx → EReal := m ((c : Thread nD τ).loc main_arg1)
abbrev mArr (c : Dev nD) : S1220x1024.Idx → EReal := m ((c : Thread nD τ).loc main_arg2)
abbrev vArr (c : Dev nD) : S1220x1024.Idx → EReal := m ((c : Thread nD τ).loc main_arg3)

/-- A natural number as a row and as a column. -/
def rowN (x : ℕ) : Fin 1220 := ⟨x % 1220, Nat.mod_lt _ (by decide)⟩
def colN (x : ℕ) : Fin 1024 := ⟨x % 1024, Nat.mod_lt _ (by decide)⟩

theorem points : cfg0.N = 4 := by decide +kernel

theorem idx0 : ∀ t : Fin cfg0.N, win0_0.index t (0 : Fin 3) = 0 ∧ win0_0.index t (1 : Fin 3) = 0 ∧ win0_0.index t (2 : Fin 3) = t.val % 4 :=
  (by decide +kernel : ∀ t : Fin grid0.N, _)

theorem iblk0_apply (c : Dev nD) (t : Fin cfg0.N) (d : Fin 8) (r : Fin 1220) (q : Fin 256) :
    iblk m c 0 t (ix3 d r q : S8x1220x256.Idx) = pArr m c (ix3 d (rowN (1220 * (0) + r.val)) (colN (256 * (t.val % 4) + q.val))) := by
  obtain ⟨e0, e1, e2⟩ := idx0 t
  have hN : t.val < 4 := lt_of_lt_of_eq t.isLt points
  have hr := r.isLt; have hq := q.isLt
  show V m c main_arg0 (((cfg0.win 0).blk t).view.emb (ix3 d r q : S8x1220x256.Idx)) = _
  unfold pArr
  congr 1
  funext a; apply Fin.ext
  match a with
  | ⟨0, _⟩ => show win0_0.index t (0 : Fin 3) * 8 + 1 * d.val = d.val; rw [e0]; omega
  | ⟨1, _⟩ => show win0_0.index t (1 : Fin 3) * 1220 + 1 * r.val = (1220 * (0) + r.val) % 1220; rw [e1]; omega
  | ⟨2, _⟩ => show win0_0.index t (2 : Fin 3) * 256 + 1 * q.val = (256 * (t.val % 4) + q.val) % 1024; rw [e2]; omega

theorem idx1 : ∀ t : Fin cfg0.N, win0_1.index t (0 : Fin 2) = 0 ∧ win0_1.index t (1 : Fin 2) = t.val % 4 :=
  (by decide +kernel : ∀ t : Fin grid0.N, _)

theorem iblk1_apply (c : Dev nD) (t : Fin cfg0.N) (r : Fin 1220) (q : Fin 256) :
    iblk m c 1 t (ix2 r q : S1220x256.Idx) = wArr m c (ix2 (rowN (1220 * (0) + r.val)) (colN (256 * (t.val % 4) + q.val))) := by
  obtain ⟨e0, e1⟩ := idx1 t
  have hN : t.val < 4 := lt_of_lt_of_eq t.isLt points
  have hr := r.isLt; have hq := q.isLt
  show V m c main_arg1 (((cfg0.win 1).blk t).view.emb (ix2 r q : S1220x256.Idx)) = _
  unfold wArr
  congr 1
  funext a; apply Fin.ext
  match a with
  | ⟨0, _⟩ => show win0_1.index t (0 : Fin 2) * 1220 + 1 * r.val = (1220 * (0) + r.val) % 1220; rw [e0]; omega
  | ⟨1, _⟩ => show win0_1.index t (1 : Fin 2) * 256 + 1 * q.val = (256 * (t.val % 4) + q.val) % 1024; rw [e1]; omega

theorem idx2 : ∀ t : Fin cfg0.N, win0_2.index t (0 : Fin 2) = 0 ∧ win0_2.index t (1 : Fin 2) = t.val % 4 :=
  (by decide +kernel : ∀ t : Fin grid0.N, _)

theorem iblk2_apply (c : Dev nD) (t : Fin cfg0.N) (r : Fin 1220) (q : Fin 256) :
    iblk m c 2 t (ix2 r q : S1220x256.Idx) = mArr m c (ix2 (rowN (1220 * (0) + r.val)) (colN (256 * (t.val % 4) + q.val))) := by
  obtain ⟨e0, e1⟩ := idx2 t
  have hN : t.val < 4 := lt_of_lt_of_eq t.isLt points
  have hr := r.isLt; have hq := q.isLt
  show V m c main_arg2 (((cfg0.win 2).blk t).view.emb (ix2 r q : S1220x256.Idx)) = _
  unfold mArr
  congr 1
  funext a; apply Fin.ext
  match a with
  | ⟨0, _⟩ => show win0_2.index t (0 : Fin 2) * 1220 + 1 * r.val = (1220 * (0) + r.val) % 1220; rw [e0]; omega
  | ⟨1, _⟩ => show win0_2.index t (1 : Fin 2) * 256 + 1 * q.val = (256 * (t.val % 4) + q.val) % 1024; rw [e1]; omega

theorem idx3 : ∀ t : Fin cfg0.N, win0_3.index t (0 : Fin 2) = 0 ∧ win0_3.index t (1 : Fin 2) = t.val % 4 :=
  (by decide +kernel : ∀ t : Fin grid0.N, _)

theorem iblk3_apply (c : Dev nD) (t : Fin cfg0.N) (r : Fin 1220) (q : Fin 256) :
    iblk m c 3 t (ix2 r q : S1220x256.Idx) = vArr m c (ix2 (rowN (1220 * (0) + r.val)) (colN (256 * (t.val % 4) + q.val))) := by
  obtain ⟨e0, e1⟩ := idx3 t
  have hN : t.val < 4 := lt_of_lt_of_eq t.isLt points
  have hr := r.isLt; have hq := q.isLt
  show V m c main_arg3 (((cfg0.win 3).blk t).view.emb (ix2 r q : S1220x256.Idx)) = _
  unfold vArr
  congr 1
  funext a; apply Fin.ext
  match a with
  | ⟨0, _⟩ => show win0_3.index t (0 : Fin 2) * 1220 + 1 * r.val = (1220 * (0) + r.val) % 1220; rw [e0]; omega
  | ⟨1, _⟩ => show win0_3.index t (1 : Fin 2) * 256 + 1 * q.val = (256 * (t.val % 4) + q.val) % 1024; rw [e1]; omega

/-- The summed gradient. -/
def gAt (p : S8x1220x1024.Idx → EReal) : S1220x1024.Idx → EReal := fun i => ∑ d : Fin 8, p (ix3 d (i 0) (i 1))
def dAt (p : S8x1220x1024.Idx → EReal) (w m v : S1220x1024.Idx → EReal) : S1220x1024.Idx → EReal := fun i => delta (w i) (m i) (v i) (gAt p i)
def mAt (p : S8x1220x1024.Idx → EReal) (m : S1220x1024.Idx → EReal) : S1220x1024.Idx → EReal := fun i => newM (m i) (gAt p i)
def vAt (p : S8x1220x1024.Idx → EReal) (v : S1220x1024.Idx → EReal) : S1220x1024.Idx → EReal := fun i => newV (v i) (gAt p i)

/-- The block of the devices' gradients that a grid point reads. -/
abbrev pBlock (c : Dev nD) (t : Fin cfg0.N) : S8x1220x256.Idx → EReal := iblk m c 0 t

theorem gAt_block (c : Dev nD) (t : Fin cfg0.N) (r : Fin 1220) (q : Fin 256) :
    ∑ d : Fin 8, pBlock m c t (ix3 d r q) = gAt (pArr m c) (ix2 (rowN (1220 * (0) + r.val)) (colN (256 * (t.val % 4) + q.val))) :=
  Finset.sum_congr rfl fun d _ => iblk0_apply m c t d r q

theorem idx4 : ∀ t : Fin cfg0.N, win0_4.index t (0 : Fin 2) = 0 ∧ win0_4.index t (1 : Fin 2) = t.val % 4 :=
  (by decide +kernel : ∀ t : Fin grid0.N, _)

theorem result_4 (c : Dev nD) : (dats m 0 c).arrAt 4 cfg0.N = gAt (pArr m c) := by
  refine (dats m 0 c).arrAt_eq_of_covers 4 _ (by decide +kernel) fun t hf y => ?_
  obtain ⟨e0, e1⟩ := idx4 t
  have hN : t.val < 4 := lt_of_lt_of_eq t.isLt points
  obtain ⟨r, q, rfl⟩ : ∃ (r : Fin 1220) (q : Fin 256), y = ix2 r q := ⟨y 0, y 1, eq_ix2 y⟩
  have hr := r.isLt; have hq := q.isLt
  refine (congrFun (after0_4 m c t) _).trans ?_
  have ex : (cfg0.win 4).xinj (cfg0.grid.coords t) (ix2 r q : S1220x256.Idx) = (ix2 r q : S1220x256.Idx) := rfl
  have e : out0_4 (iblk m c 0 t) (iblk m c 1 t) (iblk m c 2 t) (iblk m c 3 t) (ix2 r q) = (gAt (pArr m c)) (ix2 (rowN (1220 * (0) + r.val)) (colN (256 * (t.val % 4) + q.val))) := by
    exact (sum_apply _ _ _ _ r q).trans (gAt_block m c t r q)
  refine ((congrArg (out0_4 (iblk m c 0 t) (iblk m c 1 t) (iblk m c 2 t) (iblk m c 3 t)) ex).trans e).trans (congrArg (gAt (pArr m c)) ?_)
  funext a; apply Fin.ext
  match a with
  | ⟨0, _⟩ => show (1220 * (0) + r.val) % 1220 = win0_4.index t (0 : Fin 2) * 1220 + 1 * r.val; rw [e0]; omega
  | ⟨1, _⟩ => show (256 * (t.val % 4) + q.val) % 1024 = win0_4.index t (1 : Fin 2) * 256 + 1 * q.val; rw [e1]; omega

theorem idx5 : ∀ t : Fin cfg0.N, win0_5.index t (0 : Fin 2) = 0 ∧ win0_5.index t (1 : Fin 2) = t.val % 4 :=
  (by decide +kernel : ∀ t : Fin grid0.N, _)

theorem result_5 (c : Dev nD) : (dats m 0 c).arrAt 5 cfg0.N = dAt (pArr m c) (wArr m c) (mArr m c) (vArr m c) := by
  refine (dats m 0 c).arrAt_eq_of_covers 5 _ (by decide +kernel) fun t hf y => ?_
  obtain ⟨e0, e1⟩ := idx5 t
  have hN : t.val < 4 := lt_of_lt_of_eq t.isLt points
  obtain ⟨r, q, rfl⟩ : ∃ (r : Fin 1220) (q : Fin 256), y = ix2 r q := ⟨y 0, y 1, eq_ix2 y⟩
  have hr := r.isLt; have hq := q.isLt
  refine (congrFun (after0_5 m c t) _).trans ?_
  have ex : (cfg0.win 5).xinj (cfg0.grid.coords t) (ix2 r q : S1220x256.Idx) = (ix2 r q : S1220x256.Idx) := rfl
  have e : out0_5 (iblk m c 0 t) (iblk m c 1 t) (iblk m c 2 t) (iblk m c 3 t) (ix2 r q) = (dAt (pArr m c) (wArr m c) (mArr m c) (vArr m c)) (ix2 (rowN (1220 * (0) + r.val)) (colN (256 * (t.val % 4) + q.val))) := by
    refine (delta_apply _ _ _ _ r q).trans ?_
    unfold dAt
    erw [gAt_block m c t r q, iblk1_apply m c t r q, iblk2_apply m c t r q, iblk3_apply m c t r q]
  refine ((congrArg (out0_5 (iblk m c 0 t) (iblk m c 1 t) (iblk m c 2 t) (iblk m c 3 t)) ex).trans e).trans (congrArg (dAt (pArr m c) (wArr m c) (mArr m c) (vArr m c)) ?_)
  funext a; apply Fin.ext
  match a with
  | ⟨0, _⟩ => show (1220 * (0) + r.val) % 1220 = win0_5.index t (0 : Fin 2) * 1220 + 1 * r.val; rw [e0]; omega
  | ⟨1, _⟩ => show (256 * (t.val % 4) + q.val) % 1024 = win0_5.index t (1 : Fin 2) * 256 + 1 * q.val; rw [e1]; omega

theorem idx6 : ∀ t : Fin cfg0.N, win0_6.index t (0 : Fin 2) = 0 ∧ win0_6.index t (1 : Fin 2) = t.val % 4 :=
  (by decide +kernel : ∀ t : Fin grid0.N, _)

theorem result_6 (c : Dev nD) : (dats m 0 c).arrAt 6 cfg0.N = mAt (pArr m c) (mArr m c) := by
  refine (dats m 0 c).arrAt_eq_of_covers 6 _ (by decide +kernel) fun t hf y => ?_
  obtain ⟨e0, e1⟩ := idx6 t
  have hN : t.val < 4 := lt_of_lt_of_eq t.isLt points
  obtain ⟨r, q, rfl⟩ : ∃ (r : Fin 1220) (q : Fin 256), y = ix2 r q := ⟨y 0, y 1, eq_ix2 y⟩
  have hr := r.isLt; have hq := q.isLt
  refine (congrFun (after0_6 m c t) _).trans ?_
  have ex : (cfg0.win 6).xinj (cfg0.grid.coords t) (ix2 r q : S1220x256.Idx) = (ix2 r q : S1220x256.Idx) := rfl
  have e : out0_6 (iblk m c 0 t) (iblk m c 1 t) (iblk m c 2 t) (iblk m c 3 t) (ix2 r q) = (mAt (pArr m c) (mArr m c)) (ix2 (rowN (1220 * (0) + r.val)) (colN (256 * (t.val % 4) + q.val))) := by
    refine (newM_apply _ _ _ _ r q).trans ?_
    unfold mAt
    erw [gAt_block m c t r q, iblk2_apply m c t r q]
  refine ((congrArg (out0_6 (iblk m c 0 t) (iblk m c 1 t) (iblk m c 2 t) (iblk m c 3 t)) ex).trans e).trans (congrArg (mAt (pArr m c) (mArr m c)) ?_)
  funext a; apply Fin.ext
  match a with
  | ⟨0, _⟩ => show (1220 * (0) + r.val) % 1220 = win0_6.index t (0 : Fin 2) * 1220 + 1 * r.val; rw [e0]; omega
  | ⟨1, _⟩ => show (256 * (t.val % 4) + q.val) % 1024 = win0_6.index t (1 : Fin 2) * 256 + 1 * q.val; rw [e1]; omega

theorem idx7 : ∀ t : Fin cfg0.N, win0_7.index t (0 : Fin 2) = 0 ∧ win0_7.index t (1 : Fin 2) = t.val % 4 :=
  (by decide +kernel : ∀ t : Fin grid0.N, _)

theorem result_7 (c : Dev nD) : (dats m 0 c).arrAt 7 cfg0.N = vAt (pArr m c) (vArr m c) := by
  refine (dats m 0 c).arrAt_eq_of_covers 7 _ (by decide +kernel) fun t hf y => ?_
  obtain ⟨e0, e1⟩ := idx7 t
  have hN : t.val < 4 := lt_of_lt_of_eq t.isLt points
  obtain ⟨r, q, rfl⟩ : ∃ (r : Fin 1220) (q : Fin 256), y = ix2 r q := ⟨y 0, y 1, eq_ix2 y⟩
  have hr := r.isLt; have hq := q.isLt
  refine (congrFun (after0_7 m c t) _).trans ?_
  have ex : (cfg0.win 7).xinj (cfg0.grid.coords t) (ix2 r q : S1220x256.Idx) = (ix2 r q : S1220x256.Idx) := rfl
  have e : out0_7 (iblk m c 0 t) (iblk m c 1 t) (iblk m c 2 t) (iblk m c 3 t) (ix2 r q) = (vAt (pArr m c) (vArr m c)) (ix2 (rowN (1220 * (0) + r.val)) (colN (256 * (t.val % 4) + q.val))) := by
    refine (newV_apply _ _ _ _ r q).trans ?_
    unfold vAt
    erw [gAt_block m c t r q, iblk3_apply m c t r q]
  refine ((congrArg (out0_7 (iblk m c 0 t) (iblk m c 1 t) (iblk m c 2 t) (iblk m c 3 t)) ex).trans e).trans (congrArg (vAt (pArr m c) (vArr m c)) ?_)
  funext a; apply Fin.ext
  match a with
  | ⟨0, _⟩ => show (1220 * (0) + r.val) % 1220 = win0_7.index t (0 : Fin 2) * 1220 + 1 * r.val; rw [e0]; omega
  | ⟨1, _⟩ => show (256 * (t.val % 4) + q.val) % 1024 = win0_7.index t (1 : Fin 2) * 256 + 1 * q.val; rw [e1]; omega

/-- The kernel ends with every result at its array of blocks, the arguments unchanged. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5, (h c).1 6, (h c).1 7,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Cert.AdamInIdeal.Entry

namespace Cert.Proof

open Cert.AdamInIdeal Cert.AdamInIdeal.Entry Cert.Adam in
/-- Kernel and reference end with the same gradient, change and moments. -/
theorem algebraic_AdamIn : Cert.algebraic_AdamInIdeal_AdamInRefIdeal := by
  intro m g m' g' _ hagree
  refine ⟨fun c => gAt (pArr m c), fun c => dAt (pArr m c) (wArr m c) (mArr m c) (vArr m c), fun c => mAt (pArr m c) (mArr m c), fun c => vAt (pArr m c) (vArr m c),
    (θ_run (Cert.AdamInIdeal.defs (F := Ideal)) _ _).mono (fun r h c => ⟨(h c).1.trans (result_4 m c), (h c).2.1.trans (result_5 m c), (h c).2.2.1.trans (result_6 m c), (h c).2.2.2.1.trans (result_7 m c), (h c).2.2.2.2⟩) (run_blocks m g),
    (θ_run (Cert.AdamInRefIdeal.defs (F := Ideal)) _ _).mono (fun r h c => ⟨(h c).1.trans ?_, (h c).2.1.trans ?_, (h c).2.2.1.trans ?_, (h c).2.2.2.1.trans ?_, (h c).2.2.2.2⟩) (Cert.AdamInRefIdeal.Value.run m' g')⟩
  · rw [(hagree c).1]
    funext i
    obtain ⟨R, q, rfl⟩ : ∃ (R : Fin 1220) (q : Fin 1024), i = ix2 R q := ⟨i 0, i 1, eq_ix2 i⟩
    unfold gAt
    pointwise
  · rw [(hagree c).1, (hagree c).2.1, (hagree c).2.2.1, (hagree c).2.2.2]
    funext i
    obtain ⟨R, q, rfl⟩ : ∃ (R : Fin 1220) (q : Fin 1024), i = ix2 R q := ⟨i 0, i 1, eq_ix2 i⟩
    unfold dAt gAt delta newM newV
    pointwise
  · rw [(hagree c).1, (hagree c).2.2.1]
    funext i
    obtain ⟨R, q, rfl⟩ : ∃ (R : Fin 1220) (q : Fin 1024), i = ix2 R q := ⟨i 0, i 1, eq_ix2 i⟩
    unfold mAt gAt newM
    pointwise
  · rw [(hagree c).1, (hagree c).2.2.2]
    funext i
    obtain ⟨R, q, rfl⟩ : ∃ (R : Fin 1220) (q : Fin 1024), i = ix2 R q := ⟨i 0, i 1, eq_ix2 i⟩
    unfold vAt gAt newV
    pointwise

end Cert.Proof

end
-- ==== Proof.AdamRows.lean ====
/-
  The optimiser's call on the three output projections (hand-written, untrusted): what the kernel's blocks and the
  reference's arrays hold, entry by entry.
-/
module

public import proofs.«01_k».proof.Defs
public import proofs.«01_k».proof.Proof.AdamMath
public import proofs.«01_k».proof.Proof.Gen.AdamRowsIdeal.Frame
public import proofs.«01_k».proof.Proof.Gen.AdamRowsRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamRowsIdeal.Entry

open Cert.AdamRowsIdeal Cert.AdamRowsIdeal.Gen Cert.Adam

theorem hz : (![0, 0] : Fin 2 → Nat) = fun _ => 0 := funext fun a => by fin_cases a <;> rfl

/-- The block's gradient, entry by entry: the sum over the devices. -/
theorem sum_apply (x0 : Vec Ideal S8x256x1024 .bf16) (x1 x2 x3 : Vec Ideal S256x1024 .f32) (r : Fin 256) (q : Fin 1024) :
    out0_4 x0 x1 x2 x3 (ix2 r q) = ∑ d : Fin 8, (x0 : S8x256x1024.Idx → EReal) (ix3 d r q) := by
  unfold_out out0_4
  rw [View.canon_unit_zero hz]
  pointwise [k0_pay1, k0_pay2, k0_pay3, k0_pay4, k0_pay5]
  simp only [Fin.sum_univ_succ, Fin.sum_univ_zero]
  simp only [add_zero, ← add_assoc]
  rfl

/-- The three other blocks are the update of that gradient. -/
theorem delta_apply (x0 : Vec Ideal S8x256x1024 .bf16) (x1 x2 x3 : Vec Ideal S256x1024 .f32) (r : Fin 256) (q : Fin 1024) :
    out0_5 x0 x1 x2 x3 (ix2 r q) = delta ((x1 : S256x1024.Idx → EReal) (ix2 r q)) ((x2 : S256x1024.Idx → EReal) (ix2 r q)) ((x3 : S256x1024.Idx → EReal) (ix2 r q)) (∑ d : Fin 8, (x0 : S8x256x1024.Idx → EReal) (ix3 d r q)) := by
  rw [← sum_apply x0 x1 x2 x3 r q]
  unfold out0_4 out0_5
  rw [View.canon_unit_zero hz, View.canon_unit_zero hz]
  generalize k0_pay5 x0 x1 x2 x3 = g
  pointwise [k0_pay1, k0_pay2, k0_pay3, delta, newM, newV]

theorem newM_apply (x0 : Vec Ideal S8x256x1024 .bf16) (x1 x2 x3 : Vec Ideal S256x1024 .f32) (r : Fin 256) (q : Fin 1024) :
    out0_6 x0 x1 x2 x3 (ix2 r q) = newM ((x2 : S256x1024.Idx → EReal) (ix2 r q)) (∑ d : Fin 8, (x0 : S8x256x1024.Idx → EReal) (ix3 d r q)) := by
  rw [← sum_apply x0 x1 x2 x3 r q]
  unfold out0_4 out0_6
  rw [View.canon_unit_zero hz, View.canon_unit_zero hz]
  generalize k0_pay5 x0 x1 x2 x3 = g
  pointwise [k0_pay1, newM]

theorem newV_apply (x0 : Vec Ideal S8x256x1024 .bf16) (x1 x2 x3 : Vec Ideal S256x1024 .f32) (r : Fin 256) (q : Fin 1024) :
    out0_7 x0 x1 x2 x3 (ix2 r q) = newV ((x3 : S256x1024.Idx → EReal) (ix2 r q)) (∑ d : Fin 8, (x0 : S8x256x1024.Idx → EReal) (ix3 d r q)) := by
  rw [← sum_apply x0 x1 x2 x3 r q]
  unfold out0_4 out0_7
  rw [View.canon_unit_zero hz, View.canon_unit_zero hz]
  generalize k0_pay5 x0 x1 x2 x3 = g
  pointwise [k0_pay2, newV]

variable (m : (ℓ : Loc nD τ sig) → Buf (Elt Ideal) ℓ) (ρ : Dev nD → PrngReg)

/-- The arguments as plain arrays: the devices' gradients, the weight and its moments. -/
abbrev pArr (c : Dev nD) : S8x512x1024.Idx → EReal := m ((c : Thread nD τ).loc main_arg0)
abbrev wArr (c : Dev nD) : S512x1024.Idx → EReal := m ((c : Thread nD τ).loc main_arg1)
abbrev mArr (c : Dev nD) : S512x1024.Idx → EReal := m ((c : Thread nD τ).loc main_arg2)
abbrev vArr (c : Dev nD) : S512x1024.Idx → EReal := m ((c : Thread nD τ).loc main_arg3)

/-- A natural number as a row and as a column. -/
def rowN (x : ℕ) : Fin 512 := ⟨x % 512, Nat.mod_lt _ (by decide)⟩
def colN (x : ℕ) : Fin 1024 := ⟨x % 1024, Nat.mod_lt _ (by decide)⟩

theorem points : cfg0.N = 2 := by decide +kernel

theorem idx0 : ∀ t : Fin cfg0.N, win0_0.index t (0 : Fin 3) = 0 ∧ win0_0.index t (1 : Fin 3) = t.val / 1 ∧ win0_0.index t (2 : Fin 3) = 0 :=
  (by decide +kernel : ∀ t : Fin grid0.N, _)

theorem iblk0_apply (c : Dev nD) (t : Fin cfg0.N) (d : Fin 8) (r : Fin 256) (q : Fin 1024) :
    iblk m c 0 t (ix3 d r q : S8x256x1024.Idx) = pArr m c (ix3 d (rowN (256 * (t.val / 1) + r.val)) (colN (1024 * (0) + q.val))) := by
  obtain ⟨e0, e1, e2⟩ := idx0 t
  have hN : t.val < 2 := lt_of_lt_of_eq t.isLt points
  have hr := r.isLt; have hq := q.isLt
  show V m c main_arg0 (((cfg0.win 0).blk t).view.emb (ix3 d r q : S8x256x1024.Idx)) = _
  unfold pArr
  congr 1
  funext a; apply Fin.ext
  match a with
  | ⟨0, _⟩ => show win0_0.index t (0 : Fin 3) * 8 + 1 * d.val = d.val; rw [e0]; omega
  | ⟨1, _⟩ => show win0_0.index t (1 : Fin 3) * 256 + 1 * r.val = (256 * (t.val / 1) + r.val) % 512; rw [e1]; omega
  | ⟨2, _⟩ => show win0_0.index t (2 : Fin 3) * 1024 + 1 * q.val = (1024 * (0) + q.val) % 1024; rw [e2]; omega

theorem idx1 : ∀ t : Fin cfg0.N, win0_1.index t (0 : Fin 2) = t.val / 1 ∧ win0_1.index t (1 : Fin 2) = 0 :=
  (by decide +kernel : ∀ t : Fin grid0.N, _)

theorem iblk1_apply (c : Dev nD) (t : Fin cfg0.N) (r : Fin 256) (q : Fin 1024) :
    iblk m c 1 t (ix2 r q : S256x1024.Idx) = wArr m c (ix2 (rowN (256 * (t.val / 1) + r.val)) (colN (1024 * (0) + q.val))) := by
  obtain ⟨e0, e1⟩ := idx1 t
  have hN : t.val < 2 := lt_of_lt_of_eq t.isLt points
  have hr := r.isLt; have hq := q.isLt
  show V m c main_arg1 (((cfg0.win 1).blk t).view.emb (ix2 r q : S256x1024.Idx)) = _
  unfold wArr
  congr 1
  funext a; apply Fin.ext
  match a with
  | ⟨0, _⟩ => show win0_1.index t (0 : Fin 2) * 256 + 1 * r.val = (256 * (t.val / 1) + r.val) % 512; rw [e0]; omega
  | ⟨1, _⟩ => show win0_1.index t (1 : Fin 2) * 1024 + 1 * q.val = (1024 * (0) + q.val) % 1024; rw [e1]; omega

theorem idx2 : ∀ t : Fin cfg0.N, win0_2.index t (0 : Fin 2) = t.val / 1 ∧ win0_2.index t (1 : Fin 2) = 0 :=
  (by decide +kernel : ∀ t : Fin grid0.N, _)

theorem iblk2_apply (c : Dev nD) (t : Fin cfg0.N) (r : Fin 256) (q : Fin 1024) :
    iblk m c 2 t (ix2 r q : S256x1024.Idx) = mArr m c (ix2 (rowN (256 * (t.val / 1) + r.val)) (colN (1024 * (0) + q.val))) := by
  obtain ⟨e0, e1⟩ := idx2 t
  have hN : t.val < 2 := lt_of_lt_of_eq t.isLt points
  have hr := r.isLt; have hq := q.isLt
  show V m c main_arg2 (((cfg0.win 2).blk t).view.emb (ix2 r q : S256x1024.Idx)) = _
  unfold mArr
  congr 1
  funext a; apply Fin.ext
  match a with
  | ⟨0, _⟩ => show win0_2.index t (0 : Fin 2) * 256 + 1 * r.val = (256 * (t.val / 1) + r.val) % 512; rw [e0]; omega
  | ⟨1, _⟩ => show win0_2.index t (1 : Fin 2) * 1024 + 1 * q.val = (1024 * (0) + q.val) % 1024; rw [e1]; omega

theorem idx3 : ∀ t : Fin cfg0.N, win0_3.index t (0 : Fin 2) = t.val / 1 ∧ win0_3.index t (1 : Fin 2) = 0 :=
  (by decide +kernel : ∀ t : Fin grid0.N, _)

theorem iblk3_apply (c : Dev nD) (t : Fin cfg0.N) (r : Fin 256) (q : Fin 1024) :
    iblk m c 3 t (ix2 r q : S256x1024.Idx) = vArr m c (ix2 (rowN (256 * (t.val / 1) + r.val)) (colN (1024 * (0) + q.val))) := by
  obtain ⟨e0, e1⟩ := idx3 t
  have hN : t.val < 2 := lt_of_lt_of_eq t.isLt points
  have hr := r.isLt; have hq := q.isLt
  show V m c main_arg3 (((cfg0.win 3).blk t).view.emb (ix2 r q : S256x1024.Idx)) = _
  unfold vArr
  congr 1
  funext a; apply Fin.ext
  match a with
  | ⟨0, _⟩ => show win0_3.index t (0 : Fin 2) * 256 + 1 * r.val = (256 * (t.val / 1) + r.val) % 512; rw [e0]; omega
  | ⟨1, _⟩ => show win0_3.index t (1 : Fin 2) * 1024 + 1 * q.val = (1024 * (0) + q.val) % 1024; rw [e1]; omega

/-- The summed gradient. -/
def gAt (p : S8x512x1024.Idx → EReal) : S512x1024.Idx → EReal := fun i => ∑ d : Fin 8, p (ix3 d (i 0) (i 1))
def dAt (p : S8x512x1024.Idx → EReal) (w m v : S512x1024.Idx → EReal) : S512x1024.Idx → EReal := fun i => delta (w i) (m i) (v i) (gAt p i)
def mAt (p : S8x512x1024.Idx → EReal) (m : S512x1024.Idx → EReal) : S512x1024.Idx → EReal := fun i => newM (m i) (gAt p i)
def vAt (p : S8x512x1024.Idx → EReal) (v : S512x1024.Idx → EReal) : S512x1024.Idx → EReal := fun i => newV (v i) (gAt p i)

/-- The block of the devices' gradients that a grid point reads. -/
abbrev pBlock (c : Dev nD) (t : Fin cfg0.N) : S8x256x1024.Idx → EReal := iblk m c 0 t

theorem gAt_block (c : Dev nD) (t : Fin cfg0.N) (r : Fin 256) (q : Fin 1024) :
    ∑ d : Fin 8, pBlock m c t (ix3 d r q) = gAt (pArr m c) (ix2 (rowN (256 * (t.val / 1) + r.val)) (colN (1024 * (0) + q.val))) :=
  Finset.sum_congr rfl fun d _ => iblk0_apply m c t d r q

theorem idx4 : ∀ t : Fin cfg0.N, win0_4.index t (0 : Fin 2) = t.val / 1 ∧ win0_4.index t (1 : Fin 2) = 0 :=
  (by decide +kernel : ∀ t : Fin grid0.N, _)

theorem result_4 (c : Dev nD) : (dats m 0 c).arrAt 4 cfg0.N = gAt (pArr m c) := by
  refine (dats m 0 c).arrAt_eq_of_covers 4 _ (by decide +kernel) fun t hf y => ?_
  obtain ⟨e0, e1⟩ := idx4 t
  have hN : t.val < 2 := lt_of_lt_of_eq t.isLt points
  obtain ⟨r, q, rfl⟩ : ∃ (r : Fin 256) (q : Fin 1024), y = ix2 r q := ⟨y 0, y 1, eq_ix2 y⟩
  have hr := r.isLt; have hq := q.isLt
  refine (congrFun (after0_4 m c t) _).trans ?_
  have ex : (cfg0.win 4).xinj (cfg0.grid.coords t) (ix2 r q : S256x1024.Idx) = (ix2 r q : S256x1024.Idx) := rfl
  have e : out0_4 (iblk m c 0 t) (iblk m c 1 t) (iblk m c 2 t) (iblk m c 3 t) (ix2 r q) = (gAt (pArr m c)) (ix2 (rowN (256 * (t.val / 1) + r.val)) (colN (1024 * (0) + q.val))) := by
    exact (sum_apply _ _ _ _ r q).trans (gAt_block m c t r q)
  refine ((congrArg (out0_4 (iblk m c 0 t) (iblk m c 1 t) (iblk m c 2 t) (iblk m c 3 t)) ex).trans e).trans (congrArg (gAt (pArr m c)) ?_)
  funext a; apply Fin.ext
  match a with
  | ⟨0, _⟩ => show (256 * (t.val / 1) + r.val) % 512 = win0_4.index t (0 : Fin 2) * 256 + 1 * r.val; rw [e0]; omega
  | ⟨1, _⟩ => show (1024 * (0) + q.val) % 1024 = win0_4.index t (1 : Fin 2) * 1024 + 1 * q.val; rw [e1]; omega

theorem idx5 : ∀ t : Fin cfg0.N, win0_5.index t (0 : Fin 2) = t.val / 1 ∧ win0_5.index t (1 : Fin 2) = 0 :=
  (by decide +kernel : ∀ t : Fin grid0.N, _)

theorem result_5 (c : Dev nD) : (dats m 0 c).arrAt 5 cfg0.N = dAt (pArr m c) (wArr m c) (mArr m c) (vArr m c) := by
  refine (dats m 0 c).arrAt_eq_of_covers 5 _ (by decide +kernel) fun t hf y => ?_
  obtain ⟨e0, e1⟩ := idx5 t
  have hN : t.val < 2 := lt_of_lt_of_eq t.isLt points
  obtain ⟨r, q, rfl⟩ : ∃ (r : Fin 256) (q : Fin 1024), y = ix2 r q := ⟨y 0, y 1, eq_ix2 y⟩
  have hr := r.isLt; have hq := q.isLt
  refine (congrFun (after0_5 m c t) _).trans ?_
  have ex : (cfg0.win 5).xinj (cfg0.grid.coords t) (ix2 r q : S256x1024.Idx) = (ix2 r q : S256x1024.Idx) := rfl
  have e : out0_5 (iblk m c 0 t) (iblk m c 1 t) (iblk m c 2 t) (iblk m c 3 t) (ix2 r q) = (dAt (pArr m c) (wArr m c) (mArr m c) (vArr m c)) (ix2 (rowN (256 * (t.val / 1) + r.val)) (colN (1024 * (0) + q.val))) := by
    refine (delta_apply _ _ _ _ r q).trans ?_
    unfold dAt
    erw [gAt_block m c t r q, iblk1_apply m c t r q, iblk2_apply m c t r q, iblk3_apply m c t r q]
  refine ((congrArg (out0_5 (iblk m c 0 t) (iblk m c 1 t) (iblk m c 2 t) (iblk m c 3 t)) ex).trans e).trans (congrArg (dAt (pArr m c) (wArr m c) (mArr m c) (vArr m c)) ?_)
  funext a; apply Fin.ext
  match a with
  | ⟨0, _⟩ => show (256 * (t.val / 1) + r.val) % 512 = win0_5.index t (0 : Fin 2) * 256 + 1 * r.val; rw [e0]; omega
  | ⟨1, _⟩ => show (1024 * (0) + q.val) % 1024 = win0_5.index t (1 : Fin 2) * 1024 + 1 * q.val; rw [e1]; omega

theorem idx6 : ∀ t : Fin cfg0.N, win0_6.index t (0 : Fin 2) = t.val / 1 ∧ win0_6.index t (1 : Fin 2) = 0 :=
  (by decide +kernel : ∀ t : Fin grid0.N, _)

theorem result_6 (c : Dev nD) : (dats m 0 c).arrAt 6 cfg0.N = mAt (pArr m c) (mArr m c) := by
  refine (dats m 0 c).arrAt_eq_of_covers 6 _ (by decide +kernel) fun t hf y => ?_
  obtain ⟨e0, e1⟩ := idx6 t
  have hN : t.val < 2 := lt_of_lt_of_eq t.isLt points
  obtain ⟨r, q, rfl⟩ : ∃ (r : Fin 256) (q : Fin 1024), y = ix2 r q := ⟨y 0, y 1, eq_ix2 y⟩
  have hr := r.isLt; have hq := q.isLt
  refine (congrFun (after0_6 m c t) _).trans ?_
  have ex : (cfg0.win 6).xinj (cfg0.grid.coords t) (ix2 r q : S256x1024.Idx) = (ix2 r q : S256x1024.Idx) := rfl
  have e : out0_6 (iblk m c 0 t) (iblk m c 1 t) (iblk m c 2 t) (iblk m c 3 t) (ix2 r q) = (mAt (pArr m c) (mArr m c)) (ix2 (rowN (256 * (t.val / 1) + r.val)) (colN (1024 * (0) + q.val))) := by
    refine (newM_apply _ _ _ _ r q).trans ?_
    unfold mAt
    erw [gAt_block m c t r q, iblk2_apply m c t r q]
  refine ((congrArg (out0_6 (iblk m c 0 t) (iblk m c 1 t) (iblk m c 2 t) (iblk m c 3 t)) ex).trans e).trans (congrArg (mAt (pArr m c) (mArr m c)) ?_)
  funext a; apply Fin.ext
  match a with
  | ⟨0, _⟩ => show (256 * (t.val / 1) + r.val) % 512 = win0_6.index t (0 : Fin 2) * 256 + 1 * r.val; rw [e0]; omega
  | ⟨1, _⟩ => show (1024 * (0) + q.val) % 1024 = win0_6.index t (1 : Fin 2) * 1024 + 1 * q.val; rw [e1]; omega

theorem idx7 : ∀ t : Fin cfg0.N, win0_7.index t (0 : Fin 2) = t.val / 1 ∧ win0_7.index t (1 : Fin 2) = 0 :=
  (by decide +kernel : ∀ t : Fin grid0.N, _)

theorem result_7 (c : Dev nD) : (dats m 0 c).arrAt 7 cfg0.N = vAt (pArr m c) (vArr m c) := by
  refine (dats m 0 c).arrAt_eq_of_covers 7 _ (by decide +kernel) fun t hf y => ?_
  obtain ⟨e0, e1⟩ := idx7 t
  have hN : t.val < 2 := lt_of_lt_of_eq t.isLt points
  obtain ⟨r, q, rfl⟩ : ∃ (r : Fin 256) (q : Fin 1024), y = ix2 r q := ⟨y 0, y 1, eq_ix2 y⟩
  have hr := r.isLt; have hq := q.isLt
  refine (congrFun (after0_7 m c t) _).trans ?_
  have ex : (cfg0.win 7).xinj (cfg0.grid.coords t) (ix2 r q : S256x1024.Idx) = (ix2 r q : S256x1024.Idx) := rfl
  have e : out0_7 (iblk m c 0 t) (iblk m c 1 t) (iblk m c 2 t) (iblk m c 3 t) (ix2 r q) = (vAt (pArr m c) (vArr m c)) (ix2 (rowN (256 * (t.val / 1) + r.val)) (colN (1024 * (0) + q.val))) := by
    refine (newV_apply _ _ _ _ r q).trans ?_
    unfold vAt
    erw [gAt_block m c t r q, iblk3_apply m c t r q]
  refine ((congrArg (out0_7 (iblk m c 0 t) (iblk m c 1 t) (iblk m c 2 t) (iblk m c 3 t)) ex).trans e).trans (congrArg (vAt (pArr m c) (vArr m c)) ?_)
  funext a; apply Fin.ext
  match a with
  | ⟨0, _⟩ => show (256 * (t.val / 1) + r.val) % 512 = win0_7.index t (0 : Fin 2) * 256 + 1 * r.val; rw [e0]; omega
  | ⟨1, _⟩ => show (1024 * (0) + q.val) % 1024 = win0_7.index t (1 : Fin 2) * 1024 + 1 * q.val; rw [e1]; omega

/-- The kernel ends with every result at its array of blocks, the arguments unchanged. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5, (h c).1 6, (h c).1 7,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Cert.AdamRowsIdeal.Entry

namespace Cert.Proof

open Cert.AdamRowsIdeal Cert.AdamRowsIdeal.Entry Cert.Adam in
/-- Kernel and reference end with the same gradient, change and moments. -/
theorem algebraic_AdamRows : Cert.algebraic_AdamRowsIdeal_AdamRowsRefIdeal := by
  intro m g m' g' _ hagree
  refine ⟨fun c => gAt (pArr m c), fun c => dAt (pArr m c) (wArr m c) (mArr m c) (vArr m c), fun c => mAt (pArr m c) (mArr m c), fun c => vAt (pArr m c) (vArr m c),
    (θ_run (Cert.AdamRowsIdeal.defs (F := Ideal)) _ _).mono (fun r h c => ⟨(h c).1.trans (result_4 m c), (h c).2.1.trans (result_5 m c), (h c).2.2.1.trans (result_6 m c), (h c).2.2.2.1.trans (result_7 m c), (h c).2.2.2.2⟩) (run_blocks m g),
    (θ_run (Cert.AdamRowsRefIdeal.defs (F := Ideal)) _ _).mono (fun r h c => ⟨(h c).1.trans ?_, (h c).2.1.trans ?_, (h c).2.2.1.trans ?_, (h c).2.2.2.1.trans ?_, (h c).2.2.2.2⟩) (Cert.AdamRowsRefIdeal.Value.run m' g')⟩
  · rw [(hagree c).1]
    funext i
    obtain ⟨R, q, rfl⟩ : ∃ (R : Fin 512) (q : Fin 1024), i = ix2 R q := ⟨i 0, i 1, eq_ix2 i⟩
    unfold gAt
    pointwise
  · rw [(hagree c).1, (hagree c).2.1, (hagree c).2.2.1, (hagree c).2.2.2]
    funext i
    obtain ⟨R, q, rfl⟩ : ∃ (R : Fin 512) (q : Fin 1024), i = ix2 R q := ⟨i 0, i 1, eq_ix2 i⟩
    unfold dAt gAt delta newM newV
    pointwise
  · rw [(hagree c).1, (hagree c).2.2.1]
    funext i
    obtain ⟨R, q, rfl⟩ : ∃ (R : Fin 512) (q : Fin 1024), i = ix2 R q := ⟨i 0, i 1, eq_ix2 i⟩
    unfold mAt gAt newM
    pointwise
  · rw [(hagree c).1, (hagree c).2.2.2]
    funext i
    obtain ⟨R, q, rfl⟩ : ∃ (R : Fin 512) (q : Fin 1024), i = ix2 R q := ⟨i 0, i 1, eq_ix2 i⟩
    unfold vAt gAt newV
    pointwise

end Cert.Proof

end
-- ==== Proof.AdamAda.lean ====
/-
  The optimiser's call on the modulation (hand-written, untrusted): what the kernel's blocks and the
  reference's arrays hold, entry by entry.
-/
module

public import proofs.«01_k».proof.Defs
public import proofs.«01_k».proof.Proof.AdamMath
public import proofs.«01_k».proof.Proof.Gen.AdamAdaIdeal.Frame
public import proofs.«01_k».proof.Proof.Gen.AdamAdaRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamAdaIdeal.Entry

open Cert.AdamAdaIdeal Cert.AdamAdaIdeal.Gen Cert.Adam

theorem hz : (![0, 0] : Fin 2 → Nat) = fun _ => 0 := funext fun a => by fin_cases a <;> rfl

/-- The block's gradient, entry by entry: the sum over the devices. -/
theorem sum_apply (x0 : Vec Ideal S1x256x384 .f32) (x1 x2 x3 : Vec Ideal S256x384 .f32) (r : Fin 256) (q : Fin 384) :
    out0_4 x0 x1 x2 x3 (ix2 r q) = ∑ d : Fin 1, (x0 : S1x256x384.Idx → EReal) (ix3 d r q) := by
  unfold out0_4
  rw [View.canon_unit_zero hz]
  pointwise [k0_pay1, k0_pay2, k0_pay3]
  simp only [Fin.sum_univ_succ, Fin.sum_univ_zero]
  simp only [add_zero, ← add_assoc]

/-- The three other blocks are the update of that gradient. -/
theorem delta_apply (x0 : Vec Ideal S1x256x384 .f32) (x1 x2 x3 : Vec Ideal S256x384 .f32) (r : Fin 256) (q : Fin 384) :
    out0_5 x0 x1 x2 x3 (ix2 r q) = delta ((x1 : S256x384.Idx → EReal) (ix2 r q)) ((x2 : S256x384.Idx → EReal) (ix2 r q)) ((x3 : S256x384.Idx → EReal) (ix2 r q)) (∑ d : Fin 1, (x0 : S1x256x384.Idx → EReal) (ix3 d r q)) := by
  rw [← sum_apply x0 x1 x2 x3 r q]
  unfold out0_4 out0_5
  rw [View.canon_unit_zero hz, View.canon_unit_zero hz]
  pointwise [k0_pay1, k0_pay2, k0_pay3, k0_pay4, delta, newM, newV]

theorem newM_apply (x0 : Vec Ideal S1x256x384 .f32) (x1 x2 x3 : Vec Ideal S256x384 .f32) (r : Fin 256) (q : Fin 384) :
    out0_6 x0 x1 x2 x3 (ix2 r q) = newM ((x2 : S256x384.Idx → EReal) (ix2 r q)) (∑ d : Fin 1, (x0 : S1x256x384.Idx → EReal) (ix3 d r q)) := by
  rw [← sum_apply x0 x1 x2 x3 r q]
  unfold out0_4 out0_6
  rw [View.canon_unit_zero hz, View.canon_unit_zero hz]
  pointwise [k0_pay1, k0_pay2, newM]

theorem newV_apply (x0 : Vec Ideal S1x256x384 .f32) (x1 x2 x3 : Vec Ideal S256x384 .f32) (r : Fin 256) (q : Fin 384) :
    out0_7 x0 x1 x2 x3 (ix2 r q) = newV ((x3 : S256x384.Idx → EReal) (ix2 r q)) (∑ d : Fin 1, (x0 : S1x256x384.Idx → EReal) (ix3 d r q)) := by
  rw [← sum_apply x0 x1 x2 x3 r q]
  unfold out0_4 out0_7
  rw [View.canon_unit_zero hz, View.canon_unit_zero hz]
  pointwise [k0_pay1, k0_pay3, newV]

variable (m : (ℓ : Loc nD τ sig) → Buf (Elt Ideal) ℓ) (ρ : Dev nD → PrngReg)

/-- The arguments as plain arrays: the devices' gradients, the weight and its moments. -/
abbrev pArr (c : Dev nD) : S1x1024x384.Idx → EReal := m ((c : Thread nD τ).loc main_arg0)
abbrev wArr (c : Dev nD) : S1024x384.Idx → EReal := m ((c : Thread nD τ).loc main_arg1)
abbrev mArr (c : Dev nD) : S1024x384.Idx → EReal := m ((c : Thread nD τ).loc main_arg2)
abbrev vArr (c : Dev nD) : S1024x384.Idx → EReal := m ((c : Thread nD τ).loc main_arg3)

/-- A natural number as a row and as a column. -/
def rowN (x : ℕ) : Fin 1024 := ⟨x % 1024, Nat.mod_lt _ (by decide)⟩
def colN (x : ℕ) : Fin 384 := ⟨x % 384, Nat.mod_lt _ (by decide)⟩

theorem points : cfg0.N = 4 := by decide +kernel

theorem idx0 : ∀ t : Fin cfg0.N, win0_0.index t (0 : Fin 3) = 0 ∧ win0_0.index t (1 : Fin 3) = t.val / 1 ∧ win0_0.index t (2 : Fin 3) = 0 :=
  (by decide +kernel : ∀ t : Fin grid0.N, _)

theorem iblk0_apply (c : Dev nD) (t : Fin cfg0.N) (d : Fin 1) (r : Fin 256) (q : Fin 384) :
    iblk m c 0 t (ix3 d r q : S1x256x384.Idx) = pArr m c (ix3 d (rowN (256 * (t.val / 1) + r.val)) (colN (384 * (0) + q.val))) := by
  obtain ⟨e0, e1, e2⟩ := idx0 t
  have hN : t.val < 4 := lt_of_lt_of_eq t.isLt points
  have hr := r.isLt; have hq := q.isLt
  show V m c main_arg0 (((cfg0.win 0).blk t).view.emb (ix3 d r q : S1x256x384.Idx)) = _
  unfold pArr
  congr 1
  funext a; apply Fin.ext
  match a with
  | ⟨0, _⟩ => show win0_0.index t (0 : Fin 3) * 1 + 1 * d.val = d.val; rw [e0]; omega
  | ⟨1, _⟩ => show win0_0.index t (1 : Fin 3) * 256 + 1 * r.val = (256 * (t.val / 1) + r.val) % 1024; rw [e1]; omega
  | ⟨2, _⟩ => show win0_0.index t (2 : Fin 3) * 384 + 1 * q.val = (384 * (0) + q.val) % 384; rw [e2]; omega

theorem idx1 : ∀ t : Fin cfg0.N, win0_1.index t (0 : Fin 2) = t.val / 1 ∧ win0_1.index t (1 : Fin 2) = 0 :=
  (by decide +kernel : ∀ t : Fin grid0.N, _)

theorem iblk1_apply (c : Dev nD) (t : Fin cfg0.N) (r : Fin 256) (q : Fin 384) :
    iblk m c 1 t (ix2 r q : S256x384.Idx) = wArr m c (ix2 (rowN (256 * (t.val / 1) + r.val)) (colN (384 * (0) + q.val))) := by
  obtain ⟨e0, e1⟩ := idx1 t
  have hN : t.val < 4 := lt_of_lt_of_eq t.isLt points
  have hr := r.isLt; have hq := q.isLt
  show V m c main_arg1 (((cfg0.win 1).blk t).view.emb (ix2 r q : S256x384.Idx)) = _
  unfold wArr
  congr 1
  funext a; apply Fin.ext
  match a with
  | ⟨0, _⟩ => show win0_1.index t (0 : Fin 2) * 256 + 1 * r.val = (256 * (t.val / 1) + r.val) % 1024; rw [e0]; omega
  | ⟨1, _⟩ => show win0_1.index t (1 : Fin 2) * 384 + 1 * q.val = (384 * (0) + q.val) % 384; rw [e1]; omega

theorem idx2 : ∀ t : Fin cfg0.N, win0_2.index t (0 : Fin 2) = t.val / 1 ∧ win0_2.index t (1 : Fin 2) = 0 :=
  (by decide +kernel : ∀ t : Fin grid0.N, _)

theorem iblk2_apply (c : Dev nD) (t : Fin cfg0.N) (r : Fin 256) (q : Fin 384) :
    iblk m c 2 t (ix2 r q : S256x384.Idx) = mArr m c (ix2 (rowN (256 * (t.val / 1) + r.val)) (colN (384 * (0) + q.val))) := by
  obtain ⟨e0, e1⟩ := idx2 t
  have hN : t.val < 4 := lt_of_lt_of_eq t.isLt points
  have hr := r.isLt; have hq := q.isLt
  show V m c main_arg2 (((cfg0.win 2).blk t).view.emb (ix2 r q : S256x384.Idx)) = _
  unfold mArr
  congr 1
  funext a; apply Fin.ext
  match a with
  | ⟨0, _⟩ => show win0_2.index t (0 : Fin 2) * 256 + 1 * r.val = (256 * (t.val / 1) + r.val) % 1024; rw [e0]; omega
  | ⟨1, _⟩ => show win0_2.index t (1 : Fin 2) * 384 + 1 * q.val = (384 * (0) + q.val) % 384; rw [e1]; omega

theorem idx3 : ∀ t : Fin cfg0.N, win0_3.index t (0 : Fin 2) = t.val / 1 ∧ win0_3.index t (1 : Fin 2) = 0 :=
  (by decide +kernel : ∀ t : Fin grid0.N, _)

theorem iblk3_apply (c : Dev nD) (t : Fin cfg0.N) (r : Fin 256) (q : Fin 384) :
    iblk m c 3 t (ix2 r q : S256x384.Idx) = vArr m c (ix2 (rowN (256 * (t.val / 1) + r.val)) (colN (384 * (0) + q.val))) := by
  obtain ⟨e0, e1⟩ := idx3 t
  have hN : t.val < 4 := lt_of_lt_of_eq t.isLt points
  have hr := r.isLt; have hq := q.isLt
  show V m c main_arg3 (((cfg0.win 3).blk t).view.emb (ix2 r q : S256x384.Idx)) = _
  unfold vArr
  congr 1
  funext a; apply Fin.ext
  match a with
  | ⟨0, _⟩ => show win0_3.index t (0 : Fin 2) * 256 + 1 * r.val = (256 * (t.val / 1) + r.val) % 1024; rw [e0]; omega
  | ⟨1, _⟩ => show win0_3.index t (1 : Fin 2) * 384 + 1 * q.val = (384 * (0) + q.val) % 384; rw [e1]; omega

/-- The summed gradient. -/
def gAt (p : S1x1024x384.Idx → EReal) : S1024x384.Idx → EReal := fun i => ∑ d : Fin 1, p (ix3 d (i 0) (i 1))
def dAt (p : S1x1024x384.Idx → EReal) (w m v : S1024x384.Idx → EReal) : S1024x384.Idx → EReal := fun i => delta (w i) (m i) (v i) (gAt p i)
def mAt (p : S1x1024x384.Idx → EReal) (m : S1024x384.Idx → EReal) : S1024x384.Idx → EReal := fun i => newM (m i) (gAt p i)
def vAt (p : S1x1024x384.Idx → EReal) (v : S1024x384.Idx → EReal) : S1024x384.Idx → EReal := fun i => newV (v i) (gAt p i)

/-- The block of the devices' gradients that a grid point reads. -/
abbrev pBlock (c : Dev nD) (t : Fin cfg0.N) : S1x256x384.Idx → EReal := iblk m c 0 t

theorem gAt_block (c : Dev nD) (t : Fin cfg0.N) (r : Fin 256) (q : Fin 384) :
    ∑ d : Fin 1, pBlock m c t (ix3 d r q) = gAt (pArr m c) (ix2 (rowN (256 * (t.val / 1) + r.val)) (colN (384 * (0) + q.val))) :=
  Finset.sum_congr rfl fun d _ => iblk0_apply m c t d r q

theorem idx4 : ∀ t : Fin cfg0.N, win0_4.index t (0 : Fin 2) = t.val / 1 ∧ win0_4.index t (1 : Fin 2) = 0 :=
  (by decide +kernel : ∀ t : Fin grid0.N, _)

theorem result_4 (c : Dev nD) : (dats m 0 c).arrAt 4 cfg0.N = gAt (pArr m c) := by
  refine (dats m 0 c).arrAt_eq_of_covers 4 _ (by decide +kernel) fun t hf y => ?_
  obtain ⟨e0, e1⟩ := idx4 t
  have hN : t.val < 4 := lt_of_lt_of_eq t.isLt points
  obtain ⟨r, q, rfl⟩ : ∃ (r : Fin 256) (q : Fin 384), y = ix2 r q := ⟨y 0, y 1, eq_ix2 y⟩
  have hr := r.isLt; have hq := q.isLt
  refine (congrFun (after0_4 m c t) _).trans ?_
  have ex : (cfg0.win 4).xinj (cfg0.grid.coords t) (ix2 r q : S256x384.Idx) = (ix2 r q : S256x384.Idx) := rfl
  have e : out0_4 (iblk m c 0 t) (iblk m c 1 t) (iblk m c 2 t) (iblk m c 3 t) (ix2 r q) = (gAt (pArr m c)) (ix2 (rowN (256 * (t.val / 1) + r.val)) (colN (384 * (0) + q.val))) := by
    exact (sum_apply _ _ _ _ r q).trans (gAt_block m c t r q)
  refine ((congrArg (out0_4 (iblk m c 0 t) (iblk m c 1 t) (iblk m c 2 t) (iblk m c 3 t)) ex).trans e).trans (congrArg (gAt (pArr m c)) ?_)
  funext a; apply Fin.ext
  match a with
  | ⟨0, _⟩ => show (256 * (t.val / 1) + r.val) % 1024 = win0_4.index t (0 : Fin 2) * 256 + 1 * r.val; rw [e0]; omega
  | ⟨1, _⟩ => show (384 * (0) + q.val) % 384 = win0_4.index t (1 : Fin 2) * 384 + 1 * q.val; rw [e1]; omega

theorem idx5 : ∀ t : Fin cfg0.N, win0_5.index t (0 : Fin 2) = t.val / 1 ∧ win0_5.index t (1 : Fin 2) = 0 :=
  (by decide +kernel : ∀ t : Fin grid0.N, _)

theorem result_5 (c : Dev nD) : (dats m 0 c).arrAt 5 cfg0.N = dAt (pArr m c) (wArr m c) (mArr m c) (vArr m c) := by
  refine (dats m 0 c).arrAt_eq_of_covers 5 _ (by decide +kernel) fun t hf y => ?_
  obtain ⟨e0, e1⟩ := idx5 t
  have hN : t.val < 4 := lt_of_lt_of_eq t.isLt points
  obtain ⟨r, q, rfl⟩ : ∃ (r : Fin 256) (q : Fin 384), y = ix2 r q := ⟨y 0, y 1, eq_ix2 y⟩
  have hr := r.isLt; have hq := q.isLt
  refine (congrFun (after0_5 m c t) _).trans ?_
  have ex : (cfg0.win 5).xinj (cfg0.grid.coords t) (ix2 r q : S256x384.Idx) = (ix2 r q : S256x384.Idx) := rfl
  have e : out0_5 (iblk m c 0 t) (iblk m c 1 t) (iblk m c 2 t) (iblk m c 3 t) (ix2 r q) = (dAt (pArr m c) (wArr m c) (mArr m c) (vArr m c)) (ix2 (rowN (256 * (t.val / 1) + r.val)) (colN (384 * (0) + q.val))) := by
    refine (delta_apply _ _ _ _ r q).trans ?_
    unfold dAt
    erw [gAt_block m c t r q, iblk1_apply m c t r q, iblk2_apply m c t r q, iblk3_apply m c t r q]
  refine ((congrArg (out0_5 (iblk m c 0 t) (iblk m c 1 t) (iblk m c 2 t) (iblk m c 3 t)) ex).trans e).trans (congrArg (dAt (pArr m c) (wArr m c) (mArr m c) (vArr m c)) ?_)
  funext a; apply Fin.ext
  match a with
  | ⟨0, _⟩ => show (256 * (t.val / 1) + r.val) % 1024 = win0_5.index t (0 : Fin 2) * 256 + 1 * r.val; rw [e0]; omega
  | ⟨1, _⟩ => show (384 * (0) + q.val) % 384 = win0_5.index t (1 : Fin 2) * 384 + 1 * q.val; rw [e1]; omega

theorem idx6 : ∀ t : Fin cfg0.N, win0_6.index t (0 : Fin 2) = t.val / 1 ∧ win0_6.index t (1 : Fin 2) = 0 :=
  (by decide +kernel : ∀ t : Fin grid0.N, _)

theorem result_6 (c : Dev nD) : (dats m 0 c).arrAt 6 cfg0.N = mAt (pArr m c) (mArr m c) := by
  refine (dats m 0 c).arrAt_eq_of_covers 6 _ (by decide +kernel) fun t hf y => ?_
  obtain ⟨e0, e1⟩ := idx6 t
  have hN : t.val < 4 := lt_of_lt_of_eq t.isLt points
  obtain ⟨r, q, rfl⟩ : ∃ (r : Fin 256) (q : Fin 384), y = ix2 r q := ⟨y 0, y 1, eq_ix2 y⟩
  have hr := r.isLt; have hq := q.isLt
  refine (congrFun (after0_6 m c t) _).trans ?_
  have ex : (cfg0.win 6).xinj (cfg0.grid.coords t) (ix2 r q : S256x384.Idx) = (ix2 r q : S256x384.Idx) := rfl
  have e : out0_6 (iblk m c 0 t) (iblk m c 1 t) (iblk m c 2 t) (iblk m c 3 t) (ix2 r q) = (mAt (pArr m c) (mArr m c)) (ix2 (rowN (256 * (t.val / 1) + r.val)) (colN (384 * (0) + q.val))) := by
    refine (newM_apply _ _ _ _ r q).trans ?_
    unfold mAt
    erw [gAt_block m c t r q, iblk2_apply m c t r q]
  refine ((congrArg (out0_6 (iblk m c 0 t) (iblk m c 1 t) (iblk m c 2 t) (iblk m c 3 t)) ex).trans e).trans (congrArg (mAt (pArr m c) (mArr m c)) ?_)
  funext a; apply Fin.ext
  match a with
  | ⟨0, _⟩ => show (256 * (t.val / 1) + r.val) % 1024 = win0_6.index t (0 : Fin 2) * 256 + 1 * r.val; rw [e0]; omega
  | ⟨1, _⟩ => show (384 * (0) + q.val) % 384 = win0_6.index t (1 : Fin 2) * 384 + 1 * q.val; rw [e1]; omega

theorem idx7 : ∀ t : Fin cfg0.N, win0_7.index t (0 : Fin 2) = t.val / 1 ∧ win0_7.index t (1 : Fin 2) = 0 :=
  (by decide +kernel : ∀ t : Fin grid0.N, _)

theorem result_7 (c : Dev nD) : (dats m 0 c).arrAt 7 cfg0.N = vAt (pArr m c) (vArr m c) := by
  refine (dats m 0 c).arrAt_eq_of_covers 7 _ (by decide +kernel) fun t hf y => ?_
  obtain ⟨e0, e1⟩ := idx7 t
  have hN : t.val < 4 := lt_of_lt_of_eq t.isLt points
  obtain ⟨r, q, rfl⟩ : ∃ (r : Fin 256) (q : Fin 384), y = ix2 r q := ⟨y 0, y 1, eq_ix2 y⟩
  have hr := r.isLt; have hq := q.isLt
  refine (congrFun (after0_7 m c t) _).trans ?_
  have ex : (cfg0.win 7).xinj (cfg0.grid.coords t) (ix2 r q : S256x384.Idx) = (ix2 r q : S256x384.Idx) := rfl
  have e : out0_7 (iblk m c 0 t) (iblk m c 1 t) (iblk m c 2 t) (iblk m c 3 t) (ix2 r q) = (vAt (pArr m c) (vArr m c)) (ix2 (rowN (256 * (t.val / 1) + r.val)) (colN (384 * (0) + q.val))) := by
    refine (newV_apply _ _ _ _ r q).trans ?_
    unfold vAt
    erw [gAt_block m c t r q, iblk3_apply m c t r q]
  refine ((congrArg (out0_7 (iblk m c 0 t) (iblk m c 1 t) (iblk m c 2 t) (iblk m c 3 t)) ex).trans e).trans (congrArg (vAt (pArr m c) (vArr m c)) ?_)
  funext a; apply Fin.ext
  match a with
  | ⟨0, _⟩ => show (256 * (t.val / 1) + r.val) % 1024 = win0_7.index t (0 : Fin 2) * 256 + 1 * r.val; rw [e0]; omega
  | ⟨1, _⟩ => show (384 * (0) + q.val) % 384 = win0_7.index t (1 : Fin 2) * 384 + 1 * q.val; rw [e1]; omega

/-- The kernel ends with every result at its array of blocks, the arguments unchanged. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5, (h c).1 6, (h c).1 7,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Cert.AdamAdaIdeal.Entry

namespace Cert.Proof

open Cert.AdamAdaIdeal Cert.AdamAdaIdeal.Entry Cert.Adam in
/-- Kernel and reference end with the same gradient, change and moments. -/
theorem algebraic_AdamAda : Cert.algebraic_AdamAdaIdeal_AdamAdaRefIdeal := by
  intro m g m' g' _ hagree
  refine ⟨fun c => gAt (pArr m c), fun c => dAt (pArr m c) (wArr m c) (mArr m c) (vArr m c), fun c => mAt (pArr m c) (mArr m c), fun c => vAt (pArr m c) (vArr m c),
    (θ_run (Cert.AdamAdaIdeal.defs (F := Ideal)) _ _).mono (fun r h c => ⟨(h c).1.trans (result_4 m c), (h c).2.1.trans (result_5 m c), (h c).2.2.1.trans (result_6 m c), (h c).2.2.2.1.trans (result_7 m c), (h c).2.2.2.2⟩) (run_blocks m g),
    (θ_run (Cert.AdamAdaRefIdeal.defs (F := Ideal)) _ _).mono (fun r h c => ⟨(h c).1.trans ?_, (h c).2.1.trans ?_, (h c).2.2.1.trans ?_, (h c).2.2.2.1.trans ?_, (h c).2.2.2.2⟩) (Cert.AdamAdaRefIdeal.Value.run m' g')⟩
  · rw [(hagree c).1]
    funext i
    obtain ⟨R, q, rfl⟩ : ∃ (R : Fin 1024) (q : Fin 384), i = ix2 R q := ⟨i 0, i 1, eq_ix2 i⟩
    unfold gAt
    pointwise
  · rw [(hagree c).1, (hagree c).2.1, (hagree c).2.2.1, (hagree c).2.2.2]
    funext i
    obtain ⟨R, q, rfl⟩ : ∃ (R : Fin 1024) (q : Fin 384), i = ix2 R q := ⟨i 0, i 1, eq_ix2 i⟩
    unfold dAt gAt delta newM newV
    pointwise
  · rw [(hagree c).1, (hagree c).2.2.1]
    funext i
    obtain ⟨R, q, rfl⟩ : ∃ (R : Fin 1024) (q : Fin 384), i = ix2 R q := ⟨i 0, i 1, eq_ix2 i⟩
    unfold mAt gAt newM
    pointwise
  · rw [(hagree c).1, (hagree c).2.2.2]
    funext i
    obtain ⟨R, q, rfl⟩ : ∃ (R : Fin 1024) (q : Fin 384), i = ix2 R q := ⟨i 0, i 1, eq_ix2 i⟩
    unfold vAt gAt newV
    pointwise

end Cert.Proof

end
-- ==== Proof.AdamConv.lean ====
/-
  The optimiser's call on the convolution (hand-written, untrusted): what the kernel's blocks and the
  reference's arrays hold, entry by entry.
-/
module

public import proofs.«01_k».proof.Defs
public import proofs.«01_k».proof.Proof.AdamMath
public import proofs.«01_k».proof.Proof.Gen.AdamConvIdeal.Frame
public import proofs.«01_k».proof.Proof.Gen.AdamConvRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamConvIdeal.Entry

open Cert.AdamConvIdeal Cert.AdamConvIdeal.Gen Cert.Adam

theorem hz : (![0, 0] : Fin 2 → Nat) = fun _ => 0 := funext fun a => by fin_cases a <;> rfl

/-- The block's gradient, entry by entry: the sum over the devices. -/
theorem sum_apply (x0 : Vec Ideal S8x4x384 .f32) (x1 x2 x3 : Vec Ideal S4x384 .f32) (r : Fin 4) (q : Fin 384) :
    out0_4 x0 x1 x2 x3 (ix2 r q) = ∑ d : Fin 8, (x0 : S8x4x384.Idx → EReal) (ix3 d r q) := by
  unfold out0_4
  rw [View.canon_unit_zero hz]
  pointwise [k0_pay1, k0_pay2, k0_pay3, k0_pay4, k0_pay5]
  simp only [Fin.sum_univ_succ, Fin.sum_univ_zero]
  simp only [add_zero, ← add_assoc]
  rfl

/-- The three other blocks are the update of that gradient. -/
theorem delta_apply (x0 : Vec Ideal S8x4x384 .f32) (x1 x2 x3 : Vec Ideal S4x384 .f32) (r : Fin 4) (q : Fin 384) :
    out0_5 x0 x1 x2 x3 (ix2 r q) = delta ((x1 : S4x384.Idx → EReal) (ix2 r q)) ((x2 : S4x384.Idx → EReal) (ix2 r q)) ((x3 : S4x384.Idx → EReal) (ix2 r q)) (∑ d : Fin 8, (x0 : S8x4x384.Idx → EReal) (ix3 d r q)) := by
  rw [← sum_apply x0 x1 x2 x3 r q]
  unfold out0_4 out0_5
  rw [View.canon_unit_zero hz, View.canon_unit_zero hz]
  unfold k0_pay5
  generalize k0_pay4 (View.ld x0 r0_0) (View.ld x0 r0_1) (View.ld x0 r0_2) (View.ld x0 r0_3) (View.ld x0 r0_4) (View.ld x0 r0_5) (View.ld x0 r0_6) (View.ld x0 r0_7) = g
  pointwise [k0_pay1, k0_pay2, k0_pay3, delta, newM, newV]

theorem newM_apply (x0 : Vec Ideal S8x4x384 .f32) (x1 x2 x3 : Vec Ideal S4x384 .f32) (r : Fin 4) (q : Fin 384) :
    out0_6 x0 x1 x2 x3 (ix2 r q) = newM ((x2 : S4x384.Idx → EReal) (ix2 r q)) (∑ d : Fin 8, (x0 : S8x4x384.Idx → EReal) (ix3 d r q)) := by
  rw [← sum_apply x0 x1 x2 x3 r q]
  unfold out0_4 out0_6
  rw [View.canon_unit_zero hz, View.canon_unit_zero hz]
  unfold k0_pay5
  generalize k0_pay4 (View.ld x0 r0_0) (View.ld x0 r0_1) (View.ld x0 r0_2) (View.ld x0 r0_3) (View.ld x0 r0_4) (View.ld x0 r0_5) (View.ld x0 r0_6) (View.ld x0 r0_7) = g
  pointwise [k0_pay1, newM]

theorem newV_apply (x0 : Vec Ideal S8x4x384 .f32) (x1 x2 x3 : Vec Ideal S4x384 .f32) (r : Fin 4) (q : Fin 384) :
    out0_7 x0 x1 x2 x3 (ix2 r q) = newV ((x3 : S4x384.Idx → EReal) (ix2 r q)) (∑ d : Fin 8, (x0 : S8x4x384.Idx → EReal) (ix3 d r q)) := by
  rw [← sum_apply x0 x1 x2 x3 r q]
  unfold out0_4 out0_7
  rw [View.canon_unit_zero hz, View.canon_unit_zero hz]
  unfold k0_pay5
  generalize k0_pay4 (View.ld x0 r0_0) (View.ld x0 r0_1) (View.ld x0 r0_2) (View.ld x0 r0_3) (View.ld x0 r0_4) (View.ld x0 r0_5) (View.ld x0 r0_6) (View.ld x0 r0_7) = g
  pointwise [k0_pay2, newV]

variable (m : (ℓ : Loc nD τ sig) → Buf (Elt Ideal) ℓ) (ρ : Dev nD → PrngReg)

/-- The arguments as plain arrays: the devices' gradients, the weight and its moments. -/
abbrev pArr (c : Dev nD) : S8x4x384.Idx → EReal := m ((c : Thread nD τ).loc main_arg0)
abbrev wArr (c : Dev nD) : S4x384.Idx → EReal := m ((c : Thread nD τ).loc main_arg1)
abbrev mArr (c : Dev nD) : S4x384.Idx → EReal := m ((c : Thread nD τ).loc main_arg2)
abbrev vArr (c : Dev nD) : S4x384.Idx → EReal := m ((c : Thread nD τ).loc main_arg3)

/-- A natural number as a row and as a column. -/
def rowN (x : ℕ) : Fin 4 := ⟨x % 4, Nat.mod_lt _ (by decide)⟩
def colN (x : ℕ) : Fin 384 := ⟨x % 384, Nat.mod_lt _ (by decide)⟩

theorem points : cfg0.N = 1 := by decide +kernel

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem iblk0_apply (c : Dev nD) (t : Fin cfg0.N) (d : Fin 8) (r : Fin 4) (q : Fin 384) :
    iblk m c 0 t (ix3 d r q : S8x4x384.Idx) = pArr m c (ix3 d (rowN (4 * (0) + r.val)) (colN (384 * (0) + q.val))) := by
  obtain ⟨e0, e1, e2⟩ := idx0 t
  have hN : t.val < 1 := lt_of_lt_of_eq t.isLt points
  have hr := r.isLt; have hq := q.isLt
  show V m c main_arg0 (((cfg0.win 0).blk t).view.emb (ix3 d r q : S8x4x384.Idx)) = _
  unfold pArr
  congr 1
  funext a; apply Fin.ext
  match a with
  | ⟨0, _⟩ => show win0_0.index t (0 : Fin 3) * 8 + 1 * d.val = d.val; rw [e0]; omega
  | ⟨1, _⟩ => show win0_0.index t (1 : Fin 3) * 4 + 1 * r.val = (4 * (0) + r.val) % 4; rw [e1]; omega
  | ⟨2, _⟩ => show win0_0.index t (2 : Fin 3) * 384 + 1 * q.val = (384 * (0) + q.val) % 384; rw [e2]; omega

theorem idx1 : ∀ t : Fin cfg0.N, win0_1.index t (0 : Fin 2) = 0 ∧ win0_1.index t (1 : Fin 2) = 0 :=
  (by decide +kernel : ∀ t : Fin grid0.N, _)

theorem iblk1_apply (c : Dev nD) (t : Fin cfg0.N) (r : Fin 4) (q : Fin 384) :
    iblk m c 1 t (ix2 r q : S4x384.Idx) = wArr m c (ix2 (rowN (4 * (0) + r.val)) (colN (384 * (0) + q.val))) := by
  obtain ⟨e0, e1⟩ := idx1 t
  have hN : t.val < 1 := lt_of_lt_of_eq t.isLt points
  have hr := r.isLt; have hq := q.isLt
  show V m c main_arg1 (((cfg0.win 1).blk t).view.emb (ix2 r q : S4x384.Idx)) = _
  unfold wArr
  congr 1
  funext a; apply Fin.ext
  match a with
  | ⟨0, _⟩ => show win0_1.index t (0 : Fin 2) * 4 + 1 * r.val = (4 * (0) + r.val) % 4; rw [e0]; omega
  | ⟨1, _⟩ => show win0_1.index t (1 : Fin 2) * 384 + 1 * q.val = (384 * (0) + q.val) % 384; rw [e1]; omega

theorem idx2 : ∀ t : Fin cfg0.N, win0_2.index t (0 : Fin 2) = 0 ∧ win0_2.index t (1 : Fin 2) = 0 :=
  (by decide +kernel : ∀ t : Fin grid0.N, _)

theorem iblk2_apply (c : Dev nD) (t : Fin cfg0.N) (r : Fin 4) (q : Fin 384) :
    iblk m c 2 t (ix2 r q : S4x384.Idx) = mArr m c (ix2 (rowN (4 * (0) + r.val)) (colN (384 * (0) + q.val))) := by
  obtain ⟨e0, e1⟩ := idx2 t
  have hN : t.val < 1 := lt_of_lt_of_eq t.isLt points
  have hr := r.isLt; have hq := q.isLt
  show V m c main_arg2 (((cfg0.win 2).blk t).view.emb (ix2 r q : S4x384.Idx)) = _
  unfold mArr
  congr 1
  funext a; apply Fin.ext
  match a with
  | ⟨0, _⟩ => show win0_2.index t (0 : Fin 2) * 4 + 1 * r.val = (4 * (0) + r.val) % 4; rw [e0]; omega
  | ⟨1, _⟩ => show win0_2.index t (1 : Fin 2) * 384 + 1 * q.val = (384 * (0) + q.val) % 384; rw [e1]; omega

theorem idx3 : ∀ t : Fin cfg0.N, win0_3.index t (0 : Fin 2) = 0 ∧ win0_3.index t (1 : Fin 2) = 0 :=
  (by decide +kernel : ∀ t : Fin grid0.N, _)

theorem iblk3_apply (c : Dev nD) (t : Fin cfg0.N) (r : Fin 4) (q : Fin 384) :
    iblk m c 3 t (ix2 r q : S4x384.Idx) = vArr m c (ix2 (rowN (4 * (0) + r.val)) (colN (384 * (0) + q.val))) := by
  obtain ⟨e0, e1⟩ := idx3 t
  have hN : t.val < 1 := lt_of_lt_of_eq t.isLt points
  have hr := r.isLt; have hq := q.isLt
  show V m c main_arg3 (((cfg0.win 3).blk t).view.emb (ix2 r q : S4x384.Idx)) = _
  unfold vArr
  congr 1
  funext a; apply Fin.ext
  match a with
  | ⟨0, _⟩ => show win0_3.index t (0 : Fin 2) * 4 + 1 * r.val = (4 * (0) + r.val) % 4; rw [e0]; omega
  | ⟨1, _⟩ => show win0_3.index t (1 : Fin 2) * 384 + 1 * q.val = (384 * (0) + q.val) % 384; rw [e1]; omega

/-- The summed gradient. -/
def gAt (p : S8x4x384.Idx → EReal) : S4x384.Idx → EReal := fun i => ∑ d : Fin 8, p (ix3 d (i 0) (i 1))
def dAt (p : S8x4x384.Idx → EReal) (w m v : S4x384.Idx → EReal) : S4x384.Idx → EReal := fun i => delta (w i) (m i) (v i) (gAt p i)
def mAt (p : S8x4x384.Idx → EReal) (m : S4x384.Idx → EReal) : S4x384.Idx → EReal := fun i => newM (m i) (gAt p i)
def vAt (p : S8x4x384.Idx → EReal) (v : S4x384.Idx → EReal) : S4x384.Idx → EReal := fun i => newV (v i) (gAt p i)

/-- The block of the devices' gradients that a grid point reads. -/
abbrev pBlock (c : Dev nD) (t : Fin cfg0.N) : S8x4x384.Idx → EReal := iblk m c 0 t

theorem gAt_block (c : Dev nD) (t : Fin cfg0.N) (r : Fin 4) (q : Fin 384) :
    ∑ d : Fin 8, pBlock m c t (ix3 d r q) = gAt (pArr m c) (ix2 (rowN (4 * (0) + r.val)) (colN (384 * (0) + q.val))) :=
  Finset.sum_congr rfl fun d _ => iblk0_apply m c t d r q

theorem idx4 : ∀ t : Fin cfg0.N, win0_4.index t (0 : Fin 2) = 0 ∧ win0_4.index t (1 : Fin 2) = 0 :=
  (by decide +kernel : ∀ t : Fin grid0.N, _)

theorem result_4 (c : Dev nD) : (dats m 0 c).arrAt 4 cfg0.N = gAt (pArr m c) := by
  refine (dats m 0 c).arrAt_eq_of_covers 4 _ (by decide +kernel) fun t hf y => ?_
  obtain ⟨e0, e1⟩ := idx4 t
  have hN : t.val < 1 := lt_of_lt_of_eq t.isLt points
  obtain ⟨r, q, rfl⟩ : ∃ (r : Fin 4) (q : Fin 384), y = ix2 r q := ⟨y 0, y 1, eq_ix2 y⟩
  have hr := r.isLt; have hq := q.isLt
  refine (congrFun (after0_4 m c t) _).trans ?_
  have ex : (cfg0.win 4).xinj (cfg0.grid.coords t) (ix2 r q : S4x384.Idx) = (ix2 r q : S4x384.Idx) := rfl
  have e : out0_4 (iblk m c 0 t) (iblk m c 1 t) (iblk m c 2 t) (iblk m c 3 t) (ix2 r q) = (gAt (pArr m c)) (ix2 (rowN (4 * (0) + r.val)) (colN (384 * (0) + q.val))) := by
    exact (sum_apply _ _ _ _ r q).trans (gAt_block m c t r q)
  refine ((congrArg (out0_4 (iblk m c 0 t) (iblk m c 1 t) (iblk m c 2 t) (iblk m c 3 t)) ex).trans e).trans (congrArg (gAt (pArr m c)) ?_)
  funext a; apply Fin.ext
  match a with
  | ⟨0, _⟩ => show (4 * (0) + r.val) % 4 = win0_4.index t (0 : Fin 2) * 4 + 1 * r.val; rw [e0]; omega
  | ⟨1, _⟩ => show (384 * (0) + q.val) % 384 = win0_4.index t (1 : Fin 2) * 384 + 1 * q.val; rw [e1]; omega

theorem idx5 : ∀ t : Fin cfg0.N, win0_5.index t (0 : Fin 2) = 0 ∧ win0_5.index t (1 : Fin 2) = 0 :=
  (by decide +kernel : ∀ t : Fin grid0.N, _)

theorem result_5 (c : Dev nD) : (dats m 0 c).arrAt 5 cfg0.N = dAt (pArr m c) (wArr m c) (mArr m c) (vArr m c) := by
  refine (dats m 0 c).arrAt_eq_of_covers 5 _ (by decide +kernel) fun t hf y => ?_
  obtain ⟨e0, e1⟩ := idx5 t
  have hN : t.val < 1 := lt_of_lt_of_eq t.isLt points
  obtain ⟨r, q, rfl⟩ : ∃ (r : Fin 4) (q : Fin 384), y = ix2 r q := ⟨y 0, y 1, eq_ix2 y⟩
  have hr := r.isLt; have hq := q.isLt
  refine (congrFun (after0_5 m c t) _).trans ?_
  have ex : (cfg0.win 5).xinj (cfg0.grid.coords t) (ix2 r q : S4x384.Idx) = (ix2 r q : S4x384.Idx) := rfl
  have e : out0_5 (iblk m c 0 t) (iblk m c 1 t) (iblk m c 2 t) (iblk m c 3 t) (ix2 r q) = (dAt (pArr m c) (wArr m c) (mArr m c) (vArr m c)) (ix2 (rowN (4 * (0) + r.val)) (colN (384 * (0) + q.val))) := by
    refine (delta_apply _ _ _ _ r q).trans ?_
    unfold dAt
    erw [gAt_block m c t r q, iblk1_apply m c t r q, iblk2_apply m c t r q, iblk3_apply m c t r q]
  refine ((congrArg (out0_5 (iblk m c 0 t) (iblk m c 1 t) (iblk m c 2 t) (iblk m c 3 t)) ex).trans e).trans (congrArg (dAt (pArr m c) (wArr m c) (mArr m c) (vArr m c)) ?_)
  funext a; apply Fin.ext
  match a with
  | ⟨0, _⟩ => show (4 * (0) + r.val) % 4 = win0_5.index t (0 : Fin 2) * 4 + 1 * r.val; rw [e0]; omega
  | ⟨1, _⟩ => show (384 * (0) + q.val) % 384 = win0_5.index t (1 : Fin 2) * 384 + 1 * q.val; rw [e1]; omega

theorem idx6 : ∀ t : Fin cfg0.N, win0_6.index t (0 : Fin 2) = 0 ∧ win0_6.index t (1 : Fin 2) = 0 :=
  (by decide +kernel : ∀ t : Fin grid0.N, _)

theorem result_6 (c : Dev nD) : (dats m 0 c).arrAt 6 cfg0.N = mAt (pArr m c) (mArr m c) := by
  refine (dats m 0 c).arrAt_eq_of_covers 6 _ (by decide +kernel) fun t hf y => ?_
  obtain ⟨e0, e1⟩ := idx6 t
  have hN : t.val < 1 := lt_of_lt_of_eq t.isLt points
  obtain ⟨r, q, rfl⟩ : ∃ (r : Fin 4) (q : Fin 384), y = ix2 r q := ⟨y 0, y 1, eq_ix2 y⟩
  have hr := r.isLt; have hq := q.isLt
  refine (congrFun (after0_6 m c t) _).trans ?_
  have ex : (cfg0.win 6).xinj (cfg0.grid.coords t) (ix2 r q : S4x384.Idx) = (ix2 r q : S4x384.Idx) := rfl
  have e : out0_6 (iblk m c 0 t) (iblk m c 1 t) (iblk m c 2 t) (iblk m c 3 t) (ix2 r q) = (mAt (pArr m c) (mArr m c)) (ix2 (rowN (4 * (0) + r.val)) (colN (384 * (0) + q.val))) := by
    refine (newM_apply _ _ _ _ r q).trans ?_
    unfold mAt
    erw [gAt_block m c t r q, iblk2_apply m c t r q]
  refine ((congrArg (out0_6 (iblk m c 0 t) (iblk m c 1 t) (iblk m c 2 t) (iblk m c 3 t)) ex).trans e).trans (congrArg (mAt (pArr m c) (mArr m c)) ?_)
  funext a; apply Fin.ext
  match a with
  | ⟨0, _⟩ => show (4 * (0) + r.val) % 4 = win0_6.index t (0 : Fin 2) * 4 + 1 * r.val; rw [e0]; omega
  | ⟨1, _⟩ => show (384 * (0) + q.val) % 384 = win0_6.index t (1 : Fin 2) * 384 + 1 * q.val; rw [e1]; omega

theorem idx7 : ∀ t : Fin cfg0.N, win0_7.index t (0 : Fin 2) = 0 ∧ win0_7.index t (1 : Fin 2) = 0 :=
  (by decide +kernel : ∀ t : Fin grid0.N, _)

theorem result_7 (c : Dev nD) : (dats m 0 c).arrAt 7 cfg0.N = vAt (pArr m c) (vArr m c) := by
  refine (dats m 0 c).arrAt_eq_of_covers 7 _ (by decide +kernel) fun t hf y => ?_
  obtain ⟨e0, e1⟩ := idx7 t
  have hN : t.val < 1 := lt_of_lt_of_eq t.isLt points
  obtain ⟨r, q, rfl⟩ : ∃ (r : Fin 4) (q : Fin 384), y = ix2 r q := ⟨y 0, y 1, eq_ix2 y⟩
  have hr := r.isLt; have hq := q.isLt
  refine (congrFun (after0_7 m c t) _).trans ?_
  have ex : (cfg0.win 7).xinj (cfg0.grid.coords t) (ix2 r q : S4x384.Idx) = (ix2 r q : S4x384.Idx) := rfl
  have e : out0_7 (iblk m c 0 t) (iblk m c 1 t) (iblk m c 2 t) (iblk m c 3 t) (ix2 r q) = (vAt (pArr m c) (vArr m c)) (ix2 (rowN (4 * (0) + r.val)) (colN (384 * (0) + q.val))) := by
    refine (newV_apply _ _ _ _ r q).trans ?_
    unfold vAt
    erw [gAt_block m c t r q, iblk3_apply m c t r q]
  refine ((congrArg (out0_7 (iblk m c 0 t) (iblk m c 1 t) (iblk m c 2 t) (iblk m c 3 t)) ex).trans e).trans (congrArg (vAt (pArr m c) (vArr m c)) ?_)
  funext a; apply Fin.ext
  match a with
  | ⟨0, _⟩ => show (4 * (0) + r.val) % 4 = win0_7.index t (0 : Fin 2) * 4 + 1 * r.val; rw [e0]; omega
  | ⟨1, _⟩ => show (384 * (0) + q.val) % 384 = win0_7.index t (1 : Fin 2) * 384 + 1 * q.val; rw [e1]; omega

/-- The kernel ends with every result at its array of blocks, the arguments unchanged. -/
theorem run_blocks : θ_run defs (onTc (τ := τ) (main (F := Ideal))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5, (h c).1 6, (h c).1 7,
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Cert.AdamConvIdeal.Entry

namespace Cert.Proof

open Cert.AdamConvIdeal Cert.AdamConvIdeal.Entry Cert.Adam in
/-- Kernel and reference end with the same gradient, change and moments. -/
theorem algebraic_AdamConv : Cert.algebraic_AdamConvIdeal_AdamConvRefIdeal := by
  intro m g m' g' _ hagree
  refine ⟨fun c => gAt (pArr m c), fun c => dAt (pArr m c) (wArr m c) (mArr m c) (vArr m c), fun c => mAt (pArr m c) (mArr m c), fun c => vAt (pArr m c) (vArr m c),
    (θ_run (Cert.AdamConvIdeal.defs (F := Ideal)) _ _).mono (fun r h c => ⟨(h c).1.trans (result_4 m c), (h c).2.1.trans (result_5 m c), (h c).2.2.1.trans (result_6 m c), (h c).2.2.2.1.trans (result_7 m c), (h c).2.2.2.2⟩) (run_blocks m g),
    (θ_run (Cert.AdamConvRefIdeal.defs (F := Ideal)) _ _).mono (fun r h c => ⟨(h c).1.trans ?_, (h c).2.1.trans ?_, (h c).2.2.1.trans ?_, (h c).2.2.2.1.trans ?_, (h c).2.2.2.2⟩) (Cert.AdamConvRefIdeal.Value.run m' g')⟩
  · rw [(hagree c).1]
    funext i
    obtain ⟨R, q, rfl⟩ : ∃ (R : Fin 4) (q : Fin 384), i = ix2 R q := ⟨i 0, i 1, eq_ix2 i⟩
    unfold gAt
    pointwise
  · rw [(hagree c).1, (hagree c).2.1, (hagree c).2.2.1, (hagree c).2.2.2]
    funext i
    obtain ⟨R, q, rfl⟩ : ∃ (R : Fin 4) (q : Fin 384), i = ix2 R q := ⟨i 0, i 1, eq_ix2 i⟩
    unfold dAt gAt delta newM newV
    pointwise
  · rw [(hagree c).1, (hagree c).2.2.1]
    funext i
    obtain ⟨R, q, rfl⟩ : ∃ (R : Fin 4) (q : Fin 384), i = ix2 R q := ⟨i 0, i 1, eq_ix2 i⟩
    unfold mAt gAt newM
    pointwise
  · rw [(hagree c).1, (hagree c).2.2.2]
    funext i
    obtain ⟨R, q, rfl⟩ : ∃ (R : Fin 4) (q : Fin 384), i = ix2 R q := ⟨i 0, i 1, eq_ix2 i⟩
    unfold vAt gAt newV
    pointwise

end Cert.Proof

end
-- ==== Proof.GwAda.lean ====
/-
  The gradient of the conditioning weights (hand-written, untrusted): the product of the activated conditioning rows with the
  rows of the modulation's gradient. Kernel and reference differ in how the sigmoid is written; the two are equal at every
  extended real.
-/
module

public import proofs.«01_k».proof.Defs
public import proofs.«01_k».proof.Proof.MidRow
public import proofs.«01_k».proof.Proof.Gen.GwAdaIdeal.Frame
public import proofs.«01_k».proof.Proof.Gen.GwAdaRefIdeal.Run
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GwAdaIdeal.Entry

open Cert.GwAdaIdeal Cert.GwAdaIdeal.Gen Cert.MidRows

/-- The kernel's sigmoid at every extended real. -/
def sigK (z : EReal) : EReal := ((1/2 : ℝ) : EReal) * Ideal.tanh (((1/2 : ℝ) : EReal) * z) + ((1/2 : ℝ) : EReal)

/-- It is the reference's. -/
theorem sigK_eq (z : EReal) : sigK z = Ideal.div 1 (1 + Ideal.exp (-z)) := by
  unfold sigK
  induction z using EReal.rec with
  | bot =>
    have e : ((1/2 : ℝ) : EReal) * ⊥ = ⊥ := EReal.coe_mul_bot_of_pos (by norm_num)
    have h : Ideal.div 1 (1 + Ideal.exp (-⊥)) = 0 := by
      rw [EReal.neg_bot]
      show Ideal.div 1 (1 + ⊤) = 0
      have t : (1 : EReal) + ⊤ = ⊤ := EReal.coe_add_top 1
      rw [t]
      simp [Ideal.div]
    rw [e, h]
    show ((1/2 : ℝ) : EReal) * (-1) + ((1/2 : ℝ) : EReal) = 0
    rw [show (-1 : EReal) = ((-1 : ℝ) : EReal) from rfl, ← EReal.coe_mul, ← EReal.coe_add, ← EReal.coe_zero]
    congr 1; norm_num
  | top =>
    have e : ((1/2 : ℝ) : EReal) * ⊤ = ⊤ := EReal.coe_mul_top_of_pos (by norm_num)
    have h : Ideal.div 1 (1 + Ideal.exp (-⊤)) = 1 := by
      rw [EReal.neg_top]
      show Ideal.div 1 (1 + 0) = 1
      rw [add_zero, ← EReal.coe_one, Ideal.div_coe (by norm_num), ← EReal.coe_mul]
      congr 1; norm_num
    rw [e, h]
    show ((1/2 : ℝ) : EReal) * 1 + ((1/2 : ℝ) : EReal) = 1
    rw [mul_one, ← EReal.coe_add, ← EReal.coe_one]
    congr 1; norm_num
  | coe z => exact (sg_ker z).trans (sg_ref z).symm

/-- The product both programs compute. -/
def prod (c : S8x1024.Idx → EReal) (g : S8x384.Idx → EReal) : S1024x384.Idx → EReal := fun i =>
  ∑ d : Fin 8, g (ix2 d (i 1)) * (c (ix2 d (i 0)) * sigK (c (ix2 d (i 0))))

theorem hz : (![0, 0] : Fin 2 → Nat) = fun _ => 0 := funext fun a => by fin_cases a <;> rfl

theorem out_apply (x0 : Vec Ideal S8x1024 .f32) (x1 : Vec Ideal S8x384 .f32) (r : Fin 1024) (q : Fin 384) :
    out0_2 x0 x1 (ix2 r q) = prod x0 x1 (ix2 r q) := by
  unfold out0_2 prod sigK
  rw [View.canon_unit_zero hz, View.ld_unit_zero hz, View.ld_unit_zero hz]
  pointwise [k0_pay1]
  rw [khalf]
  exact Finset.sum_congr rfl fun d _ => mul_comm _ _

variable (m : (ℓ : Loc nD τ sig) → Buf (Elt Ideal) ℓ) (ρ : Dev nD → PrngReg)

abbrev cArr (c : Dev nD) : S8x1024.Idx → EReal := m ((c : Thread nD τ).loc main_arg0)
abbrev gArr (c : Dev nD) : S8x384.Idx → EReal := m ((c : Thread nD τ).loc main_arg1)

/-- The call has one grid point, whose blocks are the whole arrays. -/
theorem iblk0_eq (c : Dev nD) (t : Fin cfg0.N) : (iblk m c 0 t : S8x1024.Idx → EReal) = cArr m c := by
  funext y
  show V m c main_arg0 (((cfg0.win 0).blk t).view.emb y) = _
  unfold cArr
  congr 1
  funext a; apply Fin.ext
  match a with
  | ⟨0, _⟩ => show 0 * 8 + 1 * (y 0).val = (y 0).val; omega
  | ⟨1, _⟩ => show 0 * 1024 + 1 * (y 1).val = (y 1).val; omega

theorem iblk1_eq (c : Dev nD) (t : Fin cfg0.N) : (iblk m c 1 t : S8x384.Idx → EReal) = gArr m c := by
  funext y
  show V m c main_arg1 (((cfg0.win 1).blk t).view.emb y) = _
  unfold gArr
  congr 1
  funext a; apply Fin.ext
  match a with
  | ⟨0, _⟩ => show 0 * 8 + 1 * (y 0).val = (y 0).val; omega
  | ⟨1, _⟩ => show 0 * 384 + 1 * (y 1).val = (y 1).val; omega

theorem result_2 (c : Dev nD) : (dats m 0 c).arrAt 2 cfg0.N = prod (cArr m c) (gArr m c) := by
  refine (dats m 0 c).arrAt_eq_of_covers 2 _ (by decide +kernel) fun t hf y => ?_
  obtain ⟨r, q, rfl⟩ : ∃ (r : Fin 1024) (q : Fin 384), y = ix2 r q := ⟨y 0, y 1, eq_ix2 y⟩
  refine (congrFun (after0_2 m c t) _).trans ?_
  have ex : (cfg0.win 2).xinj (cfg0.grid.coords t) (ix2 r q : S1024x384.Idx) = (ix2 r q : S1024x384.Idx) := rfl
  have e : out0_2 (iblk m c 0 t) (iblk m c 1 t) (ix2 r q) = prod (cArr m c) (gArr m c) (ix2 r q) := by
    refine (out_apply _ _ r q).trans ?_
    erw [iblk0_eq m c t, iblk1_eq m c t]
  refine ((congrArg (out0_2 (iblk m c 0 t) (iblk m c 1 t)) ex).trans e).trans (congrArg (prod (cArr m c) (gArr m c)) ?_)
  funext a; apply Fin.ext
  match a with
  | ⟨0, _⟩ => show r.val = 0 * 1024 + 1 * r.val; omega
  | ⟨1, _⟩ => show q.val = 0 * 384 + 1 * q.val; omega

/-- The kernel ends with the result at its array, the arguments unchanged. -/
theorem run_blocks : θ_run defs (onTc (τ := τ) (main (F := Ideal))) ⟨m, fun _ => 0, ρ⟩ fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 2,
      ((h c).1 0).trans (((dats m 0 c).arrAt_in 0 rfl _).trans (A_eq m c 0)),
      ((h c).1 1).trans (((dats m 0 c).arrAt_in 1 rfl _).trans (A_eq m c 1))⟩) (run_main m ρ)

end Cert.GwAdaIdeal.Entry

namespace Cert.Proof

open Cert.GwAdaIdeal Cert.GwAdaIdeal.Entry in
/-- Kernel and reference end with the same product. -/
theorem algebraic_GwAda : Cert.algebraic_GwAdaIdeal_GwAdaRefIdeal := by
  intro m g m' g' _ hagree
  refine ⟨fun c => prod (cArr m c) (gArr m c),
    (θ_run (Cert.GwAdaIdeal.defs (F := Ideal)) _ _).mono (fun r h c => ⟨(h c).1.trans (result_2 m c), (h c).2⟩) (run_blocks m g),
    (θ_run (Cert.GwAdaRefIdeal.defs (F := Ideal)) _ _).mono (fun r h c => ⟨(h c).1.trans ?_, (h c).2⟩) (Cert.GwAdaRefIdeal.Value.run m' g')⟩
  rw [(hagree c).1, (hagree c).2]
  funext i
  obtain ⟨R, q, rfl⟩ : ∃ (R : Fin 1024) (q : Fin 384), i = ix2 R q := ⟨i 0, i 1, eq_ix2 i⟩
  unfold prod
  simp only [sigK_eq]
  pointwise

end Cert.Proof

end
-- ==== Proof.lean ====
/-
  The proof of `Cert.Claim` (hand-written, untrusted): the witnesses of the programs' stated facts, then one term per claim.
-/
module

public import proofs.«01_k».proof.Defs
public import proofs.«01_k».proof.Proof.Frames
public import proofs.«01_k».proof.Proof.GwClaims
public import proofs.«01_k».proof.Proof.InprojClaim
public import proofs.«01_k».proof.Proof.DhClaim
public import proofs.«01_k».proof.Proof.MidClaim
public import proofs.«01_k».proof.Proof.AdamIn
public import proofs.«01_k».proof.Proof.AdamRows
public import proofs.«01_k».proof.Proof.AdamAda
public import proofs.«01_k».proof.Proof.AdamConv
public import proofs.«01_k».proof.Proof.GwAda
public import proofs.«01_k».proof.Proof.Gen.Dh
public import proofs.«01_k».proof.Proof.Gen.DhIdeal
public import proofs.«01_k».proof.Proof.Gen.DhRefIdeal
public import proofs.«01_k».proof.Proof.Gen.Inproj
public import proofs.«01_k».proof.Proof.Gen.InprojIdeal
public import proofs.«01_k».proof.Proof.Gen.InprojRefIdeal
public import proofs.«01_k».proof.Proof.Gen.Gw32
public import proofs.«01_k».proof.Proof.Gen.Gw32Ideal
public import proofs.«01_k».proof.Proof.Gen.Gw32RefIdeal
public import proofs.«01_k».proof.Proof.Gen.Gw512
public import proofs.«01_k».proof.Proof.Gen.Gw512Ideal
public import proofs.«01_k».proof.Proof.Gen.Gw512RefIdeal
public import proofs.«01_k».proof.Proof.Gen.Gw1024
public import proofs.«01_k».proof.Proof.Gen.Gw1024Ideal
public import proofs.«01_k».proof.Proof.Gen.Gw1024RefIdeal
public import proofs.«01_k».proof.Proof.Gen.Gw2048
public import proofs.«01_k».proof.Proof.Gen.Gw2048Ideal
public import proofs.«01_k».proof.Proof.Gen.Gw2048RefIdeal
public import proofs.«01_k».proof.Proof.Gen.Gw3072
public import proofs.«01_k».proof.Proof.Gen.Gw3072Ideal
public import proofs.«01_k».proof.Proof.Gen.Gw3072RefIdeal
public import proofs.«01_k».proof.Proof.Gen.Mid
public import proofs.«01_k».proof.Proof.Gen.MidIdeal
public import proofs.«01_k».proof.Proof.Gen.MidRefIdeal
public import proofs.«01_k».proof.Proof.Gen.AdamIn
public import proofs.«01_k».proof.Proof.Gen.AdamInIdeal
public import proofs.«01_k».proof.Proof.Gen.AdamInRefIdeal
public import proofs.«01_k».proof.Proof.Gen.AdamRows
public import proofs.«01_k».proof.Proof.Gen.AdamRowsIdeal
public import proofs.«01_k».proof.Proof.Gen.AdamRowsRefIdeal
public import proofs.«01_k».proof.Proof.Gen.AdamAda
public import proofs.«01_k».proof.Proof.Gen.AdamAdaIdeal
public import proofs.«01_k».proof.Proof.Gen.AdamAdaRefIdeal
public import proofs.«01_k».proof.Proof.Gen.AdamConv
public import proofs.«01_k».proof.Proof.Gen.AdamConvIdeal
public import proofs.«01_k».proof.Proof.Gen.AdamConvRefIdeal
public import proofs.«01_k».proof.Proof.Gen.GwAda
public import proofs.«01_k».proof.Proof.Gen.GwAdaIdeal
public import proofs.«01_k».proof.Proof.Gen.GwAdaRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem claim : Cert.Claim :=
  ⟨Cert.Dh.Gen.facts, Cert.DhIdeal.Gen.facts, Cert.DhRefIdeal.Gen.facts, Cert.Inproj.Gen.facts, Cert.InprojIdeal.Gen.facts, Cert.InprojRefIdeal.Gen.facts, Cert.Gw32.Gen.facts, Cert.Gw32Ideal.Gen.facts, Cert.Gw32RefIdeal.Gen.facts, Cert.Gw512.Gen.facts, Cert.Gw512Ideal.Gen.facts, Cert.Gw512RefIdeal.Gen.facts, Cert.Gw1024.Gen.facts, Cert.Gw1024Ideal.Gen.facts, Cert.Gw1024RefIdeal.Gen.facts, Cert.Gw2048.Gen.facts, Cert.Gw2048Ideal.Gen.facts, Cert.Gw2048RefIdeal.Gen.facts, Cert.Gw3072.Gen.facts, Cert.Gw3072Ideal.Gen.facts, Cert.Gw3072RefIdeal.Gen.facts, Cert.Mid.Gen.facts, Cert.MidIdeal.Gen.facts, Cert.MidRefIdeal.Gen.facts, Cert.AdamIn.Gen.facts, Cert.AdamInIdeal.Gen.facts, Cert.AdamInRefIdeal.Gen.facts, Cert.AdamRows.Gen.facts, Cert.AdamRowsIdeal.Gen.facts, Cert.AdamRowsRefIdeal.Gen.facts, Cert.AdamAda.Gen.facts, Cert.AdamAdaIdeal.Gen.facts, Cert.AdamAdaRefIdeal.Gen.facts, Cert.AdamConv.Gen.facts, Cert.AdamConvIdeal.Gen.facts, Cert.AdamConvRefIdeal.Gen.facts, Cert.GwAda.Gen.facts, Cert.GwAdaIdeal.Gen.facts, Cert.GwAdaRefIdeal.Gen.facts, finite_facts, finite_mid_facts,
   frame_Dh,
   frame_DhIdeal,
   (fun m ρ _ => frame_DhIdeal m ρ trivial),
   frame_DhRefIdeal,
   (fun m ρ _ => frame_DhRefIdeal m ρ trivial),
   frame_Inproj,
   frame_InprojIdeal,
   frame_InprojRefIdeal,
   frame_Gw32,
   frame_Gw32Ideal,
   frame_Gw32RefIdeal,
   frame_Gw512,
   frame_Gw512Ideal,
   frame_Gw512RefIdeal,
   frame_Gw1024,
   frame_Gw1024Ideal,
   frame_Gw1024RefIdeal,
   frame_Gw2048,
   frame_Gw2048Ideal,
   frame_Gw2048RefIdeal,
   frame_Gw3072,
   frame_Gw3072Ideal,
   frame_Gw3072RefIdeal,
   frame_Mid,
   frame_MidIdeal,
   (fun m ρ _ => frame_MidIdeal m ρ trivial),
   frame_MidRefIdeal,
   (fun m ρ _ => frame_MidRefIdeal m ρ trivial),
   frame_AdamIn,
   frame_AdamInIdeal,
   frame_AdamInRefIdeal,
   frame_AdamRows,
   frame_AdamRowsIdeal,
   frame_AdamRowsRefIdeal,
   frame_AdamAda,
   frame_AdamAdaIdeal,
   frame_AdamAdaRefIdeal,
   frame_AdamConv,
   frame_AdamConvIdeal,
   frame_AdamConvRefIdeal,
   frame_GwAda,
   frame_GwAdaIdeal,
   frame_GwAdaRefIdeal,
   trivial,
   algebraic_Dh,
   trivial,
   algebraic_Inproj,
   trivial,
   algebraic_Gw32,
   trivial,
   algebraic_Gw512,
   trivial,
   algebraic_Gw1024,
   trivial,
   algebraic_Gw2048,
   trivial,
   algebraic_Gw3072,
   trivial,
   algebraic_Mid,
   trivial,
   algebraic_AdamIn,
   trivial,
   algebraic_AdamRows,
   trivial,
   algebraic_AdamAda,
   trivial,
   algebraic_AdamConv,
   trivial,
   algebraic_GwAda⟩

end Cert.Proof

end
